-- ==== Defs.lean ====
def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_LruRefIdeal (m : (ℓ : Loc Cert.LruRefIdeal.nD Cert.LruRefIdeal.τ Cert.LruRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_RopeSample (m : (ℓ : Loc Cert.RopeSample.nD Cert.RopeSample.τ Cert.RopeSample.sig) → Buf (Elt Bits) ℓ) : Prop :=
  True

def Pre_RopeSampleIdeal (m : (ℓ : Loc Cert.RopeSampleIdeal.nD Cert.RopeSampleIdeal.τ Cert.RopeSampleIdeal.sig) → Buf (Elt Ideal) ℓ) : Prop :=
  True

def Pre_RopeSampleRefIdeal (m : (ℓ : Loc Cert.RopeSampleRefIdeal.nD Cert.RopeSampleRefIdeal.τ Cert.RopeSampleRefIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleRefIdeal (m : (ℓ : Loc Cert.FfnSampleRefIdeal.nD Cert.FfnSampleRefIdeal.τ Cert.FfnSampleRefIdeal.sig) → Buf (Elt Ideal) ℓ) : Prop :=
  True

def Pre_LruSample (m : (ℓ : Loc Cert.LruSample.nD Cert.LruSample.τ Cert.LruSample.sig) → Buf (Elt Bits) ℓ) : Prop :=
  True

def Pre_LruSampleIdeal (m : (ℓ : Loc Cert.LruSampleIdeal.nD Cert.LruSampleIdeal.τ Cert.LruSampleIdeal.sig) → Buf (Elt Ideal) ℓ) : Prop :=
  True

def Pre_LruSampleRefIdeal (m : (ℓ : Loc Cert.LruSampleRefIdeal.nD Cert.LruSampleRefIdeal.τ Cert.LruSampleRefIdeal.sig) → Buf (Elt Ideal) ℓ) : Prop :=
  True

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7)
      ∧ r.2.mem ((c.tc : Thread Cert.Lru.nD Cert.Lru.τ).loc Cert.Lru.main_arg8) = m ((c.tc : Thread Cert.Lru.nD Cert.Lru.τ).loc Cert.Lru.main_arg8)
      ∧ r.2.mem ((c.tc : Thread Cert.Lru.nD Cert.Lru.τ).loc Cert.Lru.main_arg9) = m ((c.tc : Thread Cert.Lru.nD Cert.Lru.τ).loc Cert.Lru.main_arg9))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
      ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
      ∧ r.2.mem ((c.tc : Thread Cert.LruIdeal.nD Cert.LruIdeal.τ).loc Cert.LruIdeal.main_arg9) = m ((c.tc : Thread Cert.LruIdeal.nD Cert.LruIdeal.τ).loc Cert.LruIdeal.main_arg9))
      ∧ r.2.sem = fun _ => 0)

def quiescent_LruRefIdeal [hLruRefIdeal : Cert.LruRefIdeal.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3)
      ∧ r.2.mem ((c.tc : Thread Cert.LruRefIdeal.nD Cert.LruRefIdeal.τ).loc Cert.LruRefIdeal.main_arg4) = m ((c.tc : Thread Cert.LruRefIdeal.nD Cert.LruRefIdeal.τ).loc Cert.LruRefIdeal.main_arg4)
      ∧ r.2.mem ((c.tc : Thread Cert.LruRefIdeal.nD Cert.LruRefIdeal.τ).loc Cert.LruRefIdeal.main_arg5) = m ((c.tc : Thread Cert.LruRefIdeal.nD Cert.LruRefIdeal.τ).loc Cert.LruRefIdeal.main_arg5)
      ∧ r.2.mem ((c.tc : Thread Cert.LruRefIdeal.nD Cert.LruRefIdeal.τ).loc Cert.LruRefIdeal.main_arg6) = m ((c.tc : Thread Cert.LruRefIdeal.nD Cert.LruRefIdeal.τ).loc Cert.LruRefIdeal.main_arg6)
      ∧ r.2.mem ((c.tc : Thread Cert.LruRefIdeal.nD Cert.LruRefIdeal.τ).loc Cert.LruRefIdeal.main_arg7) = m ((c.tc : Thread Cert.LruRefIdeal.nD Cert.LruRefIdeal.τ).loc Cert.LruRefIdeal.main_arg7)
      ∧ r.2.mem ((c.tc : Thread Cert.LruRefIdeal.nD Cert.LruRefIdeal.τ).loc Cert.LruRefIdeal.main_arg8) = m ((c.tc : Thread Cert.LruRefIdeal.nD Cert.LruRefIdeal.τ).loc Cert.LruRefIdeal.main_arg8)
      ∧ r.2.mem ((c.tc : Thread Cert.LruRefIdeal.nD Cert.LruRefIdeal.τ).loc Cert.LruRefIdeal.main_arg9) = m ((c.tc : Thread Cert.LruRefIdeal.nD Cert.LruRefIdeal.τ).loc Cert.LruRefIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def quiescent_RopeSample [hRopeSample : Cert.RopeSample.Facts] : Prop :=
  ∀ (m : (ℓ : Loc Cert.RopeSample.nD Cert.RopeSample.τ Cert.RopeSample.sig) → Buf (Elt Bits) ℓ) (g : Dev Cert.RopeSample.nD → PrngReg), Pre_RopeSample m →
    θ_run (Cert.RopeSample.defs (F := Bits)) (onTc (τ := Cert.RopeSample.τ) (Cert.RopeSample.main (F := Bits))) ⟨m, fun _ => 0, g⟩ (fun r => (∀ c : Dev Cert.RopeSample.nD,
      r.2.mem ((c.tc : Thread Cert.RopeSample.nD Cert.RopeSample.τ).loc Cert.RopeSample.main_arg0) = m ((c.tc : Thread Cert.RopeSample.nD Cert.RopeSample.τ).loc Cert.RopeSample.main_arg0))
      ∧ r.2.sem = fun _ => 0)

def quiescent_RopeSampleIdeal [hRopeSampleIdeal : Cert.RopeSampleIdeal.Facts] : Prop :=
  ∀ (m : (ℓ : Loc Cert.RopeSampleIdeal.nD Cert.RopeSampleIdeal.τ Cert.RopeSampleIdeal.sig) → Buf (Elt Ideal) ℓ) (g : Dev Cert.RopeSampleIdeal.nD → PrngReg), Pre_RopeSampleIdeal m →
    θ_run (Cert.RopeSampleIdeal.defs (F := Ideal)) (onTc (τ := Cert.RopeSampleIdeal.τ) (Cert.RopeSampleIdeal.main (F := Ideal))) ⟨m, fun _ => 0, g⟩ (fun r => (∀ c : Dev Cert.RopeSampleIdeal.nD,
      r.2.mem ((c.tc : Thread Cert.RopeSampleIdeal.nD Cert.RopeSampleIdeal.τ).loc Cert.RopeSampleIdeal.main_arg0) = m ((c.tc : Thread Cert.RopeSampleIdeal.nD Cert.RopeSampleIdeal.τ).loc Cert.RopeSampleIdeal.main_arg0))
      ∧ r.2.sem = fun _ => 0)

def quiescent_RopeSampleRefIdeal [hRopeSampleRefIdeal : Cert.RopeSampleRefIdeal.Facts] : Prop :=
  ∀ (m : (ℓ : Loc Cert.RopeSampleRefIdeal.nD Cert.RopeSampleRefIdeal.τ Cert.RopeSampleRefIdeal.sig) → Buf (Elt Ideal) ℓ) (g : Dev Cert.RopeSampleRefIdeal.nD → PrngReg), Pre_RopeSampleRefIdeal m →
    θ_run (Cert.RopeSampleRefIdeal.defs (F := Ideal)) (onTc (τ := Cert.RopeSampleRefIdeal.τ) (Cert.RopeSampleRefIdeal.main (F := Ideal))) ⟨m, fun _ => 0, g⟩ (fun r => (∀ c : Dev Cert.RopeSampleRefIdeal.nD,
      r.2.mem ((c.tc : Thread Cert.RopeSampleRefIdeal.nD Cert.RopeSampleRefIdeal.τ).loc Cert.RopeSampleRefIdeal.main_arg0) = m ((c.tc : Thread Cert.RopeSampleRefIdeal.nD Cert.RopeSampleRefIdeal.τ).loc Cert.RopeSampleRefIdeal.main_arg0))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5)
      ∧ r.2.mem ((c.tc : Thread Cert.FfnSample.nD Cert.FfnSample.τ).loc Cert.FfnSample.main_arg6) = m ((c.tc : Thread Cert.FfnSample.nD Cert.FfnSample.τ).loc Cert.FfnSample.main_arg6)
      ∧ r.2.mem ((c.tc : Thread Cert.FfnSample.nD Cert.FfnSample.τ).loc Cert.FfnSample.main_arg7) = m ((c.tc : Thread Cert.FfnSample.nD Cert.FfnSample.τ).loc Cert.FfnSample.main_arg7))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
      ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
      ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7))
      ∧ r.2.sem = fun _ => 0)

def quiescent_FfnSampleRefIdeal [hFfnSampleRefIdeal : Cert.FfnSampleRefIdeal.Facts] : Prop :=
  ∀ (m : (ℓ : Loc Cert.FfnSampleRefIdeal.nD Cert.FfnSampleRefIdeal.τ Cert.FfnSampleRefIdeal.sig) → Buf (Elt Ideal) ℓ) (g : Dev Cert.FfnSampleRefIdeal.nD → PrngReg), Pre_FfnSampleRefIdeal m →
    θ_run (Cert.FfnSampleRefIdeal.defs (F := Ideal)) (onTc (τ := Cert.FfnSampleRefIdeal.τ) (Cert.FfnSampleRefIdeal.main (F := Ideal))) ⟨m, fun _ => 0, g⟩ (fun r => (∀ c : Dev Cert.FfnSampleRefIdeal.nD,
      r.2.mem ((c.tc : Thread Cert.FfnSampleRefIdeal.nD Cert.FfnSampleRefIdeal.τ).loc Cert.FfnSampleRefIdeal.main_arg0) = m ((c.tc : Thread Cert.FfnSampleRefIdeal.nD Cert.FfnSampleRefIdeal.τ).loc Cert.FfnSampleRefIdeal.main_arg0)
      ∧ r.2.mem ((c.tc : Thread Cert.FfnSampleRefIdeal.nD Cert.FfnSampleRefIdeal.τ).loc Cert.FfnSampleRefIdeal.main_arg1) = m ((c.tc : Thread Cert.FfnSampleRefIdeal.nD Cert.FfnSampleRefIdeal.τ).loc Cert.FfnSampleRefIdeal.main_arg1)
      ∧ r.2.mem ((c.tc : Thread Cert.FfnSampleRefIdeal.nD Cert.FfnSampleRefIdeal.τ).loc Cert.FfnSampleRefIdeal.main_arg2) = m ((c.tc : Thread Cert.FfnSampleRefIdeal.nD Cert.FfnSampleRefIdeal.τ).loc Cert.FfnSampleRefIdeal.main_arg2)
      ∧ r.2.mem ((c.tc : Thread Cert.FfnSampleRefIdeal.nD Cert.FfnSampleRefIdeal.τ).loc Cert.FfnSampleRefIdeal.main_arg3) = m ((c.tc : Thread Cert.FfnSampleRefIdeal.nD Cert.FfnSampleRefIdeal.τ).loc Cert.FfnSampleRefIdeal.main_arg3)
      ∧ r.2.mem ((c.tc : Thread Cert.FfnSampleRefIdeal.nD Cert.FfnSampleRefIdeal.τ).loc Cert.FfnSampleRefIdeal.main_arg4) = m ((c.tc : Thread Cert.FfnSampleRefIdeal.nD Cert.FfnSampleRefIdeal.τ).loc Cert.FfnSampleRefIdeal.main_arg4)
      ∧ r.2.mem ((c.tc : Thread Cert.FfnSampleRefIdeal.nD Cert.FfnSampleRefIdeal.τ).loc Cert.FfnSampleRefIdeal.main_arg5) = m ((c.tc : Thread Cert.FfnSampleRefIdeal.nD Cert.FfnSampleRefIdeal.τ).loc Cert.FfnSampleRefIdeal.main_arg5)
      ∧ r.2.mem ((c.tc : Thread Cert.FfnSampleRefIdeal.nD Cert.FfnSampleRefIdeal.τ).loc Cert.FfnSampleRefIdeal.main_arg6) = m ((c.tc : Thread Cert.FfnSampleRefIdeal.nD Cert.FfnSampleRefIdeal.τ).loc Cert.FfnSampleRefIdeal.main_arg6)
      ∧ r.2.mem ((c.tc : Thread Cert.FfnSampleRefIdeal.nD Cert.FfnSampleRefIdeal.τ).loc Cert.FfnSampleRefIdeal.main_arg7) = m ((c.tc : Thread Cert.FfnSampleRefIdeal.nD Cert.FfnSampleRefIdeal.τ).loc Cert.FfnSampleRefIdeal.main_arg7))
      ∧ r.2.sem = fun _ => 0)

def quiescent_LruSample [hLruSample : Cert.LruSample.Facts] : Prop :=
  ∀ (m : (ℓ : Loc Cert.LruSample.nD Cert.LruSample.τ Cert.LruSample.sig) → Buf (Elt Bits) ℓ) (g : Dev Cert.LruSample.nD → PrngReg), Pre_LruSample m →
    θ_run (Cert.LruSample.defs (F := Bits)) (onTc (τ := Cert.LruSample.τ) (Cert.LruSample.main (F := Bits))) ⟨m, fun _ => 0, g⟩ (fun r => (∀ c : Dev Cert.LruSample.nD,
      r.2.mem ((c.tc : Thread Cert.LruSample.nD Cert.LruSample.τ).loc Cert.LruSample.main_arg0) = m ((c.tc : Thread Cert.LruSample.nD Cert.LruSample.τ).loc Cert.LruSample.main_arg0)
      ∧ r.2.mem ((c.tc : Thread Cert.LruSample.nD Cert.LruSample.τ).loc Cert.LruSample.main_arg1) = m ((c.tc : Thread Cert.LruSample.nD Cert.LruSample.τ).loc Cert.LruSample.main_arg1)
      ∧ r.2.mem ((c.tc : Thread Cert.LruSample.nD Cert.LruSample.τ).loc Cert.LruSample.main_arg2) = m ((c.tc : Thread Cert.LruSample.nD Cert.LruSample.τ).loc Cert.LruSample.main_arg2)
      ∧ r.2.mem ((c.tc : Thread Cert.LruSample.nD Cert.LruSample.τ).loc Cert.LruSample.main_arg3) = m ((c.tc : Thread Cert.LruSample.nD Cert.LruSample.τ).loc Cert.LruSample.main_arg3)
      ∧ r.2.mem ((c.tc : Thread Cert.LruSample.nD Cert.LruSample.τ).loc Cert.LruSample.main_arg4) = m ((c.tc : Thread Cert.LruSample.nD Cert.LruSample.τ).loc Cert.LruSample.main_arg4)
      ∧ r.2.mem ((c.tc : Thread Cert.LruSample.nD Cert.LruSample.τ).loc Cert.LruSample.main_arg5) = m ((c.tc : Thread Cert.LruSample.nD Cert.LruSample.τ).loc Cert.LruSample.main_arg5)
      ∧ r.2.mem ((c.tc : Thread Cert.LruSample.nD Cert.LruSample.τ).loc Cert.LruSample.main_arg6) = m ((c.tc : Thread Cert.LruSample.nD Cert.LruSample.τ).loc Cert.LruSample.main_arg6)
      ∧ r.2.mem ((c.tc : Thread Cert.LruSample.nD Cert.LruSample.τ).loc Cert.LruSample.main_arg7) = m ((c.tc : Thread Cert.LruSample.nD Cert.LruSample.τ).loc Cert.LruSample.main_arg7)
      ∧ r.2.mem ((c.tc : Thread Cert.LruSample.nD Cert.LruSample.τ).loc Cert.LruSample.main_arg8) = m ((c.tc : Thread Cert.LruSample.nD Cert.LruSample.τ).loc Cert.LruSample.main_arg8)
      ∧ r.2.mem ((c.tc : Thread Cert.LruSample.nD Cert.LruSample.τ).loc Cert.LruSample.main_arg9) = m ((c.tc : Thread Cert.LruSample.nD Cert.LruSample.τ).loc Cert.LruSample.main_arg9))
      ∧ r.2.sem = fun _ => 0)

def quiescent_LruSampleIdeal [hLruSampleIdeal : Cert.LruSampleIdeal.Facts] : Prop :=
  ∀ (m : (ℓ : Loc Cert.LruSampleIdeal.nD Cert.LruSampleIdeal.τ Cert.LruSampleIdeal.sig) → Buf (Elt Ideal) ℓ) (g : Dev Cert.LruSampleIdeal.nD → PrngReg), Pre_LruSampleIdeal m →
    θ_run (Cert.LruSampleIdeal.defs (F := Ideal)) (onTc (τ := Cert.LruSampleIdeal.τ) (Cert.LruSampleIdeal.main (F := Ideal))) ⟨m, fun _ => 0, g⟩ (fun r => (∀ c : Dev Cert.LruSampleIdeal.nD,
      r.2.mem ((c.tc : Thread Cert.LruSampleIdeal.nD Cert.LruSampleIdeal.τ).loc Cert.LruSampleIdeal.main_arg0) = m ((c.tc : Thread Cert.LruSampleIdeal.nD Cert.LruSampleIdeal.τ).loc Cert.LruSampleIdeal.main_arg0)
      ∧ r.2.mem ((c.tc : Thread Cert.LruSampleIdeal.nD Cert.LruSampleIdeal.τ).loc Cert.LruSampleIdeal.main_arg1) = m ((c.tc : Thread Cert.LruSampleIdeal.nD Cert.LruSampleIdeal.τ).loc Cert.LruSampleIdeal.main_arg1)
      ∧ r.2.mem ((c.tc : Thread Cert.LruSampleIdeal.nD Cert.LruSampleIdeal.τ).loc Cert.LruSampleIdeal.main_arg2) = m ((c.tc : Thread Cert.LruSampleIdeal.nD Cert.LruSampleIdeal.τ).loc Cert.LruSampleIdeal.main_arg2)
      ∧ r.2.mem ((c.tc : Thread Cert.LruSampleIdeal.nD Cert.LruSampleIdeal.τ).loc Cert.LruSampleIdeal.main_arg3) = m ((c.tc : Thread Cert.LruSampleIdeal.nD Cert.LruSampleIdeal.τ).loc Cert.LruSampleIdeal.main_arg3)
      ∧ r.2.mem ((c.tc : Thread Cert.LruSampleIdeal.nD Cert.LruSampleIdeal.τ).loc Cert.LruSampleIdeal.main_arg4) = m ((c.tc : Thread Cert.LruSampleIdeal.nD Cert.LruSampleIdeal.τ).loc Cert.LruSampleIdeal.main_arg4)
      ∧ r.2.mem ((c.tc : Thread Cert.LruSampleIdeal.nD Cert.LruSampleIdeal.τ).loc Cert.LruSampleIdeal.main_arg5) = m ((c.tc : Thread Cert.LruSampleIdeal.nD Cert.LruSampleIdeal.τ).loc Cert.LruSampleIdeal.main_arg5)
      ∧ r.2.mem ((c.tc : Thread Cert.LruSampleIdeal.nD Cert.LruSampleIdeal.τ).loc Cert.LruSampleIdeal.main_arg6) = m ((c.tc : Thread Cert.LruSampleIdeal.nD Cert.LruSampleIdeal.τ).loc Cert.LruSampleIdeal.main_arg6)
      ∧ r.2.mem ((c.tc : Thread Cert.LruSampleIdeal.nD Cert.LruSampleIdeal.τ).loc Cert.LruSampleIdeal.main_arg7) = m ((c.tc : Thread Cert.LruSampleIdeal.nD Cert.LruSampleIdeal.τ).loc Cert.LruSampleIdeal.main_arg7)
      ∧ r.2.mem ((c.tc : Thread Cert.LruSampleIdeal.nD Cert.LruSampleIdeal.τ).loc Cert.LruSampleIdeal.main_arg8) = m ((c.tc : Thread Cert.LruSampleIdeal.nD Cert.LruSampleIdeal.τ).loc Cert.LruSampleIdeal.main_arg8)
      ∧ r.2.mem ((c.tc : Thread Cert.LruSampleIdeal.nD Cert.LruSampleIdeal.τ).loc Cert.LruSampleIdeal.main_arg9) = m ((c.tc : Thread Cert.LruSampleIdeal.nD Cert.LruSampleIdeal.τ).loc Cert.LruSampleIdeal.main_arg9))
      ∧ r.2.sem = fun _ => 0)

def quiescent_LruSampleRefIdeal [hLruSampleRefIdeal : Cert.LruSampleRefIdeal.Facts] : Prop :=
  ∀ (m : (ℓ : Loc Cert.LruSampleRefIdeal.nD Cert.LruSampleRefIdeal.τ Cert.LruSampleRefIdeal.sig) → Buf (Elt Ideal) ℓ) (g : Dev Cert.LruSampleRefIdeal.nD → PrngReg), Pre_LruSampleRefIdeal m →
    θ_run (Cert.LruSampleRefIdeal.defs (F := Ideal)) (onTc (τ := Cert.LruSampleRefIdeal.τ) (Cert.LruSampleRefIdeal.main (F := Ideal))) ⟨m, fun _ => 0, g⟩ (fun r => (∀ c : Dev Cert.LruSampleRefIdeal.nD,
      r.2.mem ((c.tc : Thread Cert.LruSampleRefIdeal.nD Cert.LruSampleRefIdeal.τ).loc Cert.LruSampleRefIdeal.main_arg0) = m ((c.tc : Thread Cert.LruSampleRefIdeal.nD Cert.LruSampleRefIdeal.τ).loc Cert.LruSampleRefIdeal.main_arg0)
      ∧ r.2.mem ((c.tc : Thread Cert.LruSampleRefIdeal.nD Cert.LruSampleRefIdeal.τ).loc Cert.LruSampleRefIdeal.main_arg1) = m ((c.tc : Thread Cert.LruSampleRefIdeal.nD Cert.LruSampleRefIdeal.τ).loc Cert.LruSampleRefIdeal.main_arg1)
      ∧ r.2.mem ((c.tc : Thread Cert.LruSampleRefIdeal.nD Cert.LruSampleRefIdeal.τ).loc Cert.LruSampleRefIdeal.main_arg2) = m ((c.tc : Thread Cert.LruSampleRefIdeal.nD Cert.LruSampleRefIdeal.τ).loc Cert.LruSampleRefIdeal.main_arg2)
      ∧ r.2.mem ((c.tc : Thread Cert.LruSampleRefIdeal.nD Cert.LruSampleRefIdeal.τ).loc Cert.LruSampleRefIdeal.main_arg3) = m ((c.tc : Thread Cert.LruSampleRefIdeal.nD Cert.LruSampleRefIdeal.τ).loc Cert.LruSampleRefIdeal.main_arg3)
      ∧ r.2.mem ((c.tc : Thread Cert.LruSampleRefIdeal.nD Cert.LruSampleRefIdeal.τ).loc Cert.LruSampleRefIdeal.main_arg4) = m ((c.tc : Thread Cert.LruSampleRefIdeal.nD Cert.LruSampleRefIdeal.τ).loc Cert.LruSampleRefIdeal.main_arg4)
      ∧ r.2.mem ((c.tc : Thread Cert.LruSampleRefIdeal.nD Cert.LruSampleRefIdeal.τ).loc Cert.LruSampleRefIdeal.main_arg5) = m ((c.tc : Thread Cert.LruSampleRefIdeal.nD Cert.LruSampleRefIdeal.τ).loc Cert.LruSampleRefIdeal.main_arg5)
      ∧ r.2.mem ((c.tc : Thread Cert.LruSampleRefIdeal.nD Cert.LruSampleRefIdeal.τ).loc Cert.LruSampleRefIdeal.main_arg6) = m ((c.tc : Thread Cert.LruSampleRefIdeal.nD Cert.LruSampleRefIdeal.τ).loc Cert.LruSampleRefIdeal.main_arg6)
      ∧ r.2.mem ((c.tc : Thread Cert.LruSampleRefIdeal.nD Cert.LruSampleRefIdeal.τ).loc Cert.LruSampleRefIdeal.main_arg7) = m ((c.tc : Thread Cert.LruSampleRefIdeal.nD Cert.LruSampleRefIdeal.τ).loc Cert.LruSampleRefIdeal.main_arg7)
      ∧ r.2.mem ((c.tc : Thread Cert.LruSampleRefIdeal.nD Cert.LruSampleRefIdeal.τ).loc Cert.LruSampleRefIdeal.main_arg8) = m ((c.tc : Thread Cert.LruSampleRefIdeal.nD Cert.LruSampleRefIdeal.τ).loc Cert.LruSampleRefIdeal.main_arg8)
      ∧ r.2.mem ((c.tc : Thread Cert.LruSampleRefIdeal.nD Cert.LruSampleRefIdeal.τ).loc Cert.LruSampleRefIdeal.main_arg9) = m ((c.tc : Thread Cert.LruSampleRefIdeal.nD Cert.LruSampleRefIdeal.τ).loc Cert.LruSampleRefIdeal.main_arg9))
      ∧ r.2.sem = fun _ => 0)

def preserves_Lru_LruIdeal : Prop :=
  True

def algebraic_LruIdeal_LruRefIdeal [hLruIdeal : Cert.LruIdeal.Facts] [hLruRefIdeal : Cert.LruRefIdeal.Facts] : Prop :=
  ∀ (m : (ℓ : Loc Cert.LruIdeal.nD Cert.LruIdeal.τ Cert.LruIdeal.sig) → Buf (Elt Ideal) ℓ) (g : Dev Cert.LruIdeal.nD → PrngReg)
    (m' : (ℓ : Loc Cert.LruRefIdeal.nD Cert.LruRefIdeal.τ Cert.LruRefIdeal.sig) → Buf (Elt Ideal) ℓ) (g' : Dev Cert.LruRefIdeal.nD → PrngReg), Pre_LruIdeal m →
    (∀ c : Dev Cert.LruIdeal.nD,
      m' ((c.tc : Thread Cert.LruRefIdeal.nD Cert.LruRefIdeal.τ).loc Cert.LruRefIdeal.main_arg0) = m ((c.tc : Thread Cert.LruIdeal.nD Cert.LruIdeal.τ).loc Cert.LruIdeal.main_arg0)
      ∧ m' ((c.tc : Thread Cert.LruRefIdeal.nD Cert.LruRefIdeal.τ).loc Cert.LruRefIdeal.main_arg1) = m ((c.tc : Thread Cert.LruIdeal.nD Cert.LruIdeal.τ).loc Cert.LruIdeal.main_arg1)
      ∧ m' ((c.tc : Thread Cert.LruRefIdeal.nD Cert.LruRefIdeal.τ).loc Cert.LruRefIdeal.main_arg2) = m ((c.tc : Thread Cert.LruIdeal.nD Cert.LruIdeal.τ).loc Cert.LruIdeal.main_arg2)
      ∧ m' ((c.tc : Thread Cert.LruRefIdeal.nD Cert.LruRefIdeal.τ).loc Cert.LruRefIdeal.main_arg3) = m ((c.tc : Thread Cert.LruIdeal.nD Cert.LruIdeal.τ).loc Cert.LruIdeal.main_arg3)
      ∧ m' ((c.tc : Thread Cert.LruRefIdeal.nD Cert.LruRefIdeal.τ).loc Cert.LruRefIdeal.main_arg4) = m ((c.tc : Thread Cert.LruIdeal.nD Cert.LruIdeal.τ).loc Cert.LruIdeal.main_arg4)
      ∧ m' ((c.tc : Thread Cert.LruRefIdeal.nD Cert.LruRefIdeal.τ).loc Cert.LruRefIdeal.main_arg5) = m ((c.tc : Thread Cert.LruIdeal.nD Cert.LruIdeal.τ).loc Cert.LruIdeal.main_arg5)
      ∧ m' ((c.tc : Thread Cert.LruRefIdeal.nD Cert.LruRefIdeal.τ).loc Cert.LruRefIdeal.main_arg6) = m ((c.tc : Thread Cert.LruIdeal.nD Cert.LruIdeal.τ).loc Cert.LruIdeal.main_arg6)
      ∧ m' ((c.tc : Thread Cert.LruRefIdeal.nD Cert.LruRefIdeal.τ).loc Cert.LruRefIdeal.main_arg7) = m ((c.tc : Thread Cert.LruIdeal.nD Cert.LruIdeal.τ).loc Cert.LruIdeal.main_arg7)
      ∧ m' ((c.tc : Thread Cert.LruRefIdeal.nD Cert.LruRefIdeal.τ).loc Cert.LruRefIdeal.main_arg8) = m ((c.tc : Thread Cert.LruIdeal.nD Cert.LruIdeal.τ).loc Cert.LruIdeal.main_arg8)
      ∧ m' ((c.tc : Thread Cert.LruRefIdeal.nD Cert.LruRefIdeal.τ).loc Cert.LruRefIdeal.main_arg9) = m ((c.tc : Thread Cert.LruIdeal.nD Cert.LruIdeal.τ).loc Cert.LruIdeal.main_arg9)) →
    ∃ (v0 : (c : Dev Cert.LruIdeal.nD) → Buf (Elt Ideal) ((c.tc : Thread Cert.LruIdeal.nD Cert.LruIdeal.τ).loc Cert.LruIdeal.main_v107_0)) (v1 : (c : Dev Cert.LruIdeal.nD) → Buf (Elt Ideal) ((c.tc : Thread Cert.LruIdeal.nD Cert.LruIdeal.τ).loc Cert.LruIdeal.main_v107_1)) (v2 : (c : Dev Cert.LruIdeal.nD) → Buf (Elt Ideal) ((c.tc : Thread Cert.LruIdeal.nD Cert.LruIdeal.τ).loc Cert.LruIdeal.main_v107_2)),
      θ_run (Cert.LruIdeal.defs (F := Ideal)) (onTc (τ := Cert.LruIdeal.τ) (Cert.LruIdeal.main (F := Ideal))) ⟨m, fun _ => 0, g⟩ (fun r => ∀ c : Dev Cert.LruIdeal.nD,
          r.2.mem ((c.tc : Thread Cert.LruIdeal.nD Cert.LruIdeal.τ).loc Cert.LruIdeal.main_v107_0) = v0 c
          ∧ r.2.mem ((c.tc : Thread Cert.LruIdeal.nD Cert.LruIdeal.τ).loc Cert.LruIdeal.main_v107_1) = v1 c
          ∧ r.2.mem ((c.tc : Thread Cert.LruIdeal.nD Cert.LruIdeal.τ).loc Cert.LruIdeal.main_v107_2) = v2 c
          ∧ r.2.mem ((c.tc : Thread Cert.LruIdeal.nD Cert.LruIdeal.τ).loc Cert.LruIdeal.main_arg0) = m ((c.tc : Thread Cert.LruIdeal.nD Cert.LruIdeal.τ).loc Cert.LruIdeal.main_arg0)
          ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
          ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
          ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
          ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
          ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
          ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
          ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
          ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
          ∧ r.2.mem ((c.tc : Thread Cert.LruIdeal.nD Cert.LruIdeal.τ).loc Cert.LruIdeal.main_arg9) = m ((c.tc : Thread Cert.LruIdeal.nD Cert.LruIdeal.τ).loc Cert.LruIdeal.main_arg9))
      ∧ θ_run (Cert.LruRefIdeal.defs (F := Ideal)) (onTc (τ := Cert.LruRefIdeal.τ) (Cert.LruRefIdeal.main (F := Ideal))) ⟨m', fun _ => 0, g'⟩ (fun r => ∀ c : Dev Cert.LruRefIdeal.nD,
          r.2.mem ((c.tc : Thread Cert.LruRefIdeal.nD Cert.LruRefIdeal.τ).loc Cert.LruRefIdeal.main_v94) = v0 c
          ∧ r.2.mem ((c.tc : Thread Cert.LruRefIdeal.nD Cert.LruRefIdeal.τ).loc Cert.LruRefIdeal.main_v95) = v1 c
          ∧ r.2.mem ((c.tc : Thread Cert.LruRefIdeal.nD Cert.LruRefIdeal.τ).loc Cert.LruRefIdeal.main_v33) = v2 c
          ∧ r.2.mem ((c.tc : Thread Cert.LruRefIdeal.nD Cert.LruRefIdeal.τ).loc Cert.LruRefIdeal.main_arg0) = m' ((c.tc : Thread Cert.LruRefIdeal.nD Cert.LruRefIdeal.τ).loc Cert.LruRefIdeal.main_arg0)
          ∧ r.2.mem ((c.tc : Thread Cert.LruRefIdeal.nD Cert.LruRefIdeal.τ).loc Cert.LruRefIdeal.main_arg1) = m' ((c.tc : Thread Cert.LruRefIdeal.nD Cert.LruRefIdeal.τ).loc Cert.LruRefIdeal.main_arg1)
          ∧ r.2.mem ((c.tc : Thread Cert.LruRefIdeal.nD Cert.LruRefIdeal.τ).loc Cert.LruRefIdeal.main_arg2) = m' ((c.tc : Thread Cert.LruRefIdeal.nD Cert.LruRefIdeal.τ).loc Cert.LruRefIdeal.main_arg2)
          ∧ r.2.mem ((c.tc : Thread Cert.LruRefIdeal.nD Cert.LruRefIdeal.τ).loc Cert.LruRefIdeal.main_arg3) = m' ((c.tc : Thread Cert.LruRefIdeal.nD Cert.LruRefIdeal.τ).loc Cert.LruRefIdeal.main_arg3)
          ∧ r.2.mem ((c.tc : Thread Cert.LruRefIdeal.nD Cert.LruRefIdeal.τ).loc Cert.LruRefIdeal.main_arg4) = m' ((c.tc : Thread Cert.LruRefIdeal.nD Cert.LruRefIdeal.τ).loc Cert.LruRefIdeal.main_arg4)
          ∧ r.2.mem ((c.tc : Thread Cert.LruRefIdeal.nD Cert.LruRefIdeal.τ).loc Cert.LruRefIdeal.main_arg5) = m' ((c.tc : Thread Cert.LruRefIdeal.nD Cert.LruRefIdeal.τ).loc Cert.LruRefIdeal.main_arg5)
          ∧ r.2.mem ((c.tc : Thread Cert.LruRefIdeal.nD Cert.LruRefIdeal.τ).loc Cert.LruRefIdeal.main_arg6) = m' ((c.tc : Thread Cert.LruRefIdeal.nD Cert.LruRefIdeal.τ).loc Cert.LruRefIdeal.main_arg6)
          ∧ r.2.mem ((c.tc : Thread Cert.LruRefIdeal.nD Cert.LruRefIdeal.τ).loc Cert.LruRefIdeal.main_arg7) = m' ((c.tc : Thread Cert.LruRefIdeal.nD Cert.LruRefIdeal.τ).loc Cert.LruRefIdeal.main_arg7)
          ∧ r.2.mem ((c.tc : Thread Cert.LruRefIdeal.nD Cert.LruRefIdeal.τ).loc Cert.LruRefIdeal.main_arg8) = m' ((c.tc : Thread Cert.LruRefIdeal.nD Cert.LruRefIdeal.τ).loc Cert.LruRefIdeal.main_arg8)
          ∧ r.2.mem ((c.tc : Thread Cert.LruRefIdeal.nD Cert.LruRefIdeal.τ).loc Cert.LruRefIdeal.main_arg9) = m' ((c.tc : Thread Cert.LruRefIdeal.nD Cert.LruRefIdeal.τ).loc Cert.LruRefIdeal.main_arg9))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v5_0)) (v1 : (c : Dev Cert.FfnIdeal.nD) → Buf (Elt Ideal) ((c.tc : Thread Cert.FfnIdeal.nD Cert.FfnIdeal.τ).loc Cert.FfnIdeal.main_v5_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5_0) = v0 c
          ∧ r.2.mem ((c.tc : Thread Cert.FfnIdeal.nD Cert.FfnIdeal.τ).loc Cert.FfnIdeal.main_v5_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v70) = v0 c
          ∧ r.2.mem ((c.tc : Thread Cert.FfnRefIdeal.nD Cert.FfnRefIdeal.τ).loc Cert.FfnRefIdeal.main_v71) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v49) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v0) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v56_0)) (v1 : (c : Dev Cert.RopeIdeal.nD) → Buf (Elt Ideal) ((c.tc : Thread Cert.RopeIdeal.nD Cert.RopeIdeal.τ).loc Cert.RopeIdeal.main_v56_1)) (v2 : (c : Dev Cert.RopeIdeal.nD) → Buf (Elt Ideal) ((c.tc : Thread Cert.RopeIdeal.nD Cert.RopeIdeal.τ).loc Cert.RopeIdeal.main_v56_2)) (v3 : (c : Dev Cert.RopeIdeal.nD) → Buf (Elt Ideal) ((c.tc : Thread Cert.RopeIdeal.nD Cert.RopeIdeal.τ).loc Cert.RopeIdeal.main_v56_3)) (v4 : (c : Dev Cert.RopeIdeal.nD) → Buf (Elt Ideal) ((c.tc : Thread Cert.RopeIdeal.nD Cert.RopeIdeal.τ).loc Cert.RopeIdeal.main_v56_4)) (v5 : (c : Dev Cert.RopeIdeal.nD) → Buf (Elt Ideal) ((c.tc : Thread Cert.RopeIdeal.nD Cert.RopeIdeal.τ).loc Cert.RopeIdeal.main_v56_5)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v56_0) = v0 c
          ∧ r.2.mem ((c.tc : Thread Cert.RopeIdeal.nD Cert.RopeIdeal.τ).loc Cert.RopeIdeal.main_v56_1) = v1 c
          ∧ r.2.mem ((c.tc : Thread Cert.RopeIdeal.nD Cert.RopeIdeal.τ).loc Cert.RopeIdeal.main_v56_2) = v2 c
          ∧ r.2.mem ((c.tc : Thread Cert.RopeIdeal.nD Cert.RopeIdeal.τ).loc Cert.RopeIdeal.main_v56_3) = v3 c
          ∧ r.2.mem ((c.tc : Thread Cert.RopeIdeal.nD Cert.RopeIdeal.τ).loc Cert.RopeIdeal.main_v56_4) = v4 c
          ∧ r.2.mem ((c.tc : Thread Cert.RopeIdeal.nD Cert.RopeIdeal.τ).loc Cert.RopeIdeal.main_v56_5) = v5 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v33) = v0 c
          ∧ r.2.mem ((c.tc : Thread Cert.RopeRefIdeal.nD Cert.RopeRefIdeal.τ).loc Cert.RopeRefIdeal.main_v66) = v1 c
          ∧ r.2.mem ((c.tc : Thread Cert.RopeRefIdeal.nD Cert.RopeRefIdeal.τ).loc Cert.RopeRefIdeal.main_v67) = v2 c
          ∧ r.2.mem ((c.tc : Thread Cert.RopeRefIdeal.nD Cert.RopeRefIdeal.τ).loc Cert.RopeRefIdeal.main_v71) = v3 c
          ∧ r.2.mem ((c.tc : Thread Cert.RopeRefIdeal.nD Cert.RopeRefIdeal.τ).loc Cert.RopeRefIdeal.main_v72) = v4 c
          ∧ r.2.mem ((c.tc : Thread Cert.RopeRefIdeal.nD Cert.RopeRefIdeal.τ).loc Cert.RopeRefIdeal.main_v70) = v5 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def preserves_RopeSample_RopeSampleIdeal : Prop :=
  True

def algebraic_RopeSampleIdeal_RopeSampleRefIdeal [hRopeSampleIdeal : Cert.RopeSampleIdeal.Facts] [hRopeSampleRefIdeal : Cert.RopeSampleRefIdeal.Facts] : Prop :=
  ∀ (m : (ℓ : Loc Cert.RopeSampleIdeal.nD Cert.RopeSampleIdeal.τ Cert.RopeSampleIdeal.sig) → Buf (Elt Ideal) ℓ) (g : Dev Cert.RopeSampleIdeal.nD → PrngReg)
    (m' : (ℓ : Loc Cert.RopeSampleRefIdeal.nD Cert.RopeSampleRefIdeal.τ Cert.RopeSampleRefIdeal.sig) → Buf (Elt Ideal) ℓ) (g' : Dev Cert.RopeSampleRefIdeal.nD → PrngReg), Pre_RopeSampleIdeal m →
    (∀ c : Dev Cert.RopeSampleIdeal.nD,
      m' ((c.tc : Thread Cert.RopeSampleRefIdeal.nD Cert.RopeSampleRefIdeal.τ).loc Cert.RopeSampleRefIdeal.main_arg0) = m ((c.tc : Thread Cert.RopeSampleIdeal.nD Cert.RopeSampleIdeal.τ).loc Cert.RopeSampleIdeal.main_arg0)) →
    ∃ (v0 : (c : Dev Cert.RopeSampleIdeal.nD) → Buf (Elt Ideal) ((c.tc : Thread Cert.RopeSampleIdeal.nD Cert.RopeSampleIdeal.τ).loc Cert.RopeSampleIdeal.main_v58_0)) (v1 : (c : Dev Cert.RopeSampleIdeal.nD) → Buf (Elt Ideal) ((c.tc : Thread Cert.RopeSampleIdeal.nD Cert.RopeSampleIdeal.τ).loc Cert.RopeSampleIdeal.main_v58_1)) (v2 : (c : Dev Cert.RopeSampleIdeal.nD) → Buf (Elt Ideal) ((c.tc : Thread Cert.RopeSampleIdeal.nD Cert.RopeSampleIdeal.τ).loc Cert.RopeSampleIdeal.main_v58_2)) (v3 : (c : Dev Cert.RopeSampleIdeal.nD) → Buf (Elt Ideal) ((c.tc : Thread Cert.RopeSampleIdeal.nD Cert.RopeSampleIdeal.τ).loc Cert.RopeSampleIdeal.main_v58_3)) (v4 : (c : Dev Cert.RopeSampleIdeal.nD) → Buf (Elt Ideal) ((c.tc : Thread Cert.RopeSampleIdeal.nD Cert.RopeSampleIdeal.τ).loc Cert.RopeSampleIdeal.main_v58_4)),
      θ_run (Cert.RopeSampleIdeal.defs (F := Ideal)) (onTc (τ := Cert.RopeSampleIdeal.τ) (Cert.RopeSampleIdeal.main (F := Ideal))) ⟨m, fun _ => 0, g⟩ (fun r => ∀ c : Dev Cert.RopeSampleIdeal.nD,
          r.2.mem ((c.tc : Thread Cert.RopeSampleIdeal.nD Cert.RopeSampleIdeal.τ).loc Cert.RopeSampleIdeal.main_v58_0) = v0 c
          ∧ r.2.mem ((c.tc : Thread Cert.RopeSampleIdeal.nD Cert.RopeSampleIdeal.τ).loc Cert.RopeSampleIdeal.main_v58_1) = v1 c
          ∧ r.2.mem ((c.tc : Thread Cert.RopeSampleIdeal.nD Cert.RopeSampleIdeal.τ).loc Cert.RopeSampleIdeal.main_v58_2) = v2 c
          ∧ r.2.mem ((c.tc : Thread Cert.RopeSampleIdeal.nD Cert.RopeSampleIdeal.τ).loc Cert.RopeSampleIdeal.main_v58_3) = v3 c
          ∧ r.2.mem ((c.tc : Thread Cert.RopeSampleIdeal.nD Cert.RopeSampleIdeal.τ).loc Cert.RopeSampleIdeal.main_v58_4) = v4 c
          ∧ r.2.mem ((c.tc : Thread Cert.RopeSampleIdeal.nD Cert.RopeSampleIdeal.τ).loc Cert.RopeSampleIdeal.main_arg0) = m ((c.tc : Thread Cert.RopeSampleIdeal.nD Cert.RopeSampleIdeal.τ).loc Cert.RopeSampleIdeal.main_arg0))
      ∧ θ_run (Cert.RopeSampleRefIdeal.defs (F := Ideal)) (onTc (τ := Cert.RopeSampleRefIdeal.τ) (Cert.RopeSampleRefIdeal.main (F := Ideal))) ⟨m', fun _ => 0, g'⟩ (fun r => ∀ c : Dev Cert.RopeSampleRefIdeal.nD,
          r.2.mem ((c.tc : Thread Cert.RopeSampleRefIdeal.nD Cert.RopeSampleRefIdeal.τ).loc Cert.RopeSampleRefIdeal.main_v35) = v0 c
          ∧ r.2.mem ((c.tc : Thread Cert.RopeSampleRefIdeal.nD Cert.RopeSampleRefIdeal.τ).loc Cert.RopeSampleRefIdeal.main_v68) = v1 c
          ∧ r.2.mem ((c.tc : Thread Cert.RopeSampleRefIdeal.nD Cert.RopeSampleRefIdeal.τ).loc Cert.RopeSampleRefIdeal.main_v69) = v2 c
          ∧ r.2.mem ((c.tc : Thread Cert.RopeSampleRefIdeal.nD Cert.RopeSampleRefIdeal.τ).loc Cert.RopeSampleRefIdeal.main_v70) = v3 c
          ∧ r.2.mem ((c.tc : Thread Cert.RopeSampleRefIdeal.nD Cert.RopeSampleRefIdeal.τ).loc Cert.RopeSampleRefIdeal.main_v71) = v4 c
          ∧ r.2.mem ((c.tc : Thread Cert.RopeSampleRefIdeal.nD Cert.RopeSampleRefIdeal.τ).loc Cert.RopeSampleRefIdeal.main_arg0) = m' ((c.tc : Thread Cert.RopeSampleRefIdeal.nD Cert.RopeSampleRefIdeal.τ).loc Cert.RopeSampleRefIdeal.main_arg0))

def preserves_FfnSample_FfnSampleIdeal : Prop :=
  True

def algebraic_FfnSampleIdeal_FfnSampleRefIdeal [hFfnSampleIdeal : Cert.FfnSampleIdeal.Facts] [hFfnSampleRefIdeal : Cert.FfnSampleRefIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleRefIdeal.nD Cert.FfnSampleRefIdeal.τ Cert.FfnSampleRefIdeal.sig) → Buf (Elt Ideal) ℓ) (g' : Dev Cert.FfnSampleRefIdeal.nD → PrngReg), Pre_FfnSampleIdeal m →
    (∀ c : Dev Cert.FfnSampleIdeal.nD,
      m' ((c.tc : Thread Cert.FfnSampleRefIdeal.nD Cert.FfnSampleRefIdeal.τ).loc Cert.FfnSampleRefIdeal.main_arg0) = m ((c.tc : Thread Cert.FfnSampleIdeal.nD Cert.FfnSampleIdeal.τ).loc Cert.FfnSampleIdeal.main_arg0)
      ∧ m' ((c.tc : Thread Cert.FfnSampleRefIdeal.nD Cert.FfnSampleRefIdeal.τ).loc Cert.FfnSampleRefIdeal.main_arg1) = m ((c.tc : Thread Cert.FfnSampleIdeal.nD Cert.FfnSampleIdeal.τ).loc Cert.FfnSampleIdeal.main_arg1)
      ∧ m' ((c.tc : Thread Cert.FfnSampleRefIdeal.nD Cert.FfnSampleRefIdeal.τ).loc Cert.FfnSampleRefIdeal.main_arg2) = m ((c.tc : Thread Cert.FfnSampleIdeal.nD Cert.FfnSampleIdeal.τ).loc Cert.FfnSampleIdeal.main_arg2)
      ∧ m' ((c.tc : Thread Cert.FfnSampleRefIdeal.nD Cert.FfnSampleRefIdeal.τ).loc Cert.FfnSampleRefIdeal.main_arg3) = m ((c.tc : Thread Cert.FfnSampleIdeal.nD Cert.FfnSampleIdeal.τ).loc Cert.FfnSampleIdeal.main_arg3)
      ∧ m' ((c.tc : Thread Cert.FfnSampleRefIdeal.nD Cert.FfnSampleRefIdeal.τ).loc Cert.FfnSampleRefIdeal.main_arg4) = m ((c.tc : Thread Cert.FfnSampleIdeal.nD Cert.FfnSampleIdeal.τ).loc Cert.FfnSampleIdeal.main_arg4)
      ∧ m' ((c.tc : Thread Cert.FfnSampleRefIdeal.nD Cert.FfnSampleRefIdeal.τ).loc Cert.FfnSampleRefIdeal.main_arg5) = m ((c.tc : Thread Cert.FfnSampleIdeal.nD Cert.FfnSampleIdeal.τ).loc Cert.FfnSampleIdeal.main_arg5)
      ∧ m' ((c.tc : Thread Cert.FfnSampleRefIdeal.nD Cert.FfnSampleRefIdeal.τ).loc Cert.FfnSampleRefIdeal.main_arg6) = m ((c.tc : Thread Cert.FfnSampleIdeal.nD Cert.FfnSampleIdeal.τ).loc Cert.FfnSampleIdeal.main_arg6)
      ∧ m' ((c.tc : Thread Cert.FfnSampleRefIdeal.nD Cert.FfnSampleRefIdeal.τ).loc Cert.FfnSampleRefIdeal.main_arg7) = m ((c.tc : Thread Cert.FfnSampleIdeal.nD Cert.FfnSampleIdeal.τ).loc Cert.FfnSampleIdeal.main_arg7)) →
    ∃ (v0 : (c : Dev Cert.FfnSampleIdeal.nD) → Buf (Elt Ideal) ((c.tc : Thread Cert.FfnSampleIdeal.nD Cert.FfnSampleIdeal.τ).loc Cert.FfnSampleIdeal.main_v20_0)) (v1 : (c : Dev Cert.FfnSampleIdeal.nD) → Buf (Elt Ideal) ((c.tc : Thread Cert.FfnSampleIdeal.nD Cert.FfnSampleIdeal.τ).loc Cert.FfnSampleIdeal.main_v20_1)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v20_0) = v0 c
          ∧ r.2.mem ((c.tc : Thread Cert.FfnSampleIdeal.nD Cert.FfnSampleIdeal.τ).loc Cert.FfnSampleIdeal.main_v20_1) = v1 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
          ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
          ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7))
      ∧ θ_run (Cert.FfnSampleRefIdeal.defs (F := Ideal)) (onTc (τ := Cert.FfnSampleRefIdeal.τ) (Cert.FfnSampleRefIdeal.main (F := Ideal))) ⟨m', fun _ => 0, g'⟩ (fun r => ∀ c : Dev Cert.FfnSampleRefIdeal.nD,
          r.2.mem ((c.tc : Thread Cert.FfnSampleRefIdeal.nD Cert.FfnSampleRefIdeal.τ).loc Cert.FfnSampleRefIdeal.main_v70) = v0 c
          ∧ r.2.mem ((c.tc : Thread Cert.FfnSampleRefIdeal.nD Cert.FfnSampleRefIdeal.τ).loc Cert.FfnSampleRefIdeal.main_v71) = v1 c
          ∧ r.2.mem ((c.tc : Thread Cert.FfnSampleRefIdeal.nD Cert.FfnSampleRefIdeal.τ).loc Cert.FfnSampleRefIdeal.main_arg0) = m' ((c.tc : Thread Cert.FfnSampleRefIdeal.nD Cert.FfnSampleRefIdeal.τ).loc Cert.FfnSampleRefIdeal.main_arg0)
          ∧ r.2.mem ((c.tc : Thread Cert.FfnSampleRefIdeal.nD Cert.FfnSampleRefIdeal.τ).loc Cert.FfnSampleRefIdeal.main_arg1) = m' ((c.tc : Thread Cert.FfnSampleRefIdeal.nD Cert.FfnSampleRefIdeal.τ).loc Cert.FfnSampleRefIdeal.main_arg1)
          ∧ r.2.mem ((c.tc : Thread Cert.FfnSampleRefIdeal.nD Cert.FfnSampleRefIdeal.τ).loc Cert.FfnSampleRefIdeal.main_arg2) = m' ((c.tc : Thread Cert.FfnSampleRefIdeal.nD Cert.FfnSampleRefIdeal.τ).loc Cert.FfnSampleRefIdeal.main_arg2)
          ∧ r.2.mem ((c.tc : Thread Cert.FfnSampleRefIdeal.nD Cert.FfnSampleRefIdeal.τ).loc Cert.FfnSampleRefIdeal.main_arg3) = m' ((c.tc : Thread Cert.FfnSampleRefIdeal.nD Cert.FfnSampleRefIdeal.τ).loc Cert.FfnSampleRefIdeal.main_arg3)
          ∧ r.2.mem ((c.tc : Thread Cert.FfnSampleRefIdeal.nD Cert.FfnSampleRefIdeal.τ).loc Cert.FfnSampleRefIdeal.main_arg4) = m' ((c.tc : Thread Cert.FfnSampleRefIdeal.nD Cert.FfnSampleRefIdeal.τ).loc Cert.FfnSampleRefIdeal.main_arg4)
          ∧ r.2.mem ((c.tc : Thread Cert.FfnSampleRefIdeal.nD Cert.FfnSampleRefIdeal.τ).loc Cert.FfnSampleRefIdeal.main_arg5) = m' ((c.tc : Thread Cert.FfnSampleRefIdeal.nD Cert.FfnSampleRefIdeal.τ).loc Cert.FfnSampleRefIdeal.main_arg5)
          ∧ r.2.mem ((c.tc : Thread Cert.FfnSampleRefIdeal.nD Cert.FfnSampleRefIdeal.τ).loc Cert.FfnSampleRefIdeal.main_arg6) = m' ((c.tc : Thread Cert.FfnSampleRefIdeal.nD Cert.FfnSampleRefIdeal.τ).loc Cert.FfnSampleRefIdeal.main_arg6)
          ∧ r.2.mem ((c.tc : Thread Cert.FfnSampleRefIdeal.nD Cert.FfnSampleRefIdeal.τ).loc Cert.FfnSampleRefIdeal.main_arg7) = m' ((c.tc : Thread Cert.FfnSampleRefIdeal.nD Cert.FfnSampleRefIdeal.τ).loc Cert.FfnSampleRefIdeal.main_arg7))

def preserves_LruSample_LruSampleIdeal : Prop :=
  True

def algebraic_LruSampleIdeal_LruSampleRefIdeal [hLruSampleIdeal : Cert.LruSampleIdeal.Facts] [hLruSampleRefIdeal : Cert.LruSampleRefIdeal.Facts] : Prop :=
  ∀ (m : (ℓ : Loc Cert.LruSampleIdeal.nD Cert.LruSampleIdeal.τ Cert.LruSampleIdeal.sig) → Buf (Elt Ideal) ℓ) (g : Dev Cert.LruSampleIdeal.nD → PrngReg)
    (m' : (ℓ : Loc Cert.LruSampleRefIdeal.nD Cert.LruSampleRefIdeal.τ Cert.LruSampleRefIdeal.sig) → Buf (Elt Ideal) ℓ) (g' : Dev Cert.LruSampleRefIdeal.nD → PrngReg), Pre_LruSampleIdeal m →
    (∀ c : Dev Cert.LruSampleIdeal.nD,
      m' ((c.tc : Thread Cert.LruSampleRefIdeal.nD Cert.LruSampleRefIdeal.τ).loc Cert.LruSampleRefIdeal.main_arg0) = m ((c.tc : Thread Cert.LruSampleIdeal.nD Cert.LruSampleIdeal.τ).loc Cert.LruSampleIdeal.main_arg0)
      ∧ m' ((c.tc : Thread Cert.LruSampleRefIdeal.nD Cert.LruSampleRefIdeal.τ).loc Cert.LruSampleRefIdeal.main_arg1) = m ((c.tc : Thread Cert.LruSampleIdeal.nD Cert.LruSampleIdeal.τ).loc Cert.LruSampleIdeal.main_arg1)
      ∧ m' ((c.tc : Thread Cert.LruSampleRefIdeal.nD Cert.LruSampleRefIdeal.τ).loc Cert.LruSampleRefIdeal.main_arg2) = m ((c.tc : Thread Cert.LruSampleIdeal.nD Cert.LruSampleIdeal.τ).loc Cert.LruSampleIdeal.main_arg2)
      ∧ m' ((c.tc : Thread Cert.LruSampleRefIdeal.nD Cert.LruSampleRefIdeal.τ).loc Cert.LruSampleRefIdeal.main_arg3) = m ((c.tc : Thread Cert.LruSampleIdeal.nD Cert.LruSampleIdeal.τ).loc Cert.LruSampleIdeal.main_arg3)
      ∧ m' ((c.tc : Thread Cert.LruSampleRefIdeal.nD Cert.LruSampleRefIdeal.τ).loc Cert.LruSampleRefIdeal.main_arg4) = m ((c.tc : Thread Cert.LruSampleIdeal.nD Cert.LruSampleIdeal.τ).loc Cert.LruSampleIdeal.main_arg4)
      ∧ m' ((c.tc : Thread Cert.LruSampleRefIdeal.nD Cert.LruSampleRefIdeal.τ).loc Cert.LruSampleRefIdeal.main_arg5) = m ((c.tc : Thread Cert.LruSampleIdeal.nD Cert.LruSampleIdeal.τ).loc Cert.LruSampleIdeal.main_arg5)
      ∧ m' ((c.tc : Thread Cert.LruSampleRefIdeal.nD Cert.LruSampleRefIdeal.τ).loc Cert.LruSampleRefIdeal.main_arg6) = m ((c.tc : Thread Cert.LruSampleIdeal.nD Cert.LruSampleIdeal.τ).loc Cert.LruSampleIdeal.main_arg6)
      ∧ m' ((c.tc : Thread Cert.LruSampleRefIdeal.nD Cert.LruSampleRefIdeal.τ).loc Cert.LruSampleRefIdeal.main_arg7) = m ((c.tc : Thread Cert.LruSampleIdeal.nD Cert.LruSampleIdeal.τ).loc Cert.LruSampleIdeal.main_arg7)
      ∧ m' ((c.tc : Thread Cert.LruSampleRefIdeal.nD Cert.LruSampleRefIdeal.τ).loc Cert.LruSampleRefIdeal.main_arg8) = m ((c.tc : Thread Cert.LruSampleIdeal.nD Cert.LruSampleIdeal.τ).loc Cert.LruSampleIdeal.main_arg8)
      ∧ m' ((c.tc : Thread Cert.LruSampleRefIdeal.nD Cert.LruSampleRefIdeal.τ).loc Cert.LruSampleRefIdeal.main_arg9) = m ((c.tc : Thread Cert.LruSampleIdeal.nD Cert.LruSampleIdeal.τ).loc Cert.LruSampleIdeal.main_arg9)) →
    ∃ (v0 : (c : Dev Cert.LruSampleIdeal.nD) → Buf (Elt Ideal) ((c.tc : Thread Cert.LruSampleIdeal.nD Cert.LruSampleIdeal.τ).loc Cert.LruSampleIdeal.main_v107_0)) (v1 : (c : Dev Cert.LruSampleIdeal.nD) → Buf (Elt Ideal) ((c.tc : Thread Cert.LruSampleIdeal.nD Cert.LruSampleIdeal.τ).loc Cert.LruSampleIdeal.main_v107_1)) (v2 : (c : Dev Cert.LruSampleIdeal.nD) → Buf (Elt Ideal) ((c.tc : Thread Cert.LruSampleIdeal.nD Cert.LruSampleIdeal.τ).loc Cert.LruSampleIdeal.main_v107_2)),
      θ_run (Cert.LruSampleIdeal.defs (F := Ideal)) (onTc (τ := Cert.LruSampleIdeal.τ) (Cert.LruSampleIdeal.main (F := Ideal))) ⟨m, fun _ => 0, g⟩ (fun r => ∀ c : Dev Cert.LruSampleIdeal.nD,
          r.2.mem ((c.tc : Thread Cert.LruSampleIdeal.nD Cert.LruSampleIdeal.τ).loc Cert.LruSampleIdeal.main_v107_0) = v0 c
          ∧ r.2.mem ((c.tc : Thread Cert.LruSampleIdeal.nD Cert.LruSampleIdeal.τ).loc Cert.LruSampleIdeal.main_v107_1) = v1 c
          ∧ r.2.mem ((c.tc : Thread Cert.LruSampleIdeal.nD Cert.LruSampleIdeal.τ).loc Cert.LruSampleIdeal.main_v107_2) = v2 c
          ∧ r.2.mem ((c.tc : Thread Cert.LruSampleIdeal.nD Cert.LruSampleIdeal.τ).loc Cert.LruSampleIdeal.main_arg0) = m ((c.tc : Thread Cert.LruSampleIdeal.nD Cert.LruSampleIdeal.τ).loc Cert.LruSampleIdeal.main_arg0)
          ∧ r.2.mem ((c.tc : Thread Cert.LruSampleIdeal.nD Cert.LruSampleIdeal.τ).loc Cert.LruSampleIdeal.main_arg1) = m ((c.tc : Thread Cert.LruSampleIdeal.nD Cert.LruSampleIdeal.τ).loc Cert.LruSampleIdeal.main_arg1)
          ∧ r.2.mem ((c.tc : Thread Cert.LruSampleIdeal.nD Cert.LruSampleIdeal.τ).loc Cert.LruSampleIdeal.main_arg2) = m ((c.tc : Thread Cert.LruSampleIdeal.nD Cert.LruSampleIdeal.τ).loc Cert.LruSampleIdeal.main_arg2)
          ∧ r.2.mem ((c.tc : Thread Cert.LruSampleIdeal.nD Cert.LruSampleIdeal.τ).loc Cert.LruSampleIdeal.main_arg3) = m ((c.tc : Thread Cert.LruSampleIdeal.nD Cert.LruSampleIdeal.τ).loc Cert.LruSampleIdeal.main_arg3)
          ∧ r.2.mem ((c.tc : Thread Cert.LruSampleIdeal.nD Cert.LruSampleIdeal.τ).loc Cert.LruSampleIdeal.main_arg4) = m ((c.tc : Thread Cert.LruSampleIdeal.nD Cert.LruSampleIdeal.τ).loc Cert.LruSampleIdeal.main_arg4)
          ∧ r.2.mem ((c.tc : Thread Cert.LruSampleIdeal.nD Cert.LruSampleIdeal.τ).loc Cert.LruSampleIdeal.main_arg5) = m ((c.tc : Thread Cert.LruSampleIdeal.nD Cert.LruSampleIdeal.τ).loc Cert.LruSampleIdeal.main_arg5)
          ∧ r.2.mem ((c.tc : Thread Cert.LruSampleIdeal.nD Cert.LruSampleIdeal.τ).loc Cert.LruSampleIdeal.main_arg6) = m ((c.tc : Thread Cert.LruSampleIdeal.nD Cert.LruSampleIdeal.τ).loc Cert.LruSampleIdeal.main_arg6)
          ∧ r.2.mem ((c.tc : Thread Cert.LruSampleIdeal.nD Cert.LruSampleIdeal.τ).loc Cert.LruSampleIdeal.main_arg7) = m ((c.tc : Thread Cert.LruSampleIdeal.nD Cert.LruSampleIdeal.τ).loc Cert.LruSampleIdeal.main_arg7)
          ∧ r.2.mem ((c.tc : Thread Cert.LruSampleIdeal.nD Cert.LruSampleIdeal.τ).loc Cert.LruSampleIdeal.main_arg8) = m ((c.tc : Thread Cert.LruSampleIdeal.nD Cert.LruSampleIdeal.τ).loc Cert.LruSampleIdeal.main_arg8)
          ∧ r.2.mem ((c.tc : Thread Cert.LruSampleIdeal.nD Cert.LruSampleIdeal.τ).loc Cert.LruSampleIdeal.main_arg9) = m ((c.tc : Thread Cert.LruSampleIdeal.nD Cert.LruSampleIdeal.τ).loc Cert.LruSampleIdeal.main_arg9))
      ∧ θ_run (Cert.LruSampleRefIdeal.defs (F := Ideal)) (onTc (τ := Cert.LruSampleRefIdeal.τ) (Cert.LruSampleRefIdeal.main (F := Ideal))) ⟨m', fun _ => 0, g'⟩ (fun r => ∀ c : Dev Cert.LruSampleRefIdeal.nD,
          r.2.mem ((c.tc : Thread Cert.LruSampleRefIdeal.nD Cert.LruSampleRefIdeal.τ).loc Cert.LruSampleRefIdeal.main_v94) = v0 c
          ∧ r.2.mem ((c.tc : Thread Cert.LruSampleRefIdeal.nD Cert.LruSampleRefIdeal.τ).loc Cert.LruSampleRefIdeal.main_v95) = v1 c
          ∧ r.2.mem ((c.tc : Thread Cert.LruSampleRefIdeal.nD Cert.LruSampleRefIdeal.τ).loc Cert.LruSampleRefIdeal.main_v33) = v2 c
          ∧ r.2.mem ((c.tc : Thread Cert.LruSampleRefIdeal.nD Cert.LruSampleRefIdeal.τ).loc Cert.LruSampleRefIdeal.main_arg0) = m' ((c.tc : Thread Cert.LruSampleRefIdeal.nD Cert.LruSampleRefIdeal.τ).loc Cert.LruSampleRefIdeal.main_arg0)
          ∧ r.2.mem ((c.tc : Thread Cert.LruSampleRefIdeal.nD Cert.LruSampleRefIdeal.τ).loc Cert.LruSampleRefIdeal.main_arg1) = m' ((c.tc : Thread Cert.LruSampleRefIdeal.nD Cert.LruSampleRefIdeal.τ).loc Cert.LruSampleRefIdeal.main_arg1)
          ∧ r.2.mem ((c.tc : Thread Cert.LruSampleRefIdeal.nD Cert.LruSampleRefIdeal.τ).loc Cert.LruSampleRefIdeal.main_arg2) = m' ((c.tc : Thread Cert.LruSampleRefIdeal.nD Cert.LruSampleRefIdeal.τ).loc Cert.LruSampleRefIdeal.main_arg2)
          ∧ r.2.mem ((c.tc : Thread Cert.LruSampleRefIdeal.nD Cert.LruSampleRefIdeal.τ).loc Cert.LruSampleRefIdeal.main_arg3) = m' ((c.tc : Thread Cert.LruSampleRefIdeal.nD Cert.LruSampleRefIdeal.τ).loc Cert.LruSampleRefIdeal.main_arg3)
          ∧ r.2.mem ((c.tc : Thread Cert.LruSampleRefIdeal.nD Cert.LruSampleRefIdeal.τ).loc Cert.LruSampleRefIdeal.main_arg4) = m' ((c.tc : Thread Cert.LruSampleRefIdeal.nD Cert.LruSampleRefIdeal.τ).loc Cert.LruSampleRefIdeal.main_arg4)
          ∧ r.2.mem ((c.tc : Thread Cert.LruSampleRefIdeal.nD Cert.LruSampleRefIdeal.τ).loc Cert.LruSampleRefIdeal.main_arg5) = m' ((c.tc : Thread Cert.LruSampleRefIdeal.nD Cert.LruSampleRefIdeal.τ).loc Cert.LruSampleRefIdeal.main_arg5)
          ∧ r.2.mem ((c.tc : Thread Cert.LruSampleRefIdeal.nD Cert.LruSampleRefIdeal.τ).loc Cert.LruSampleRefIdeal.main_arg6) = m' ((c.tc : Thread Cert.LruSampleRefIdeal.nD Cert.LruSampleRefIdeal.τ).loc Cert.LruSampleRefIdeal.main_arg6)
          ∧ r.2.mem ((c.tc : Thread Cert.LruSampleRefIdeal.nD Cert.LruSampleRefIdeal.τ).loc Cert.LruSampleRefIdeal.main_arg7) = m' ((c.tc : Thread Cert.LruSampleRefIdeal.nD Cert.LruSampleRefIdeal.τ).loc Cert.LruSampleRefIdeal.main_arg7)
          ∧ r.2.mem ((c.tc : Thread Cert.LruSampleRefIdeal.nD Cert.LruSampleRefIdeal.τ).loc Cert.LruSampleRefIdeal.main_arg8) = m' ((c.tc : Thread Cert.LruSampleRefIdeal.nD Cert.LruSampleRefIdeal.τ).loc Cert.LruSampleRefIdeal.main_arg8)
          ∧ r.2.mem ((c.tc : Thread Cert.LruSampleRefIdeal.nD Cert.LruSampleRefIdeal.τ).loc Cert.LruSampleRefIdeal.main_arg9) = m' ((c.tc : Thread Cert.LruSampleRefIdeal.nD Cert.LruSampleRefIdeal.τ).loc Cert.LruSampleRefIdeal.main_arg9))

def Claim : Prop :=
  ∃ (hLru : Cert.Lru.Facts) (hLruIdeal : Cert.LruIdeal.Facts) (hLruRefIdeal : Cert.LruRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hRope : Cert.Rope.Facts) (hRopeIdeal : Cert.RopeIdeal.Facts) (hRopeRefIdeal : Cert.RopeRefIdeal.Facts) (hRopeSample : Cert.RopeSample.Facts) (hRopeSampleIdeal : Cert.RopeSampleIdeal.Facts) (hRopeSampleRefIdeal : Cert.RopeSampleRefIdeal.Facts) (hFfnSample : Cert.FfnSample.Facts) (hFfnSampleIdeal : Cert.FfnSampleIdeal.Facts) (hFfnSampleRefIdeal : Cert.FfnSampleRefIdeal.Facts) (hLruSample : Cert.LruSample.Facts) (hLruSampleIdeal : Cert.LruSampleIdeal.Facts) (hLruSampleRefIdeal : Cert.LruSampleRefIdeal.Facts),
    quiescent_Lru (hLru := hLru)
    ∧ quiescent_LruIdeal (hLruIdeal := hLruIdeal)
    ∧ quiescent_LruRefIdeal (hLruRefIdeal := hLruRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ quiescent_Rope (hRope := hRope)
    ∧ quiescent_RopeIdeal (hRopeIdeal := hRopeIdeal)
    ∧ quiescent_RopeRefIdeal (hRopeRefIdeal := hRopeRefIdeal)
    ∧ quiescent_RopeSample (hRopeSample := hRopeSample)
    ∧ quiescent_RopeSampleIdeal (hRopeSampleIdeal := hRopeSampleIdeal)
    ∧ quiescent_RopeSampleRefIdeal (hRopeSampleRefIdeal := hRopeSampleRefIdeal)
    ∧ quiescent_FfnSample (hFfnSample := hFfnSample)
    ∧ quiescent_FfnSampleIdeal (hFfnSampleIdeal := hFfnSampleIdeal)
    ∧ quiescent_FfnSampleRefIdeal (hFfnSampleRefIdeal := hFfnSampleRefIdeal)
    ∧ quiescent_LruSample (hLruSample := hLruSample)
    ∧ quiescent_LruSampleIdeal (hLruSampleIdeal := hLruSampleIdeal)
    ∧ quiescent_LruSampleRefIdeal (hLruSampleRefIdeal := hLruSampleRefIdeal)
    ∧ preserves_Lru_LruIdeal
    ∧ algebraic_LruIdeal_LruRefIdeal (hLruIdeal := hLruIdeal) (hLruRefIdeal := hLruRefIdeal)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
    ∧ preserves_Rope_RopeIdeal
    ∧ algebraic_RopeIdeal_RopeRefIdeal (hRopeIdeal := hRopeIdeal) (hRopeRefIdeal := hRopeRefIdeal)
    ∧ preserves_RopeSample_RopeSampleIdeal
    ∧ algebraic_RopeSampleIdeal_RopeSampleRefIdeal (hRopeSampleIdeal := hRopeSampleIdeal) (hRopeSampleRefIdeal := hRopeSampleRefIdeal)
    ∧ preserves_FfnSample_FfnSampleIdeal
    ∧ algebraic_FfnSampleIdeal_FfnSampleRefIdeal (hFfnSampleIdeal := hFfnSampleIdeal) (hFfnSampleRefIdeal := hFfnSampleRefIdeal)
    ∧ preserves_LruSample_LruSampleIdeal
    ∧ algebraic_LruSampleIdeal_LruSampleRefIdeal (hLruSampleIdeal := hLruSampleIdeal) (hLruSampleRefIdeal := hLruSampleRefIdeal)
-- ==== Lru.lean ====
abbrev S2x8192x7680 : Shape := ⟨3, ![2, 8192, 7680]⟩
abbrev S4x512 : Shape := ⟨2, ![4, 512]⟩
abbrev S512 : Shape := ⟨1, ![512]⟩
abbrev S8x64x64 : Shape := ⟨3, ![8, 64, 64]⟩
abbrev S2x512 : Shape := ⟨2, ![2, 512]⟩
abbrev S2x3x512 : Shape := ⟨3, ![2, 3, 512]⟩
abbrev S1x512 : Shape := ⟨2, ![1, 512]⟩
abbrev S_ : Shape := ⟨0, ![]⟩
abbrev S8x64x8x64 : Shape := ⟨4, ![8, 64, 8, 64]⟩
abbrev S1x64x64 : Shape := ⟨3, ![1, 64, 64]⟩
abbrev S64x64 : Shape := ⟨2, ![64, 64]⟩
abbrev S1 : Shape := ⟨1, ![1]⟩
abbrev S2 : Shape := ⟨1, ![2]⟩
abbrev S512x512 : Shape := ⟨2, ![512, 512]⟩
abbrev S2x1x512 : Shape := ⟨3, ![2, 1, 512]⟩
abbrev S2x8192x512 : Shape := ⟨3, ![2, 8192, 512]⟩
abbrev S1x512x512 : Shape := ⟨3, ![1, 512, 512]⟩
abbrev S1x1x512 : Shape := ⟨3, ![1, 1, 512]⟩
abbrev S1x3x512 : Shape := ⟨3, ![1, 3, 512]⟩
abbrev S520x512 : Shape := ⟨2, ![520, 512]⟩
abbrev S768x512 : Shape := ⟨2, ![768, 512]⟩
abbrev S3x512 : Shape := ⟨2, ![3, 512]⟩
abbrev S256x512 : Shape := ⟨2, ![256, 512]⟩

abbrev nBuf : Space → Nat
  | .hbm => 154
  | .vmem => 25
  | .smem => 0
  | _ => 0

abbrev hbmTy0_0 (i : Nat) : BufTy := match i % 128 with
  | 0 => ⟨S2x8192x7680, .f32⟩
  | 1 => ⟨S4x512, .f32⟩
  | 2 => ⟨S512, .f32⟩
  | 3 => ⟨S8x64x64, .f32⟩
  | 4 => ⟨S512, .f32⟩
  | 5 => ⟨S8x64x64, .f32⟩
  | 6 => ⟨S512, .f32⟩
  | 7 => ⟨S512, .f32⟩
  | 8 => ⟨S2x512, .f32⟩
  | 9 => ⟨S2x3x512, .f32⟩
  | 10 => ⟨S1x512, .f32⟩
  | 11 => ⟨S_, .f32⟩
  | 12 => ⟨S8x64x8x64, .f32⟩
  | 13 => ⟨S1x64x64, .f32⟩
  | 14 => ⟨S64x64, .f32⟩
  | 15 => ⟨S_, .i32⟩
  | 16 => ⟨S1, .i32⟩
  | 17 => ⟨S_, .i32⟩
  | 18 => ⟨S1, .i32⟩
  | 19 => ⟨S2, .i32⟩
  | 20 => ⟨S8x64x8x64, .f32⟩
  | 21 => ⟨S1x64x64, .f32⟩
  | 22 => ⟨S64x64, .f32⟩
  | 23 => ⟨S_, .i32⟩
  | 24 => ⟨S1, .i32⟩
  | 25 => ⟨S_, .i32⟩
  | 26 => ⟨S1, .i32⟩
  | 27 => ⟨S2, .i32⟩
  | 28 => ⟨S8x64x8x64, .f32⟩
  | 29 => ⟨S1x64x64, .f32⟩
  | 30 => ⟨S64x64, .f32⟩
  | 31 => ⟨S_, .i32⟩
  | 32 => ⟨S1, .i32⟩
  | 33 => ⟨S_, .i32⟩
  | 34 => ⟨S1, .i32⟩
  | 35 => ⟨S2, .i32⟩
  | 36 => ⟨S8x64x8x64, .f32⟩
  | 37 => ⟨S1x64x64, .f32⟩
  | 38 => ⟨S64x64, .f32⟩
  | 39 => ⟨S_, .i32⟩
  | 40 => ⟨S1, .i32⟩
  | 41 => ⟨S_, .i32⟩
  | 42 => ⟨S1, .i32⟩
  | 43 => ⟨S2, .i32⟩
  | 44 => ⟨S8x64x8x64, .f32⟩
  | 45 => ⟨S1x64x64, .f32⟩
  | 46 => ⟨S64x64, .f32⟩
  | 47 => ⟨S_, .i32⟩
  | 48 => ⟨S1, .i32⟩
  | 49 => ⟨S_, .i32⟩
  | 50 => ⟨S1, .i32⟩
  | 51 => ⟨S2, .i32⟩
  | 52 => ⟨S8x64x8x64, .f32⟩
  | 53 => ⟨S1x64x64, .f32⟩
  | 54 => ⟨S64x64, .f32⟩
  | 55 => ⟨S_, .i32⟩
  | 56 => ⟨S1, .i32⟩
  | 57 => ⟨S_, .i32⟩
  | 58 => ⟨S1, .i32⟩
  | 59 => ⟨S2, .i32⟩
  | 60 => ⟨S8x64x8x64, .f32⟩
  | 61 => ⟨S1x64x64, .f32⟩
  | 62 => ⟨S64x64, .f32⟩
  | 63 => ⟨S_, .i32⟩
  | 64 => ⟨S1, .i32⟩
  | 65 => ⟨S_, .i32⟩
  | 66 => ⟨S1, .i32⟩
  | 67 => ⟨S2, .i32⟩
  | 68 => ⟨S8x64x8x64, .f32⟩
  | 69 => ⟨S1x64x64, .f32⟩
  | 70 => ⟨S64x64, .f32⟩
  | 71 => ⟨S_, .i32⟩
  | 72 => ⟨S1, .i32⟩
  | 73 => ⟨S_, .i32⟩
  | 74 => ⟨S1, .i32⟩
  | 75 => ⟨S2, .i32⟩
  | 76 => ⟨S8x64x8x64, .f32⟩
  | 77 => ⟨S512x512, .f32⟩
  | 78 => ⟨S512x512, .bf16⟩
  | 79 => ⟨S1x512, .f32⟩
  | 80 => ⟨S_, .f32⟩
  | 81 => ⟨S8x64x8x64, .f32⟩
  | 82 => ⟨S1x64x64, .f32⟩
  | 83 => ⟨S64x64, .f32⟩
  | 84 => ⟨S_, .i32⟩
  | 85 => ⟨S1, .i32⟩
  | 86 => ⟨S_, .i32⟩
  | 87 => ⟨S1, .i32⟩
  | 88 => ⟨S2, .i32⟩
  | 89 => ⟨S8x64x8x64, .f32⟩
  | 90 => ⟨S1x64x64, .f32⟩
  | 91 => ⟨S64x64, .f32⟩
  | 92 => ⟨S_, .i32⟩
  | 93 => ⟨S1, .i32⟩
  | 94 => ⟨S_, .i32⟩
  | 95 => ⟨S1, .i32⟩
  | 96 => ⟨S2, .i32⟩
  | 97 => ⟨S8x64x8x64, .f32⟩
  | 98 => ⟨S1x64x64, .f32⟩
  | 99 => ⟨S64x64, .f32⟩
  | 100 => ⟨S_, .i32⟩
  | 101 => ⟨S1, .i32⟩
  | 102 => ⟨S_, .i32⟩
  | 103 => ⟨S1, .i32⟩
  | 104 => ⟨S2, .i32⟩
  | 105 => ⟨S8x64x8x64, .f32⟩
  | 106 => ⟨S1x64x64, .f32⟩
  | 107 => ⟨S64x64, .f32⟩
  | 108 => ⟨S_, .i32⟩
  | 109 => ⟨S1, .i32⟩
  | 110 => ⟨S_, .i32⟩
  | 111 => ⟨S1, .i32⟩
  | 112 => ⟨S2, .i32⟩
  | 113 => ⟨S8x64x8x64, .f32⟩
  | 114 => ⟨S1x64x64, .f32⟩
  | 115 => ⟨S64x64, .f32⟩
  | 116 => ⟨S_, .i32⟩
  | 117 => ⟨S1, .i32⟩
  | 118 => ⟨S_, .i32⟩
  | 119 => ⟨S1, .i32⟩
  | 120 => ⟨S2, .i32⟩
  | 121 => ⟨S8x64x8x64, .f32⟩
  | 122 => ⟨S1x64x64, .f32⟩
  | 123 => ⟨S64x64, .f32⟩
  | 124 => ⟨S_, .i32⟩
  | 125 => ⟨S1, .i32⟩
  | 126 => ⟨S_, .i32⟩
  | 127 => ⟨S1, .i32⟩
  | _ => ⟨S2x8192x7680, .f32⟩

abbrev hbmTy0_1 (i : Nat) : BufTy := match i % 128 with
  | 0 => ⟨S2, .i32⟩
  | 1 => ⟨S8x64x8x64, .f32⟩
  | 2 => ⟨S1x64x64, .f32⟩
  | 3 => ⟨S64x64, .f32⟩
  | 4 => ⟨S_, .i32⟩
  | 5 => ⟨S1, .i32⟩
  | 6 => ⟨S_, .i32⟩
  | 7 => ⟨S1, .i32⟩
  | 8 => ⟨S2, .i32⟩
  | 9 => ⟨S8x64x8x64, .f32⟩
  | 10 => ⟨S1x64x64, .f32⟩
  | 11 => ⟨S64x64, .f32⟩
  | 12 => ⟨S_, .i32⟩
  | 13 => ⟨S1, .i32⟩
  | 14 => ⟨S_, .i32⟩
  | 15 => ⟨S1, .i32⟩
  | 16 => ⟨S2, .i32⟩
  | 17 => ⟨S8x64x8x64, .f32⟩
  | 18 => ⟨S512x512, .f32⟩
  | 19 => ⟨S512x512, .bf16⟩
  | 20 => ⟨S1x512, .f32⟩
  | 21 => ⟨S1x512, .f32⟩
  | 22 => ⟨S2x1x512, .f32⟩
  | 23 => ⟨S2x8192x512, .f32⟩
  | 24 => ⟨S2x1x512, .f32⟩
  | 25 => ⟨S2x3x512, .f32⟩
  | _ => ⟨S2x8192x7680, .f32⟩

abbrev hbmTy (i : Nat) : BufTy := match i / 128 with
  | 0 => hbmTy0_0 i
  | 1 => hbmTy0_1 i
  | _ => ⟨S2x8192x7680, .f32⟩

abbrev bufTy : (tb : Table) → Fin (tcTables nBuf tb) → BufTy
  | .hbm, ⟨i, _⟩ => hbmTy i
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S4x512, .f32⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S1x512, .f32⟩
  | .local _ .vmem, ⟨11, _⟩ => ⟨S1x1x512, .f32⟩
  | .local _ .vmem, ⟨12, _⟩ => ⟨S1x1x512, .f32⟩
  | .local _ .vmem, ⟨13, _⟩ => ⟨S1x3x512, .f32⟩
  | .local _ .vmem, ⟨14, _⟩ => ⟨S1x3x512, .f32⟩
  | .local _ .vmem, ⟨15, _⟩ => ⟨S1x512x512, .f32⟩
  | .local _ .vmem, ⟨16, _⟩ => ⟨S1x512x512, .f32⟩
  | .local _ .vmem, ⟨17, _⟩ => ⟨S1x1x512, .f32⟩
  | .local _ .vmem, ⟨18, _⟩ => ⟨S1x1x512, .f32⟩
  | .local _ .vmem, ⟨19, _⟩ => ⟨S1x3x512, .f32⟩
  | .local _ .vmem, ⟨20, _⟩ => ⟨S1x3x512, .f32⟩
  | .local _ .vmem, ⟨21, _⟩ => ⟨S520x512, .f32⟩
  | .local _ .vmem, ⟨22, _⟩ => ⟨S768x512, .f32⟩
  | .local _ .vmem, ⟨23, _⟩ => ⟨S768x512, .f32⟩
  | .local _ .vmem, ⟨24, _⟩ => ⟨S1x512, .f32⟩
  | _, _ => ⟨S2x8192x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_7 : Ref sig .tc := ⟨.hbm, 47, rfl⟩
abbrev main_v28 : Ref sig .tc := ⟨.hbm, 48, rfl⟩
abbrev main_c_8 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_9 : Ref sig .tc := ⟨.hbm, 55, rfl⟩
abbrev main_v34 : Ref sig .tc := ⟨.hbm, 56, rfl⟩
abbrev main_c_10 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_11 : Ref sig .tc := ⟨.hbm, 63, rfl⟩
abbrev main_v40 : Ref sig .tc := ⟨.hbm, 64, rfl⟩
abbrev main_c_12 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_13 : Ref sig .tc := ⟨.hbm, 71, rfl⟩
abbrev main_v46 : Ref sig .tc := ⟨.hbm, 72, rfl⟩
abbrev main_c_14 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_15 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_16 : Ref sig .tc := ⟨.hbm, 84, rfl⟩
abbrev main_v56 : Ref sig .tc := ⟨.hbm, 85, rfl⟩
abbrev main_c_17 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_18 : Ref sig .tc := ⟨.hbm, 92, rfl⟩
abbrev main_v62 : Ref sig .tc := ⟨.hbm, 93, rfl⟩
abbrev main_c_19 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_20 : Ref sig .tc := ⟨.hbm, 100, rfl⟩
abbrev main_v68 : Ref sig .tc := ⟨.hbm, 101, rfl⟩
abbrev main_c_21 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_22 : Ref sig .tc := ⟨.hbm, 108, rfl⟩
abbrev main_v74 : Ref sig .tc := ⟨.hbm, 109, rfl⟩
abbrev main_c_23 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_c_24 : Ref sig .tc := ⟨.hbm, 116, rfl⟩
abbrev main_v80 : Ref sig .tc := ⟨.hbm, 117, rfl⟩
abbrev main_c_25 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_c_26 : Ref sig .tc := ⟨.hbm, 124, rfl⟩
abbrev main_v86 : Ref sig .tc := ⟨.hbm, 125, rfl⟩
abbrev main_c_27 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_c_28 : Ref sig .tc := ⟨.hbm, 132, rfl⟩
abbrev main_v92 : Ref sig .tc := ⟨.hbm, 133, rfl⟩
abbrev main_c_29 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_c_30 : Ref sig .tc := ⟨.hbm, 140, rfl⟩
abbrev main_v98 : Ref sig .tc := ⟨.hbm, 141, rfl⟩
abbrev main_c_31 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107_0 : Ref sig .tc := ⟨.hbm, 151, rfl⟩
abbrev main_v107_1 : Ref sig .tc := ⟨.hbm, 152, rfl⟩
abbrev main_v107_2 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x3x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x3x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== LruRefIdeal.lean ====
abbrev S2x8192x7680 : Shape := ⟨3, ![2, 8192, 7680]⟩
abbrev S4x512 : Shape := ⟨2, ![4, 512]⟩
abbrev S512 : Shape := ⟨1, ![512]⟩
abbrev S8x64x64 : Shape := ⟨3, ![8, 64, 64]⟩
abbrev S2x512 : Shape := ⟨2, ![2, 512]⟩
abbrev S2x3x512 : Shape := ⟨3, ![2, 3, 512]⟩
abbrev S2x8192x512 : Shape := ⟨3, ![2, 8192, 512]⟩
abbrev S2x8195x512 : Shape := ⟨3, ![2, 8195, 512]⟩
abbrev S1x512 : Shape := ⟨2, ![1, 512]⟩
abbrev S1x1x512 : Shape := ⟨3, ![1, 1, 512]⟩
abbrev S2x8192x8x64 : Shape := ⟨4, ![2, 8192, 8, 64]⟩
abbrev S8x64x2x8192 : Shape := ⟨4, ![8, 64, 2, 8192]⟩
abbrev S_ : Shape := ⟨0, ![]⟩
abbrev S8192x2x512 : Shape := ⟨3, ![8192, 2, 512]⟩
abbrev S1x2x512 : Shape := ⟨3, ![1, 2, 512]⟩
abbrev S2x1x512 : Shape := ⟨3, ![2, 1, 512]⟩

abbrev nBuf : Space → Nat
  | .hbm => 154
  | .vmem => 0
  | .smem => 0
  | _ => 0

abbrev hbmTy0_0 (i : Nat) : BufTy := match i % 128 with
  | 0 => ⟨S2x8192x7680, .f32⟩
  | 1 => ⟨S4x512, .f32⟩
  | 2 => ⟨S512, .f32⟩
  | 3 => ⟨S8x64x64, .f32⟩
  | 4 => ⟨S512, .f32⟩
  | 5 => ⟨S8x64x64, .f32⟩
  | 6 => ⟨S512, .f32⟩
  | 7 => ⟨S512, .f32⟩
  | 8 => ⟨S2x512, .f32⟩
  | 9 => ⟨S2x3x512, .f32⟩
  | 10 => ⟨S2x8192x512, .f32⟩
  | 11 => ⟨S2x8192x512, .f32⟩
  | 12 => ⟨S2x8195x512, .f32⟩
  | 13 => ⟨S1x512, .f32⟩
  | 14 => ⟨S512, .f32⟩
  | 15 => ⟨S2x8192x512, .f32⟩
  | 16 => ⟨S1x1x512, .f32⟩
  | 17 => ⟨S2x8192x512, .f32⟩
  | 18 => ⟨S2x8192x512, .f32⟩
  | 19 => ⟨S1x1x512, .f32⟩
  | 20 => ⟨S2x8192x512, .f32⟩
  | 21 => ⟨S2x8192x512, .f32⟩
  | 22 => ⟨S1x512, .f32⟩
  | 23 => ⟨S512, .f32⟩
  | 24 => ⟨S2x8192x512, .f32⟩
  | 25 => ⟨S1x1x512, .f32⟩
  | 26 => ⟨S2x8192x512, .f32⟩
  | 27 => ⟨S2x8192x512, .f32⟩
  | 28 => ⟨S2x8192x512, .f32⟩
  | 29 => ⟨S1x512, .f32⟩
  | 30 => ⟨S512, .f32⟩
  | 31 => ⟨S2x8192x512, .f32⟩
  | 32 => ⟨S1x1x512, .f32⟩
  | 33 => ⟨S2x8192x512, .f32⟩
  | 34 => ⟨S2x8192x512, .f32⟩
  | 35 => ⟨S2x8192x512, .f32⟩
  | 36 => ⟨S1x512, .f32⟩
  | 37 => ⟨S512, .f32⟩
  | 38 => ⟨S2x8192x512, .f32⟩
  | 39 => ⟨S1x1x512, .f32⟩
  | 40 => ⟨S2x8192x512, .f32⟩
  | 41 => ⟨S2x8192x512, .f32⟩
  | 42 => ⟨S2x8192x512, .f32⟩
  | 43 => ⟨S2x3x512, .f32⟩
  | 44 => ⟨S2x8192x8x64, .f32⟩
  | 45 => ⟨S8x64x2x8192, .f32⟩
  | 46 => ⟨S2x8192x8x64, .f32⟩
  | 47 => ⟨S2x8192x512, .f32⟩
  | 48 => ⟨S1x1x512, .f32⟩
  | 49 => ⟨S2x8192x512, .f32⟩
  | 50 => ⟨S2x8192x512, .f32⟩
  | 51 => ⟨S2x8192x512, .f32⟩
  | 52 => ⟨S2x8192x512, .f32⟩
  | 53 => ⟨S_, .f32⟩
  | 54 => ⟨S2x8192x512, .f32⟩
  | 55 => ⟨S2x8192x512, .f32⟩
  | 56 => ⟨S_, .f32⟩
  | 57 => ⟨S2x8192x512, .f32⟩
  | 58 => ⟨S2x8192x512, .f32⟩
  | 59 => ⟨S8x64x2x8192, .f32⟩
  | 60 => ⟨S2x8192x8x64, .f32⟩
  | 61 => ⟨S2x8192x512, .f32⟩
  | 62 => ⟨S1x1x512, .f32⟩
  | 63 => ⟨S2x8192x512, .f32⟩
  | 64 => ⟨S2x8192x512, .f32⟩
  | 65 => ⟨S2x8192x512, .f32⟩
  | 66 => ⟨S2x8192x512, .f32⟩
  | 67 => ⟨S_, .f32⟩
  | 68 => ⟨S2x8192x512, .f32⟩
  | 69 => ⟨S2x8192x512, .f32⟩
  | 70 => ⟨S_, .f32⟩
  | 71 => ⟨S2x8192x512, .f32⟩
  | 72 => ⟨S2x8192x512, .f32⟩
  | 73 => ⟨S_, .f32⟩
  | 74 => ⟨S2x8192x512, .f32⟩
  | 75 => ⟨S2x8192x512, .f32⟩
  | 76 => ⟨S512, .f32⟩
  | 77 => ⟨S_, .f32⟩
  | 78 => ⟨S512, .f32⟩
  | 79 => ⟨S512, .f32⟩
  | 80 => ⟨S512, .f32⟩
  | 81 => ⟨S512, .f32⟩
  | 82 => ⟨S512, .i1⟩
  | 83 => ⟨S512, .f32⟩
  | 84 => ⟨S512, .f32⟩
  | 85 => ⟨S512, .f32⟩
  | 86 => ⟨S512, .f32⟩
  | 87 => ⟨S512, .f32⟩
  | 88 => ⟨S512, .f32⟩
  | 89 => ⟨S512, .f32⟩
  | 90 => ⟨S512, .f32⟩
  | 91 => ⟨S1x1x512, .f32⟩
  | 92 => ⟨S2x8192x512, .f32⟩
  | 93 => ⟨S2x8192x512, .f32⟩
  | 94 => ⟨S2x8192x512, .f32⟩
  | 95 => ⟨S_, .f32⟩
  | 96 => ⟨S2x8192x512, .f32⟩
  | 97 => ⟨S2x8192x512, .f32⟩
  | 98 => ⟨S2x8192x512, .f32⟩
  | 99 => ⟨S2x8192x512, .f32⟩
  | 100 => ⟨S_, .f32⟩
  | 101 => ⟨S2x8192x512, .f32⟩
  | 102 => ⟨S2x8192x512, .f32⟩
  | 103 => ⟨S2x8192x512, .f32⟩
  | 104 => ⟨S2x8192x512, .f32⟩
  | 105 => ⟨S2x8192x512, .f32⟩
  | 106 => ⟨S8192x2x512, .f32⟩
  | 107 => ⟨S8192x2x512, .f32⟩
  | 108 => ⟨S_, .f32⟩
  | 109 => ⟨S8192x2x512, .f32⟩
  | 110 => ⟨S_, .i32⟩
  | 111 => ⟨S8192x2x512, .f32⟩
  | 112 => ⟨S8192x2x512, .f32⟩
  | 113 => ⟨S_, .i32⟩
  | 114 => ⟨S2x512, .f32⟩
  | 115 => ⟨S8192x2x512, .f32⟩
  | 116 => ⟨S_, .i32⟩
  | 117 => ⟨S_, .i1⟩
  | 118 => ⟨S_, .i32⟩
  | 119 => ⟨S_, .i32⟩
  | 120 => ⟨S1x2x512, .f32⟩
  | 121 => ⟨S2x512, .f32⟩
  | 122 => ⟨S_, .i32⟩
  | 123 => ⟨S_, .i32⟩
  | 124 => ⟨S1x2x512, .f32⟩
  | 125 => ⟨S2x512, .f32⟩
  | 126 => ⟨S2x512, .f32⟩
  | 127 => ⟨S2x512, .f32⟩
  | _ => ⟨S2x8192x7680, .f32⟩

abbrev hbmTy0_1 (i : Nat) : BufTy := match i % 128 with
  | 0 => ⟨S1x2x512, .f32⟩
  | 1 => ⟨S_, .i32⟩
  | 2 => ⟨S_, .i32⟩
  | 3 => ⟨S8192x2x512, .f32⟩
  | 4 => ⟨S_, .i32⟩
  | 5 => ⟨S_, .i32⟩
  | 6 => ⟨S2x8192x512, .f32⟩
  | 7 => ⟨S2x8192x512, .f32⟩
  | 8 => ⟨S2x8192x512, .f32⟩
  | 9 => ⟨S_, .f32⟩
  | 10 => ⟨S2x8192x512, .f32⟩
  | 11 => ⟨S2x8192x512, .f32⟩
  | 12 => ⟨S2x8192x512, .f32⟩
  | 13 => ⟨S_, .f32⟩
  | 14 => ⟨S2x8192x512, .f32⟩
  | 15 => ⟨S2x8192x512, .f32⟩
  | 16 => ⟨S2x8192x512, .f32⟩
  | 17 => ⟨S_, .f32⟩
  | 18 => ⟨S2x8192x512, .f32⟩
  | 19 => ⟨S2x8192x512, .f32⟩
  | 20 => ⟨S_, .f32⟩
  | 21 => ⟨S2x8192x512, .f32⟩
  | 22 => ⟨S2x8192x512, .f32⟩
  | 23 => ⟨S2x8192x512, .f32⟩
  | 24 => ⟨S2x8192x512, .f32⟩
  | 25 => ⟨S2x1x512, .f32⟩
  | _ => ⟨S2x8192x7680, .f32⟩

abbrev hbmTy (i : Nat) : BufTy := match i / 128 with
  | 0 => hbmTy0_0 i
  | 1 => hbmTy0_1 i
  | _ => ⟨S2x8192x7680, .f32⟩

abbrev bufTy : (tb : Table) → Fin (tcTables nBuf tb) → BufTy
  | .hbm, ⟨i, _⟩ => hbmTy i
  | _, _ => ⟨S2x8192x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst : Ref sig .tc := ⟨.hbm, 53, rfl⟩
abbrev main_v43 : Ref sig .tc := ⟨.hbm, 54, rfl⟩
abbrev main_v44 : Ref sig .tc := ⟨.hbm, 55, rfl⟩
abbrev main_cst_0 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_1 : Ref sig .tc := ⟨.hbm, 67, rfl⟩
abbrev main_v55 : Ref sig .tc := ⟨.hbm, 68, rfl⟩
abbrev main_v56 : Ref sig .tc := ⟨.hbm, 69, rfl⟩
abbrev main_cst_2 : Ref sig .tc := ⟨.hbm, 70, rfl⟩
abbrev main_v57 : Ref sig .tc := ⟨.hbm, 71, rfl⟩
abbrev main_v58 : Ref sig .tc := ⟨.hbm, 72, rfl⟩
abbrev main_cst_3 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_call0_cst : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_v5 : Ref sig .tc := ⟨.hbm, 83, rfl⟩
abbrev main_call0_v6 : Ref sig .tc := ⟨.hbm, 84, rfl⟩
abbrev main_call0_v7 : Ref sig .tc := ⟨.hbm, 85, rfl⟩
abbrev main_call0_v8 : Ref sig .tc := ⟨.hbm, 86, rfl⟩
abbrev main_call0_v9 : Ref sig .tc := ⟨.hbm, 87, rfl⟩
abbrev main_call0_v10 : Ref sig .tc := ⟨.hbm, 88, rfl⟩
abbrev main_call0_v11 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_4 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_5 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_6 : Ref sig .tc := ⟨.hbm, 108, rfl⟩
abbrev main_v78 : Ref sig .tc := ⟨.hbm, 109, rfl⟩
abbrev main_c : Ref sig .tc := ⟨.hbm, 110, rfl⟩
abbrev main_v79_0 : Ref sig .tc := ⟨.hbm, 111, rfl⟩
abbrev main_v79_1 : Ref sig .tc := ⟨.hbm, 112, rfl⟩
abbrev main_v79_2 : Ref sig .tc := ⟨.hbm, 113, rfl⟩
abbrev main_v79_3 : Ref sig .tc := ⟨.hbm, 114, rfl⟩
abbrev main_v79_4 : Ref sig .tc := ⟨.hbm, 115, rfl⟩
abbrev main_while0c_c_15 : Ref sig .tc := ⟨.hbm, 116, rfl⟩
abbrev main_while0c_v96 : Ref sig .tc := ⟨.hbm, 117, rfl⟩
abbrev main_while0b_call1_c : Ref sig .tc := ⟨.hbm, 118, rfl⟩
abbrev main_while0b_call1_c_0 : Ref sig .tc := ⟨.hbm, 119, rfl⟩
abbrev main_while0b_call1_v0 : Ref sig .tc := ⟨.hbm, 120, rfl⟩
abbrev main_while0b_v96 : Ref sig .tc := ⟨.hbm, 121, rfl⟩
abbrev main_while0b_call2_c : Ref sig .tc := ⟨.hbm, 122, rfl⟩
abbrev main_while0b_call2_c_0 : Ref sig .tc := ⟨.hbm, 123, rfl⟩
abbrev main_while0b_call2_v0 : Ref sig .tc := ⟨.hbm, 124, rfl⟩
abbrev main_while0b_v97 : Ref sig .tc := ⟨.hbm, 125, rfl⟩
abbrev main_while0b_v98 : Ref sig .tc := ⟨.hbm, 126, rfl⟩
abbrev main_while0b_v99 : Ref sig .tc := ⟨.hbm, 127, rfl⟩
abbrev main_while0b_call3_v0 : Ref sig .tc := ⟨.hbm, 128, rfl⟩
abbrev main_while0b_call3_c : Ref sig .tc := ⟨.hbm, 129, rfl⟩
abbrev main_while0b_call3_c_0 : Ref sig .tc := ⟨.hbm, 130, rfl⟩
abbrev main_while0b_v100 : Ref sig .tc := ⟨.hbm, 131, rfl⟩
abbrev main_while0b_c_15 : Ref sig .tc := ⟨.hbm, 132, rfl⟩
abbrev main_while0b_v101 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_cst_7 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_cst_8 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_cst_9 : Ref sig .tc := ⟨.hbm, 145, rfl⟩
abbrev main_v89 : Ref sig .tc := ⟨.hbm, 146, rfl⟩
abbrev main_v90 : Ref sig .tc := ⟨.hbm, 147, rfl⟩
abbrev main_cst_10 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩

abbrev nD : Nat := 1
abbrev τ : Topo := Topo.v7x

variable {F : FTy → Type} [FloatOps F]

abbrev main_while0_count : Scf.Loop 32 := ⟨0#32, 8192#32, 1#32⟩
-- ==== Ffn.lean ====
abbrev S16384x1024 : Shape := ⟨2, ![16384, 1024]⟩
abbrev S1024x6144 : Shape := ⟨2, ![1024, 6144]⟩
abbrev S3x3072 : Shape := ⟨2, ![3, 3072]⟩
abbrev S3072 : Shape := ⟨1, ![3072]⟩
abbrev S3072x1024 : Shape := ⟨2, ![3072, 1024]⟩
abbrev S1024 : Shape := ⟨1, ![1024]⟩
abbrev S2x2x3072 : Shape := ⟨3, ![2, 2, 3072]⟩
abbrev S1x3072 : Shape := ⟨2, ![1, 3072]⟩
abbrev S1x1024 : Shape := ⟨2, ![1, 1024]⟩
abbrev S2x8x3072 : Shape := ⟨3, ![2, 8, 3072]⟩
abbrev S512x1024 : Shape := ⟨2, ![512, 1024]⟩
abbrev S1x2x3072 : Shape := ⟨3, ![1, 2, 3072]⟩
abbrev S1x8x3072 : Shape := ⟨3, ![1, 8, 3072]⟩
abbrev S2x3072 : Shape := ⟨2, ![2, 3072]⟩
abbrev S1024x1024 : Shape := ⟨2, ![1024, 1024]⟩
abbrev S2x1024 : Shape := ⟨2, ![2, 1024]⟩
abbrev S8x1024 : Shape := ⟨2, ![8, 1024]⟩
abbrev S1x8x1024 : Shape := ⟨3, ![1, 8, 1024]⟩
abbrev S512 : Shape := ⟨1, ![512]⟩
abbrev S512x1 : Shape := ⟨2, ![512, 1]⟩

abbrev nBuf : Space → Nat
  | .hbm => 15
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024x6144, .f32⟩
  | .hbm, ⟨2, _⟩ => ⟨S3x3072, .f32⟩
  | .hbm, ⟨3, _⟩ => ⟨S3072, .f32⟩
  | .hbm, ⟨4, _⟩ => ⟨S3072x1024, .f32⟩
  | .hbm, ⟨5, _⟩ => ⟨S1024, .f32⟩
  | .hbm, ⟨6, _⟩ => ⟨S1024, .f32⟩
  | .hbm, ⟨7, _⟩ => ⟨S2x2x3072, .f32⟩
  | .hbm, ⟨8, _⟩ => ⟨S1024x6144, .bf16⟩
  | .hbm, ⟨9, _⟩ => ⟨S1x3072, .f32⟩
  | .hbm, ⟨10, _⟩ => ⟨S3072x1024, .bf16⟩
  | .hbm, ⟨11, _⟩ => ⟨S1x1024, .f32⟩
  | .hbm, ⟨12, _⟩ => ⟨S1x1024, .f32⟩
  | .hbm, ⟨13, _⟩ => ⟨S16384x1024, .f32⟩
  | .hbm, ⟨14, _⟩ => ⟨S2x8x3072, .f32⟩
  | .local _ .vmem, ⟨0, _⟩ => ⟨S512x1024, .f32⟩
  | .local _ .vmem, ⟨1, _⟩ => ⟨S512x1024, .f32⟩
  | .local _ .vmem, ⟨2, _⟩ => ⟨S1024x6144, .bf16⟩
  | .local _ .vmem, ⟨3, _⟩ => ⟨S3x3072, .f32⟩
  | .local _ .vmem, ⟨4, _⟩ => ⟨S1x3072, .f32⟩
  | .local _ .vmem, ⟨5, _⟩ => ⟨S3072x1024, .bf16⟩
  | .local _ .vmem, ⟨6, _⟩ => ⟨S1x1024, .f32⟩
  | .local _ .vmem, ⟨7, _⟩ => ⟨S1x1024, .f32⟩
  | .local _ .vmem, ⟨8, _⟩ => ⟨S1x2x3072, .f32⟩
  | .local _ .vmem, ⟨9, _⟩ => ⟨S1x2x3072, .f32⟩
  | .local _ .vmem, ⟨10, _⟩ => ⟨S1x2x3072, .f32⟩
  | .local _ .vmem, ⟨11, _⟩ => ⟨S1x2x3072, .f32⟩
  | .local _ .vmem, ⟨12, _⟩ => ⟨S512x1024, .f32⟩
  | .local _ .vmem, ⟨13, _⟩ => ⟨S512x1024, .f32⟩
  | .local _ .vmem, ⟨14, _⟩ => ⟨S1x8x3072, .f32⟩
  | .local _ .vmem, ⟨15, _⟩ => ⟨S1x8x3072, .f32⟩
  | .local _ .vmem, ⟨16, _⟩ => ⟨S2x3072, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x2x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x3072 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FfnRefIdeal.lean ====
abbrev S16384x1024 : Shape := ⟨2, ![16384, 1024]⟩
abbrev S1024x6144 : Shape := ⟨2, ![1024, 6144]⟩
abbrev S3x3072 : Shape := ⟨2, ![3, 3072]⟩
abbrev S3072 : Shape := ⟨1, ![3072]⟩
abbrev S3072x1024 : Shape := ⟨2, ![3072, 1024]⟩
abbrev S1024 : Shape := ⟨1, ![1024]⟩
abbrev S2x2x3072 : Shape := ⟨3, ![2, 2, 3072]⟩
abbrev S2x8192x1024 : Shape := ⟨3, ![2, 8192, 1024]⟩
abbrev S2x8192x6144 : Shape := ⟨3, ![2, 8192, 6144]⟩
abbrev S2x8192x3072 : Shape := ⟨3, ![2, 8192, 3072]⟩
abbrev S2x8194x3072 : Shape := ⟨3, ![2, 8194, 3072]⟩
abbrev S1x3072 : Shape := ⟨2, ![1, 3072]⟩
abbrev S1x1x3072 : Shape := ⟨3, ![1, 1, 3072]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8x3072 : Shape := ⟨3, ![2, 8, 3072]⟩

abbrev nBuf : Space → Nat
  | .hbm => 90
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x6144, .f32⟩
  | .hbm, ⟨2, _⟩ => ⟨S3x3072, .f32⟩
  | .hbm, ⟨3, _⟩ => ⟨S3072, .f32⟩
  | .hbm, ⟨4, _⟩ => ⟨S3072x1024, .f32⟩
  | .hbm, ⟨5, _⟩ => ⟨S1024, .f32⟩
  | .hbm, ⟨6, _⟩ => ⟨S1024, .f32⟩
  | .hbm, ⟨7, _⟩ => ⟨S2x2x3072, .f32⟩
  | .hbm, ⟨8, _⟩ => ⟨S2x8192x1024, .f32⟩
  | .hbm, ⟨9, _⟩ => ⟨S2x8192x6144, .f32⟩
  | .hbm, ⟨10, _⟩ => ⟨S2x8192x3072, .f32⟩
  | .hbm, ⟨11, _⟩ => ⟨S2x8192x3072, .f32⟩
  | .hbm, ⟨12, _⟩ => ⟨S2x8194x3072, .f32⟩
  | .hbm, ⟨13, _⟩ => ⟨S1x3072, .f32⟩
  | .hbm, ⟨14, _⟩ => ⟨S3072, .f32⟩
  | .hbm, ⟨15, _⟩ => ⟨S2x8192x3072, .f32⟩
  | .hbm, ⟨16, _⟩ => ⟨S1x1x3072, .f32⟩
  | .hbm, ⟨17, _⟩ => ⟨S2x8192x3072, .f32⟩
  | .hbm, ⟨18, _⟩ => ⟨S2x8192x3072, .f32⟩
  | .hbm, ⟨19, _⟩ => ⟨S1x1x3072, .f32⟩
  | .hbm, ⟨20, _⟩ => ⟨S2x8192x3072, .f32⟩
  | .hbm, ⟨21, _⟩ => ⟨S2x8192x3072, .f32⟩
  | .hbm, ⟨22, _⟩ => ⟨S1x3072, .f32⟩
  | .hbm, ⟨23, _⟩ => ⟨S3072, .f32⟩
  | .hbm, ⟨24, _⟩ => ⟨S2x8192x3072, .f32⟩
  | .hbm, ⟨25, _⟩ => ⟨S1x1x3072, .f32⟩
  | .hbm, ⟨26, _⟩ => ⟨S2x8192x3072, .f32⟩
  | .hbm, ⟨27, _⟩ => ⟨S2x8192x3072, .f32⟩
  | .hbm, ⟨28, _⟩ => ⟨S2x8192x3072, .f32⟩
  | .hbm, ⟨29, _⟩ => ⟨S1x3072, .f32⟩
  | .hbm, ⟨30, _⟩ => ⟨S3072, .f32⟩
  | .hbm, ⟨31, _⟩ => ⟨S2x8192x3072, .f32⟩
  | .hbm, ⟨32, _⟩ => ⟨S1x1x3072, .f32⟩
  | .hbm, ⟨33, _⟩ => ⟨S2x8192x3072, .f32⟩
  | .hbm, ⟨34, _⟩ => ⟨S2x8192x3072, .f32⟩
  | .hbm, ⟨35, _⟩ => ⟨S2x8192x3072, .f32⟩
  | .hbm, ⟨36, _⟩ => ⟨S2x8192x3072, .f32⟩
  | .hbm, ⟨37, _⟩ => ⟨S2x8192x3072, .f32⟩
  | .hbm, ⟨38, _⟩ => ⟨S_, .f32⟩
  | .hbm, ⟨39, _⟩ => ⟨S2x8192x3072, .f32⟩
  | .hbm, ⟨40, _⟩ => ⟨S2x8192x3072, .f32⟩
  | .hbm, ⟨41, _⟩ => ⟨S2x8192x3072, .f32⟩
  | .hbm, ⟨42, _⟩ => ⟨S_, .f32⟩
  | .hbm, ⟨43, _⟩ => ⟨S2x8192x3072, .f32⟩
  | .hbm, ⟨44, _⟩ => ⟨S2x8192x3072, .f32⟩
  | .hbm, ⟨45, _⟩ => ⟨S2x8192x3072, .f32⟩
  | .hbm, ⟨46, _⟩ => ⟨S_, .f32⟩
  | .hbm, ⟨47, _⟩ => ⟨S2x8192x3072, .f32⟩
  | .hbm, ⟨48, _⟩ => ⟨S2x8192x3072, .f32⟩
  | .hbm, ⟨49, _⟩ => ⟨S_, .f32⟩
  | .hbm, ⟨50, _⟩ => ⟨S2x8192x3072, .f32⟩
  | .hbm, ⟨51, _⟩ => ⟨S2x8192x3072, .f32⟩
  | .hbm, ⟨52, _⟩ => ⟨S2x8192x3072, .f32⟩
  | .hbm, ⟨53, _⟩ => ⟨S2x8192x3072, .f32⟩
  | .hbm, ⟨54, _⟩ => ⟨S2x8192x1024, .f32⟩
  | .hbm, ⟨55, _⟩ => ⟨S_, .f32⟩
  | .hbm, ⟨56, _⟩ => ⟨S2x8192x1024, .f32⟩
  | .hbm, ⟨57, _⟩ => ⟨S2x8192x1024, .f32⟩
  | .hbm, ⟨58, _⟩ => ⟨S2x8192x1024, .f32⟩
  | .hbm, ⟨59, _⟩ => ⟨S_, .f32⟩
  | .hbm, ⟨60, _⟩ => ⟨S2x8192, .f32⟩
  | .hbm, ⟨61, _⟩ => ⟨S2x8192x1, .f32⟩
  | .hbm, ⟨62, _⟩ => ⟨S_, .f32⟩
  | .hbm, ⟨63, _⟩ => ⟨S2x8192x1, .f32⟩
  | .hbm, ⟨64, _⟩ => ⟨S2x8192x1, .f32⟩
  | .hbm, ⟨65, _⟩ => ⟨S2x8192x1024, .f32⟩
  | .hbm, ⟨66, _⟩ => ⟨S2x8192x1024, .f32⟩
  | .hbm, ⟨67, _⟩ => ⟨S2x8192x1024, .f32⟩
  | .hbm, ⟨68, _⟩ => ⟨S_, .f32⟩
  | .hbm, ⟨69, _⟩ => ⟨S2x8192, .f32⟩
  | .hbm, ⟨70, _⟩ => ⟨S2x8192x1, .f32⟩
  | .hbm, ⟨71, _⟩ => ⟨S_, .f32⟩
  | .hbm, ⟨72, _⟩ => ⟨S2x8192x1, .f32⟩
  | .hbm, ⟨73, _⟩ => ⟨S2x8192x1, .f32⟩
  | .hbm, ⟨74, _⟩ => ⟨S2x8192x1024, .f32⟩
  | .hbm, ⟨75, _⟩ => ⟨S2x8192x1024, .f32⟩
  | .hbm, ⟨76, _⟩ => ⟨S_, .f32⟩
  | .hbm, ⟨77, _⟩ => ⟨S2x8192x1, .f32⟩
  | .hbm, ⟨78, _⟩ => ⟨S2x8192x1, .f32⟩
  | .hbm, ⟨79, _⟩ => ⟨S2x8192x1, .f32⟩
  | .hbm, ⟨80, _⟩ => ⟨S2x8192x1024, .f32⟩
  | .hbm, ⟨81, _⟩ => ⟨S2x8192x1024, .f32⟩
  | .hbm, ⟨82, _⟩ => ⟨S1x1x1024, .f32⟩
  | .hbm, ⟨83, _⟩ => ⟨S2x8192x1024, .f32⟩
  | .hbm, ⟨84, _⟩ => ⟨S2x8192x1024, .f32⟩
  | .hbm, ⟨85, _⟩ => ⟨S1x1x1024, .f32⟩
  | .hbm, ⟨86, _⟩ => ⟨S2x8192x1024, .f32⟩
  | .hbm, ⟨87, _⟩ => ⟨S2x8192x1024, .f32⟩
  | .hbm, ⟨88, _⟩ => ⟨S16384x1024, .f32⟩
  | .hbm, ⟨89, _⟩ => ⟨S2x8x3072, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_0 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_1 : Ref sig .tc := ⟨.hbm, 46, rfl⟩
abbrev main_v36 : Ref sig .tc := ⟨.hbm, 47, rfl⟩
abbrev main_v37 : Ref sig .tc := ⟨.hbm, 48, rfl⟩
abbrev main_cst_2 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_3 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_4 : Ref sig .tc := ⟨.hbm, 59, rfl⟩
abbrev main_v46 : Ref sig .tc := ⟨.hbm, 60, rfl⟩
abbrev main_v47 : Ref sig .tc := ⟨.hbm, 61, rfl⟩
abbrev main_cst_5 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_cst_7 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Merge.lean ====
abbrev S16384x1024 : Shape := ⟨2, ![16384, 1024]⟩
abbrev S16384x7680 : Shape := ⟨2, ![16384, 7680]⟩
abbrev S16384x512 : Shape := ⟨2, ![16384, 512]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 18
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S16384x7680, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S512x1024, .bf16⟩
  | .hbm, ⟨12, _⟩ => ⟨S512x1024, .bf16⟩
  | .hbm, ⟨13, _⟩ => ⟨S512x1024, .bf16⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S1024x1024, .bf16⟩
  | .local _ .vmem, ⟨24, _⟩ => ⟨S1x1024, .f32⟩
  | .local _ .vmem, ⟨25, _⟩ => ⟨S1x1024, .f32⟩
  | .local _ .vmem, ⟨26, _⟩ => ⟨S512x1024, .f32⟩
  | .local _ .vmem, ⟨27, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_7 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_8 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_9 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergeRefIdeal.lean ====
abbrev S16384x1024 : Shape := ⟨2, ![16384, 1024]⟩
abbrev S16384x7680 : Shape := ⟨2, ![16384, 7680]⟩
abbrev S16384x512 : Shape := ⟨2, ![16384, 512]⟩
abbrev S512x1024 : Shape := ⟨2, ![512, 1024]⟩
abbrev S1024x1024 : Shape := ⟨2, ![1024, 1024]⟩
abbrev S1024 : Shape := ⟨1, ![1024]⟩
abbrev S16384x3072 : Shape := ⟨2, ![16384, 3072]⟩
abbrev S16384x3x1024 : Shape := ⟨3, ![16384, 3, 1024]⟩
abbrev S_ : Shape := ⟨0, ![]⟩
abbrev S16384x1x1024 : Shape := ⟨3, ![16384, 1, 1024]⟩
abbrev S16384 : Shape := ⟨1, ![16384]⟩
abbrev S16384x1 : Shape := ⟨2, ![16384, 1]⟩
abbrev S1x1024 : Shape := ⟨2, ![1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x7680, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S16384x3072, .f32⟩
  | .hbm, ⟨12, _⟩ => ⟨S16384x3x1024, .f32⟩
  | .hbm, ⟨13, _⟩ => ⟨S16384x3x1024, .f32⟩
  | .hbm, ⟨14, _⟩ => ⟨S16384x3x1024, .f32⟩
  | .hbm, ⟨15, _⟩ => ⟨S_, .f32⟩
  | .hbm, ⟨16, _⟩ => ⟨S16384x3x1024, .f32⟩
  | .hbm, ⟨17, _⟩ => ⟨S16384x3x1024, .f32⟩
  | .hbm, ⟨18, _⟩ => ⟨S_, .f32⟩
  | .hbm, ⟨19, _⟩ => ⟨S16384x3x1024, .f32⟩
  | .hbm, ⟨20, _⟩ => ⟨S16384x3x1024, .f32⟩
  | .hbm, ⟨21, _⟩ => ⟨S16384x1x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1, .f32⟩
  | .hbm, ⟨61, _⟩ => ⟨S16384x1024, .f32⟩
  | .hbm, ⟨62, _⟩ => ⟨S16384x1024, .f32⟩
  | .hbm, ⟨63, _⟩ => ⟨S1x1024, .f32⟩
  | .hbm, ⟨64, _⟩ => ⟨S16384x1024, .f32⟩
  | .hbm, ⟨65, _⟩ => ⟨S16384x1024, .f32⟩
  | .hbm, ⟨66, _⟩ => ⟨S1x1024, .f32⟩
  | .hbm, ⟨67, _⟩ => ⟨S16384x1024, .f32⟩
  | .hbm, ⟨68, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Proj.lean ====
abbrev S16384x1024 : Shape := ⟨2, ![16384, 1024]⟩
abbrev S1024x7680 : Shape := ⟨2, ![1024, 7680]⟩
abbrev S16384x7680 : Shape := ⟨2, ![16384, 7680]⟩
abbrev S1024x1024 : Shape := ⟨2, ![1024, 1024]⟩
abbrev S1024x1536 : Shape := ⟨2, ![1024, 1536]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x7680, .f32⟩
  | .hbm, ⟨2, _⟩ => ⟨S1024x7680, .bf16⟩
  | .hbm, ⟨3, _⟩ => ⟨S16384x7680, .f32⟩
  | .local _ .vmem, ⟨0, _⟩ => ⟨S1024x1024, .f32⟩
  | .local _ .vmem, ⟨1, _⟩ => ⟨S1024x1024, .f32⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S16384x1024 : Shape := ⟨2, ![16384, 1024]⟩
abbrev S1024x7680 : Shape := ⟨2, ![1024, 7680]⟩
abbrev S16384x7680 : Shape := ⟨2, ![16384, 7680]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x7680, .f32⟩
  | .hbm, ⟨2, _⟩ => ⟨S16384x7680, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Rope.lean ====
abbrev S2x8192x7680 : Shape := ⟨3, ![2, 8192, 7680]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S128 : Shape := ⟨1, ![128]⟩
abbrev S1x128 : Shape := ⟨2, ![1, 128]⟩
abbrev S128x1 : Shape := ⟨2, ![128, 1]⟩
abbrev S8192x128 : Shape := ⟨2, ![8192, 128]⟩
abbrev S2x8192x512 : Shape := ⟨3, ![2, 8192, 512]⟩
abbrev S2x32x1x512 : Shape := ⟨4, ![2, 32, 1, 512]⟩
abbrev S1x512x512 : Shape := ⟨3, ![1, 512, 512]⟩
abbrev S512x128 : Shape := ⟨2, ![512, 128]⟩
abbrev S1x2x1x512 : Shape := ⟨4, ![1, 2, 1, 512]⟩
abbrev S512x512 : Shape := ⟨2, ![512, 512]⟩
abbrev S256x512 : Shape := ⟨2, ![256, 512]⟩
abbrev S512 : Shape := ⟨1, ![512]⟩
abbrev S1x512 : Shape := ⟨2, ![1, 512]⟩
abbrev S1x1x1x512 : Shape := ⟨4, ![1, 1, 1, 512]⟩

abbrev nBuf : Space → Nat
  | .hbm => 129
  | .vmem => 24
  | .smem => 0
  | _ => 0

abbrev hbmTy0_0 (i : Nat) : BufTy := match i % 128 with
  | 0 => ⟨S2x8192x7680, .f32⟩
  | 1 => ⟨S8192, .i32⟩
  | 2 => ⟨S8, .f32⟩
  | 3 => ⟨S8, .f32⟩
  | 4 => ⟨S_, .f32⟩
  | 5 => ⟨S8, .f32⟩
  | 6 => ⟨S8, .f32⟩
  | 7 => ⟨S_, .f32⟩
  | 8 => ⟨S8, .f32⟩
  | 9 => ⟨S8, .f32⟩
  | 10 => ⟨S8192, .f32⟩
  | 11 => ⟨S8192x1, .f32⟩
  | 12 => ⟨S1x8, .f32⟩
  | 13 => ⟨S8192x8, .f32⟩
  | 14 => ⟨S8192x8, .f32⟩
  | 15 => ⟨S8192x8, .f32⟩
  | 16 => ⟨S8192x8, .f32⟩
  | 17 => ⟨S8192x8, .f32⟩
  | 18 => ⟨S128, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S128, .i32⟩
  | 26 => ⟨S128, .i32⟩
  | 27 => ⟨S_, .i32⟩
  | 28 => ⟨S128, .i32⟩
  | 29 => ⟨S128, .i1⟩
  | 30 => ⟨S_, .i32⟩
  | 31 => ⟨S128, .i32⟩
  | 32 => ⟨S128, .i1⟩
  | 33 => ⟨S_, .i32⟩
  | 34 => ⟨S_, .i1⟩
  | 35 => ⟨S128, .i1⟩
  | 36 => ⟨S128, .i1⟩
  | 37 => ⟨S128, .i1⟩
  | 38 => ⟨S128, .i32⟩
  | 39 => ⟨S128, .i32⟩
  | 40 => ⟨S128, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S128, .i32⟩
  | 48 => ⟨S128, .i32⟩
  | 49 => ⟨S_, .i32⟩
  | 50 => ⟨S128, .i32⟩
  | 51 => ⟨S128, .i1⟩
  | 52 => ⟨S_, .i32⟩
  | 53 => ⟨S128, .i32⟩
  | 54 => ⟨S128, .i1⟩
  | 55 => ⟨S_, .i32⟩
  | 56 => ⟨S_, .i1⟩
  | 57 => ⟨S128, .i1⟩
  | 58 => ⟨S128, .i1⟩
  | 59 => ⟨S128, .i1⟩
  | 60 => ⟨S128, .i32⟩
  | 61 => ⟨S128, .i32⟩
  | 62 => ⟨S128, .i32⟩
  | 63 => ⟨S1x128, .i32⟩
  | 64 => ⟨S_, .i32⟩
  | 65 => ⟨S1x128, .i32⟩
  | 66 => ⟨S1x128, .i1⟩
  | 67 => ⟨S_, .i32⟩
  | 68 => ⟨S128, .i32⟩
  | 69 => ⟨S128, .i1⟩
  | 70 => ⟨S_, .i32⟩
  | 71 => ⟨S128, .i32⟩
  | 72 => ⟨S128, .i32⟩
  | 73 => ⟨S128, .i32⟩
  | 74 => ⟨S128x1, .i32⟩
  | 75 => ⟨S8192x128, .f32⟩
  | 76 => ⟨S_, .f32⟩
  | 77 => ⟨S_, .f32⟩
  | 78 => ⟨S8192x128, .i1⟩
  | 79 => ⟨S8192x128, .f32⟩
  | 80 => ⟨S8192x128, .f32⟩
  | 81 => ⟨S1x128, .i32⟩
  | 82 => ⟨S_, .i32⟩
  | 83 => ⟨S1x128, .i32⟩
  | 84 => ⟨S1x128, .i1⟩
  | 85 => ⟨S1x128, .i32⟩
  | 86 => ⟨S_, .i32⟩
  | 87 => ⟨S1x128, .i32⟩
  | 88 => ⟨S1x128, .i1⟩
  | 89 => ⟨S1x128, .i1⟩
  | 90 => ⟨S_, .i32⟩
  | 91 => ⟨S128, .i32⟩
  | 92 => ⟨S128, .i1⟩
  | 93 => ⟨S_, .i32⟩
  | 94 => ⟨S128, .i32⟩
  | 95 => ⟨S128, .i32⟩
  | 96 => ⟨S128, .i32⟩
  | 97 => ⟨S128x1, .i32⟩
  | 98 => ⟨S8192x128, .f32⟩
  | 99 => ⟨S_, .f32⟩
  | 100 => ⟨S_, .f32⟩
  | 101 => ⟨S8192x128, .i1⟩
  | 102 => ⟨S8192x128, .f32⟩
  | 103 => ⟨S8192x128, .f32⟩
  | 104 => ⟨S1x128, .i32⟩
  | 105 => ⟨S_, .i32⟩
  | 106 => ⟨S1x128, .i32⟩
  | 107 => ⟨S1x128, .i1⟩
  | 108 => ⟨S_, .i32⟩
  | 109 => ⟨S128, .i32⟩
  | 110 => ⟨S128, .i1⟩
  | 111 => ⟨S_, .i32⟩
  | 112 => ⟨S128, .i32⟩
  | 113 => ⟨S128, .i32⟩
  | 114 => ⟨S128, .i32⟩
  | 115 => ⟨S128x1, .i32⟩
  | 116 => ⟨S8192x128, .f32⟩
  | 117 => ⟨S8192x128, .f32⟩
  | 118 => ⟨S_, .f32⟩
  | 119 => ⟨S_, .f32⟩
  | 120 => ⟨S8192x128, .i1⟩
  | 121 => ⟨S8192x128, .f32⟩
  | 122 => ⟨S8192x128, .f32⟩
  | 123 => ⟨S2x8192x512, .f32⟩
  | 124 => ⟨S2x8192x512, .f32⟩
  | 125 => ⟨S2x8192x512, .f32⟩
  | 126 => ⟨S2x8192x512, .bf16⟩
  | 127 => ⟨S2x8192x512, .bf16⟩
  | _ => ⟨S2x8192x7680, .f32⟩

abbrev hbmTy0_1 (i : Nat) : BufTy := match i % 128 with
  | 0 => ⟨S2x32x1x512, .f32⟩
  | _ => ⟨S2x8192x7680, .f32⟩

abbrev hbmTy (i : Nat) : BufTy := match i / 128 with
  | 0 => hbmTy0_0 i
  | 1 => hbmTy0_1 i
  | _ => ⟨S2x8192x7680, .f32⟩

abbrev bufTy : (tb : Table) → Fin (tcTables nBuf tb) → BufTy
  | .hbm, ⟨i, _⟩ => hbmTy i
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x2x1x512, .f32⟩
  | .local _ .vmem, ⟨23, _⟩ => ⟨S1x2x1x512, .f32⟩
  | _, _ => ⟨S2x8192x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_1 : Ref sig .tc := ⟨.hbm, 27, rfl⟩
abbrev main_call0_v5 : Ref sig .tc := ⟨.hbm, 28, rfl⟩
abbrev main_call0_v6 : Ref sig .tc := ⟨.hbm, 29, rfl⟩
abbrev main_call0_c_2 : Ref sig .tc := ⟨.hbm, 30, rfl⟩
abbrev main_call0_v7 : Ref sig .tc := ⟨.hbm, 31, rfl⟩
abbrev main_call0_v8 : Ref sig .tc := ⟨.hbm, 32, rfl⟩
abbrev main_call0_c_3 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_v16 : Ref sig .tc := ⟨.hbm, 40, rfl⟩
abbrev main_c_1 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_1 : Ref sig .tc := ⟨.hbm, 49, rfl⟩
abbrev main_call1_v5 : Ref sig .tc := ⟨.hbm, 50, rfl⟩
abbrev main_call1_v6 : Ref sig .tc := ⟨.hbm, 51, rfl⟩
abbrev main_call1_c_2 : Ref sig .tc := ⟨.hbm, 52, rfl⟩
abbrev main_call1_v7 : Ref sig .tc := ⟨.hbm, 53, rfl⟩
abbrev main_call1_v8 : Ref sig .tc := ⟨.hbm, 54, rfl⟩
abbrev main_call1_c_3 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_v17 : Ref sig .tc := ⟨.hbm, 62, rfl⟩
abbrev main_v18 : Ref sig .tc := ⟨.hbm, 63, rfl⟩
abbrev main_c_2 : Ref sig .tc := ⟨.hbm, 64, rfl⟩
abbrev main_v19 : Ref sig .tc := ⟨.hbm, 65, rfl⟩
abbrev main_v20 : Ref sig .tc := ⟨.hbm, 66, rfl⟩
abbrev main_c_3 : Ref sig .tc := ⟨.hbm, 67, rfl⟩
abbrev main_v21 : Ref sig .tc := ⟨.hbm, 68, rfl⟩
abbrev main_v22 : Ref sig .tc := ⟨.hbm, 69, rfl⟩
abbrev main_c_4 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_cst_5 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_v28 : Ref sig .tc := ⟨.hbm, 80, rfl⟩
abbrev main_v29 : Ref sig .tc := ⟨.hbm, 81, rfl⟩
abbrev main_c_6 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_c_7 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_c_8 : Ref sig .tc := ⟨.hbm, 90, rfl⟩
abbrev main_v36 : Ref sig .tc := ⟨.hbm, 91, rfl⟩
abbrev main_v37 : Ref sig .tc := ⟨.hbm, 92, rfl⟩
abbrev main_c_9 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_cst_10 : Ref sig .tc := ⟨.hbm, 99, rfl⟩
abbrev main_call3_v0 : Ref sig .tc := ⟨.hbm, 100, rfl⟩
abbrev main_call3_v1 : Ref sig .tc := ⟨.hbm, 101, rfl⟩
abbrev main_call3_v2 : Ref sig .tc := ⟨.hbm, 102, rfl⟩
abbrev main_v43 : Ref sig .tc := ⟨.hbm, 103, rfl⟩
abbrev main_v44 : Ref sig .tc := ⟨.hbm, 104, rfl⟩
abbrev main_c_11 : Ref sig .tc := ⟨.hbm, 105, rfl⟩
abbrev main_v45 : Ref sig .tc := ⟨.hbm, 106, rfl⟩
abbrev main_v46 : Ref sig .tc := ⟨.hbm, 107, rfl⟩
abbrev main_c_12 : Ref sig .tc := ⟨.hbm, 108, rfl⟩
abbrev main_v47 : Ref sig .tc := ⟨.hbm, 109, rfl⟩
abbrev main_v48 : Ref sig .tc := ⟨.hbm, 110, rfl⟩
abbrev main_c_13 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_cst_14 : Ref sig .tc := ⟨.hbm, 118, rfl⟩
abbrev main_call4_v0 : Ref sig .tc := ⟨.hbm, 119, rfl⟩
abbrev main_call4_v1 : Ref sig .tc := ⟨.hbm, 120, rfl⟩
abbrev main_call4_v2 : Ref sig .tc := ⟨.hbm, 121, rfl⟩
abbrev main_v55 : Ref sig .tc := ⟨.hbm, 122, rfl⟩
abbrev main_v56_0 : Ref sig .tc := ⟨.hbm, 123, rfl⟩
abbrev main_v56_1 : Ref sig .tc := ⟨.hbm, 124, rfl⟩
abbrev main_v56_2 : Ref sig .tc := ⟨.hbm, 125, rfl⟩
abbrev main_v56_3 : Ref sig .tc := ⟨.hbm, 126, rfl⟩
abbrev main_v56_4 : Ref sig .tc := ⟨.hbm, 127, rfl⟩
abbrev main_v56_5 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== RopeRefIdeal.lean ====
abbrev S2x8192x7680 : Shape := ⟨3, ![2, 8192, 7680]⟩
abbrev S8192 : Shape := ⟨1, ![8192]⟩
abbrev S2x8192x512 : Shape := ⟨3, ![2, 8192, 512]⟩
abbrev S2x8192x8x64 : Shape := ⟨4, ![2, 8192, 8, 64]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S1x8192x1x8 : Shape := ⟨4, ![1, 8192, 1, 8]⟩
abbrev S2x8192x8x8 : Shape := ⟨4, ![2, 8192, 8, 8]⟩
abbrev S2x8192x8x48 : Shape := ⟨4, ![2, 8192, 8, 48]⟩
abbrev S2x32x256x512 : Shape := ⟨4, ![2, 32, 256, 512]⟩
abbrev S2x32x512 : Shape := ⟨3, ![2, 32, 512]⟩
abbrev S2x32x1x512 : Shape := ⟨4, ![2, 32, 1, 512]⟩

abbrev nBuf : Space → Nat
  | .hbm => 79
  | .vmem => 0
  | .smem => 0
  | _ => 0

abbrev bufTy : (tb : Table) → Fin (tcTables nBuf tb) → BufTy
  | .hbm, ⟨0, _⟩ => ⟨S2x8192x7680, .f32⟩
  | .hbm, ⟨1, _⟩ => ⟨S8192, .i32⟩
  | .hbm, ⟨2, _⟩ => ⟨S2x8192x512, .f32⟩
  | .hbm, ⟨3, _⟩ => ⟨S2x8192x8x64, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8192, .f32⟩
  | .hbm, ⟨13, _⟩ => ⟨S8192x1, .f32⟩
  | .hbm, ⟨14, _⟩ => ⟨S1x8, .f32⟩
  | .hbm, ⟨15, _⟩ => ⟨S8192x8, .f32⟩
  | .hbm, ⟨16, _⟩ => ⟨S8192x8, .f32⟩
  | .hbm, ⟨17, _⟩ => ⟨S8192x8, .f32⟩
  | .hbm, ⟨18, _⟩ => ⟨S8192x8, .f32⟩
  | .hbm, ⟨19, _⟩ => ⟨S1x8192x1x8, .f32⟩
  | .hbm, ⟨20, _⟩ => ⟨S8192x8, .f32⟩
  | .hbm, ⟨21, _⟩ => ⟨S1x8192x1x8, .f32⟩
  | .hbm, ⟨22, _⟩ => ⟨S2x8192x8x8, .f32⟩
  | .hbm, ⟨23, _⟩ => ⟨S2x8192x8x8, .f32⟩
  | .hbm, ⟨24, _⟩ => ⟨S2x8192x8x8, .f32⟩
  | .hbm, ⟨25, _⟩ => ⟨S2x8192x8x8, .f32⟩
  | .hbm, ⟨26, _⟩ => ⟨S2x8192x8x8, .f32⟩
  | .hbm, ⟨27, _⟩ => ⟨S2x8192x8x8, .f32⟩
  | .hbm, ⟨28, _⟩ => ⟨S2x8192x8x8, .f32⟩
  | .hbm, ⟨29, _⟩ => ⟨S2x8192x8x8, .f32⟩
  | .hbm, ⟨30, _⟩ => ⟨S2x8192x8x8, .f32⟩
  | .hbm, ⟨31, _⟩ => ⟨S2x8192x8x8, .f32⟩
  | .hbm, ⟨32, _⟩ => ⟨S2x8192x8x8, .f32⟩
  | .hbm, ⟨33, _⟩ => ⟨S2x8192x8x8, .f32⟩
  | .hbm, ⟨34, _⟩ => ⟨S2x8192x8x48, .f32⟩
  | .hbm, ⟨35, _⟩ => ⟨S2x8192x8x64, .f32⟩
  | .hbm, ⟨36, _⟩ => ⟨S2x8192x512, .f32⟩
  | .hbm, ⟨37, _⟩ => ⟨S2x8192x512, .f32⟩
  | .hbm, ⟨38, _⟩ => ⟨S2x8192x8x64, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S_, .f32⟩
  | .hbm, ⟨45, _⟩ => ⟨S8, .f32⟩
  | .hbm, ⟨46, _⟩ => ⟨S8, .f32⟩
  | .hbm, ⟨47, _⟩ => ⟨S8192, .f32⟩
  | .hbm, ⟨48, _⟩ => ⟨S8192x1, .f32⟩
  | .hbm, ⟨49, _⟩ => ⟨S1x8, .f32⟩
  | .hbm, ⟨50, _⟩ => ⟨S8192x8, .f32⟩
  | .hbm, ⟨51, _⟩ => ⟨S8192x8, .f32⟩
  | .hbm, ⟨52, _⟩ => ⟨S8192x8, .f32⟩
  | .hbm, ⟨53, _⟩ => ⟨S8192x8, .f32⟩
  | .hbm, ⟨54, _⟩ => ⟨S1x8192x1x8, .f32⟩
  | .hbm, ⟨55, _⟩ => ⟨S8192x8, .f32⟩
  | .hbm, ⟨56, _⟩ => ⟨S1x8192x1x8, .f32⟩
  | .hbm, ⟨57, _⟩ => ⟨S2x8192x8x8, .f32⟩
  | .hbm, ⟨58, _⟩ => ⟨S2x8192x8x8, .f32⟩
  | .hbm, ⟨59, _⟩ => ⟨S2x8192x8x8, .f32⟩
  | .hbm, ⟨60, _⟩ => ⟨S2x8192x8x8, .f32⟩
  | .hbm, ⟨61, _⟩ => ⟨S2x8192x8x8, .f32⟩
  | .hbm, ⟨62, _⟩ => ⟨S2x8192x8x8, .f32⟩
  | .hbm, ⟨63, _⟩ => ⟨S2x8192x8x8, .f32⟩
  | .hbm, ⟨64, _⟩ => ⟨S2x8192x8x8, .f32⟩
  | .hbm, ⟨65, _⟩ => ⟨S2x8192x8x8, .f32⟩
  | .hbm, ⟨66, _⟩ => ⟨S2x8192x8x8, .f32⟩
  | .hbm, ⟨67, _⟩ => ⟨S2x8192x8x8, .f32⟩
  | .hbm, ⟨68, _⟩ => ⟨S2x8192x8x8, .f32⟩
  | .hbm, ⟨69, _⟩ => ⟨S2x8192x8x48, .f32⟩
  | .hbm, ⟨70, _⟩ => ⟨S2x8192x8x64, .f32⟩
  | .hbm, ⟨71, _⟩ => ⟨S2x8192x512, .f32⟩
  | .hbm, ⟨72, _⟩ => ⟨S2x8192x512, .f32⟩
  | .hbm, ⟨73, _⟩ => ⟨S2x32x256x512, .f32⟩
  | .hbm, ⟨74, _⟩ => ⟨S_, .f32⟩
  | .hbm, ⟨75, _⟩ => ⟨S2x32x512, .f32⟩
  | .hbm, ⟨76, _⟩ => ⟨S2x32x1x512, .f32⟩
  | .hbm, ⟨77, _⟩ => ⟨S2x8192x512, .bf16⟩
  | .hbm, ⟨78, _⟩ => ⟨S2x8192x512, .bf16⟩
  | _, _ => ⟨S2x8192x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_cst_1 : Ref sig .tc := ⟨.hbm, 41, rfl⟩
abbrev main_v38 : Ref sig .tc := ⟨.hbm, 42, rfl⟩
abbrev main_v39 : Ref sig .tc := ⟨.hbm, 43, rfl⟩
abbrev main_cst_2 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_cst_3 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩

abbrev nD : Nat := 1
abbrev τ : Topo := Topo.v7x

variable {F : FTy → Type} [FloatOps F]
-- ==== RopeSample.lean ====
abbrev S32x8x7680 : Shape := ⟨3, ![32, 8, 7680]⟩
abbrev S8 : Shape := ⟨1, ![8]⟩
abbrev S_ : Shape := ⟨0, ![]⟩
abbrev S8x1 : Shape := ⟨2, ![8, 1]⟩
abbrev S1x8 : Shape := ⟨2, ![1, 8]⟩
abbrev S8x8 : Shape := ⟨2, ![8, 8]⟩
abbrev S128 : Shape := ⟨1, ![128]⟩
abbrev S1x128 : Shape := ⟨2, ![1, 128]⟩
abbrev S128x1 : Shape := ⟨2, ![128, 1]⟩
abbrev S8x128 : Shape := ⟨2, ![8, 128]⟩
abbrev S32x8x512 : Shape := ⟨3, ![32, 8, 512]⟩
abbrev S1x8x512 : Shape := ⟨3, ![1, 8, 512]⟩
abbrev S8x512 : Shape := ⟨2, ![8, 512]⟩

abbrev nBuf : Space → Nat
  | .hbm => 131
  | .vmem => 19
  | .smem => 0
  | _ => 0

abbrev hbmTy0_0 (i : Nat) : BufTy := match i % 128 with
  | 0 => ⟨S32x8x7680, .f32⟩
  | 1 => ⟨S8, .i32⟩
  | 2 => ⟨S_, .i32⟩
  | 3 => ⟨S8, .i32⟩
  | 4 => ⟨S8, .i32⟩
  | 5 => ⟨S8, .f32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S8, .f32⟩
  | 14 => ⟨S8x1, .f32⟩
  | 15 => ⟨S1x8, .f32⟩
  | 16 => ⟨S8x8, .f32⟩
  | 17 => ⟨S8x8, .f32⟩
  | 18 => ⟨S8x8, .f32⟩
  | 19 => ⟨S8x8, .f32⟩
  | 20 => ⟨S8x8, .f32⟩
  | 21 => ⟨S128, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S128, .i32⟩
  | 29 => ⟨S128, .i32⟩
  | 30 => ⟨S_, .i32⟩
  | 31 => ⟨S128, .i32⟩
  | 32 => ⟨S128, .i1⟩
  | 33 => ⟨S_, .i32⟩
  | 34 => ⟨S128, .i32⟩
  | 35 => ⟨S128, .i1⟩
  | 36 => ⟨S_, .i32⟩
  | 37 => ⟨S_, .i1⟩
  | 38 => ⟨S128, .i1⟩
  | 39 => ⟨S128, .i1⟩
  | 40 => ⟨S128, .i1⟩
  | 41 => ⟨S128, .i32⟩
  | 42 => ⟨S128, .i32⟩
  | 43 => ⟨S128, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S128, .i32⟩
  | 51 => ⟨S128, .i32⟩
  | 52 => ⟨S_, .i32⟩
  | 53 => ⟨S128, .i32⟩
  | 54 => ⟨S128, .i1⟩
  | 55 => ⟨S_, .i32⟩
  | 56 => ⟨S128, .i32⟩
  | 57 => ⟨S128, .i1⟩
  | 58 => ⟨S_, .i32⟩
  | 59 => ⟨S_, .i1⟩
  | 60 => ⟨S128, .i1⟩
  | 61 => ⟨S128, .i1⟩
  | 62 => ⟨S128, .i1⟩
  | 63 => ⟨S128, .i32⟩
  | 64 => ⟨S128, .i32⟩
  | 65 => ⟨S128, .i32⟩
  | 66 => ⟨S1x128, .i32⟩
  | 67 => ⟨S_, .i32⟩
  | 68 => ⟨S1x128, .i32⟩
  | 69 => ⟨S1x128, .i1⟩
  | 70 => ⟨S_, .i32⟩
  | 71 => ⟨S128, .i32⟩
  | 72 => ⟨S128, .i1⟩
  | 73 => ⟨S_, .i32⟩
  | 74 => ⟨S128, .i32⟩
  | 75 => ⟨S128, .i32⟩
  | 76 => ⟨S128, .i32⟩
  | 77 => ⟨S128x1, .i32⟩
  | 78 => ⟨S8x128, .f32⟩
  | 79 => ⟨S_, .f32⟩
  | 80 => ⟨S_, .f32⟩
  | 81 => ⟨S8x128, .i1⟩
  | 82 => ⟨S8x128, .f32⟩
  | 83 => ⟨S8x128, .f32⟩
  | 84 => ⟨S1x128, .i32⟩
  | 85 => ⟨S_, .i32⟩
  | 86 => ⟨S1x128, .i32⟩
  | 87 => ⟨S1x128, .i1⟩
  | 88 => ⟨S1x128, .i32⟩
  | 89 => ⟨S_, .i32⟩
  | 90 => ⟨S1x128, .i32⟩
  | 91 => ⟨S1x128, .i1⟩
  | 92 => ⟨S1x128, .i1⟩
  | 93 => ⟨S_, .i32⟩
  | 94 => ⟨S128, .i32⟩
  | 95 => ⟨S128, .i1⟩
  | 96 => ⟨S_, .i32⟩
  | 97 => ⟨S128, .i32⟩
  | 98 => ⟨S128, .i32⟩
  | 99 => ⟨S128, .i32⟩
  | 100 => ⟨S128x1, .i32⟩
  | 101 => ⟨S8x128, .f32⟩
  | 102 => ⟨S_, .f32⟩
  | 103 => ⟨S_, .f32⟩
  | 104 => ⟨S8x128, .i1⟩
  | 105 => ⟨S8x128, .f32⟩
  | 106 => ⟨S8x128, .f32⟩
  | 107 => ⟨S1x128, .i32⟩
  | 108 => ⟨S_, .i32⟩
  | 109 => ⟨S1x128, .i32⟩
  | 110 => ⟨S1x128, .i1⟩
  | 111 => ⟨S_, .i32⟩
  | 112 => ⟨S128, .i32⟩
  | 113 => ⟨S128, .i1⟩
  | 114 => ⟨S_, .i32⟩
  | 115 => ⟨S128, .i32⟩
  | 116 => ⟨S128, .i32⟩
  | 117 => ⟨S128, .i32⟩
  | 118 => ⟨S128x1, .i32⟩
  | 119 => ⟨S8x128, .f32⟩
  | 120 => ⟨S8x128, .f32⟩
  | 121 => ⟨S_, .f32⟩
  | 122 => ⟨S_, .f32⟩
  | 123 => ⟨S8x128, .i1⟩
  | 124 => ⟨S8x128, .f32⟩
  | 125 => ⟨S8x128, .f32⟩
  | 126 => ⟨S32x8x512, .f32⟩
  | 127 => ⟨S32x8x512, .f32⟩
  | _ => ⟨S32x8x7680, .f32⟩

abbrev hbmTy0_1 (i : Nat) : BufTy := match i % 128 with
  | 0 => ⟨S32x8x512, .f32⟩
  | 1 => ⟨S32x8x512, .bf16⟩
  | 2 => ⟨S32x8x512, .bf16⟩
  | _ => ⟨S32x8x7680, .f32⟩

abbrev hbmTy (i : Nat) : BufTy := match i / 128 with
  | 0 => hbmTy0_0 i
  | 1 => hbmTy0_1 i
  | _ => ⟨S32x8x7680, .f32⟩

abbrev bufTy : (tb : Table) → Fin (tcTables nBuf tb) → BufTy
  | .hbm, ⟨i, _⟩ => hbmTy i
  | .local _ .vmem, ⟨0, _⟩ => ⟨S1x8x512, .f32⟩
  | .local _ .vmem, ⟨1, _⟩ => ⟨S1x8x512, .f32⟩
  | .local _ .vmem, ⟨2, _⟩ => ⟨S1x8x512, .f32⟩
  | .local _ .vmem, ⟨3, _⟩ => ⟨S1x8x512, .f32⟩
  | .local _ .vmem, ⟨4, _⟩ => ⟨S1x8x512, .f32⟩
  | .local _ .vmem, ⟨5, _⟩ => ⟨S1x8x512, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S1x8x512, .f32⟩
  | .local _ .vmem, ⟨10, _⟩ => ⟨S1x8x512, .f32⟩
  | .local _ .vmem, ⟨11, _⟩ => ⟨S1x8x512, .f32⟩
  | .local _ .vmem, ⟨12, _⟩ => ⟨S1x8x512, .f32⟩
  | .local _ .vmem, ⟨13, _⟩ => ⟨S1x8x512, .f32⟩
  | .local _ .vmem, ⟨14, _⟩ => ⟨S1x8x512, .f32⟩
  | .local _ .vmem, ⟨15, _⟩ => ⟨S1x8x512, .bf16⟩
  | .local _ .vmem, ⟨16, _⟩ => ⟨S1x8x512, .bf16⟩
  | .local _ .vmem, ⟨17, _⟩ => ⟨S1x8x512, .bf16⟩
  | .local _ .vmem, ⟨18, _⟩ => ⟨S1x8x512, .bf16⟩
  | _, _ => ⟨S32x8x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c_1 : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_c_1 : Ref sig .tc := ⟨.hbm, 30, rfl⟩
abbrev main_call0_v5 : Ref sig .tc := ⟨.hbm, 31, rfl⟩
abbrev main_call0_v6 : Ref sig .tc := ⟨.hbm, 32, rfl⟩
abbrev main_call0_c_2 : Ref sig .tc := ⟨.hbm, 33, rfl⟩
abbrev main_call0_v7 : Ref sig .tc := ⟨.hbm, 34, rfl⟩
abbrev main_call0_v8 : Ref sig .tc := ⟨.hbm, 35, rfl⟩
abbrev main_call0_c_3 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_v18 : Ref sig .tc := ⟨.hbm, 43, rfl⟩
abbrev main_c_2 : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_1 : Ref sig .tc := ⟨.hbm, 52, rfl⟩
abbrev main_call1_v5 : Ref sig .tc := ⟨.hbm, 53, rfl⟩
abbrev main_call1_v6 : Ref sig .tc := ⟨.hbm, 54, rfl⟩
abbrev main_call1_c_2 : Ref sig .tc := ⟨.hbm, 55, rfl⟩
abbrev main_call1_v7 : Ref sig .tc := ⟨.hbm, 56, rfl⟩
abbrev main_call1_v8 : Ref sig .tc := ⟨.hbm, 57, rfl⟩
abbrev main_call1_c_3 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_v19 : Ref sig .tc := ⟨.hbm, 65, rfl⟩
abbrev main_v20 : Ref sig .tc := ⟨.hbm, 66, rfl⟩
abbrev main_c_3 : Ref sig .tc := ⟨.hbm, 67, rfl⟩
abbrev main_v21 : Ref sig .tc := ⟨.hbm, 68, rfl⟩
abbrev main_v22 : Ref sig .tc := ⟨.hbm, 69, rfl⟩
abbrev main_c_4 : Ref sig .tc := ⟨.hbm, 70, rfl⟩
abbrev main_v23 : Ref sig .tc := ⟨.hbm, 71, rfl⟩
abbrev main_v24 : Ref sig .tc := ⟨.hbm, 72, rfl⟩
abbrev main_c_5 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_cst_6 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_v30 : Ref sig .tc := ⟨.hbm, 83, rfl⟩
abbrev main_v31 : Ref sig .tc := ⟨.hbm, 84, rfl⟩
abbrev main_c_7 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_c_8 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_c_9 : Ref sig .tc := ⟨.hbm, 93, rfl⟩
abbrev main_v38 : Ref sig .tc := ⟨.hbm, 94, rfl⟩
abbrev main_v39 : Ref sig .tc := ⟨.hbm, 95, rfl⟩
abbrev main_c_10 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_cst_11 : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_v45 : Ref sig .tc := ⟨.hbm, 106, rfl⟩
abbrev main_v46 : Ref sig .tc := ⟨.hbm, 107, rfl⟩
abbrev main_c_12 : Ref sig .tc := ⟨.hbm, 108, rfl⟩
abbrev main_v47 : Ref sig .tc := ⟨.hbm, 109, rfl⟩
abbrev main_v48 : Ref sig .tc := ⟨.hbm, 110, rfl⟩
abbrev main_c_13 : Ref sig .tc := ⟨.hbm, 111, rfl⟩
abbrev main_v49 : Ref sig .tc := ⟨.hbm, 112, rfl⟩
abbrev main_v50 : Ref sig .tc := ⟨.hbm, 113, rfl⟩
abbrev main_c_14 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_cst_15 : Ref sig .tc := ⟨.hbm, 121, rfl⟩
abbrev main_call4_v0 : Ref sig .tc := ⟨.hbm, 122, rfl⟩
abbrev main_call4_v1 : Ref sig .tc := ⟨.hbm, 123, rfl⟩
abbrev main_call4_v2 : Ref sig .tc := ⟨.hbm, 124, rfl⟩
abbrev main_v57 : Ref sig .tc := ⟨.hbm, 125, rfl⟩
abbrev main_v58_0 : Ref sig .tc := ⟨.hbm, 126, rfl⟩
abbrev main_v58_1 : Ref sig .tc := ⟨.hbm, 127, rfl⟩
abbrev main_v58_2 : Ref sig .tc := ⟨.hbm, 128, rfl⟩
abbrev main_v58_3 : Ref sig .tc := ⟨.hbm, 129, rfl⟩
abbrev main_v58_4 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S1x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RopeSampleRefIdeal.lean ====
abbrev S32x8x7680 : Shape := ⟨3, ![32, 8, 7680]⟩
abbrev S8 : Shape := ⟨1, ![8]⟩
abbrev S_ : Shape := ⟨0, ![]⟩
abbrev S32x8x512 : Shape := ⟨3, ![32, 8, 512]⟩
abbrev S32x8x8x64 : Shape := ⟨4, ![32, 8, 8, 64]⟩
abbrev S8x1 : Shape := ⟨2, ![8, 1]⟩
abbrev S1x8 : Shape := ⟨2, ![1, 8]⟩
abbrev S8x8 : Shape := ⟨2, ![8, 8]⟩
abbrev S1x8x1x8 : Shape := ⟨4, ![1, 8, 1, 8]⟩
abbrev S32x8x8x8 : Shape := ⟨4, ![32, 8, 8, 8]⟩
abbrev S32x8x8x48 : Shape := ⟨4, ![32, 8, 8, 48]⟩

abbrev nBuf : Space → Nat
  | .hbm => 78
  | .vmem => 0
  | .smem => 0
  | _ => 0

abbrev bufTy : (tb : Table) → Fin (tcTables nBuf tb) → BufTy
  | .hbm, ⟨0, _⟩ => ⟨S32x8x7680, .f32⟩
  | .hbm, ⟨1, _⟩ => ⟨S8, .i32⟩
  | .hbm, ⟨2, _⟩ => ⟨S_, .i32⟩
  | .hbm, ⟨3, _⟩ => ⟨S8, .i32⟩
  | .hbm, ⟨4, _⟩ => ⟨S8, .i32⟩
  | .hbm, ⟨5, _⟩ => ⟨S32x8x512, .f32⟩
  | .hbm, ⟨6, _⟩ => ⟨S32x8x8x64, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S8, .f32⟩
  | .hbm, ⟨16, _⟩ => ⟨S8x1, .f32⟩
  | .hbm, ⟨17, _⟩ => ⟨S1x8, .f32⟩
  | .hbm, ⟨18, _⟩ => ⟨S8x8, .f32⟩
  | .hbm, ⟨19, _⟩ => ⟨S8x8, .f32⟩
  | .hbm, ⟨20, _⟩ => ⟨S8x8, .f32⟩
  | .hbm, ⟨21, _⟩ => ⟨S8x8, .f32⟩
  | .hbm, ⟨22, _⟩ => ⟨S1x8x1x8, .f32⟩
  | .hbm, ⟨23, _⟩ => ⟨S8x8, .f32⟩
  | .hbm, ⟨24, _⟩ => ⟨S1x8x1x8, .f32⟩
  | .hbm, ⟨25, _⟩ => ⟨S32x8x8x8, .f32⟩
  | .hbm, ⟨26, _⟩ => ⟨S32x8x8x8, .f32⟩
  | .hbm, ⟨27, _⟩ => ⟨S32x8x8x8, .f32⟩
  | .hbm, ⟨28, _⟩ => ⟨S32x8x8x8, .f32⟩
  | .hbm, ⟨29, _⟩ => ⟨S32x8x8x8, .f32⟩
  | .hbm, ⟨30, _⟩ => ⟨S32x8x8x8, .f32⟩
  | .hbm, ⟨31, _⟩ => ⟨S32x8x8x8, .f32⟩
  | .hbm, ⟨32, _⟩ => ⟨S32x8x8x8, .f32⟩
  | .hbm, ⟨33, _⟩ => ⟨S32x8x8x8, .f32⟩
  | .hbm, ⟨34, _⟩ => ⟨S32x8x8x8, .f32⟩
  | .hbm, ⟨35, _⟩ => ⟨S32x8x8x8, .f32⟩
  | .hbm, ⟨36, _⟩ => ⟨S32x8x8x8, .f32⟩
  | .hbm, ⟨37, _⟩ => ⟨S32x8x8x48, .f32⟩
  | .hbm, ⟨38, _⟩ => ⟨S32x8x8x64, .f32⟩
  | .hbm, ⟨39, _⟩ => ⟨S32x8x512, .f32⟩
  | .hbm, ⟨40, _⟩ => ⟨S32x8x512, .f32⟩
  | .hbm, ⟨41, _⟩ => ⟨S32x8x8x64, .f32⟩
  | .hbm, ⟨42, _⟩ => ⟨S8, .f32⟩
  | .hbm, ⟨43, _⟩ => ⟨S8, .f32⟩
  | .hbm, ⟨44, _⟩ => ⟨S_, .f32⟩
  | .hbm, ⟨45, _⟩ => ⟨S8, .f32⟩
  | .hbm, ⟨46, _⟩ => ⟨S8, .f32⟩
  | .hbm, ⟨47, _⟩ => ⟨S_, .f32⟩
  | .hbm, ⟨48, _⟩ => ⟨S8, .f32⟩
  | .hbm, ⟨49, _⟩ => ⟨S8, .f32⟩
  | .hbm, ⟨50, _⟩ => ⟨S8, .f32⟩
  | .hbm, ⟨51, _⟩ => ⟨S8x1, .f32⟩
  | .hbm, ⟨52, _⟩ => ⟨S1x8, .f32⟩
  | .hbm, ⟨53, _⟩ => ⟨S8x8, .f32⟩
  | .hbm, ⟨54, _⟩ => ⟨S8x8, .f32⟩
  | .hbm, ⟨55, _⟩ => ⟨S8x8, .f32⟩
  | .hbm, ⟨56, _⟩ => ⟨S8x8, .f32⟩
  | .hbm, ⟨57, _⟩ => ⟨S1x8x1x8, .f32⟩
  | .hbm, ⟨58, _⟩ => ⟨S8x8, .f32⟩
  | .hbm, ⟨59, _⟩ => ⟨S1x8x1x8, .f32⟩
  | .hbm, ⟨60, _⟩ => ⟨S32x8x8x8, .f32⟩
  | .hbm, ⟨61, _⟩ => ⟨S32x8x8x8, .f32⟩
  | .hbm, ⟨62, _⟩ => ⟨S32x8x8x8, .f32⟩
  | .hbm, ⟨63, _⟩ => ⟨S32x8x8x8, .f32⟩
  | .hbm, ⟨64, _⟩ => ⟨S32x8x8x8, .f32⟩
  | .hbm, ⟨65, _⟩ => ⟨S32x8x8x8, .f32⟩
  | .hbm, ⟨66, _⟩ => ⟨S32x8x8x8, .f32⟩
  | .hbm, ⟨67, _⟩ => ⟨S32x8x8x8, .f32⟩
  | .hbm, ⟨68, _⟩ => ⟨S32x8x8x8, .f32⟩
  | .hbm, ⟨69, _⟩ => ⟨S32x8x8x8, .f32⟩
  | .hbm, ⟨70, _⟩ => ⟨S32x8x8x8, .f32⟩
  | .hbm, ⟨71, _⟩ => ⟨S32x8x8x8, .f32⟩
  | .hbm, ⟨72, _⟩ => ⟨S32x8x8x48, .f32⟩
  | .hbm, ⟨73, _⟩ => ⟨S32x8x8x64, .f32⟩
  | .hbm, ⟨74, _⟩ => ⟨S32x8x512, .f32⟩
  | .hbm, ⟨75, _⟩ => ⟨S32x8x512, .f32⟩
  | .hbm, ⟨76, _⟩ => ⟨S32x8x512, .bf16⟩
  | .hbm, ⟨77, _⟩ => ⟨S32x8x512, .bf16⟩
  | _, _ => ⟨S32x8x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_cst_1 : Ref sig .tc := ⟨.hbm, 44, rfl⟩
abbrev main_v40 : Ref sig .tc := ⟨.hbm, 45, rfl⟩
abbrev main_v41 : Ref sig .tc := ⟨.hbm, 46, rfl⟩
abbrev main_cst_2 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩

abbrev nD : Nat := 1
abbrev τ : Topo := Topo.v7x

variable {F : FTy → Type} [FloatOps F]
-- ==== FfnSample.lean ====
abbrev S256x1024 : Shape := ⟨2, ![256, 1024]⟩
abbrev S1024x6144 : Shape := ⟨2, ![1024, 6144]⟩
abbrev S3x3072 : Shape := ⟨2, ![3, 3072]⟩
abbrev S3072 : Shape := ⟨1, ![3072]⟩
abbrev S3072x1024 : Shape := ⟨2, ![3072, 1024]⟩
abbrev S1024 : Shape := ⟨1, ![1024]⟩
abbrev S32x2x3072 : Shape := ⟨3, ![32, 2, 3072]⟩
abbrev S1x3072 : Shape := ⟨2, ![1, 3072]⟩
abbrev S1x1024 : Shape := ⟨2, ![1, 1024]⟩
abbrev S_ : Shape := ⟨0, ![]⟩
abbrev S32x8x3072 : Shape := ⟨3, ![32, 8, 3072]⟩
abbrev S32x1x3072 : Shape := ⟨3, ![32, 1, 3072]⟩
abbrev S32x3072 : Shape := ⟨2, ![32, 3072]⟩
abbrev S1 : Shape := ⟨1, ![1]⟩
abbrev S256x3072 : Shape := ⟨2, ![256, 3072]⟩
abbrev S2x3072 : Shape := ⟨2, ![2, 3072]⟩
abbrev S1024x1024 : Shape := ⟨2, ![1024, 1024]⟩
abbrev S256 : Shape := ⟨1, ![256]⟩
abbrev S256x1 : Shape := ⟨2, ![256, 1]⟩

abbrev nBuf : Space → Nat
  | .hbm => 34
  | .vmem => 12
  | .smem => 0
  | _ => 0

abbrev bufTy : (tb : Table) → Fin (tcTables nBuf tb) → BufTy
  | .hbm, ⟨0, _⟩ => ⟨S256x1024, .f32⟩
  | .hbm, ⟨1, _⟩ => ⟨S1024x6144, .f32⟩
  | .hbm, ⟨2, _⟩ => ⟨S3x3072, .f32⟩
  | .hbm, ⟨3, _⟩ => ⟨S3072, .f32⟩
  | .hbm, ⟨4, _⟩ => ⟨S3072x1024, .f32⟩
  | .hbm, ⟨5, _⟩ => ⟨S1024, .f32⟩
  | .hbm, ⟨6, _⟩ => ⟨S1024, .f32⟩
  | .hbm, ⟨7, _⟩ => ⟨S32x2x3072, .f32⟩
  | .hbm, ⟨8, _⟩ => ⟨S1024x6144, .bf16⟩
  | .hbm, ⟨9, _⟩ => ⟨S1x3072, .f32⟩
  | .hbm, ⟨10, _⟩ => ⟨S3072x1024, .bf16⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S32x8x3072, .f32⟩
  | .hbm, ⟨15, _⟩ => ⟨S32x1x3072, .f32⟩
  | .hbm, ⟨16, _⟩ => ⟨S32x3072, .f32⟩
  | .hbm, ⟨17, _⟩ => ⟨S_, .i32⟩
  | .hbm, ⟨18, _⟩ => ⟨S1, .i32⟩
  | .hbm, ⟨19, _⟩ => ⟨S32x8x3072, .f32⟩
  | .hbm, ⟨20, _⟩ => ⟨S32x1x3072, .f32⟩
  | .hbm, ⟨21, _⟩ => ⟨S32x3072, .f32⟩
  | .hbm, ⟨22, _⟩ => ⟨S_, .i32⟩
  | .hbm, ⟨23, _⟩ => ⟨S1, .i32⟩
  | .hbm, ⟨24, _⟩ => ⟨S32x8x3072, .f32⟩
  | .hbm, ⟨25, _⟩ => ⟨S256x3072, .f32⟩
  | .hbm, ⟨26, _⟩ => ⟨S32x1x3072, .f32⟩
  | .hbm, ⟨27, _⟩ => ⟨S32x3072, .f32⟩
  | .hbm, ⟨28, _⟩ => ⟨S_, .i32⟩
  | .hbm, ⟨29, _⟩ => ⟨S1, .i32⟩
  | .hbm, ⟨30, _⟩ => ⟨S32x8x3072, .f32⟩
  | .hbm, ⟨31, _⟩ => ⟨S256x3072, .f32⟩
  | .hbm, ⟨32, _⟩ => ⟨S256x1024, .f32⟩
  | .hbm, ⟨33, _⟩ => ⟨S256x3072, .f32⟩
  | .local _ .vmem, ⟨0, _⟩ => ⟨S256x1024, .f32⟩
  | .local _ .vmem, ⟨1, _⟩ => ⟨S1024x6144, .bf16⟩
  | .local _ .vmem, ⟨2, _⟩ => ⟨S3x3072, .f32⟩
  | .local _ .vmem, ⟨3, _⟩ => ⟨S1x3072, .f32⟩
  | .local _ .vmem, ⟨4, _⟩ => ⟨S3072x1024, .bf16⟩
  | .local _ .vmem, ⟨5, _⟩ => ⟨S1x1024, .f32⟩
  | .local _ .vmem, ⟨6, _⟩ => ⟨S1x1024, .f32⟩
  | .local _ .vmem, ⟨7, _⟩ => ⟨S256x3072, .f32⟩
  | .local _ .vmem, ⟨8, _⟩ => ⟨S256x3072, .f32⟩
  | .local _ .vmem, ⟨9, _⟩ => ⟨S256x1024, .f32⟩
  | .local _ .vmem, ⟨10, _⟩ => ⟨S256x3072, .f32⟩
  | .local _ .vmem, ⟨11, _⟩ => ⟨S2x3072, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== FfnSampleRefIdeal.lean ====
abbrev S256x1024 : Shape := ⟨2, ![256, 1024]⟩
abbrev S1024x6144 : Shape := ⟨2, ![1024, 6144]⟩
abbrev S3x3072 : Shape := ⟨2, ![3, 3072]⟩
abbrev S3072 : Shape := ⟨1, ![3072]⟩
abbrev S3072x1024 : Shape := ⟨2, ![3072, 1024]⟩
abbrev S1024 : Shape := ⟨1, ![1024]⟩
abbrev S32x2x3072 : Shape := ⟨3, ![32, 2, 3072]⟩
abbrev S32x8x1024 : Shape := ⟨3, ![32, 8, 1024]⟩
abbrev S32x8x6144 : Shape := ⟨3, ![32, 8, 6144]⟩
abbrev S32x8x3072 : Shape := ⟨3, ![32, 8, 3072]⟩
abbrev S32x10x3072 : Shape := ⟨3, ![32, 10, 3072]⟩
abbrev S1x3072 : Shape := ⟨2, ![1, 3072]⟩
abbrev S1x1x3072 : Shape := ⟨3, ![1, 1, 3072]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S256x3072 : Shape := ⟨2, ![256, 3072]⟩

abbrev nBuf : Space → Nat
  | .hbm => 90
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x6144, .f32⟩
  | .hbm, ⟨2, _⟩ => ⟨S3x3072, .f32⟩
  | .hbm, ⟨3, _⟩ => ⟨S3072, .f32⟩
  | .hbm, ⟨4, _⟩ => ⟨S3072x1024, .f32⟩
  | .hbm, ⟨5, _⟩ => ⟨S1024, .f32⟩
  | .hbm, ⟨6, _⟩ => ⟨S1024, .f32⟩
  | .hbm, ⟨7, _⟩ => ⟨S32x2x3072, .f32⟩
  | .hbm, ⟨8, _⟩ => ⟨S32x8x1024, .f32⟩
  | .hbm, ⟨9, _⟩ => ⟨S32x8x6144, .f32⟩
  | .hbm, ⟨10, _⟩ => ⟨S32x8x3072, .f32⟩
  | .hbm, ⟨11, _⟩ => ⟨S32x8x3072, .f32⟩
  | .hbm, ⟨12, _⟩ => ⟨S32x10x3072, .f32⟩
  | .hbm, ⟨13, _⟩ => ⟨S1x3072, .f32⟩
  | .hbm, ⟨14, _⟩ => ⟨S3072, .f32⟩
  | .hbm, ⟨15, _⟩ => ⟨S32x8x3072, .f32⟩
  | .hbm, ⟨16, _⟩ => ⟨S1x1x3072, .f32⟩
  | .hbm, ⟨17, _⟩ => ⟨S32x8x3072, .f32⟩
  | .hbm, ⟨18, _⟩ => ⟨S32x8x3072, .f32⟩
  | .hbm, ⟨19, _⟩ => ⟨S1x1x3072, .f32⟩
  | .hbm, ⟨20, _⟩ => ⟨S32x8x3072, .f32⟩
  | .hbm, ⟨21, _⟩ => ⟨S32x8x3072, .f32⟩
  | .hbm, ⟨22, _⟩ => ⟨S1x3072, .f32⟩
  | .hbm, ⟨23, _⟩ => ⟨S3072, .f32⟩
  | .hbm, ⟨24, _⟩ => ⟨S32x8x3072, .f32⟩
  | .hbm, ⟨25, _⟩ => ⟨S1x1x3072, .f32⟩
  | .hbm, ⟨26, _⟩ => ⟨S32x8x3072, .f32⟩
  | .hbm, ⟨27, _⟩ => ⟨S32x8x3072, .f32⟩
  | .hbm, ⟨28, _⟩ => ⟨S32x8x3072, .f32⟩
  | .hbm, ⟨29, _⟩ => ⟨S1x3072, .f32⟩
  | .hbm, ⟨30, _⟩ => ⟨S3072, .f32⟩
  | .hbm, ⟨31, _⟩ => ⟨S32x8x3072, .f32⟩
  | .hbm, ⟨32, _⟩ => ⟨S1x1x3072, .f32⟩
  | .hbm, ⟨33, _⟩ => ⟨S32x8x3072, .f32⟩
  | .hbm, ⟨34, _⟩ => ⟨S32x8x3072, .f32⟩
  | .hbm, ⟨35, _⟩ => ⟨S32x8x3072, .f32⟩
  | .hbm, ⟨36, _⟩ => ⟨S32x8x3072, .f32⟩
  | .hbm, ⟨37, _⟩ => ⟨S32x8x3072, .f32⟩
  | .hbm, ⟨38, _⟩ => ⟨S_, .f32⟩
  | .hbm, ⟨39, _⟩ => ⟨S32x8x3072, .f32⟩
  | .hbm, ⟨40, _⟩ => ⟨S32x8x3072, .f32⟩
  | .hbm, ⟨41, _⟩ => ⟨S32x8x3072, .f32⟩
  | .hbm, ⟨42, _⟩ => ⟨S_, .f32⟩
  | .hbm, ⟨43, _⟩ => ⟨S32x8x3072, .f32⟩
  | .hbm, ⟨44, _⟩ => ⟨S32x8x3072, .f32⟩
  | .hbm, ⟨45, _⟩ => ⟨S32x8x3072, .f32⟩
  | .hbm, ⟨46, _⟩ => ⟨S_, .f32⟩
  | .hbm, ⟨47, _⟩ => ⟨S32x8x3072, .f32⟩
  | .hbm, ⟨48, _⟩ => ⟨S32x8x3072, .f32⟩
  | .hbm, ⟨49, _⟩ => ⟨S_, .f32⟩
  | .hbm, ⟨50, _⟩ => ⟨S32x8x3072, .f32⟩
  | .hbm, ⟨51, _⟩ => ⟨S32x8x3072, .f32⟩
  | .hbm, ⟨52, _⟩ => ⟨S32x8x3072, .f32⟩
  | .hbm, ⟨53, _⟩ => ⟨S32x8x3072, .f32⟩
  | .hbm, ⟨54, _⟩ => ⟨S32x8x1024, .f32⟩
  | .hbm, ⟨55, _⟩ => ⟨S_, .f32⟩
  | .hbm, ⟨56, _⟩ => ⟨S32x8x1024, .f32⟩
  | .hbm, ⟨57, _⟩ => ⟨S32x8x1024, .f32⟩
  | .hbm, ⟨58, _⟩ => ⟨S32x8x1024, .f32⟩
  | .hbm, ⟨59, _⟩ => ⟨S_, .f32⟩
  | .hbm, ⟨60, _⟩ => ⟨S32x8, .f32⟩
  | .hbm, ⟨61, _⟩ => ⟨S32x8x1, .f32⟩
  | .hbm, ⟨62, _⟩ => ⟨S_, .f32⟩
  | .hbm, ⟨63, _⟩ => ⟨S32x8x1, .f32⟩
  | .hbm, ⟨64, _⟩ => ⟨S32x8x1, .f32⟩
  | .hbm, ⟨65, _⟩ => ⟨S32x8x1024, .f32⟩
  | .hbm, ⟨66, _⟩ => ⟨S32x8x1024, .f32⟩
  | .hbm, ⟨67, _⟩ => ⟨S32x8x1024, .f32⟩
  | .hbm, ⟨68, _⟩ => ⟨S_, .f32⟩
  | .hbm, ⟨69, _⟩ => ⟨S32x8, .f32⟩
  | .hbm, ⟨70, _⟩ => ⟨S32x8x1, .f32⟩
  | .hbm, ⟨71, _⟩ => ⟨S_, .f32⟩
  | .hbm, ⟨72, _⟩ => ⟨S32x8x1, .f32⟩
  | .hbm, ⟨73, _⟩ => ⟨S32x8x1, .f32⟩
  | .hbm, ⟨74, _⟩ => ⟨S32x8x1024, .f32⟩
  | .hbm, ⟨75, _⟩ => ⟨S32x8x1024, .f32⟩
  | .hbm, ⟨76, _⟩ => ⟨S_, .f32⟩
  | .hbm, ⟨77, _⟩ => ⟨S32x8x1, .f32⟩
  | .hbm, ⟨78, _⟩ => ⟨S32x8x1, .f32⟩
  | .hbm, ⟨79, _⟩ => ⟨S32x8x1, .f32⟩
  | .hbm, ⟨80, _⟩ => ⟨S32x8x1024, .f32⟩
  | .hbm, ⟨81, _⟩ => ⟨S32x8x1024, .f32⟩
  | .hbm, ⟨82, _⟩ => ⟨S1x1x1024, .f32⟩
  | .hbm, ⟨83, _⟩ => ⟨S32x8x1024, .f32⟩
  | .hbm, ⟨84, _⟩ => ⟨S32x8x1024, .f32⟩
  | .hbm, ⟨85, _⟩ => ⟨S1x1x1024, .f32⟩
  | .hbm, ⟨86, _⟩ => ⟨S32x8x1024, .f32⟩
  | .hbm, ⟨87, _⟩ => ⟨S32x8x1024, .f32⟩
  | .hbm, ⟨88, _⟩ => ⟨S256x1024, .f32⟩
  | .hbm, ⟨89, _⟩ => ⟨S256x3072, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_0 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_1 : Ref sig .tc := ⟨.hbm, 46, rfl⟩
abbrev main_v36 : Ref sig .tc := ⟨.hbm, 47, rfl⟩
abbrev main_v37 : Ref sig .tc := ⟨.hbm, 48, rfl⟩
abbrev main_cst_2 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_3 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_4 : Ref sig .tc := ⟨.hbm, 59, rfl⟩
abbrev main_v46 : Ref sig .tc := ⟨.hbm, 60, rfl⟩
abbrev main_v47 : Ref sig .tc := ⟨.hbm, 61, rfl⟩
abbrev main_cst_5 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_cst_7 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== LruSample.lean ====
abbrev S32x8x7680 : Shape := ⟨3, ![32, 8, 7680]⟩
abbrev S4x512 : Shape := ⟨2, ![4, 512]⟩
abbrev S512 : Shape := ⟨1, ![512]⟩
abbrev S8x64x64 : Shape := ⟨3, ![8, 64, 64]⟩
abbrev S32x512 : Shape := ⟨2, ![32, 512]⟩
abbrev S32x3x512 : Shape := ⟨3, ![32, 3, 512]⟩
abbrev S1x512 : Shape := ⟨2, ![1, 512]⟩
abbrev S_ : Shape := ⟨0, ![]⟩
abbrev S8x64x8x64 : Shape := ⟨4, ![8, 64, 8, 64]⟩
abbrev S1x64x64 : Shape := ⟨3, ![1, 64, 64]⟩
abbrev S64x64 : Shape := ⟨2, ![64, 64]⟩
abbrev S1 : Shape := ⟨1, ![1]⟩
abbrev S2 : Shape := ⟨1, ![2]⟩
abbrev S512x512 : Shape := ⟨2, ![512, 512]⟩
abbrev S32x1x512 : Shape := ⟨3, ![32, 1, 512]⟩
abbrev S32x8x512 : Shape := ⟨3, ![32, 8, 512]⟩
abbrev S1x8x512 : Shape := ⟨3, ![1, 8, 512]⟩
abbrev S1x1x512 : Shape := ⟨3, ![1, 1, 512]⟩
abbrev S1x3x512 : Shape := ⟨3, ![1, 3, 512]⟩
abbrev S16x512 : Shape := ⟨2, ![16, 512]⟩
abbrev S3x512 : Shape := ⟨2, ![3, 512]⟩
abbrev S8x512 : Shape := ⟨2, ![8, 512]⟩

abbrev nBuf : Space → Nat
  | .hbm => 154
  | .vmem => 25
  | .smem => 0
  | _ => 0

abbrev hbmTy0_0 (i : Nat) : BufTy := match i % 128 with
  | 0 => ⟨S32x8x7680, .f32⟩
  | 1 => ⟨S4x512, .f32⟩
  | 2 => ⟨S512, .f32⟩
  | 3 => ⟨S8x64x64, .f32⟩
  | 4 => ⟨S512, .f32⟩
  | 5 => ⟨S8x64x64, .f32⟩
  | 6 => ⟨S512, .f32⟩
  | 7 => ⟨S512, .f32⟩
  | 8 => ⟨S32x512, .f32⟩
  | 9 => ⟨S32x3x512, .f32⟩
  | 10 => ⟨S1x512, .f32⟩
  | 11 => ⟨S_, .f32⟩
  | 12 => ⟨S8x64x8x64, .f32⟩
  | 13 => ⟨S1x64x64, .f32⟩
  | 14 => ⟨S64x64, .f32⟩
  | 15 => ⟨S_, .i32⟩
  | 16 => ⟨S1, .i32⟩
  | 17 => ⟨S_, .i32⟩
  | 18 => ⟨S1, .i32⟩
  | 19 => ⟨S2, .i32⟩
  | 20 => ⟨S8x64x8x64, .f32⟩
  | 21 => ⟨S1x64x64, .f32⟩
  | 22 => ⟨S64x64, .f32⟩
  | 23 => ⟨S_, .i32⟩
  | 24 => ⟨S1, .i32⟩
  | 25 => ⟨S_, .i32⟩
  | 26 => ⟨S1, .i32⟩
  | 27 => ⟨S2, .i32⟩
  | 28 => ⟨S8x64x8x64, .f32⟩
  | 29 => ⟨S1x64x64, .f32⟩
  | 30 => ⟨S64x64, .f32⟩
  | 31 => ⟨S_, .i32⟩
  | 32 => ⟨S1, .i32⟩
  | 33 => ⟨S_, .i32⟩
  | 34 => ⟨S1, .i32⟩
  | 35 => ⟨S2, .i32⟩
  | 36 => ⟨S8x64x8x64, .f32⟩
  | 37 => ⟨S1x64x64, .f32⟩
  | 38 => ⟨S64x64, .f32⟩
  | 39 => ⟨S_, .i32⟩
  | 40 => ⟨S1, .i32⟩
  | 41 => ⟨S_, .i32⟩
  | 42 => ⟨S1, .i32⟩
  | 43 => ⟨S2, .i32⟩
  | 44 => ⟨S8x64x8x64, .f32⟩
  | 45 => ⟨S1x64x64, .f32⟩
  | 46 => ⟨S64x64, .f32⟩
  | 47 => ⟨S_, .i32⟩
  | 48 => ⟨S1, .i32⟩
  | 49 => ⟨S_, .i32⟩
  | 50 => ⟨S1, .i32⟩
  | 51 => ⟨S2, .i32⟩
  | 52 => ⟨S8x64x8x64, .f32⟩
  | 53 => ⟨S1x64x64, .f32⟩
  | 54 => ⟨S64x64, .f32⟩
  | 55 => ⟨S_, .i32⟩
  | 56 => ⟨S1, .i32⟩
  | 57 => ⟨S_, .i32⟩
  | 58 => ⟨S1, .i32⟩
  | 59 => ⟨S2, .i32⟩
  | 60 => ⟨S8x64x8x64, .f32⟩
  | 61 => ⟨S1x64x64, .f32⟩
  | 62 => ⟨S64x64, .f32⟩
  | 63 => ⟨S_, .i32⟩
  | 64 => ⟨S1, .i32⟩
  | 65 => ⟨S_, .i32⟩
  | 66 => ⟨S1, .i32⟩
  | 67 => ⟨S2, .i32⟩
  | 68 => ⟨S8x64x8x64, .f32⟩
  | 69 => ⟨S1x64x64, .f32⟩
  | 70 => ⟨S64x64, .f32⟩
  | 71 => ⟨S_, .i32⟩
  | 72 => ⟨S1, .i32⟩
  | 73 => ⟨S_, .i32⟩
  | 74 => ⟨S1, .i32⟩
  | 75 => ⟨S2, .i32⟩
  | 76 => ⟨S8x64x8x64, .f32⟩
  | 77 => ⟨S512x512, .f32⟩
  | 78 => ⟨S512x512, .bf16⟩
  | 79 => ⟨S1x512, .f32⟩
  | 80 => ⟨S_, .f32⟩
  | 81 => ⟨S8x64x8x64, .f32⟩
  | 82 => ⟨S1x64x64, .f32⟩
  | 83 => ⟨S64x64, .f32⟩
  | 84 => ⟨S_, .i32⟩
  | 85 => ⟨S1, .i32⟩
  | 86 => ⟨S_, .i32⟩
  | 87 => ⟨S1, .i32⟩
  | 88 => ⟨S2, .i32⟩
  | 89 => ⟨S8x64x8x64, .f32⟩
  | 90 => ⟨S1x64x64, .f32⟩
  | 91 => ⟨S64x64, .f32⟩
  | 92 => ⟨S_, .i32⟩
  | 93 => ⟨S1, .i32⟩
  | 94 => ⟨S_, .i32⟩
  | 95 => ⟨S1, .i32⟩
  | 96 => ⟨S2, .i32⟩
  | 97 => ⟨S8x64x8x64, .f32⟩
  | 98 => ⟨S1x64x64, .f32⟩
  | 99 => ⟨S64x64, .f32⟩
  | 100 => ⟨S_, .i32⟩
  | 101 => ⟨S1, .i32⟩
  | 102 => ⟨S_, .i32⟩
  | 103 => ⟨S1, .i32⟩
  | 104 => ⟨S2, .i32⟩
  | 105 => ⟨S8x64x8x64, .f32⟩
  | 106 => ⟨S1x64x64, .f32⟩
  | 107 => ⟨S64x64, .f32⟩
  | 108 => ⟨S_, .i32⟩
  | 109 => ⟨S1, .i32⟩
  | 110 => ⟨S_, .i32⟩
  | 111 => ⟨S1, .i32⟩
  | 112 => ⟨S2, .i32⟩
  | 113 => ⟨S8x64x8x64, .f32⟩
  | 114 => ⟨S1x64x64, .f32⟩
  | 115 => ⟨S64x64, .f32⟩
  | 116 => ⟨S_, .i32⟩
  | 117 => ⟨S1, .i32⟩
  | 118 => ⟨S_, .i32⟩
  | 119 => ⟨S1, .i32⟩
  | 120 => ⟨S2, .i32⟩
  | 121 => ⟨S8x64x8x64, .f32⟩
  | 122 => ⟨S1x64x64, .f32⟩
  | 123 => ⟨S64x64, .f32⟩
  | 124 => ⟨S_, .i32⟩
  | 125 => ⟨S1, .i32⟩
  | 126 => ⟨S_, .i32⟩
  | 127 => ⟨S1, .i32⟩
  | _ => ⟨S32x8x7680, .f32⟩

abbrev hbmTy0_1 (i : Nat) : BufTy := match i % 128 with
  | 0 => ⟨S2, .i32⟩
  | 1 => ⟨S8x64x8x64, .f32⟩
  | 2 => ⟨S1x64x64, .f32⟩
  | 3 => ⟨S64x64, .f32⟩
  | 4 => ⟨S_, .i32⟩
  | 5 => ⟨S1, .i32⟩
  | 6 => ⟨S_, .i32⟩
  | 7 => ⟨S1, .i32⟩
  | 8 => ⟨S2, .i32⟩
  | 9 => ⟨S8x64x8x64, .f32⟩
  | 10 => ⟨S1x64x64, .f32⟩
  | 11 => ⟨S64x64, .f32⟩
  | 12 => ⟨S_, .i32⟩
  | 13 => ⟨S1, .i32⟩
  | 14 => ⟨S_, .i32⟩
  | 15 => ⟨S1, .i32⟩
  | 16 => ⟨S2, .i32⟩
  | 17 => ⟨S8x64x8x64, .f32⟩
  | 18 => ⟨S512x512, .f32⟩
  | 19 => ⟨S512x512, .bf16⟩
  | 20 => ⟨S1x512, .f32⟩
  | 21 => ⟨S1x512, .f32⟩
  | 22 => ⟨S32x1x512, .f32⟩
  | 23 => ⟨S32x8x512, .f32⟩
  | 24 => ⟨S32x1x512, .f32⟩
  | 25 => ⟨S32x3x512, .f32⟩
  | _ => ⟨S32x8x7680, .f32⟩

abbrev hbmTy (i : Nat) : BufTy := match i / 128 with
  | 0 => hbmTy0_0 i
  | 1 => hbmTy0_1 i
  | _ => ⟨S32x8x7680, .f32⟩

abbrev bufTy : (tb : Table) → Fin (tcTables nBuf tb) → BufTy
  | .hbm, ⟨i, _⟩ => hbmTy i
  | .local _ .vmem, ⟨0, _⟩ => ⟨S1x8x512, .f32⟩
  | .local _ .vmem, ⟨1, _⟩ => ⟨S1x8x512, .f32⟩
  | .local _ .vmem, ⟨2, _⟩ => ⟨S1x8x512, .f32⟩
  | .local _ .vmem, ⟨3, _⟩ => ⟨S1x8x512, .f32⟩
  | .local _ .vmem, ⟨4, _⟩ => ⟨S4x512, .f32⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S1x512, .f32⟩
  | .local _ .vmem, ⟨11, _⟩ => ⟨S1x1x512, .f32⟩
  | .local _ .vmem, ⟨12, _⟩ => ⟨S1x1x512, .f32⟩
  | .local _ .vmem, ⟨13, _⟩ => ⟨S1x3x512, .f32⟩
  | .local _ .vmem, ⟨14, _⟩ => ⟨S1x3x512, .f32⟩
  | .local _ .vmem, ⟨15, _⟩ => ⟨S1x8x512, .f32⟩
  | .local _ .vmem, ⟨16, _⟩ => ⟨S1x8x512, .f32⟩
  | .local _ .vmem, ⟨17, _⟩ => ⟨S1x1x512, .f32⟩
  | .local _ .vmem, ⟨18, _⟩ => ⟨S1x1x512, .f32⟩
  | .local _ .vmem, ⟨19, _⟩ => ⟨S1x3x512, .f32⟩
  | .local _ .vmem, ⟨20, _⟩ => ⟨S1x3x512, .f32⟩
  | .local _ .vmem, ⟨21, _⟩ => ⟨S16x512, .f32⟩
  | .local _ .vmem, ⟨22, _⟩ => ⟨S16x512, .f32⟩
  | .local _ .vmem, ⟨23, _⟩ => ⟨S16x512, .f32⟩
  | .local _ .vmem, ⟨24, _⟩ => ⟨S1x512, .f32⟩
  | _, _ => ⟨S32x8x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_7 : Ref sig .tc := ⟨.hbm, 47, rfl⟩
abbrev main_v28 : Ref sig .tc := ⟨.hbm, 48, rfl⟩
abbrev main_c_8 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_9 : Ref sig .tc := ⟨.hbm, 55, rfl⟩
abbrev main_v34 : Ref sig .tc := ⟨.hbm, 56, rfl⟩
abbrev main_c_10 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_11 : Ref sig .tc := ⟨.hbm, 63, rfl⟩
abbrev main_v40 : Ref sig .tc := ⟨.hbm, 64, rfl⟩
abbrev main_c_12 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_13 : Ref sig .tc := ⟨.hbm, 71, rfl⟩
abbrev main_v46 : Ref sig .tc := ⟨.hbm, 72, rfl⟩
abbrev main_c_14 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_15 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_16 : Ref sig .tc := ⟨.hbm, 84, rfl⟩
abbrev main_v56 : Ref sig .tc := ⟨.hbm, 85, rfl⟩
abbrev main_c_17 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_18 : Ref sig .tc := ⟨.hbm, 92, rfl⟩
abbrev main_v62 : Ref sig .tc := ⟨.hbm, 93, rfl⟩
abbrev main_c_19 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_20 : Ref sig .tc := ⟨.hbm, 100, rfl⟩
abbrev main_v68 : Ref sig .tc := ⟨.hbm, 101, rfl⟩
abbrev main_c_21 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_22 : Ref sig .tc := ⟨.hbm, 108, rfl⟩
abbrev main_v74 : Ref sig .tc := ⟨.hbm, 109, rfl⟩
abbrev main_c_23 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_c_24 : Ref sig .tc := ⟨.hbm, 116, rfl⟩
abbrev main_v80 : Ref sig .tc := ⟨.hbm, 117, rfl⟩
abbrev main_c_25 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_c_26 : Ref sig .tc := ⟨.hbm, 124, rfl⟩
abbrev main_v86 : Ref sig .tc := ⟨.hbm, 125, rfl⟩
abbrev main_c_27 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_c_28 : Ref sig .tc := ⟨.hbm, 132, rfl⟩
abbrev main_v92 : Ref sig .tc := ⟨.hbm, 133, rfl⟩
abbrev main_c_29 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_c_30 : Ref sig .tc := ⟨.hbm, 140, rfl⟩
abbrev main_v98 : Ref sig .tc := ⟨.hbm, 141, rfl⟩
abbrev main_c_31 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107_0 : Ref sig .tc := ⟨.hbm, 151, rfl⟩
abbrev main_v107_1 : Ref sig .tc := ⟨.hbm, 152, rfl⟩
abbrev main_v107_2 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x3x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x3x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== LruSampleRefIdeal.lean ====
abbrev S32x8x7680 : Shape := ⟨3, ![32, 8, 7680]⟩
abbrev S4x512 : Shape := ⟨2, ![4, 512]⟩
abbrev S512 : Shape := ⟨1, ![512]⟩
abbrev S8x64x64 : Shape := ⟨3, ![8, 64, 64]⟩
abbrev S32x512 : Shape := ⟨2, ![32, 512]⟩
abbrev S32x3x512 : Shape := ⟨3, ![32, 3, 512]⟩
abbrev S32x8x512 : Shape := ⟨3, ![32, 8, 512]⟩
abbrev S32x11x512 : Shape := ⟨3, ![32, 11, 512]⟩
abbrev S1x512 : Shape := ⟨2, ![1, 512]⟩
abbrev S1x1x512 : Shape := ⟨3, ![1, 1, 512]⟩
abbrev S32x8x8x64 : Shape := ⟨4, ![32, 8, 8, 64]⟩
abbrev S8x64x32x8 : Shape := ⟨4, ![8, 64, 32, 8]⟩
abbrev S_ : Shape := ⟨0, ![]⟩
abbrev S8x32x512 : Shape := ⟨3, ![8, 32, 512]⟩
abbrev S1x32x512 : Shape := ⟨3, ![1, 32, 512]⟩
abbrev S32x1x512 : Shape := ⟨3, ![32, 1, 512]⟩

abbrev nBuf : Space → Nat
  | .hbm => 154
  | .vmem => 0
  | .smem => 0
  | _ => 0

abbrev hbmTy0_0 (i : Nat) : BufTy := match i % 128 with
  | 0 => ⟨S32x8x7680, .f32⟩
  | 1 => ⟨S4x512, .f32⟩
  | 2 => ⟨S512, .f32⟩
  | 3 => ⟨S8x64x64, .f32⟩
  | 4 => ⟨S512, .f32⟩
  | 5 => ⟨S8x64x64, .f32⟩
  | 6 => ⟨S512, .f32⟩
  | 7 => ⟨S512, .f32⟩
  | 8 => ⟨S32x512, .f32⟩
  | 9 => ⟨S32x3x512, .f32⟩
  | 10 => ⟨S32x8x512, .f32⟩
  | 11 => ⟨S32x8x512, .f32⟩
  | 12 => ⟨S32x11x512, .f32⟩
  | 13 => ⟨S1x512, .f32⟩
  | 14 => ⟨S512, .f32⟩
  | 15 => ⟨S32x8x512, .f32⟩
  | 16 => ⟨S1x1x512, .f32⟩
  | 17 => ⟨S32x8x512, .f32⟩
  | 18 => ⟨S32x8x512, .f32⟩
  | 19 => ⟨S1x1x512, .f32⟩
  | 20 => ⟨S32x8x512, .f32⟩
  | 21 => ⟨S32x8x512, .f32⟩
  | 22 => ⟨S1x512, .f32⟩
  | 23 => ⟨S512, .f32⟩
  | 24 => ⟨S32x8x512, .f32⟩
  | 25 => ⟨S1x1x512, .f32⟩
  | 26 => ⟨S32x8x512, .f32⟩
  | 27 => ⟨S32x8x512, .f32⟩
  | 28 => ⟨S32x8x512, .f32⟩
  | 29 => ⟨S1x512, .f32⟩
  | 30 => ⟨S512, .f32⟩
  | 31 => ⟨S32x8x512, .f32⟩
  | 32 => ⟨S1x1x512, .f32⟩
  | 33 => ⟨S32x8x512, .f32⟩
  | 34 => ⟨S32x8x512, .f32⟩
  | 35 => ⟨S32x8x512, .f32⟩
  | 36 => ⟨S1x512, .f32⟩
  | 37 => ⟨S512, .f32⟩
  | 38 => ⟨S32x8x512, .f32⟩
  | 39 => ⟨S1x1x512, .f32⟩
  | 40 => ⟨S32x8x512, .f32⟩
  | 41 => ⟨S32x8x512, .f32⟩
  | 42 => ⟨S32x8x512, .f32⟩
  | 43 => ⟨S32x3x512, .f32⟩
  | 44 => ⟨S32x8x8x64, .f32⟩
  | 45 => ⟨S8x64x32x8, .f32⟩
  | 46 => ⟨S32x8x8x64, .f32⟩
  | 47 => ⟨S32x8x512, .f32⟩
  | 48 => ⟨S1x1x512, .f32⟩
  | 49 => ⟨S32x8x512, .f32⟩
  | 50 => ⟨S32x8x512, .f32⟩
  | 51 => ⟨S32x8x512, .f32⟩
  | 52 => ⟨S32x8x512, .f32⟩
  | 53 => ⟨S_, .f32⟩
  | 54 => ⟨S32x8x512, .f32⟩
  | 55 => ⟨S32x8x512, .f32⟩
  | 56 => ⟨S_, .f32⟩
  | 57 => ⟨S32x8x512, .f32⟩
  | 58 => ⟨S32x8x512, .f32⟩
  | 59 => ⟨S8x64x32x8, .f32⟩
  | 60 => ⟨S32x8x8x64, .f32⟩
  | 61 => ⟨S32x8x512, .f32⟩
  | 62 => ⟨S1x1x512, .f32⟩
  | 63 => ⟨S32x8x512, .f32⟩
  | 64 => ⟨S32x8x512, .f32⟩
  | 65 => ⟨S32x8x512, .f32⟩
  | 66 => ⟨S32x8x512, .f32⟩
  | 67 => ⟨S_, .f32⟩
  | 68 => ⟨S32x8x512, .f32⟩
  | 69 => ⟨S32x8x512, .f32⟩
  | 70 => ⟨S_, .f32⟩
  | 71 => ⟨S32x8x512, .f32⟩
  | 72 => ⟨S32x8x512, .f32⟩
  | 73 => ⟨S_, .f32⟩
  | 74 => ⟨S32x8x512, .f32⟩
  | 75 => ⟨S32x8x512, .f32⟩
  | 76 => ⟨S512, .f32⟩
  | 77 => ⟨S_, .f32⟩
  | 78 => ⟨S512, .f32⟩
  | 79 => ⟨S512, .f32⟩
  | 80 => ⟨S512, .f32⟩
  | 81 => ⟨S512, .f32⟩
  | 82 => ⟨S512, .i1⟩
  | 83 => ⟨S512, .f32⟩
  | 84 => ⟨S512, .f32⟩
  | 85 => ⟨S512, .f32⟩
  | 86 => ⟨S512, .f32⟩
  | 87 => ⟨S512, .f32⟩
  | 88 => ⟨S512, .f32⟩
  | 89 => ⟨S512, .f32⟩
  | 90 => ⟨S512, .f32⟩
  | 91 => ⟨S1x1x512, .f32⟩
  | 92 => ⟨S32x8x512, .f32⟩
  | 93 => ⟨S32x8x512, .f32⟩
  | 94 => ⟨S32x8x512, .f32⟩
  | 95 => ⟨S_, .f32⟩
  | 96 => ⟨S32x8x512, .f32⟩
  | 97 => ⟨S32x8x512, .f32⟩
  | 98 => ⟨S32x8x512, .f32⟩
  | 99 => ⟨S32x8x512, .f32⟩
  | 100 => ⟨S_, .f32⟩
  | 101 => ⟨S32x8x512, .f32⟩
  | 102 => ⟨S32x8x512, .f32⟩
  | 103 => ⟨S32x8x512, .f32⟩
  | 104 => ⟨S32x8x512, .f32⟩
  | 105 => ⟨S32x8x512, .f32⟩
  | 106 => ⟨S8x32x512, .f32⟩
  | 107 => ⟨S8x32x512, .f32⟩
  | 108 => ⟨S_, .f32⟩
  | 109 => ⟨S8x32x512, .f32⟩
  | 110 => ⟨S_, .i32⟩
  | 111 => ⟨S8x32x512, .f32⟩
  | 112 => ⟨S8x32x512, .f32⟩
  | 113 => ⟨S_, .i32⟩
  | 114 => ⟨S32x512, .f32⟩
  | 115 => ⟨S8x32x512, .f32⟩
  | 116 => ⟨S_, .i32⟩
  | 117 => ⟨S_, .i1⟩
  | 118 => ⟨S_, .i32⟩
  | 119 => ⟨S_, .i32⟩
  | 120 => ⟨S1x32x512, .f32⟩
  | 121 => ⟨S32x512, .f32⟩
  | 122 => ⟨S_, .i32⟩
  | 123 => ⟨S_, .i32⟩
  | 124 => ⟨S1x32x512, .f32⟩
  | 125 => ⟨S32x512, .f32⟩
  | 126 => ⟨S32x512, .f32⟩
  | 127 => ⟨S32x512, .f32⟩
  | _ => ⟨S32x8x7680, .f32⟩

abbrev hbmTy0_1 (i : Nat) : BufTy := match i % 128 with
  | 0 => ⟨S1x32x512, .f32⟩
  | 1 => ⟨S_, .i32⟩
  | 2 => ⟨S_, .i32⟩
  | 3 => ⟨S8x32x512, .f32⟩
  | 4 => ⟨S_, .i32⟩
  | 5 => ⟨S_, .i32⟩
  | 6 => ⟨S32x8x512, .f32⟩
  | 7 => ⟨S32x8x512, .f32⟩
  | 8 => ⟨S32x8x512, .f32⟩
  | 9 => ⟨S_, .f32⟩
  | 10 => ⟨S32x8x512, .f32⟩
  | 11 => ⟨S32x8x512, .f32⟩
  | 12 => ⟨S32x8x512, .f32⟩
  | 13 => ⟨S_, .f32⟩
  | 14 => ⟨S32x8x512, .f32⟩
  | 15 => ⟨S32x8x512, .f32⟩
  | 16 => ⟨S32x8x512, .f32⟩
  | 17 => ⟨S_, .f32⟩
  | 18 => ⟨S32x8x512, .f32⟩
  | 19 => ⟨S32x8x512, .f32⟩
  | 20 => ⟨S_, .f32⟩
  | 21 => ⟨S32x8x512, .f32⟩
  | 22 => ⟨S32x8x512, .f32⟩
  | 23 => ⟨S32x8x512, .f32⟩
  | 24 => ⟨S32x8x512, .f32⟩
  | 25 => ⟨S32x1x512, .f32⟩
  | _ => ⟨S32x8x7680, .f32⟩

abbrev hbmTy (i : Nat) : BufTy := match i / 128 with
  | 0 => hbmTy0_0 i
  | 1 => hbmTy0_1 i
  | _ => ⟨S32x8x7680, .f32⟩

abbrev bufTy : (tb : Table) → Fin (tcTables nBuf tb) → BufTy
  | .hbm, ⟨i, _⟩ => hbmTy i
  | _, _ => ⟨S32x8x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst : Ref sig .tc := ⟨.hbm, 53, rfl⟩
abbrev main_v43 : Ref sig .tc := ⟨.hbm, 54, rfl⟩
abbrev main_v44 : Ref sig .tc := ⟨.hbm, 55, rfl⟩
abbrev main_cst_0 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_1 : Ref sig .tc := ⟨.hbm, 67, rfl⟩
abbrev main_v55 : Ref sig .tc := ⟨.hbm, 68, rfl⟩
abbrev main_v56 : Ref sig .tc := ⟨.hbm, 69, rfl⟩
abbrev main_cst_2 : Ref sig .tc := ⟨.hbm, 70, rfl⟩
abbrev main_v57 : Ref sig .tc := ⟨.hbm, 71, rfl⟩
abbrev main_v58 : Ref sig .tc := ⟨.hbm, 72, rfl⟩
abbrev main_cst_3 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_call0_cst : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_v5 : Ref sig .tc := ⟨.hbm, 83, rfl⟩
abbrev main_call0_v6 : Ref sig .tc := ⟨.hbm, 84, rfl⟩
abbrev main_call0_v7 : Ref sig .tc := ⟨.hbm, 85, rfl⟩
abbrev main_call0_v8 : Ref sig .tc := ⟨.hbm, 86, rfl⟩
abbrev main_call0_v9 : Ref sig .tc := ⟨.hbm, 87, rfl⟩
abbrev main_call0_v10 : Ref sig .tc := ⟨.hbm, 88, rfl⟩
abbrev main_call0_v11 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_4 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_5 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_6 : Ref sig .tc := ⟨.hbm, 108, rfl⟩
abbrev main_v78 : Ref sig .tc := ⟨.hbm, 109, rfl⟩
abbrev main_c : Ref sig .tc := ⟨.hbm, 110, rfl⟩
abbrev main_v79_0 : Ref sig .tc := ⟨.hbm, 111, rfl⟩
abbrev main_v79_1 : Ref sig .tc := ⟨.hbm, 112, rfl⟩
abbrev main_v79_2 : Ref sig .tc := ⟨.hbm, 113, rfl⟩
abbrev main_v79_3 : Ref sig .tc := ⟨.hbm, 114, rfl⟩
abbrev main_v79_4 : Ref sig .tc := ⟨.hbm, 115, rfl⟩
abbrev main_while0c_c_15 : Ref sig .tc := ⟨.hbm, 116, rfl⟩
abbrev main_while0c_v96 : Ref sig .tc := ⟨.hbm, 117, rfl⟩
abbrev main_while0b_call1_c : Ref sig .tc := ⟨.hbm, 118, rfl⟩
abbrev main_while0b_call1_c_0 : Ref sig .tc := ⟨.hbm, 119, rfl⟩
abbrev main_while0b_call1_v0 : Ref sig .tc := ⟨.hbm, 120, rfl⟩
abbrev main_while0b_v96 : Ref sig .tc := ⟨.hbm, 121, rfl⟩
abbrev main_while0b_call2_c : Ref sig .tc := ⟨.hbm, 122, rfl⟩
abbrev main_while0b_call2_c_0 : Ref sig .tc := ⟨.hbm, 123, rfl⟩
abbrev main_while0b_call2_v0 : Ref sig .tc := ⟨.hbm, 124, rfl⟩
abbrev main_while0b_v97 : Ref sig .tc := ⟨.hbm, 125, rfl⟩
abbrev main_while0b_v98 : Ref sig .tc := ⟨.hbm, 126, rfl⟩
abbrev main_while0b_v99 : Ref sig .tc := ⟨.hbm, 127, rfl⟩
abbrev main_while0b_call3_v0 : Ref sig .tc := ⟨.hbm, 128, rfl⟩
abbrev main_while0b_call3_c : Ref sig .tc := ⟨.hbm, 129, rfl⟩
abbrev main_while0b_call3_c_0 : Ref sig .tc := ⟨.hbm, 130, rfl⟩
abbrev main_while0b_v100 : Ref sig .tc := ⟨.hbm, 131, rfl⟩
abbrev main_while0b_c_15 : Ref sig .tc := ⟨.hbm, 132, rfl⟩
abbrev main_while0b_v101 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_cst_7 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_cst_8 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_cst_9 : Ref sig .tc := ⟨.hbm, 145, rfl⟩
abbrev main_v89 : Ref sig .tc := ⟨.hbm, 146, rfl⟩
abbrev main_v90 : Ref sig .tc := ⟨.hbm, 147, rfl⟩
abbrev main_cst_10 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩

abbrev nD : Nat := 1
abbrev τ : Topo := Topo.v7x

variable {F : FTy → Type} [FloatOps F]

abbrev main_while0_count : Scf.Loop 32 := ⟨0#32, 8#32, 1#32⟩
-- ==== Proof.LruSteps.lean ====
module

public import proofs.«01_k».proof.Proof.Gen.LruIdeal.Frame
public import proofs.«01_k».proof.Proof.Gen.LruIdeal.Skeleton
public import Idealize.ShloMosaic.Lib.Claim
public import Idealize.ShloMosaic.Lib.Pointwise
public import Idealize.ShloMosaic.Lib.Pipeline.ValueKit

@[expose] public section

set_option maxRecDepth 16384

noncomputable section

namespace Cert.LruIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- A load of a rectangle of an owned memref: the program goes on at the values there, the memref still owned. -/
theorem load_step {s : Shape} {e : EltTy} (c : Dev nD) {m : Memref sig .tc .vmem s e} {r : Rect s}
    {hl : m.view.LoadsAt r.toLoadRect} {α : Type} {k : (r.shape.Idx → Elt F e) → Prog (TpuEff nD τ sig (Elt F) Λ₀ .tc) α}
    {Q : α → sProp 𝕄} {d : s.Idx → Elt F e} (v : r.shape.Idx → Elt F e) (hv : ∀ j, d (r.emb j) = v j) :
    owns (c : Thread nD τ) m fullShare d
      ⊢ iprop((owns (c : Thread nD τ) m fullShare d -∗ wp frame (wpE (defs₀ (F := F)) Variants.none c none) Set.univ (k v) Q)
        -∗ wp frame (wpE (defs₀ (F := F)) Variants.none c none) Set.univ (.op (.load m r.toLoadRect hl) k) Q) := by
  unfold owns
  iintro ⟨%f, %hf, H⟩ Hk
  have hread : m.view.readAt (Elt F) r.toLoadRect f = v := by
    funext j
    rw [← hv j, ← hf]; rfl
  iapply (wp_load Variants.none (c : Thread nD τ) none Set.univ (m := m) (r := r.toLoadRect) (View.setOn_subset_set _ _)) $$ H
  iintro H
  rw [hread]
  iapply Hk
  iexists f; isplitr
  · ipureintro; exact hf
  iexact H

/-- A store of a rectangle of an owned memref: the program goes on owning the memref at the new contents, which are
    the payload inside the rectangle and the old contents outside it. -/
theorem store_step {s : Shape} {e : EltTy} (c : Dev nD) {m : Memref sig .tc .vmem s e} {r : Rect s}
    {w : r.shape.Idx → Elt F e} {hx : (m.access r).Stores Finset.univ} {hm : Finset.univ = Finset.univ ∨ ∀ a, r.stride a = 1}
    {α : Type} {k : PUnit → Prog (TpuEff nD τ sig (Elt F) Λ₀ .tc) α}
    {Q : α → sProp 𝕄} {d : s.Idx → Elt F e} (d' : s.Idx → Elt F e) (hin : ∀ j, d' (r.emb j) = w j)
    (hout : ∀ y, (∀ j, r.emb j ≠ y) → d' y = d y) :
    owns (c : Thread nD τ) m fullShare d
      ⊢ iprop((owns (c : Thread nD τ) m fullShare d' -∗ wp frame (wpE (defs₀ (F := F)) Variants.none c none) Set.univ (k ⟨⟩) Q)
        -∗ wp frame (wpE (defs₀ (F := F)) Variants.none c none) Set.univ (.op (.store m r w Finset.univ hx hm) k) Q) := by
  unfold owns
  iintro ⟨%f, %hf, H⟩ Hk
  iapply (wp_store Variants.none (c : Thread nD τ) none Set.univ (m := m) (r := r) (Memref.setOn_access_subset _ _ _)) $$ H
  iintro H
  iapply Hk
  iexists _; isplitr
  swap; · iexact H
  ipureintro
  funext y
  by_cases hy : ∃ j, r.emb j = y
  · obtain ⟨j, rfl⟩ := hy
    rw [hin j]
    exact View.read_slice_write_emb r f w (Finset.mem_univ j)
  · rw [hout y (fun j hj => hy ⟨j, hj⟩), ← hf]
    exact View.read_slice_write_of_not_mem r f w Finset.univ (fun hm => by
      obtain ⟨j, -, hj⟩ := Finset.mem_map.mp hm
      exact hy ⟨j, hj⟩)

/-- A load whose value is not used: whatever it is. -/
theorem load_any {s : Shape} {e : EltTy} (c : Dev nD) {m : Memref sig .tc .vmem s e} {r : Rect s}
    {hl : m.view.LoadsAt r.toLoadRect} {α : Type} {k : (r.shape.Idx → Elt F e) → Prog (TpuEff nD τ sig (Elt F) Λ₀ .tc) α}
    {Q : α → sProp 𝕄} {d : s.Idx → Elt F e} :
    owns (c : Thread nD τ) m fullShare d
      ⊢ iprop((owns (c : Thread nD τ) m fullShare d -∗ wp frame (wpE (defs₀ (F := F)) Variants.none c none) Set.univ (k fun j => d (r.emb j)) Q)
        -∗ wp frame (wpE (defs₀ (F := F)) Variants.none c none) Set.univ (.op (.load m r.toLoadRect hl) k) Q) :=
  load_step c _ fun _ => rfl

/-- The whole rectangle's elements are the memref's own. -/
theorem emb_whole {s : Shape} {off : Fin s.rank → ℕ} {inb} (h0 : ∀ a, off a = 0) (j : (Rect.unit (s := s) off s.size inb).shape.Idx) :
    (Rect.unit (s := s) off s.size inb).emb j = j := by
  funext a
  apply Fin.ext
  rw [ValueKit.rect_emb_unit_val, h0 a, Nat.zero_add]

/-- A load of a whole memref gives its contents. -/
theorem load_whole {s : Shape} {e : EltTy} (c : Dev nD) {m : Memref sig .tc .vmem s e} {off : Fin s.rank → ℕ} {inb}
    (h0 : ∀ a, off a = 0) {hl : m.view.LoadsAt (Rect.unit (s := s) off s.size inb).toLoadRect} {α : Type}
    {k : (s.Idx → Elt F e) → Prog (TpuEff nD τ sig (Elt F) Λ₀ .tc) α} {Q : α → sProp 𝕄} {d : s.Idx → Elt F e} :
    owns (c : Thread nD τ) m fullShare d
      ⊢ iprop((owns (c : Thread nD τ) m fullShare d -∗ wp frame (wpE (defs₀ (F := F)) Variants.none c none) Set.univ (k d) Q)
        -∗ wp frame (wpE (defs₀ (F := F)) Variants.none c none) Set.univ (.op (.load m (Rect.unit (s := s) off s.size inb).toLoadRect hl) k) Q) :=
  load_step c d fun j => congrArg d (emb_whole h0 j)

/-- A store of a whole memref leaves the payload. -/
theorem store_whole {s : Shape} {e : EltTy} (c : Dev nD) {m : Memref sig .tc .vmem s e} {off : Fin s.rank → ℕ} {inb}
    (h0 : ∀ a, off a = 0) {w : s.Idx → Elt F e} {hx : (m.access (Rect.unit (s := s) off s.size inb)).Stores Finset.univ}
    {hm : Finset.univ = Finset.univ ∨ ∀ a, (Rect.unit (s := s) off s.size inb).stride a = 1}
    {α : Type} {k : PUnit → Prog (TpuEff nD τ sig (Elt F) Λ₀ .tc) α} {Q : α → sProp 𝕄} {d : s.Idx → Elt F e} :
    owns (c : Thread nD τ) m fullShare d
      ⊢ iprop((owns (c : Thread nD τ) m fullShare w -∗ wp frame (wpE (defs₀ (F := F)) Variants.none c none) Set.univ (k ⟨⟩) Q)
        -∗ wp frame (wpE (defs₀ (F := F)) Variants.none c none) Set.univ
          (.op (.store m (Rect.unit (s := s) off s.size inb) w Finset.univ hx hm) k) Q) :=
  store_step c w (fun j => congrArg w (emb_whole h0 j)) fun y hy => absurd (emb_whole (inb := inb) h0 y) (hy y)

/-! ## The arrays the scan shifts in: 256 rows of padding, then the block's 512 rows -/

/-- Row `r` of the padded array: the padding's above row 256, the block's from there on. -/
def padAt (P : Vec F S256x512 .f32) (v : Vec F S512x512 .f32) (r : ℕ) (l : Fin 512) : Elt F .f32 :=
  if h : r < 256 then P (ix2 ⟨r, h⟩ l) else v (ix2 ⟨(r - 256) % 512, Nat.mod_lt _ (by omega)⟩ l)

/-- The padded array. -/
def pad (P : Vec F S256x512 .f32) (v : Vec F S512x512 .f32) : Vec F S768x512 .f32 := fun y => padAt P v (y 0).val (y 1)

/-- The 512 rows of the padded array from row `o`. -/
def back (o : ℕ) (P : Vec F S256x512 .f32) (v : Vec F S512x512 .f32) : Vec F S512x512 .f32 :=
  fun j => padAt P v (o + (j 0).val) (j 1)

theorem pad_emb {o : ℕ} {inb} (P : Vec F S256x512 .f32) (v : Vec F S512x512 .f32)
    (j : (Rect.unit (s := S768x512) ![o, 0] S512x512.size inb).shape.Idx) :
    pad P v ((Rect.unit (s := S768x512) ![o, 0] S512x512.size inb).emb j) = back o P v j := by
  unfold pad back
  congr 1
  · exact ValueKit.rect_emb_unit_val _ _ _ j 0
  · exact Fin.ext ((ValueKit.rect_emb_unit_val _ _ _ j 1).trans (Nat.zero_add _))

theorem back_cur (P : Vec F S256x512 .f32) (v : Vec F S512x512 .f32) : back 256 P v = v := by
  funext j
  have hj : (j 0).val < 512 := (j 0).isLt
  unfold back padAt
  rw [dif_neg (by omega)]
  congr 1
  funext a
  fin_cases a
  · apply Fin.ext
    show (256 + (j 0).val - 256) % 512 = (j 0).val
    omega
  · rfl

/-- Loading 512 rows of the padded array from row `o`. -/
theorem load_back (c : Dev nD) {m : Memref sig .tc .vmem S768x512 .f32} {o : ℕ} {inb}
    {hl : m.view.LoadsAt (Rect.unit (s := S768x512) ![o, 0] S512x512.size inb).toLoadRect} {α : Type}
    {k : (S512x512.Idx → Elt F .f32) → Prog (TpuEff nD τ sig (Elt F) Λ₀ .tc) α} {Q : α → sProp 𝕄}
    {P : Vec F S256x512 .f32} {v : Vec F S512x512 .f32} :
    owns (c : Thread nD τ) m fullShare (pad P v)
      ⊢ iprop((owns (c : Thread nD τ) m fullShare (pad P v) -∗ wp frame (wpE (defs₀ (F := F)) Variants.none c none) Set.univ (k (back o P v)) Q)
        -∗ wp frame (wpE (defs₀ (F := F)) Variants.none c none) Set.univ
          (.op (.load m (Rect.unit (s := S768x512) ![o, 0] S512x512.size inb).toLoadRect hl) k) Q) :=
  load_step c _ (pad_emb P v)

/-- Loading the block's rows of the padded array. -/
theorem load_cur (c : Dev nD) {m : Memref sig .tc .vmem S768x512 .f32} {inb}
    {hl : m.view.LoadsAt (Rect.unit (s := S768x512) ![256, 0] S512x512.size inb).toLoadRect} {α : Type}
    {k : (S512x512.Idx → Elt F .f32) → Prog (TpuEff nD τ sig (Elt F) Λ₀ .tc) α} {Q : α → sProp 𝕄}
    {P : Vec F S256x512 .f32} {v : Vec F S512x512 .f32} :
    owns (c : Thread nD τ) m fullShare (pad P v)
      ⊢ iprop((owns (c : Thread nD τ) m fullShare (pad P v) -∗ wp frame (wpE (defs₀ (F := F)) Variants.none c none) Set.univ (k v) Q)
        -∗ wp frame (wpE (defs₀ (F := F)) Variants.none c none) Set.univ
          (.op (.load m (Rect.unit (s := S768x512) ![256, 0] S512x512.size inb).toLoadRect hl) k) Q) :=
  load_step c _ fun j => (pad_emb P v j).trans (congrFun (back_cur P v) j)

/-- Rows outside a run of 512 rows from row 256 are the padding's. -/
theorem above {inb} (y : S768x512.Idx)
    (hy : ∀ j, (Rect.unit (s := S768x512) ![256, 0] S512x512.size inb).emb j ≠ y) : (y 0).val < 256 := by
  by_contra h
  have h0 : (y 0).val < 768 := (y 0).isLt
  refine hy (ix2 ⟨(y 0).val - 256, by omega⟩ (y 1)) (funext fun a => Fin.ext ?_)
  rw [ValueKit.rect_emb_unit_val]
  fin_cases a
  · show 256 + ((y 0).val - 256) = (y 0).val
    omega
  · exact Nat.zero_add _

/-- Storing the block's rows of an array whose first 256 rows are the padding's. -/
theorem store_cur (c : Dev nD) {m : Memref sig .tc .vmem S768x512 .f32} {inb} {w : S512x512.Idx → Elt F .f32}
    {hx : (m.access (Rect.unit (s := S768x512) ![256, 0] S512x512.size inb)).Stores Finset.univ}
    {hm : Finset.univ = Finset.univ ∨ ∀ a, (Rect.unit (s := S768x512) ![256, 0] S512x512.size inb).stride a = 1}
    {α : Type} {k : PUnit → Prog (TpuEff nD τ sig (Elt F) Λ₀ .tc) α} {Q : α → sProp 𝕄}
    {P : Vec F S256x512 .f32} {v : Vec F S512x512 .f32} :
    owns (c : Thread nD τ) m fullShare (pad P v)
      ⊢ iprop((owns (c : Thread nD τ) m fullShare (pad P w) -∗ wp frame (wpE (defs₀ (F := F)) Variants.none c none) Set.univ (k ⟨⟩) Q)
        -∗ wp frame (wpE (defs₀ (F := F)) Variants.none c none) Set.univ
          (.op (.store m (Rect.unit (s := S768x512) ![256, 0] S512x512.size inb) w Finset.univ hx hm) k) Q) :=
  store_step c _ (fun j => (pad_emb P w j).trans (congrFun (back_cur P w) j)) fun y hy => by
    have := above y hy
    unfold pad padAt
    rw [dif_pos this, dif_pos this]

/-- Storing the padding leaves the padded array of the padding and the rows that were there. -/
theorem store_pad (c : Dev nD) {m : Memref sig .tc .vmem S768x512 .f32} {inb} {w : S256x512.Idx → Elt F .f32}
    {hx : (m.access (Rect.unit (s := S768x512) ![0, 0] S256x512.size inb)).Stores Finset.univ}
    {hm : Finset.univ = Finset.univ ∨ ∀ a, (Rect.unit (s := S768x512) ![0, 0] S256x512.size inb).stride a = 1}
    {α : Type} {k : PUnit → Prog (TpuEff nD τ sig (Elt F) Λ₀ .tc) α} {Q : α → sProp 𝕄} {d : Vec F S768x512 .f32} :
    owns (c : Thread nD τ) m fullShare d
      ⊢ iprop((owns (c : Thread nD τ) m fullShare (pad w fun j => d (ix2 ⟨256 + (j 0).val, by have := (j 0).isLt; change _ < 512 at this; omega⟩ (j 1)))
          -∗ wp frame (wpE (defs₀ (F := F)) Variants.none c none) Set.univ (k ⟨⟩) Q)
        -∗ wp frame (wpE (defs₀ (F := F)) Variants.none c none) Set.univ
          (.op (.store m (Rect.unit (s := S768x512) ![0, 0] S256x512.size inb) w Finset.univ hx hm) k) Q) :=
  store_step c _ (fun j => by
      have hj : (j 0).val < 256 := (j 0).isLt
      have h0 : (((Rect.unit (s := S768x512) ![0, 0] S256x512.size inb).emb j) 0).val = (j 0).val :=
        (ValueKit.rect_emb_unit_val _ _ _ j 0).trans (Nat.zero_add _)
      unfold pad padAt
      rw [dif_pos (by rw [h0]; exact hj)]
      congr 1
      funext a
      fin_cases a
      · exact Fin.ext h0
      · exact Fin.ext ((ValueKit.rect_emb_unit_val _ _ _ j 1).trans (Nat.zero_add _)))
    fun y hy => by
      have h0 : (y 0).val < 768 := (y 0).isLt
      have h : ¬(y 0).val < 256 := fun h => hy (ix2 ⟨(y 0).val, h⟩ (y 1)) (funext fun a => Fin.ext (by
        rw [ValueKit.rect_emb_unit_val]
        fin_cases a <;> exact Nat.zero_add _))
      unfold pad padAt
      rw [dif_neg h]
      refine congrArg d (funext fun a => ?_)
      fin_cases a
      · apply Fin.ext
        show 256 + ((y 0).val - 256) % 512 = (y 0).val
        omega
      · rfl

/-- One doubling of the scan over the padded arrays of products and of sums: it reads the block's rows and the rows
    `256 - o` above them, and stores the block's new rows. -/
theorem round_step (c : Dev nD) {ma mu : Memref sig .tc .vmem S768x512 .f32} {o : ℕ} {inb ib} {P P' : Vec F S256x512 .f32}
    {A U : Vec F S512x512 .f32} {h1 h2 h3 h4 h5 h6 h7 h8 h9 h10} {α : Type} {Q : α → sProp 𝕄}
    {fU : Vec F S512x512 .f32 → Vec F S512x512 .f32 → Vec F S512x512 .f32 → Vec F S512x512 .f32}
    {fA : Vec F S512x512 .f32 → Vec F S512x512 .f32 → Vec F S512x512 .f32} {k : Prog (TpuEff nD τ sig (Elt F) Λ₀ .tc) α} :
    iprop(owns (c : Thread nD τ) ma fullShare (pad P A) ∗ owns (c : Thread nD τ) mu fullShare (pad P' U))
      ⊢ iprop((iprop(owns (c : Thread nD τ) ma fullShare (pad P (fA A (back o P A))) ∗ owns (c : Thread nD τ) mu fullShare (pad P' (fU A U (back o P' U))))
          -∗ wp frame (wpE (defs₀ (F := F)) Variants.none c none) Set.univ k Q)
        -∗ wp frame (wpE (defs₀ (F := F)) Variants.none c none) Set.univ
          (.op (.load ma (Rect.unit (s := S768x512) ![256, 0] S512x512.size inb).toLoadRect h1) fun a : Vec F S512x512 .f32 =>
           .op (.load mu (Rect.unit (s := S768x512) ![256, 0] S512x512.size inb).toLoadRect h2) fun u : Vec F S512x512 .f32 =>
           .op (.load ma (Rect.unit (s := S768x512) ![o, 0] S512x512.size ib).toLoadRect h3) fun a' : Vec F S512x512 .f32 =>
           .op (.load mu (Rect.unit (s := S768x512) ![o, 0] S512x512.size ib).toLoadRect h4) fun u' : Vec F S512x512 .f32 =>
           .op (.load mu (Rect.unit (s := S768x512) ![256, 0] S512x512.size inb).toLoadRect h5) fun _ =>
           .op (.store mu (Rect.unit (s := S768x512) ![256, 0] S512x512.size inb) (fU a u u') Finset.univ h6 h7) fun _ =>
           .op (.load ma (Rect.unit (s := S768x512) ![256, 0] S512x512.size inb).toLoadRect h8) fun _ =>
           .op (.store ma (Rect.unit (s := S768x512) ![256, 0] S512x512.size inb) (fA a a') Finset.univ h9 h10) fun _ => k) Q) := by
  iintro ⟨HA, HU⟩ Hk
  iapply (load_cur c) $$ HA; iintro HA
  iapply (load_cur c) $$ HU; iintro HU
  iapply (load_back c) $$ HA; iintro HA
  iapply (load_back c) $$ HU; iintro HU
  iapply (load_any c) $$ HU; iintro HU
  iapply (store_cur c) $$ HU; iintro HU
  iapply (load_any c) $$ HA; iintro HA
  iapply (store_cur c) $$ HA; iintro HA
  iapply Hk
  isplitl [HA]; · iexact HA
  iexact HU

end Cert.LruIdeal.Hand

end
-- ==== Proof.LruBody.lean ====
/- The recurrence's body on one grid point: the values it computes, as functions of the blocks it is given and of what
   the point before left, and the run of the body to them. -/
module

public import proofs.«01_k».proof.Proof.LruSteps

@[expose] public section

set_option maxRecDepth 65536

noncomputable section

namespace Cert.LruIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.LruIdeal Cert.LruIdeal.Gen

variable {F : FTy → Type} [FloatOps F]

local notation "𝕄" => MT nD τ sig Unit (Elt F) ℕ (UR sig nD τ) ℕ

/-! ## The convolution's window: 3 carried rows (at rows 5 to 7), then the block's 512 rows -/

/-- Row `r` of the window, for `5 ≤ r`. -/
def winAt (C : Vec F S3x512 .f32) (x : Vec F S512x512 .f32) (r : ℕ) (l : Fin 512) : Elt F .f32 :=
  if r < 8 then C (ix2 ⟨(r - 5) % 3, Nat.mod_lt _ (by omega)⟩ l) else x (ix2 ⟨(r - 8) % 512, Nat.mod_lt _ (by omega)⟩ l)

/-- The window's 512 rows from row `5 + k`. -/
def tap (k : ℕ) (C : Vec F S3x512 .f32) (x : Vec F S512x512 .f32) : Vec F S512x512 .f32 :=
  fun j => winAt C x (5 + k + (j 0).val) (j 1)

/-- The window's last 3 rows. -/
def last3 (C : Vec F S3x512 .f32) (x : Vec F S512x512 .f32) : Vec F S3x512 .f32 :=
  fun j => winAt C x (517 + (j 0).val) (j 1)

/-- A window buffer holds the carried rows at rows 5 to 7. -/
def Carries (C : Vec F S3x512 .f32) (d : Vec F S520x512 .f32) : Prop :=
  ∀ y : S520x512.Idx, 5 ≤ (y 0).val → (y 0).val < 8 → d y = C (ix2 ⟨((y 0).val - 5) % 3, Nat.mod_lt _ (by omega)⟩ (y 1))

/-- A window buffer holds the carried rows and the block. -/
def Holds (C : Vec F S3x512 .f32) (x : Vec F S512x512 .f32) (d : Vec F S520x512 .f32) : Prop :=
  ∀ y : S520x512.Idx, 5 ≤ (y 0).val → d y = winAt C x (y 0).val (y 1)

theorem emb_row {n o : ℕ} {size : Fin 2 → ℕ} {inb} (j : (Rect.unit (s := ⟨2, ![n, 512]⟩) ![o, 0] size inb).shape.Idx) :
    (((Rect.unit (s := ⟨2, ![n, 512]⟩) ![o, 0] size inb).emb j) 0).val = o + (j 0).val := ValueKit.rect_emb_unit_val _ _ _ j 0

theorem emb_col {n o : ℕ} {size : Fin 2 → ℕ} {inb} (j : (Rect.unit (s := ⟨2, ![n, 512]⟩) ![o, 0] size inb).shape.Idx) :
    (((Rect.unit (s := ⟨2, ![n, 512]⟩) ![o, 0] size inb).emb j) 1).val = (j 1).val :=
  (ValueKit.rect_emb_unit_val _ _ _ j 1).trans (Nat.zero_add _)

/-- Storing 3 rows at row 5 leaves them there. -/
theorem store_carry (c : Dev nD) {m : Memref sig .tc .vmem S520x512 .f32} {inb} {w : S3x512.Idx → Elt F .f32}
    {hx : (m.access (Rect.unit (s := S520x512) ![5, 0] S3x512.size inb)).Stores Finset.univ}
    {hm : Finset.univ = Finset.univ ∨ ∀ a, (Rect.unit (s := S520x512) ![5, 0] S3x512.size inb).stride a = 1}
    {α : Type} {k : PUnit → Prog (TpuEff nD τ sig (Elt F) Λ₀ .tc) α} {Q : α → sProp 𝕄} {d : Vec F S520x512 .f32} :
    owns (c : Thread nD τ) m fullShare d
      ⊢ iprop(((∃ d', ⌜Carries w d'⌝ ∗ owns (c : Thread nD τ) m fullShare d')
          -∗ wp frame (wpE (defs₀ (F := F)) Variants.none c none) Set.univ (k ⟨⟩) Q)
        -∗ wp frame (wpE (defs₀ (F := F)) Variants.none c none) Set.univ
          (.op (.store m (Rect.unit (s := S520x512) ![5, 0] S3x512.size inb) w Finset.univ hx hm) k) Q) := by
  have key : Carries w (fun y : S520x512.Idx => if 5 ≤ (y 0).val ∧ (y 0).val < 8
      then w (ix2 ⟨((y 0).val - 5) % 3, Nat.mod_lt _ (by omega)⟩ (y 1)) else d y) := fun y h5 h8 => if_pos ⟨h5, h8⟩
  iintro H Hk
  iapply (store_step c (fun y : S520x512.Idx => if 5 ≤ (y 0).val ∧ (y 0).val < 8
      then w (ix2 ⟨((y 0).val - 5) % 3, Nat.mod_lt _ (by omega)⟩ (y 1)) else d y) (fun j => ?h1) (fun y hy => ?h2)) $$ H
  case h1 =>
    have hj : (j 0).val < 3 := (j 0).isLt
    have h0 : (((Rect.unit (s := S520x512) ![5, 0] S3x512.size inb).emb j) 0).val = 5 + (j 0).val := emb_row j
    refine (if_pos ⟨by omega, by omega⟩).trans (congrArg w (funext fun a => ?_))
    fin_cases a
    · apply Fin.ext
      show (_ - 5) % 3 = (j 0).val
      omega
    · exact Fin.ext (emb_col j)
  case h2 =>
    refine if_neg fun h => hy (ix2 ⟨(y 0).val - 5, by omega⟩ (y 1)) (funext fun a => Fin.ext ?_)
    fin_cases a
    · refine (emb_row _).trans ?_
      show 5 + ((y 0).val - 5) = (y 0).val
      omega
    · exact emb_col _
  iintro H
  iapply Hk
  iexists _
  isplitr
  · ipureintro; exact key
  iexact H

/-- Storing the block at row 8, below the carried rows. -/
theorem store_block (c : Dev nD) {m : Memref sig .tc .vmem S520x512 .f32} {inb} {w : S512x512.Idx → Elt F .f32}
    {hx : (m.access (Rect.unit (s := S520x512) ![8, 0] S512x512.size inb)).Stores Finset.univ}
    {hm : Finset.univ = Finset.univ ∨ ∀ a, (Rect.unit (s := S520x512) ![8, 0] S512x512.size inb).stride a = 1}
    {α : Type} {k : PUnit → Prog (TpuEff nD τ sig (Elt F) Λ₀ .tc) α} {Q : α → sProp 𝕄} {d : Vec F S520x512 .f32}
    {C : Vec F S3x512 .f32} (hd : Carries C d) :
    owns (c : Thread nD τ) m fullShare d
      ⊢ iprop(((∃ d', ⌜Holds C w d'⌝ ∗ owns (c : Thread nD τ) m fullShare d')
          -∗ wp frame (wpE (defs₀ (F := F)) Variants.none c none) Set.univ (k ⟨⟩) Q)
        -∗ wp frame (wpE (defs₀ (F := F)) Variants.none c none) Set.univ
          (.op (.store m (Rect.unit (s := S520x512) ![8, 0] S512x512.size inb) w Finset.univ hx hm) k) Q) := by
  have key : Holds C w (fun y : S520x512.Idx => if 5 ≤ (y 0).val then winAt C w (y 0).val (y 1) else d y) := fun y h5 => if_pos h5
  iintro H Hk
  iapply (store_step c (fun y : S520x512.Idx => if 5 ≤ (y 0).val then winAt C w (y 0).val (y 1) else d y)
    (fun j => ?h1) (fun y hy => ?h2)) $$ H
  case h1 =>
    have hj : (j 0).val < 512 := (j 0).isLt
    have h0 : (((Rect.unit (s := S520x512) ![8, 0] S512x512.size inb).emb j) 0).val = 8 + (j 0).val := emb_row j
    refine (if_pos (by omega)).trans ?_
    unfold winAt
    refine (if_neg (by omega)).trans (congrArg w (funext fun a => ?_))
    fin_cases a
    · apply Fin.ext
      show (_ - 8) % 512 = (j 0).val
      omega
    · exact Fin.ext (emb_col j)
  case h2 =>
    have h0 : (y 0).val < 520 := (y 0).isLt
    have h8 : (y 0).val < 8 := by
      by_contra h
      refine hy (ix2 ⟨(y 0).val - 8, by omega⟩ (y 1)) (funext fun a => Fin.ext ?_)
      fin_cases a
      · refine (emb_row _).trans ?_
        show 8 + ((y 0).val - 8) = (y 0).val
        omega
      · exact emb_col _
    by_cases h5 : 5 ≤ (y 0).val
    · refine (if_pos h5).trans ?_
      unfold winAt
      exact (if_pos h8).trans (hd y h5 h8).symm
    · exact if_neg h5
  iintro H
  iapply Hk
  iexists _
  isplitr
  · ipureintro; exact key
  iexact H

/-- Loading the window's 512 rows from row `5 + k`. -/
theorem load_tap (c : Dev nD) {m : Memref sig .tc .vmem S520x512 .f32} (k : ℕ) {o : ℕ} (ho : o = 5 + k) {inb}
    {hl : m.view.LoadsAt (Rect.unit (s := S520x512) ![o, 0] S512x512.size inb).toLoadRect} {α : Type}
    {kk : (S512x512.Idx → Elt F .f32) → Prog (TpuEff nD τ sig (Elt F) Λ₀ .tc) α} {Q : α → sProp 𝕄} {d : Vec F S520x512 .f32}
    {C : Vec F S3x512 .f32} {x : Vec F S512x512 .f32} (hd : Holds C x d) :
    owns (c : Thread nD τ) m fullShare d
      ⊢ iprop((owns (c : Thread nD τ) m fullShare d -∗ wp frame (wpE (defs₀ (F := F)) Variants.none c none) Set.univ (kk (tap k C x)) Q)
        -∗ wp frame (wpE (defs₀ (F := F)) Variants.none c none) Set.univ
          (.op (.load m (Rect.unit (s := S520x512) ![o, 0] S512x512.size inb).toLoadRect hl) kk) Q) :=
  have key : ∀ j, d ((Rect.unit (s := S520x512) ![o, 0] S512x512.size inb).emb j) = tap k C x j := fun j => by
    have h0 : (((Rect.unit (s := S520x512) ![o, 0] S512x512.size inb).emb j) 0).val = o + (j 0).val := emb_row j
    have h1 : ((Rect.unit (s := S520x512) ![o, 0] S512x512.size inb).emb j) 1 = j 1 := Fin.ext (emb_col j)
    rw [hd _ (by omega), h0, h1]
    exact congrArg (fun n => winAt C x (n + (j 0).val) (j 1)) ho
  load_step c _ key

/-- Loading the window's last 3 rows. -/
theorem load_last (c : Dev nD) {m : Memref sig .tc .vmem S520x512 .f32} {inb}
    {hl : m.view.LoadsAt (Rect.unit (s := S520x512) ![517, 0] S3x512.size inb).toLoadRect} {α : Type}
    {kk : (S3x512.Idx → Elt F .f32) → Prog (TpuEff nD τ sig (Elt F) Λ₀ .tc) α} {Q : α → sProp 𝕄} {d : Vec F S520x512 .f32}
    {C : Vec F S3x512 .f32} {x : Vec F S512x512 .f32} (hd : Holds C x d) :
    owns (c : Thread nD τ) m fullShare d
      ⊢ iprop((owns (c : Thread nD τ) m fullShare d -∗ wp frame (wpE (defs₀ (F := F)) Variants.none c none) Set.univ (kk (last3 C x)) Q)
        -∗ wp frame (wpE (defs₀ (F := F)) Variants.none c none) Set.univ
          (.op (.load m (Rect.unit (s := S520x512) ![517, 0] S3x512.size inb).toLoadRect hl) kk) Q) :=
  have key : ∀ j, d ((Rect.unit (s := S520x512) ![517, 0] S3x512.size inb).emb j) = last3 C x j := fun j => by
    have h0 : (((Rect.unit (s := S520x512) ![517, 0] S3x512.size inb).emb j) 0).val = 517 + (j 0).val := emb_row j
    have h1 : ((Rect.unit (s := S520x512) ![517, 0] S3x512.size inb).emb j) 1 = j 1 := Fin.ext (emb_col j)
    rw [hd _ (by omega), h0, h1]
    rfl
  load_step c _ key

theorem z2 : ∀ a : Fin 2, (![0, 0] : Fin 2 → ℕ) a = 0 := by decide
theorem z3 : ∀ a : Fin 3, (![0, 0, 0] : Fin 3 → ℕ) a = 0 := by decide

/-! ## What the body computes -/

/-- The convolved block. -/
def conv (x : Vec F S1x512x512 .f32) (cw : Vec F S4x512 .f32) (cb : Vec F S1x512 .f32) (C : Vec F S3x512 .f32) : Vec F S512x512 .f32 :=
  k0_pay6 x cw cb (tap 0 C (k0_pay5 x)) (tap 1 C (k0_pay5 x)) (tap 2 C (k0_pay5 x))

/-- The scan's padding: ones for the products, zeros for the sums. -/
def ones : Vec F S256x512 .f32 := k0_pay16
def zeros : Vec F S256x512 .f32 := k0_pay18 (k0_pay17 (F := F))

/-- The products and the sums after the doublings that shift to the rows `os`, in turn. -/
def doubled : List ℕ → Vec F S512x512 .f32 → Vec F S512x512 .f32 → Vec F S512x512 .f32 × Vec F S512x512 .f32
  | [], A, U => (A, U)
  | o :: os, A, U => doubled os (k0_pay22 A (back o ones A)) (k0_pay21 A U (back o zeros U))

/-- The rows the nine doublings shift to: 1, 2, 4, … 256 rows above row 256. -/
def shifts : List ℕ := [255, 254, 252, 248, 240, 224, 192, 128, 0]

/-- The decay of each row of the block. -/
def decay (xc : Vec F S512x512 .f32) (wa : Vec F S512x512 .bf16) (ba : Vec F S1x512 .f32) (lam : Vec F S1x512 .f32) : Vec F S512x512 .f32 :=
  k0_pay14 (k0_pay10 xc wa ba) (k0_pay12 lam)

/-- The input of each row of the block, the carried state entering the first. -/
def drive (xc : Vec F S512x512 .f32) (wa : Vec F S512x512 .bf16) (ba : Vec F S1x512 .f32) (wx : Vec F S512x512 .bf16)
    (bx lam H : Vec F S1x512 .f32) : Vec F S512x512 .f32 :=
  k0_pay15 xc (k0_pay10 xc wa ba) (k0_pay11 xc wx bx) (k0_pay12 lam) H

/-- The state at each row of the block. -/
def states (x : Vec F S1x512x512 .f32) (cw : Vec F S4x512 .f32) (cb : Vec F S1x512 .f32) (wa : Vec F S512x512 .bf16) (ba : Vec F S1x512 .f32)
    (wx : Vec F S512x512 .bf16) (bx lam : Vec F S1x512 .f32) (C : Vec F S3x512 .f32) (H : Vec F S1x512 .f32) : Vec F S512x512 .f32 :=
  (doubled shifts (k0_pay19 (decay (conv x cw cb C) wa ba lam)) (k0_pay20 (drive (conv x cw cb C) wa ba wx bx lam H))).2

/-- The block of gated states. -/
def outY (x g : Vec F S1x512x512 .f32) (cw : Vec F S4x512 .f32) (cb : Vec F S1x512 .f32) (wa : Vec F S512x512 .bf16) (ba : Vec F S1x512 .f32)
    (wx : Vec F S512x512 .bf16) (bx lam : Vec F S1x512 .f32) (C : Vec F S3x512 .f32) (H : Vec F S1x512 .f32) : Vec F S1x512x512 .f32 :=
  k0_pay41 (states x cw cb wa ba wx bx lam C H) g

/-- The block's last state, as the result holds it. -/
def outH (x : Vec F S1x512x512 .f32) (cw : Vec F S4x512 .f32) (cb : Vec F S1x512 .f32) (wa : Vec F S512x512 .bf16) (ba : Vec F S1x512 .f32)
    (wx : Vec F S512x512 .bf16) (bx lam : Vec F S1x512 .f32) (C : Vec F S3x512 .f32) (H : Vec F S1x512 .f32) : Vec F S1x1x512 .f32 :=
  k0_pay1 (k0_pay43 (states x cw cb wa ba wx bx lam C H))

/-- The last three rows of the convolution's window, as the result holds them. -/
def outB (x : Vec F S1x512x512 .f32) (C : Vec F S3x512 .f32) : Vec F S1x3x512 .f32 := k0_pay7 (last3 C (k0_pay5 x))

/-- The state carried to the next block. -/
def nextH (x : Vec F S1x512x512 .f32) (cw : Vec F S4x512 .f32) (cb : Vec F S1x512 .f32) (wa : Vec F S512x512 .bf16) (ba : Vec F S1x512 .f32)
    (wx : Vec F S512x512 .bf16) (bx lam : Vec F S1x512 .f32) (C : Vec F S3x512 .f32) (H : Vec F S1x512 .f32) : Vec F S1x512 .f32 :=
  k0_pay42 (states x cw cb wa ba wx bx lam C H)

/-- The window's rows carried to the next block. -/
def nextC (x : Vec F S1x512x512 .f32) (C : Vec F S3x512 .f32) : Vec F S3x512 .f32 := k0_pay8 (last3 C (k0_pay5 x))

/-- The body's branch: whether the point is the first of its sequence. -/
abbrev First (i : grid0.Coords) : Prop :=
  Scalar.cmpi .ne (Scalar.extui (Scalar.cmpi .eq (BitVec.ofNat 32 (i 1).val) 0#32) : BitVec 32) 0#32 = 1#1

set_option maxHeartbeats 4000000 in
/-- The body's run. From whole memrefs holding the blocks, and the window and the state buffer holding what the point
    before left (anything at a sequence's first point, where the body puts the initial rows and state there), the body
    ends with the outputs at `outY`, `outH`, `outB` and the buffers at `nextC`, `nextH`. -/
theorem body_run (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x1x512 .f32) (harg11 : arg11.IsWhole) (arg12 : Memref sig .tc .vmem S1x3x512 .f32) (harg12 : arg12.IsWhole) (arg13 : Memref sig .tc .vmem S1x512x512 .f32) (harg13 : arg13.IsWhole) (arg14 : Memref sig .tc .vmem S1x1x512 .f32) (harg14 : arg14.IsWhole) (arg15 : Memref sig .tc .vmem S1x3x512 .f32) (harg15 : arg15.IsWhole) (arg16 : Memref sig .tc .vmem S520x512 .f32) (harg16 : arg16.IsWhole) (arg17 : Memref sig .tc .vmem S768x512 .f32) (harg17 : arg17.IsWhole) (arg18 : Memref sig .tc .vmem S768x512 .f32) (harg18 : arg18.IsWhole) (arg19 : Memref sig .tc .vmem S1x512 .f32) (harg19 : arg19.IsWhole)
    (x g : Vec F S1x512x512 .f32) (cw : Vec F S4x512 .f32) (cb : Vec F S1x512 .f32) (wa : Vec F S512x512 .bf16) (ba : Vec F S1x512 .f32)
    (wx : Vec F S512x512 .bf16) (bx lam : Vec F S1x512 .f32) (h0 : Vec F S1x1x512 .f32) (buf : Vec F S1x3x512 .f32)
    (C0 : Vec F S3x512 .f32) (H : Vec F S1x512 .f32) (d16 : Vec F S520x512 .f32) (d19 : Vec F S1x512 .f32)
    (hfirst : First i → C0 = k0_pay2 buf ∧ H = k0_pay3 h0) (hrest : ¬First i → Carries C0 d16 ∧ d19 = H)
    (K : PUnit → sProp 𝕄) :
    iprop(owns (c : Thread nD τ) arg2 fullShare x ∗ owns (c : Thread nD τ) arg3 fullShare g ∗ owns (c : Thread nD τ) arg4 fullShare cw ∗ owns (c : Thread nD τ) arg5 fullShare cb ∗ owns (c : Thread nD τ) arg6 fullShare wa ∗ owns (c : Thread nD τ) arg7 fullShare ba ∗ owns (c : Thread nD τ) arg8 fullShare wx ∗ owns (c : Thread nD τ) arg9 fullShare bx ∗ owns (c : Thread nD τ) arg10 fullShare lam ∗ owns (c : Thread nD τ) arg11 fullShare h0 ∗ owns (c : Thread nD τ) arg12 fullShare buf ∗ (∃ d, owns (c : Thread nD τ) arg13 fullShare d) ∗ (∃ d, owns (c : Thread nD τ) arg14 fullShare d) ∗ (∃ d, owns (c : Thread nD τ) arg15 fullShare d) ∗ owns (c : Thread nD τ) arg16 fullShare d16 ∗ (∃ d, owns (c : Thread nD τ) arg17 fullShare d) ∗ (∃ d, owns (c : Thread nD τ) arg18 fullShare d) ∗ owns (c : Thread nD τ) arg19 fullShare d19
        ∗ (iprop(owns (c : Thread nD τ) arg2 fullShare x ∗ owns (c : Thread nD τ) arg3 fullShare g ∗ owns (c : Thread nD τ) arg4 fullShare cw ∗ owns (c : Thread nD τ) arg5 fullShare cb ∗ owns (c : Thread nD τ) arg6 fullShare wa ∗ owns (c : Thread nD τ) arg7 fullShare ba ∗ owns (c : Thread nD τ) arg8 fullShare wx ∗ owns (c : Thread nD τ) arg9 fullShare bx ∗ owns (c : Thread nD τ) arg10 fullShare lam ∗ owns (c : Thread nD τ) arg11 fullShare h0 ∗ owns (c : Thread nD τ) arg12 fullShare buf ∗ owns (c : Thread nD τ) arg13 fullShare (outY x g cw cb wa ba wx bx lam C0 H) ∗ owns (c : Thread nD τ) arg14 fullShare (outH x cw cb wa ba wx bx lam C0 H) ∗ owns (c : Thread nD τ) arg15 fullShare (outB x C0) ∗ (∃ d, ⌜Carries (nextC x C0) d⌝ ∗ owns (c : Thread nD τ) arg16 fullShare d) ∗ (∃ d, owns (c : Thread nD τ) arg17 fullShare d) ∗ (∃ d, owns (c : Thread nD τ) arg18 fullShare d) ∗ owns (c : Thread nD τ) arg19 fullShare (nextH x cw cb wa ba wx bx lam C0 H)) -∗ K ⟨⟩))
      ⊢ wp frame (wpE (defs₀ (F := F)) Variants.none c none) Set.univ (cc0_rglru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_rglru_eq_skeleton]; unfold cc0_rglru_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold k0_part1_skel k0_part2_skel k0_part3_skel k0_part4_skel k0_part5_skel k0_part6_skel k0_part7_skel k0_part8_skel
  simp only [Prog.bind_assoc, Prog.bind_lift, Prog.bind_op, Prog.pure_eq_ret, Prog.bind_ret]
  iintro ⟨Hx, Hg, Hcw, Hcb, Hwa, Hba, Hwx, Hbx, Hlam, Hh, Hbuf, ⟨%dy, Hy⟩, ⟨%dh, Hho⟩, ⟨%db, Hbo⟩, H16, ⟨%d17, HA⟩, ⟨%d18, HU⟩, H19, Hk⟩
  by_cases hF : First i
  obtain ⟨rfl, rfl⟩ := hfirst hF
  rw [dif_pos hF]
  simp only [Prog.bind_assoc, Prog.bind_lift, Prog.bind_op, Prog.pure_eq_ret, Prog.bind_ret]
  iapply (load_whole c z3) $$ Hbuf; iintro Hbuf
  iapply (load_any c) $$ H16; iintro H16
  iapply (store_carry c) $$ H16; iintro ⟨%d, %hC, H16⟩
  iapply (load_whole c z3) $$ Hh; iintro Hh
  iapply (load_any c) $$ H19; iintro H19
  iapply (store_whole c z2) $$ H19; iintro H19
  rotate_left
  obtain ⟨hC, rfl⟩ := hrest hF
  rw [dif_neg hF]
  simp only [Prog.bind_assoc, Prog.bind_lift, Prog.bind_op, Prog.pure_eq_ret, Prog.bind_ret]
  rotate_left
  all_goals
    iapply (load_whole c z3) $$ Hx; iintro Hx
    iapply (load_any c) $$ H16; iintro H16
    iapply (store_block c hC) $$ H16; iintro ⟨%e, %hE, H16⟩
    iapply (load_whole c z2) $$ Hcw; iintro Hcw
    iapply (load_whole c z2) $$ Hcb; iintro Hcb
    iapply (load_tap c 0 rfl hE) $$ H16; iintro H16
    iapply (load_tap c 1 rfl hE) $$ H16; iintro H16
    iapply (load_tap c 2 rfl hE) $$ H16; iintro H16
    iapply (load_last c hE) $$ H16; iintro H16
    iapply (load_any c) $$ Hbo; iintro Hbo
    iapply (store_whole c z3) $$ Hbo; iintro Hbo
    iapply (load_last c hE) $$ H16; iintro H16
    iapply (load_any c) $$ H16; iintro H16
    iapply (store_carry c) $$ H16; iintro ⟨%e', %hC', H16⟩
    iapply (load_whole c z2) $$ Hwa; iintro Hwa
    iapply (load_whole c z2) $$ Hba; iintro Hba
    iapply (load_whole c z2) $$ Hwx; iintro Hwx
    iapply (load_whole c z2) $$ Hbx; iintro Hbx
    iapply (load_whole c z2) $$ Hlam; iintro Hlam
    iapply (load_whole c z2) $$ H19; iintro H19
    iapply (load_any c) $$ HA; iintro HA
    iapply (store_pad c) $$ HA; iintro HA
    iapply (load_any c) $$ HU; iintro HU
    iapply (store_pad c) $$ HU; iintro HU
    iapply (load_any c) $$ HA; iintro HA
    iapply (store_cur c) $$ HA; iintro HA
    iapply (load_any c) $$ HU; iintro HU
    iapply (store_cur c) $$ HU; iintro HU
    icombine HA HU as HAU
    iapply (round_step c (fU := k0_pay21) (fA := k0_pay22)) $$ HAU; iintro HAU
    iapply (round_step c (fU := k0_pay21) (fA := k0_pay22)) $$ HAU; iintro HAU
    iapply (round_step c (fU := k0_pay21) (fA := k0_pay22)) $$ HAU; iintro HAU
    iapply (round_step c (fU := k0_pay21) (fA := k0_pay22)) $$ HAU; iintro HAU
    iapply (round_step c (fU := k0_pay21) (fA := k0_pay22)) $$ HAU; iintro HAU
    iapply (round_step c (fU := k0_pay21) (fA := k0_pay22)) $$ HAU; iintro HAU
    iapply (round_step c (fU := k0_pay21) (fA := k0_pay22)) $$ HAU; iintro HAU
    iapply (round_step c (fU := k0_pay21) (fA := k0_pay22)) $$ HAU; iintro HAU
    iapply (round_step c (fU := k0_pay21) (fA := k0_pay22)) $$ HAU; iintro HAU
    icases HAU with ⟨HA, HU⟩
    iapply (load_cur c) $$ HU; iintro HU
    iapply (load_whole c z3) $$ Hg; iintro Hg
    iapply (load_any c) $$ Hy; iintro Hy
    iapply (store_whole c z3) $$ Hy; iintro Hy
    iapply (load_any c) $$ H19; iintro H19
    iapply (store_whole c z2) $$ H19; iintro H19
    iapply (load_any c) $$ Hho; iintro Hho
    iapply (store_whole c z3) $$ Hho; iintro Hho
    sl_step
    iapply Hk
    isplitl [Hx]
    · iexact Hx
    isplitl [Hg]
    · iexact Hg
    isplitl [Hcw]
    · iexact Hcw
    isplitl [Hcb]
    · iexact Hcb
    isplitl [Hwa]
    · iexact Hwa
    isplitl [Hba]
    · iexact Hba
    isplitl [Hwx]
    · iexact Hwx
    isplitl [Hbx]
    · iexact Hbx
    isplitl [Hlam]
    · iexact Hlam
    isplitl [Hh]
    · iexact Hh
    isplitl [Hbuf]
    · iexact Hbuf
    isplitl [Hy]
    · iexact Hy
    isplitl [Hho]
    · iexact Hho
    isplitl [Hbo]
    · iexact Hbo
    isplitl [H16]
    · iexists _
      isplitr
      · ipureintro; exact hC'
      · iexact H16
    isplitl [HA]
    · iexists _; iexact HA
    isplitl [HU]
    · iexists _; iexact HU
    iexact H19

end Cert.LruIdeal.Hand

end
-- ==== Proof.LruIdealFrame.lean ====
/- The recurrence's frame: what each grid point leaves (the window's three rows, the state, and the three outputs), the
   pipeline's proof data, the body at every point, and the run of the whole call. -/
module

public import proofs.«01_k».proof.Proof.LruBody
public import Idealize.ShloMosaic.Lib.Pipeline.FrameBody

@[expose] public section

set_option maxRecDepth 16384

noncomputable section

namespace Cert.LruIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.LruIdeal Cert.LruIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A sequence's first point is the one at a multiple of 16. -/
theorem first_iff : ∀ t : Fin cfg0.N, First (grid0.coords t) ↔ t.val % 16 = 0 :=
  (by decide +kernel : ∀ t : Fin grid0.N, First (grid0.coords t) ↔ t.val % 16 = 0)

/-! ## What passes from point to point -/

/-- The initial rows and state of the sequence of point `t`. -/
def initial (c : Dev nD) (t : Fin cfg0.N) : Vec F S3x512 .f32 × Vec F S1x512 .f32 :=
  (k0_pay2 (iblk m c 10 t), k0_pay3 (iblk m c 9 t))

/-- What point `t` leaves of what it begins with. -/
def advance (c : Dev nD) (t : Fin cfg0.N) (s : Vec F S3x512 .f32 × Vec F S1x512 .f32) : Vec F S3x512 .f32 × Vec F S1x512 .f32 :=
  (nextC (iblk m c 0 t) s.1, nextH (iblk m c 0 t) (iblk m c 2 t) (iblk m c 3 t) (iblk m c 4 t) (iblk m c 5 t) (iblk m c 6 t) (iblk m c 7 t) (iblk m c 8 t) s.1 s.2)

/-- What point `n` begins with: its sequence's initial rows and state, or what the point before left. -/
def begins (c : Dev nD) : (n : ℕ) → n < cfg0.N → Vec F S3x512 .f32 × Vec F S1x512 .f32
  | 0, hn => initial m c ⟨0, hn⟩
  | n + 1, hn => if (n + 1) % 16 = 0 then initial m c ⟨n + 1, hn⟩
      else advance m c ⟨n, Nat.lt_of_succ_lt hn⟩ (begins c n (Nat.lt_of_succ_lt hn))

/-- What point `n` leaves. -/
def leaves (c : Dev nD) (n : ℕ) (hn : n < cfg0.N) : Vec F S3x512 .f32 × Vec F S1x512 .f32 := advance m c ⟨n, hn⟩ (begins m c n hn)

theorem begins_first (c : Dev nD) (n : ℕ) (hn : n < cfg0.N) (h : n % 16 = 0) : begins m c n hn = initial m c ⟨n, hn⟩ := by
  cases n with
  | zero => rfl
  | succ n => exact if_pos h

theorem begins_rest (c : Dev nD) (n : ℕ) (hn : n + 1 < cfg0.N) (h : ¬(n + 1) % 16 = 0) :
    begins m c (n + 1) hn = leaves m c n (Nat.lt_of_succ_lt hn) := if_neg h

/-! ## The staging buffers and the scratch buffers -/

abbrev ms0 (t : Fin cfg0.N) : Memref sig .tc .vmem S1x512x512 .f32 := win0_0.stage (cfg0.slots t 0)
abbrev ms1 (t : Fin cfg0.N) : Memref sig .tc .vmem S1x512x512 .f32 := win0_1.stage (cfg0.slots t 1)
abbrev ms2 (t : Fin cfg0.N) : Memref sig .tc .vmem S4x512 .f32 := win0_2.stage (cfg0.slots t 2)
abbrev ms3 (t : Fin cfg0.N) : Memref sig .tc .vmem S1x512 .f32 := win0_3.stage (cfg0.slots t 3)
abbrev ms4 (t : Fin cfg0.N) : Memref sig .tc .vmem S512x512 .bf16 := win0_4.stage (cfg0.slots t 4)
abbrev ms5 (t : Fin cfg0.N) : Memref sig .tc .vmem S1x512 .f32 := win0_5.stage (cfg0.slots t 5)
abbrev ms6 (t : Fin cfg0.N) : Memref sig .tc .vmem S512x512 .bf16 := win0_6.stage (cfg0.slots t 6)
abbrev ms7 (t : Fin cfg0.N) : Memref sig .tc .vmem S1x512 .f32 := win0_7.stage (cfg0.slots t 7)
abbrev ms8 (t : Fin cfg0.N) : Memref sig .tc .vmem S1x512 .f32 := win0_8.stage (cfg0.slots t 8)
abbrev ms9 (t : Fin cfg0.N) : Memref sig .tc .vmem S1x1x512 .f32 := win0_9.stage (cfg0.slots t 9)
abbrev ms10 (t : Fin cfg0.N) : Memref sig .tc .vmem S1x3x512 .f32 := win0_10.stage (cfg0.slots t 10)
abbrev ms11 (t : Fin cfg0.N) : Memref sig .tc .vmem S1x512x512 .f32 := win0_11.stage (cfg0.slots t 11)
abbrev ms12 (t : Fin cfg0.N) : Memref sig .tc .vmem S1x1x512 .f32 := win0_12.stage (cfg0.slots t 12)
abbrev ms13 (t : Fin cfg0.N) : Memref sig .tc .vmem S1x3x512 .f32 := win0_13.stage (cfg0.slots t 13)
abbrev sc0 : Memref sig .tc .vmem S520x512 .f32 := Memref.whole cc0_scratch0
abbrev sc1 : Memref sig .tc .vmem S768x512 .f32 := Memref.whole cc0_scratch1
abbrev sc2 : Memref sig .tc .vmem S768x512 .f32 := Memref.whole cc0_scratch2
abbrev sc3 : Memref sig .tc .vmem S1x512 .f32 := Memref.whole cc0_scratch3

/-- The scratch buffers at anything, as memrefs. -/
theorem phiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The invariant before point `n`: anything in the scratch buffers at first; afterwards what the point before left in
    the window's three rows and in the state. -/
def inv (c : Dev nD) : (n : ℕ) → n ≤ cfg0.N → sProp 𝕄
  | 0, _ => Pipeline.ΦA spec0 c
  | n + 1, hn => iprop(iprop((∃ d, ⌜Carries (leaves m c n hn).1 d⌝ ∗ owns (c : Thread nD τ) sc0 fullShare d)
      ∗ (∃ d, owns (c : Thread nD τ) sc1 fullShare d) ∗ (∃ d, owns (c : Thread nD τ) sc2 fullShare d)
      ∗ owns (c : Thread nD τ) sc3 fullShare (leaves m c n hn).2) ∗ (∃ r, prngReg c r))

/-- The invariant gives the body its scratch buffers, the rows and the state at what the point begins with unless the
    point is its sequence's first. -/
theorem inv_use (c : Dev nD) (n : ℕ) (hn : n < cfg0.N) :
    inv m c n (Nat.le_of_lt hn) ⊢ iprop(iprop(∃ d e, ⌜¬n % 16 = 0 → Carries (begins m c n hn).1 d ∧ e = (begins m c n hn).2⌝
      ∗ owns (c : Thread nD τ) sc0 fullShare d ∗ (∃ d, owns (c : Thread nD τ) sc1 fullShare d)
      ∗ (∃ d, owns (c : Thread nD τ) sc2 fullShare d) ∗ owns (c : Thread nD τ) sc3 fullShare e) ∗ (∃ r, prngReg c r)) := by
  cases n with
  | zero =>
    rw [show inv m c 0 (Nat.le_of_lt hn) = Pipeline.ΦA spec0 c from rfl, phiA_eq]
    iintro ⟨⟨⟨%d, H0⟩, H1, H2, ⟨%e, H3⟩⟩, Hg⟩
    isplitr [Hg]
    · iexists d, e
      isplitr
      · ipureintro; exact fun h => absurd (Nat.zero_mod _) h
      isplitl [H0]
      · iexact H0
      isplitl [H1]
      · iexact H1
      isplitl [H2]
      · iexact H2
      iexact H3
    · iexact Hg
  | succ n =>
    have hb : ¬(n + 1) % 16 = 0 → begins m c (n + 1) hn = leaves m c n (Nat.lt_of_succ_lt hn) := begins_rest m c n hn
    unfold inv
    iintro ⟨⟨⟨%d, %hC, H0⟩, H1, H2, H3⟩, Hg⟩
    isplitr [Hg]
    · iexists d, _
      isplitr
      · ipureintro; exact fun h => ⟨(hb h).symm ▸ hC, congrArg Prod.snd (hb h).symm⟩
      isplitl [H0]
      · iexact H0
      isplitl [H1]
      · iexact H1
      isplitl [H2]
      · iexact H2
      iexact H3
    · iexact Hg

/-! ## The pipeline's proof data -/

/-- Each input's buffer at its block after the body, the outputs' at what the body computes of what the point begins with. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outY (iblk m c 0 t) (iblk m c 1 t) (iblk m c 2 t) (iblk m c 3 t) (iblk m c 4 t) (iblk m c 5 t) (iblk m c 6 t) (iblk m c 7 t) (iblk m c 8 t) (begins m c t.val t.isLt).1 (begins m c t.val t.isLt).2
    | ⟨12, _⟩ => outH (iblk m c 0 t) (iblk m c 2 t) (iblk m c 3 t) (iblk m c 4 t) (iblk m c 5 t) (iblk m c 6 t) (iblk m c 7 t) (iblk m c 8 t) (begins m c t.val t.isLt).1 (begins m c t.val t.isLt).2
    | ⟨13, _⟩ => outB (iblk m c 0 t) (begins m c t.val t.isLt).1
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = outY (iblk m c 0 t) (iblk m c 1 t) (iblk m c 2 t) (iblk m c 3 t) (iblk m c 4 t) (iblk m c 5 t) (iblk m c 6 t) (iblk m c 7 t) (iblk m c 8 t) (begins m c t.val t.isLt).1 (begins m c t.val t.isLt).2 := by dsimp only [dats]
theorem after_12 (c : Dev nD) (t : Fin cfg0.N) : (dats m 0 c).after 12 t = outH (iblk m c 0 t) (iblk m c 2 t) (iblk m c 3 t) (iblk m c 4 t) (iblk m c 5 t) (iblk m c 6 t) (iblk m c 7 t) (iblk m c 8 t) (begins m c t.val t.isLt).1 (begins m c t.val t.isLt).2 := by dsimp only [dats]
theorem after_13 (c : Dev nD) (t : Fin cfg0.N) : (dats m 0 c).after 13 t = outB (iblk m c 0 t) (begins m c t.val t.isLt).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t))

set_option maxHeartbeats 4000000 in
/-- The body at a point: its run from what the point begins with, and the invariant after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).owesAt () t.succ = (dats m 0 c).owesAt () t.castSucc from rfl,
    after_0, after_1, after_2, after_3, after_4, after_5, after_6, after_7, after_8, after_9, after_10, after_11, after_12, after_13]
  rw [show (dats m 0 c).Φ t.succ = inv m c (t.val + 1) t.isLt from rfl, inv_castSucc m c t]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  icases (inv_use m c t.val t.isLt) $$ HI with ⟨⟨%d, %e, %hrest, S0, S1, S2, S3⟩, Hg⟩
  iapply (body_run c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)
    (begins m c t.val t.isLt).1 (begins m c t.val t.isLt).2 d e
    (fun h => have hb := begins_first m c t.val t.isLt ((first_iff t).mp h); ⟨congrArg Prod.fst hb, congrArg Prod.snd hb⟩)
    (fun h => hrest fun h' => h ((first_iff t).mpr h')) _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexists _; iexact H11
  isplitl [H12]
  · iexists _; iexact H12
  isplitl [H13]
  · iexists _; iexact H13
  isplitl [S0]
  · iexact S0
  isplitl [S1]
  · iexact S1
  isplitl [S2]
  · iexact S2
  isplitl [S3]
  · iexact S3
  iintro ⟨H0, H1, H2, H3, H4, H5, H6, H7, H8, H9, H10, H11, H12, H13, S0, S1, S2, S3⟩
  isplitl [S0 S1 S2 S3 Hg]
  · unfold inv
    isplitr [Hg]
    · isplitl [S0]
      · iexact S0
      isplitl [S1]
      · iexact S1
      isplitl [S2]
      · iexact S2
      iexact S3
    · iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  iexact H13

/-- The body table's row at a point's slots. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem inv_enter (c : Dev nD) : Pipeline.ΦA spec0 c ⊢ (dats m 0 c).Φ 0 := by
  rw [show (dats m 0 c).Φ 0 = Pipeline.ΦA spec0 c from rfl]
  try exact Idealize.SL.BI.Entails.refl _

theorem inv_leave (c : Dev nD) : (dats m 0 c).Φ (Fin.last cfg0.N) ⊢ Pipeline.ΦA spec0 c := by
  have hN : cfg0.N = 31 + 1 := N_0
  rw [show (dats m 0 c).Φ (Fin.last cfg0.N) = inv m c 32 (le_of_eq hN.symm) from rfl, phiA_eq]
  unfold inv
  iintro ⟨⟨⟨%d, %hC, H0⟩, H1, H2, H3⟩, Hg⟩
  isplitr [Hg]
  · isplitl [H0]
    · iexists _; iexact H0
    isplitl [H1]
    · iexact H1
    isplitl [H2]
    · iexact H2
    iexists _; iexact H3
  · iexact Hg

/-! ## The run -/

set_option backward.isDefEq.respectTransparency.types false in
/-- The call's run: the arrays end at what the proof data say, and every semaphore at zero. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := inv_enter m) (hout := inv_leave m)

theorem run_main : θ_run defs (onTc (τ := τ) (main (F := F))) (s₀ m ρ) (Pipeline.FramePost cfgs (dats m) 0 (V m)) :=
  (θ_run defs _ _).mono (fun _ h => h.1) (run_quiet m ρ)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_quiet m ρ))

end Cert.LruIdeal.Hand

end
-- ==== Proof.LruFrame.lean ====
/- The frame of the printed program: the program it is compared with over the reals is the same program, so that
   program's frame, which holds over any values, is the frame. -/
module

public import proofs.«01_k».proof.Proof.LruIdealFrame
public import proofs.«01_k».proof.Proof.Gen.Lru.Frame

@[expose] public section

set_option maxRecDepth 65536

namespace Cert.Lru.Hand

open Idealize.ShloMosaic Idealize.ShloMosaic.TcCoe
open Idealize.SL Idealize.SL.Sem
open Cert.Lru

variable {F : FTy → Type} [FloatOps F]

set_option maxHeartbeats 8000000 in
/-- The two programs call their kernel by the same table. -/
theorem inner_defs_eq : Cert.Lru.defs₀ (F := F) = Cert.LruIdeal.defs₀ (F := F) := by
  unfold Cert.Lru.defs₀ Cert.LruIdeal.defs₀
  refine congrArg Defs.onTc (funext fun l => funext fun a => ?_)
  match l, a with
  | 0, (t, s) => rfl
  | ⟨_ + 1, h⟩, _ => exact absurd h (Nat.not_lt.2 (Nat.le_add_left _ _))

/-- The two programs have the same table of calls. -/
theorem defs_eq : Cert.Lru.defs (F := F) = Cert.LruIdeal.defs (F := F) :=
  congrArg (Pipeline.defs _) inner_defs_eq

set_option maxHeartbeats 8000000 in
/-- Their host code agrees on its first sixty statements. -/
theorem part0_eq : Cert.Lru.main_part0 (F := F) = Cert.LruIdeal.main_part0 (F := F) := rfl

set_option maxHeartbeats 8000000 in
/-- Their host code agrees on its next sixty statements. -/
theorem part1_eq : Cert.Lru.main_part1 (F := F) = Cert.LruIdeal.main_part1 (F := F) := rfl

set_option maxHeartbeats 8000000 in
/-- Their host code agrees on its last statements, the launch among them. -/
theorem part2_eq : Cert.Lru.main_part2 (F := F) = Cert.LruIdeal.main_part2 (F := F) := rfl

/-- The two programs have the same host code. -/
theorem main_eq : Cert.Lru.main (F := F) = Cert.LruIdeal.main (F := F) := by
  unfold Cert.Lru.main Cert.LruIdeal.main
  rw [part0_eq, part1_eq, part2_eq]
  rfl

/-- From any memory, the printed program ends with its ten arguments as they were and no signal left over. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  rw [defs_eq, main_eq]
  exact Cert.LruIdeal.Hand.frame m ρ

end Cert.Lru.Hand
-- ==== Proof.RowNorm.lean ====
/- The row operations the four calls share, written over extended reals without arrays: the logistic function, the
   layer norm of a row of 1024 entries, and the residual added to a projected row. -/
module

public import Idealize.ShloMosaic.Lib.Pointwise

@[expose] public section

noncomputable section

namespace Cert.Rows

open Idealize.ShloMosaic

/-- The logistic function. -/
def sigm (x : EReal) : EReal := Ideal.div 1 (1 + Ideal.exp (-x))

/-- The mean of a row of 1024 entries (the divisor is the f32 word of 1024). -/
def mean (p : Fin 1024 → EReal) : EReal := Ideal.div (∑ k, p k) (Ideal.ofBits FTy.f32 0x44800000#32)

/-- Entry `l` of the layer norm of the row `p`, scaled by `g` and shifted by `b`: the entry less the mean, times the
    reciprocal root of the mean square of such differences plus the f32 word nearest to a hundred thousandth. -/
def layerNorm (p : Fin 1024 → EReal) (g b : EReal) (l : Fin 1024) : EReal :=
  (p l - mean p) * Ideal.rsqrt (mean (fun k => (p k - mean p) * (p k - mean p)) + Ideal.ofBits FTy.f32 0x3727C5AC#32) * g + b

/-- The residual `x`, scaled by the fourth root of eight as an f32 word, plus column `k` of the row `a` projected by `w`. -/
def resid {n : ℕ} (x : Fin 1024 → EReal) (a : Fin n → EReal) (w : Fin n → Fin 1024 → EReal) (k : Fin 1024) : EReal :=
  Ideal.ofBits FTy.f32 0x3FD744FD#32 * x k + ∑ j, a j * w j k

theorem layerNorm_congr {p p' : Fin 1024 → EReal} {g g' b b' : EReal} (hp : ∀ k, p k = p' k) (hg : g = g') (hb : b = b')
    (l : Fin 1024) : layerNorm p g b l = layerNorm p' g' b' l := by rw [funext hp, hg, hb]

theorem resid_congr {n : ℕ} {x x' : Fin 1024 → EReal} {a a' : Fin n → EReal} {w w' : Fin n → Fin 1024 → EReal}
    (hx : ∀ k, x k = x' k) (ha : ∀ j, a j = a' j) (hw : ∀ j k, w j k = w' j k) (k : Fin 1024) :
    resid x a w k = resid x' a' w' k := by
  rw [funext hx, funext ha, funext fun j => funext (hw j)]

/-- A sum over 1024 indices is the sum over the lower half plus the sum over the upper half. -/
theorem sum_halves (f : Fin 1024 → EReal) :
    ∑ j, f j = ∑ j : Fin 512, f ⟨j.val, by omega⟩ + ∑ j : Fin 512, f ⟨512 + j.val, by omega⟩ :=
  Fin.sum_univ_add (a := 512) (b := 512) f

end Cert.Rows

end
-- ==== Proof.LruRows.lean ====
/- The gated linear recurrence: what one row of it computes, entry by entry. -/
module

public import proofs.«01_k».proof.Proof.RowNorm
public import Idealize.ShloMosaic.Lib.Pointwise
public import Idealize.ShloMosaic.Lib.IdealHost

@[expose] public section

noncomputable section

namespace Cert.Lru.Rows

open Idealize.ShloMosaic Cert.Rows

/-- Four taps of a causal filter `w` with bias `b`, over an entry of the stream and the three after it. -/
def taps4 (b : EReal) (w : Fin 4 → EReal) (x0 x1 x2 x3 : EReal) : EReal := b + w 0 * x0 + w 1 * x1 + w 2 * x2 + w 3 * x3

/-- The softened maximum with zero, `log (1 + exp z)` as the programs form it. -/
def soft (z : EReal) : EReal := max z 0 + Ideal.log (1 + Ideal.exp (-max z (-z)))

/-- A gate at entry `k` of a row: the logistic function of the row's block of 64 entries times the block's weights. -/
def gate (x : Fin 512 → EReal) (w : Fin 8 → Fin 64 → Fin 64 → EReal) (b : Fin 512 → EReal) (k : Fin 512) : EReal :=
  sigm ((∑ d : Fin 64, x ⟨64 * (k.val / 64) + d.val, by omega⟩ * w ⟨k.val / 64, by omega⟩ d ⟨k.val % 64, by omega⟩) + b k)

/-- The logarithm of a decay, from its gate and its rate (the factor is the f32 word of minus eight). -/
def logDecay (r lam : EReal) : EReal := Ideal.ofBits FTy.f32 0xC1000000#32 * r * soft (-lam)

/-- The factor that keeps the state's scale under the decay (the words are two, and the f32 nearest a trillionth). -/
def amp (l : EReal) : EReal :=
  Ideal.sqrt (max (1 - Ideal.exp (Ideal.ofBits FTy.f32 0x40000000#32 * l)) (Ideal.ofBits FTy.f32 0x2B8CBCCC#32))

/-- The decay of entry `k` of a filtered row. -/
def decay (x : Fin 512 → EReal) (wa : Fin 8 → Fin 64 → Fin 64 → EReal) (ba lam : Fin 512 → EReal) (k : Fin 512) : EReal :=
  Ideal.exp (logDecay (gate x wa ba k) (lam k))

/-- The input of entry `k` of a filtered row. -/
def drive (x : Fin 512 → EReal) (wa wx : Fin 8 → Fin 64 → Fin 64 → EReal) (ba bx lam : Fin 512 → EReal) (k : Fin 512) : EReal :=
  amp (logDecay (gate x wa ba k) (lam k)) * gate x wx bx k * x k

/-- Exponentials are not negative. -/
theorem exp_nonneg (x : EReal) : 0 ≤ Ideal.exp x := by
  induction x using EReal.rec with
  | bot => exact le_refl _
  | top => exact le_top
  | coe r => exact EReal.coe_nonneg.2 (Real.exp_pos r).le

/-- The exponential of what is not positive is finite. -/
theorem exp_ne_top {x : EReal} (h : x ≤ 0) : Ideal.exp x ≠ ⊤ := by
  induction x using EReal.rec with
  | bot => exact EReal.zero_ne_top
  | top => exact absurd h (by simp)
  | coe r => exact EReal.coe_ne_top _

/-- The logarithm of what is at least one is not negative. -/
theorem log_nonneg {x : EReal} (h : 1 ≤ x) : 0 ≤ Ideal.log x := by
  induction x using EReal.rec with
  | bot => exact absurd (le_bot_iff.1 h) (EReal.coe_ne_bot 1)
  | top => exact le_top
  | coe r =>
    have hr : (1 : ℝ) ≤ r := by exact_mod_cast h
    show 0 ≤ (if r ≤ 0 then ⊥ else (Real.log r : EReal))
    rw [if_neg (by linarith)]
    exact EReal.coe_nonneg.2 (Real.log_nonneg hr)

/-- The logistic function is not negative. -/
theorem sigm_nonneg (x : EReal) : 0 ≤ sigm x := by
  have h : (1 : EReal) ≤ 1 + Ideal.exp (-x) := le_add_of_nonneg_right (exp_nonneg _)
  have h0 : (0 : EReal) < 1 + Ideal.exp (-x) := lt_of_lt_of_le zero_lt_one h
  unfold sigm Ideal.div
  rw [if_neg h0.ne', one_mul]
  exact EReal.inv_nonneg_of_nonneg h0.le

/-- The softened maximum is not negative. -/
theorem soft_nonneg (z : EReal) : 0 ≤ soft z :=
  add_nonneg (le_max_right _ _) (log_nonneg (le_add_of_nonneg_right (exp_nonneg _)))

/-- The factor of the logarithm of a decay is not positive. -/
theorem rate_nonpos : Ideal.ofBits FTy.f32 0xC1000000#32 ≤ 0 := by
  have : Ideal.ofBits FTy.f32 0xC1000000#32 = ((-8 : ℝ) : EReal) := by
    simp [Ideal.ofBits, Ideal.ieee]
    rw [← EReal.coe_mul]
    norm_num
  rw [this]
  exact_mod_cast (by norm_num : (-8 : ℝ) ≤ 0)

/-- A decay is not negative and finite. -/
theorem decay_ok (x : Fin 512 → EReal) (wa : Fin 8 → Fin 64 → Fin 64 → EReal) (ba lam : Fin 512 → EReal) (k : Fin 512) :
    0 ≤ decay x wa ba lam k ∧ decay x wa ba lam k ≠ ⊤ :=
  ⟨exp_nonneg _, exp_ne_top (EReal.mul_nonpos_iff.2 (Or.inr ⟨EReal.mul_nonpos_iff.2 (Or.inr ⟨rate_nonpos, sigm_nonneg _⟩), soft_nonneg _⟩))⟩

/-- Minus the exponential less one is one less the exponential. -/
theorem neg_expm1 (x : EReal) : -(Ideal.exp x - 1) = 1 - Ideal.exp x := by
  refine (EReal.neg_sub (Or.inr (EReal.coe_ne_bot 1)) (Or.inr (EReal.coe_ne_top 1))).trans ?_
  rw [add_comm, sub_eq_add_neg]
  rfl

/-- The taps, the last entry's first. -/
theorem taps4_last (b : EReal) (w : Fin 4 → EReal) (x0 x1 x2 x3 : EReal) :
    b + w 3 * x3 + w 0 * x0 + w 1 * x1 + w 2 * x2 = taps4 b w x0 x1 x2 x3 := by
  unfold taps4
  abel

/-- A row times a matrix that is zero off its diagonal blocks of 64 is the row's block times the diagonal block. -/
theorem sum_block (x : Fin 512 → EReal) (W : Fin 512 → EReal) (w : Fin 64 → EReal) (n : Fin 8)
    (hin : ∀ d : Fin 64, W ⟨64 * n.val + d.val, by omega⟩ = w d) (hout : ∀ j : Fin 512, j.val / 64 ≠ n.val → W j = 0) :
    ∑ j, x j * W j = ∑ d : Fin 64, x ⟨64 * n.val + d.val, by omega⟩ * w d := by
  rw [Fin.sum_univ_tiles 8 64 rfl fun j : Fin 512 => x j * W j]
  refine (Finset.sum_eq_single n (fun q _ hq => Finset.sum_eq_zero fun d _ => ?_) fun h => absurd (Finset.mem_univ n) h).trans ?_
  · refine (congrArg _ (hout _ fun h => hq (Fin.ext ?_))).trans (mul_zero _)
    have : (q.val * 64 + d.val) / 64 = n.val := h
    omega
  · refine Finset.sum_congr rfl fun d _ => ?_
    have e : (⟨n.val * 64 + d.val, by omega⟩ : Fin 512) = ⟨64 * n.val + d.val, by omega⟩ := Fin.ext (by show n.val * 64 + d.val = 64 * n.val + d.val; omega)
    rw [e, hin]

end Cert.Lru.Rows

end
-- ==== Proof.LruScan.lean ====
/- A linear recurrence `x ← a · x + u` over the rows of a sequence, and the doubling scan that computes it: windows of rows
   composed two at a time, the rows before the first standing as the identity. -/
module

public import Idealize.ShloMosaic.Lib.Pointwise

@[expose] public section

noncomputable section

namespace Cert.Scan

/-- The state after `n` rows from row `s` on, entered with `x`. -/
def run (a u : ℕ → EReal) (s : ℕ) : ℕ → EReal → EReal
  | 0, x => x
  | n + 1, x => a (s + n) * run a u s n x + u (s + n)

/-- The product of the decays of `n` rows from row `s` on. -/
def prod (a : ℕ → EReal) (s : ℕ) : ℕ → EReal
  | 0 => 1
  | n + 1 => a (s + n) * prod a s n

/-- The state depends only on the rows passed. -/
theorem run_congr {a u a' u' : ℕ → EReal} {s s' : ℕ} : ∀ (n : ℕ) (x : EReal),
    (∀ j, j < n → a (s + j) = a' (s' + j) ∧ u (s + j) = u' (s' + j)) → run a u s n x = run a' u' s' n x
  | 0, _, _ => rfl
  | n + 1, x, h => by
    unfold run
    rw [run_congr n x fun j hj => h j (by omega), (h n (by omega)).1, (h n (by omega)).2]

/-- Passing `m + n` rows is passing the first `m`, then the next `n`. -/
theorem run_split (a u : ℕ → EReal) (s m : ℕ) (x : EReal) : ∀ n, run a u s (m + n) x = run a u (s + m) n (run a u s m x)
  | 0 => rfl
  | n + 1 => by
    show a (s + (m + n)) * run a u s (m + n) x + u (s + (m + n)) = a (s + m + n) * _ + u (s + m + n)
    rw [run_split a u s m x n, Nat.add_assoc]

/-- The decays of `m + n` rows multiply. -/
theorem prod_split (a : ℕ → EReal) (s m : ℕ) : ∀ n, prod a s (m + n) = prod a (s + m) n * prod a s m
  | 0 => (one_mul _).symm
  | n + 1 => by
    show a (s + (m + n)) * prod a s (m + n) = a (s + m + n) * prod a (s + m) n * prod a s m
    rw [prod_split a s m n, Nat.add_assoc, mul_assoc]

/-- Where decays are finite and not negative, the entering state comes out multiplied by the decays, the inputs added. -/
theorem run_linear {a u : ℕ → EReal} (h : ∀ i, 0 ≤ a i ∧ a i ≠ ⊤) (s : ℕ) (x : EReal) :
    ∀ n, run a u s n x = prod a s n * x + run a u s n 0
  | 0 => by show x = 1 * x + 0; rw [one_mul, add_zero]
  | n + 1 => by
    show a (s + n) * run a u s n x + u (s + n) = a (s + n) * prod a s n * x + (a (s + n) * run a u s n 0 + u (s + n))
    rw [run_linear h s x n, EReal.left_distrib_of_nonneg_of_ne_top (h _).1 (h _).2, mul_assoc, add_assoc]

/-- Rows of decay one multiply to one. -/
theorem prod_one {a : ℕ → EReal} {s : ℕ} : ∀ n, (∀ j, j < n → a (s + j) = 1) → prod a s n = 1
  | 0, _ => rfl
  | n + 1, h => by
    show a (s + n) * prod a s n = 1
    rw [h n (by omega), prod_one n fun j hj => h j (by omega), one_mul]

/-- Rows of decay one and no input leave the state as it was. -/
theorem run_idle {a u : ℕ → EReal} {s : ℕ} (x : EReal) : ∀ n, (∀ j, j < n → a (s + j) = 1 ∧ u (s + j) = 0) → run a u s n x = x
  | 0, _ => rfl
  | n + 1, h => by
    show a (s + n) * run a u s n x + u (s + n) = x
    rw [(h n (by omega)).1, (h n (by omega)).2, run_idle x n fun j hj => h j (by omega), one_mul, add_zero]

/-- The rows of a block behind 512 rows that stand as the identity: the rows' values `f`, `e` before them. -/
def pad (e : EReal) (f : ℕ → EReal) (i : ℕ) : EReal := if i < 512 then e else f (i - 512)

/-- Each row of the block holds the window of `n` rows that ends in it, the rows before the block standing as the identity:
    the decays' product in `A`, the state from zero in `U`. -/
def Windows (a u : ℕ → EReal) (n : ℕ) (A U : ℕ → EReal) : Prop :=
  ∀ i, i < 512 → A i = prod (pad 1 a) (i + 513 - n) n ∧ U i = run (pad 1 a) (pad 0 u) (i + 513 - n) n 0

/-- One row is a window of one. -/
theorem windows_one (a u : ℕ → EReal) : Windows a u 1 a u := fun i hi => by
  refine ⟨?_, ?_⟩
  · show a i = pad 1 a (i + 513 - 1 + 0) * 1
    rw [mul_one, pad, if_neg (by omega)]
    exact congrArg a (by omega)
  · show u i = pad 1 a (i + 513 - 1 + 0) * 0 + pad 0 u (i + 513 - 1 + 0)
    rw [mul_zero, zero_add, pad, if_neg (by omega)]
    exact congrArg u (by omega)

/-- Composing each window with the one that ends `n` rows before it gives windows of `2 n` rows. -/
theorem windows_double {a u A U : ℕ → EReal} {n : ℕ} (ha : ∀ i, 0 ≤ a i ∧ a i ≠ ⊤) (hn : n ≤ 256) (h : Windows a u n A U) :
    Windows a u (n + n) (fun i => A i * if n ≤ i then A (i - n) else 1) (fun i => A i * (if n ≤ i then U (i - n) else 0) + U i) := by
  have hp : ∀ i, 0 ≤ pad 1 a i ∧ pad 1 a i ≠ ⊤ := fun i => by
    unfold pad
    split
    · exact ⟨zero_le_one, EReal.coe_ne_top 1⟩
    · exact ha _
  intro i hi
  have hs : i + 513 - (n + n) + n = i + 513 - n := by omega
  have hi' := h i hi
  rw [prod_split, run_split, hs, run_linear hp _ (run _ _ (i + 513 - (n + n)) n 0), ← hi'.1, ← hi'.2]
  by_cases hni : n ≤ i
  · obtain ⟨e1, e2⟩ := h (i - n) (by omega)
    have e : i - n + 513 - n = i + 513 - (n + n) := by omega
    rw [e] at e1 e2
    simp only [if_pos hni, e1, e2, and_self]
  · have hlow : ∀ j, j < n → pad 1 a (i + 513 - (n + n) + j) = 1 ∧ pad 0 u (i + 513 - (n + n) + j) = 0 := fun j hj => by
      unfold pad
      exact ⟨if_pos (by omega), if_pos (by omega)⟩
    rw [prod_one n fun j hj => (hlow j hj).1, run_idle 0 n hlow]
    simp only [if_neg hni, and_self]

/-- A window of 512 rows holds all the rows of the block up to the one it ends in. -/
theorem windows_full {a u A U : ℕ → EReal} (h : Windows a u 512 A U) (i : ℕ) (hi : i < 512) : U i = run a u 0 (i + 1) 0 := by
  rw [(h i hi).2, show i + 513 - 512 = i + 1 by omega]
  have e : (511 - i) + (i + 1) = 512 := by omega
  have s := run_split (pad 1 a) (pad 0 u) (i + 1) (511 - i) 0 (i + 1)
  rw [e, run_idle 0 (511 - i) fun j hj => ⟨if_pos (by omega), if_pos (by omega)⟩] at s
  refine s.trans (run_congr _ _ fun j hj => ?_)
  unfold pad
  rw [if_neg (by omega), if_neg (by omega)]
  exact ⟨congrArg a (by omega), congrArg u (by omega)⟩

/-- Entering the carried state as part of the first row's input is entering it as the state. -/
theorem run_enter {a u v : ℕ → EReal} (c : EReal) (h0 : v 0 = u 0 + a 0 * c) (hv : ∀ i, 0 < i → v i = u i) :
    ∀ n, run a v 0 (n + 1) 0 = run a u 0 (n + 1) c
  | 0 => by
    show a (0 + 0) * 0 + v (0 + 0) = a (0 + 0) * c + u (0 + 0)
    rw [mul_zero, zero_add, Nat.add_zero, h0, add_comm]
  | n + 1 => by
    show a (0 + (n + 1)) * run a v 0 (n + 1) 0 + v (0 + (n + 1)) = a (0 + (n + 1)) * run a u 0 (n + 1) c + u (0 + (n + 1))
    rw [run_enter c h0 hv n, hv _ (by omega)]

end Cert.Scan

end
-- ==== Proof.FfnRows.lean ====
/- The feed-forward with its causal convolution: what the reference computes, entry by entry. -/
module

public import proofs.«01_k».proof.Proof.Gen.FfnRefIdeal.Run
public import proofs.«01_k».proof.Proof.RowNorm
public import Idealize.ShloMosaic.Lib.Pointwise

@[expose] public section

set_option maxRecDepth 16384

noncomputable section

namespace Cert.Rows

open Idealize.ShloMosaic

/-- The tanh form of the Gaussian error unit, its constants the f32 words the program prints. -/
def gelu (z : EReal) : EReal :=
  z * (Ideal.ofBits FTy.f32 0x3F000000#32 * (1 + Ideal.tanh (Ideal.ofBits FTy.f32 0x3F4C422A#32 *
    (z + Ideal.ofBits FTy.f32 0x3D372713#32 * (z * z * z)))))

/-- Three taps of a causal filter `w` with bias `b`: the entry `u0`, the entry before it, the one before that. -/
def taps (b : EReal) (w : Fin 3 → EReal) (u2 u1 u0 : EReal) : EReal := b + w 0 * u2 + w 1 * u1 + w 2 * u0

/-- Column `d` of a row times the up-projection. -/
def upCol (x : Fin 1024 → EReal) (w : Fin 1024 → Fin 6144 → EReal) (d : Fin 6144) : EReal := ∑ k, x k * w k d

/-- The entry of a column `n` rows before row `R`: of the stream inside the sequence, of the carried-over rows before its start. -/
def lag (u : Fin 16384 → EReal) (buf : Fin 2 → Fin 2 → EReal) (n : ℕ) (hn : n ≤ 2) (R : Fin 16384) : EReal :=
  if h : n ≤ R.val % 8192 then u ⟨R.val - n, by omega⟩ else buf ⟨R.val / 8192, by omega⟩ ⟨R.val % 8192 + 2 - n, by omega⟩

/-- A sum over 3072 indices is the sum of the sums over its three thirds. -/
theorem sum_thirds (f : Fin 3072 → EReal) :
    ∑ j, f j = ∑ j : Fin 1024, f ⟨j.val, by omega⟩ + ∑ j : Fin 1024, f ⟨1024 + j.val, by omega⟩
      + ∑ j : Fin 1024, f ⟨2048 + j.val, by omega⟩ :=
  (Fin.sum_univ_add (a := 2048) (b := 1024) f).trans
    (congrArg (· + _) (Fin.sum_univ_add (a := 1024) (b := 1024) fun i => f (Fin.castAdd 1024 i)))

end Cert.Rows

namespace Cert.FfnRefIdeal.Hand

open Idealize.ShloMosaic Idealize.ShloMosaic.TcCoe Idealize.SL.Sem Cert.Rows
open Cert.FfnRefIdeal Cert.FfnRefIdeal.Gen

/-- Column `d` of the up-projected stream, row by row. -/
def ucol (x : FVec Ideal S16384x1024 .f32) (w : FVec Ideal S1024x6144 .f32) (d : Fin 6144) (R : Fin 16384) : EReal :=
  upCol (fun k => x (ix2 R k)) (fun k d => w (ix2 k d)) d

/-- The filtered first half at row `R`, column `d`. -/
def filt (x : FVec Ideal S16384x1024 .f32) (w : FVec Ideal S1024x6144 .f32) (cw : FVec Ideal S3x3072 .f32)
    (cb : FVec Ideal S3072 .f32) (buf : FVec Ideal S2x2x3072 .f32) (R : Fin 16384) (d : Fin 3072) : EReal :=
  taps (cb (ix1 d)) (fun k => cw (ix2 k d))
    (lag (ucol x w ⟨d.val, by omega⟩) (fun b k => buf (ix3 b k d)) 2 (by omega) R)
    (lag (ucol x w ⟨d.val, by omega⟩) (fun b k => buf (ix3 b k d)) 1 (by omega) R) (ucol x w ⟨d.val, by omega⟩ R)

/-- Row `R` of the residual plus the gated row projected down, from the argument arrays. -/
def pre (x : FVec Ideal S16384x1024 .f32) (w : FVec Ideal S1024x6144 .f32) (cw : FVec Ideal S3x3072 .f32)
    (cb : FVec Ideal S3072 .f32) (wd : FVec Ideal S3072x1024 .f32) (buf : FVec Ideal S2x2x3072 .f32) (R : Fin 16384) :
    Fin 1024 → EReal :=
  resid (fun k => x (ix2 R k)) (fun d => gelu (filt x w cw cb buf R d) * ucol x w ⟨3072 + d.val, by omega⟩ R)
    (fun d k => wd (ix2 d k))

/-- Row `s` of sequence `b`, as a row of the stream. -/
def row (b : Fin 2) (s : Fin 8192) : Fin 16384 := ⟨b.val * 8192 + s.val, by omega⟩

/-- The stream projected up, by sequence. -/
def hid (x : FVec Ideal S16384x1024 .f32) (w : FVec Ideal S1024x6144 .f32) : FVec Ideal S2x8192x6144 .f32 :=
  Host.dotGeneral dot_S2x8192x1024_S1024x6144_S2x8192x6144_2_0_01_1_n_n none
    (shapeCast _ x shapeCasts_S16384x1024_S2x8192x1024) w

/-- The first half with the carried-over rows before it. -/
def padded (h : FVec Ideal S2x8192x6144 .f32) (buf : FVec Ideal S2x2x3072 .f32) : FVec Ideal S2x8194x3072 .f32 :=
  concatenate S2x8194x3072 1 [⟨S2x2x3072, buf⟩, ⟨S2x8192x3072, extractStridedSlice S2x8192x3072 ![0, 0, 0] h
    slices_S2x8192x6144_S2x8192x3072_0_0_0⟩] concatenates_S2x2x3072_S2x8192x3072_S2x8194x3072_d1

/-- The filtered first half as the reference forms it. -/
def conv (cw : FVec Ideal S3x3072 .f32) (cb : FVec Ideal S3072 .f32) (p : FVec Ideal S2x8194x3072 .f32) :
    FVec Ideal S2x8192x3072 .f32 :=
  addf (addf (addf (broadcastInDim S2x8192x3072 ![0, 1, 2] bcast_S1x1x3072_S2x8192x3072_0_1_2 (broadcastInDim S1x1x3072 ![2] bcast_S3072_S1x1x3072_2 cb))
    (mulf (broadcastInDim S2x8192x3072 ![0, 1, 2] bcast_S1x1x3072_S2x8192x3072_0_1_2 (broadcastInDim S1x1x3072 ![2] bcast_S3072_S1x1x3072_2 (shapeCast _ (extractStridedSlice S1x3072 ![0, 0] cw slices_S3x3072_S1x3072_0_0) shapeCasts_S1x3072_S3072)))
      (extractStridedSlice S2x8192x3072 ![0, 0, 0] p slices_S2x8194x3072_S2x8192x3072_0_0_0)))
    (mulf (broadcastInDim S2x8192x3072 ![0, 1, 2] bcast_S1x1x3072_S2x8192x3072_0_1_2 (broadcastInDim S1x1x3072 ![2] bcast_S3072_S1x1x3072_2 (shapeCast _ (extractStridedSlice S1x3072 ![1, 0] cw slices_S3x3072_S1x3072_1_0) shapeCasts_S1x3072_S3072)))
      (extractStridedSlice S2x8192x3072 ![0, 1, 0] p slices_S2x8194x3072_S2x8192x3072_0_1_0)))
    (mulf (broadcastInDim S2x8192x3072 ![0, 1, 2] bcast_S1x1x3072_S2x8192x3072_0_1_2 (broadcastInDim S1x1x3072 ![2] bcast_S3072_S1x1x3072_2 (shapeCast _ (extractStridedSlice S1x3072 ![2, 0] cw slices_S3x3072_S1x3072_2_0) shapeCasts_S1x3072_S3072)))
      (extractStridedSlice S2x8192x3072 ![0, 2, 0] p slices_S2x8194x3072_S2x8192x3072_0_2_0))

/-- The gated rows as the reference forms them from the filtered half `z` and the projected stream `h`. -/
def gated (z : FVec Ideal S2x8192x3072 .f32) (h : FVec Ideal S2x8192x6144 .f32) : FVec Ideal S2x8192x3072 .f32 :=
  mulf (mulf z (mulf (broadcastInDim S2x8192x3072 ![] bcast_S_S2x8192x3072 (constant S_ .f32 0x3F000000#32))
    (addf (broadcastInDim S2x8192x3072 ![] bcast_S_S2x8192x3072 (constant S_ .f32 0x3F800000#32))
      (Host.tanh (mulf (broadcastInDim S2x8192x3072 ![] bcast_S_S2x8192x3072 (constant S_ .f32 0x3F4C422A#32))
        (addf z (mulf (broadcastInDim S2x8192x3072 ![] bcast_S_S2x8192x3072 (constant S_ .f32 0x3D372713#32)) (mulf (mulf z z) z))))))))
    (extractStridedSlice S2x8192x3072 ![0, 0, 3072] h slices_S2x8192x6144_S2x8192x3072_0_0_3072)

/-- The rows before the layer norm as the reference forms them. -/
def preArr (x : FVec Ideal S16384x1024 .f32) (f : FVec Ideal S2x8192x3072 .f32) (wd : FVec Ideal S3072x1024 .f32) :
    FVec Ideal S2x8192x1024 .f32 :=
  addf (mulf (broadcastInDim S2x8192x1024 ![] bcast_S_S2x8192x1024 (constant S_ .f32 0x3FD744FD#32))
    (shapeCast _ x shapeCasts_S16384x1024_S2x8192x1024))
    (Host.dotGeneral dot_S2x8192x3072_S3072x1024_S2x8192x1024_2_0_01_1_n_n none f wd)

/-- The rows less their means as the reference forms them. -/
def centred (p : FVec Ideal S2x8192x1024 .f32) : FVec Ideal S2x8192x1024 .f32 :=
  subf p (broadcastInDim S2x8192x1024 ![0, 1, 2] bcast_S2x8192x1_S2x8192x1024_0_1_2 (Host.divf
    (broadcastInDim S2x8192x1 ![0, 1] bcast_S2x8192_S2x8192x1_0_1 (Host.reduceAdd p (constant S_ .f32 0x00000000#32) reducesTo_S2x8192x1024_S2x8192_d2 h_S_))
    (broadcastInDim S2x8192x1 ![] bcast_S_S2x8192x1 (constant S_ .f32 0x44800000#32))))

/-- The layer norm as the reference forms it from the centred rows. -/
def normed (q : FVec Ideal S2x8192x1024 .f32) (g b : FVec Ideal S1024 .f32) : FVec Ideal S16384x1024 .f32 :=
  shapeCast _ (addf (mulf (mulf q (broadcastInDim S2x8192x1024 ![0, 1, 2] bcast_S2x8192x1_S2x8192x1024_0_1_2
    (Host.rsqrt (addf (Host.divf (broadcastInDim S2x8192x1 ![0, 1] bcast_S2x8192_S2x8192x1_0_1 (Host.reduceAdd (mulf q q) (constant S_ .f32 0x00000000#32) reducesTo_S2x8192x1024_S2x8192_d2 h_S_))
      (broadcastInDim S2x8192x1 ![] bcast_S_S2x8192x1 (constant S_ .f32 0x44800000#32)))
      (broadcastInDim S2x8192x1 ![] bcast_S_S2x8192x1 (constant S_ .f32 0x3727C5AC#32))))))
    (broadcastInDim S2x8192x1024 ![0, 1, 2] bcast_S1x1x1024_S2x8192x1024_0_1_2 (broadcastInDim S1x1x1024 ![2] bcast_S1024_S1x1x1024_2 g)))
    (broadcastInDim S2x8192x1024 ![0, 1, 2] bcast_S1x1x1024_S2x8192x1024_0_1_2 (broadcastInDim S1x1x1024 ![2] bcast_S1024_S1x1x1024_2 b)))
    shapeCasts_S2x8192x1024_S16384x1024

/-- The projected stream at an entry. -/
theorem hid_at (x : FVec Ideal S16384x1024 .f32) (w : FVec Ideal S1024x6144 .f32) (b : Fin 2) (s : Fin 8192) (d : Fin 6144) :
    hid x w (ix3 b s d) = ucol x w d (row b s) := by
  pointwise [hid, ucol, upCol, row]

/-- The padded half at an entry: a carried-over row, or the row of the stream two before. -/
theorem padded_at (h : FVec Ideal S2x8192x6144 .f32) (buf : FVec Ideal S2x2x3072 .f32) (b : Fin 2) (s : Fin 8194) (d : Fin 3072) :
    padded h buf (ix3 b s d) = if hs : s.val < 2 then buf (ix3 b ⟨s.val, hs⟩ d)
      else h (ix3 b ⟨s.val - 2, by omega⟩ ⟨d.val, by omega⟩) := by
  pointwise [padded]

/-- The filter at an entry, over the padded half. -/
theorem conv_at (cw : FVec Ideal S3x3072 .f32) (cb : FVec Ideal S3072 .f32) (p : FVec Ideal S2x8194x3072 .f32)
    (b : Fin 2) (s : Fin 8192) (d : Fin 3072) :
    conv cw cb p (ix3 b s d) = taps (cb (ix1 d)) (fun k => cw (ix2 k d)) (p (ix3 b ⟨s.val, by omega⟩ d))
      (p (ix3 b ⟨s.val + 1, by omega⟩ d)) (p (ix3 b ⟨s.val + 2, by omega⟩ d)) := by
  pointwise [conv, taps]
  simp only [Nat.add_comm s.val]

/-- The gated rows at an entry. -/
theorem gated_at (z : FVec Ideal S2x8192x3072 .f32) (h : FVec Ideal S2x8192x6144 .f32) (b : Fin 2) (s : Fin 8192) (d : Fin 3072) :
    gated z h (ix3 b s d) = gelu (z (ix3 b s d)) * h (ix3 b s ⟨3072 + d.val, by omega⟩) := by
  pointwise [gated, gelu]

/-- The rows before the layer norm at an entry. -/
theorem preArr_at (x : FVec Ideal S16384x1024 .f32) (f : FVec Ideal S2x8192x3072 .f32) (wd : FVec Ideal S3072x1024 .f32)
    (b : Fin 2) (s : Fin 8192) (l : Fin 1024) :
    preArr x f wd (ix3 b s l) = resid (fun k => x (ix2 (row b s) k)) (fun d => f (ix3 b s d)) (fun d k => wd (ix2 d k)) l := by
  pointwise [preArr, resid, row]

/-- The centred rows at an entry. -/
theorem centred_at (p : FVec Ideal S2x8192x1024 .f32) (b : Fin 2) (s : Fin 8192) (l : Fin 1024) :
    centred p (ix3 b s l) = p (ix3 b s l) - mean (fun k => p (ix3 b s k)) := by
  pointwise [centred, mean]

/-- The layer norm at an entry, from the rows before it. -/
theorem normed_at (p : FVec Ideal S2x8192x1024 .f32) (g b : FVec Ideal S1024 .f32) (R : Fin 16384) (P : Fin 1024 → EReal)
    (hP : ∀ k, p (ix3 ⟨R.val / 8192, by omega⟩ ⟨R.val % 8192, by omega⟩ k) = P k) (l : Fin 1024) :
    normed (centred p) g b (ix2 R l) = layerNorm P (g (ix1 l)) (b (ix1 l)) l := by
  pointwise [normed]
  simp only [centred_at, hP, layerNorm, mean]

/-- A row's sequence and place in it give the row back. -/
theorem row_self (R : Fin 16384) : row ⟨R.val / 8192, by omega⟩ ⟨R.val % 8192, by omega⟩ = R :=
  Fin.ext (by simp only [row]; omega)

/-- The padded half, from place `n` on, is the column `2 - n` rows before. -/
theorem padded_lag (x : FVec Ideal S16384x1024 .f32) (w : FVec Ideal S1024x6144 .f32) (buf : FVec Ideal S2x2x3072 .f32)
    (b : Fin 2) (s : Fin 8192) (d : Fin 3072) (n : ℕ) (hn : n ≤ 2) :
    padded (hid x w) buf (ix3 b ⟨s.val + (2 - n), by omega⟩ d)
      = lag (ucol x w ⟨d.val, by omega⟩) (fun b k => buf (ix3 b k d)) n hn (row b s) := by
  have e : (row b s).val % 8192 = s.val := by simp only [row]; omega
  have e' : (row b s).val / 8192 = b.val := by simp only [row]; omega
  rw [padded_at]
  unfold lag
  by_cases h : n ≤ s.val
  · rw [dif_neg (by simp only; omega), dif_pos (e ▸ h), hid_at]
    exact congrArg _ (Fin.ext (by simp only [row]; omega))
  · rw [dif_pos (by simp only; omega), dif_neg (e ▸ h)]
    exact congrArg₂ (fun b k => buf (ix3 b k d)) (Fin.ext e'.symm) (Fin.ext (by simp only [e]; omega))

/-- The rows before the layer norm, row by row. -/
theorem pre_at (x : FVec Ideal S16384x1024 .f32) (w : FVec Ideal S1024x6144 .f32) (cw : FVec Ideal S3x3072 .f32)
    (cb : FVec Ideal S3072 .f32) (wd : FVec Ideal S3072x1024 .f32) (buf : FVec Ideal S2x2x3072 .f32) (R : Fin 16384) (k : Fin 1024) :
    preArr x (gated (conv cw cb (padded (hid x w) buf)) (hid x w)) wd
      (ix3 ⟨R.val / 8192, by omega⟩ ⟨R.val % 8192, by omega⟩ k) = pre x w cw cb wd buf R k := by
  rw [preArr_at]
  refine resid_congr (fun k => by rw [row_self]) (fun d => ?_) (fun _ _ => rfl) k
  have h2 := padded_lag x w buf ⟨R.val / 8192, by omega⟩ ⟨R.val % 8192, by omega⟩ d 2 (by omega)
  have h1 := padded_lag x w buf ⟨R.val / 8192, by omega⟩ ⟨R.val % 8192, by omega⟩ d 1 (by omega)
  have h0 := padded_lag x w buf ⟨R.val / 8192, by omega⟩ ⟨R.val % 8192, by omega⟩ d 0 (by omega)
  rw [row_self] at h2 h1 h0
  rw [gated_at, conv_at, hid_at, row_self]
  exact congrArg (fun z => gelu z * _) (congr (congr (congrArg _ h2) h1) (h0.trans (by simp [lag])))

variable (m : (ℓ : Loc nD τ sig) → Buf (Elt Ideal) ℓ)

/-- The reference's first result at row `R`, column `l`: the layer norm of that row. -/
theorem result_at (c : Dev nD) (R : Fin 16384) (l : Fin 1024) :
    Cert.FfnRefIdeal.Value.res_out0 (F := Ideal) m c (ix2 R l)
      = layerNorm (pre (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg7)) R)
          (m ((c.tc : Thread nD τ).loc main_arg5) (ix1 l)) (m ((c.tc : Thread nD τ).loc main_arg6) (ix1 l)) l :=
  normed_at _ _ _ R _ (fun k => pre_at _ _ _ _ _ _ R k) l

/-- The reference's second result: the last eight rows of each sequence's up-projected first half. -/
theorem tail_at (x : FVec Ideal S16384x1024 .f32) (w : FVec Ideal S1024x6144 .f32) (b : Fin 2) (k : Fin 8) (d : Fin 3072) :
    extractStridedSlice S2x8x3072 ![0, 8184, 0] (extractStridedSlice S2x8192x3072 ![0, 0, 0] (hid x w)
      slices_S2x8192x6144_S2x8192x3072_0_0_0) slices_S2x8192x3072_S2x8x3072_0_8184_0 (ix3 b k d)
      = ucol x w ⟨d.val, by omega⟩ (row b ⟨8184 + k.val, by omega⟩) := by
  rw [← hid_at]
  pointwise

end Cert.FfnRefIdeal.Hand

end
-- ==== Proof.LruSpec.lean ====
/- The gated linear recurrence over a whole sequence: the mathematics both programs are compared with. -/
module

public import proofs.«01_k».proof.Proof.LruRows
public import proofs.«01_k».proof.Proof.LruScan
public import proofs.«01_k».proof.Proof.FfnRows

@[expose] public section

noncomputable section

namespace Cert.Lru.Spec

open Idealize.ShloMosaic Cert.Rows Cert.Lru.Rows Cert

/-- The arrays the layer is applied to: the projected rows, the filter, the gates' weights, the rates, the carried-over
    state and the carried-over rows. -/
structure Args where
  /-- The projected rows of each sequence. -/
  h : Fin 2 → Fin 8192 → Fin 7680 → EReal
  /-- The taps of the filter. -/
  cw : Fin 4 → Fin 512 → EReal
  /-- The bias of the filter. -/
  cb : Fin 512 → EReal
  /-- The blocks of the decay gate's weights. -/
  wa : Fin 8 → Fin 64 → Fin 64 → EReal
  /-- The bias of the decay gate. -/
  ba : Fin 512 → EReal
  /-- The blocks of the input gate's weights. -/
  wx : Fin 8 → Fin 64 → Fin 64 → EReal
  /-- The bias of the input gate. -/
  bx : Fin 512 → EReal
  /-- The rates. -/
  lam : Fin 512 → EReal
  /-- The state before the first row. -/
  h0 : Fin 2 → Fin 512 → EReal
  /-- The three rows before the first row. -/
  buf : Fin 2 → Fin 3 → Fin 512 → EReal

variable (p : Args) (b : Fin 2)

/-- Entry `t` of the stream the filter runs over: the three carried-over rows, then the sequence. -/
def stream (t : ℕ) (k : Fin 512) : EReal :=
  if t < 3 then p.buf b ⟨t % 3, Nat.mod_lt _ (by decide)⟩ k else p.h b ⟨(t - 3) % 8192, Nat.mod_lt _ (by decide)⟩ ⟨3584 + k.val, by omega⟩

/-- The filtered row at time `t`. -/
def row (t : ℕ) (k : Fin 512) : EReal :=
  taps4 (p.cb k) (fun i => p.cw i k) (stream p b t k) (stream p b (t + 1) k) (stream p b (t + 2) k) (stream p b (t + 3) k)

/-- The decay of entry `k` at time `t`. -/
def A (k : Fin 512) (t : ℕ) : EReal := decay (row p b t) p.wa p.ba p.lam k

/-- The input of entry `k` at time `t`. -/
def U (k : Fin 512) (t : ℕ) : EReal := drive (row p b t) p.wa p.wx p.ba p.bx p.lam k

/-- The state of entry `k` after `t` rows. -/
def state (t : ℕ) (k : Fin 512) : EReal := Scan.run (A p b k) (U p b k) 0 t (p.h0 b k)

/-- The result at time `t`: the state after the row, times the row's gate. -/
def out (t : Fin 8192) (k : Fin 512) : EReal := state p b (t.val + 1) k * gelu (p.h b t ⟨4096 + k.val, by omega⟩)

/-- Every decay is not negative and finite. -/
theorem A_ok (k : Fin 512) (t : ℕ) : 0 ≤ A p b k t ∧ A p b k t ≠ ⊤ := decay_ok _ _ _ _ _

end Cert.Lru.Spec

end
-- ==== Proof.LruEntries.lean ====
/- The recurrence's body, entry by entry: over blocks that hold a stretch of a sequence, what the body computes is the
   recurrence's states over that stretch. -/
module

public import proofs.«01_k».proof.Proof.LruBody
public import proofs.«01_k».proof.Proof.LruSpec
public import Idealize.ShloMosaic.Lib.Pointwise

@[expose] public section

set_option maxRecDepth 16384

noncomputable section

namespace Cert.LruIdeal.Hand

open Idealize.ShloMosaic Cert.Rows Cert.Lru.Rows Cert.Lru.Spec Cert
open Cert.LruIdeal Cert.LruIdeal.Gen

/-! ## The parts of the body at an entry -/

/-- The block behind its leading unit axis. -/
theorem pay5_at (x : FVec Ideal S1x512x512 .f32) (r k : Fin 512) : k0_pay5 (F := Ideal) x (ix2 r k) = x (ix3 0 r k) := by
  pointwise [k0_pay5, k0_pay4]

/-- The filter at an entry. -/
theorem pay6_at (x : FVec Ideal S1x512x512 .f32) (cw : FVec Ideal S4x512 .f32) (cb : FVec Ideal S1x512 .f32)
    (t0 t1 t2 : FVec Ideal S512x512 .f32) (r k : Fin 512) :
    k0_pay6 (F := Ideal) x cw cb t0 t1 t2 (ix2 r k)
      = taps4 (cb (ix2 0 k)) (fun i => cw (ix2 i k)) (t0 (ix2 r k)) (t1 (ix2 r k)) (t2 (ix2 r k)) (x (ix3 0 r k)) := by
  rw [← taps4_last]
  pointwise [k0_pay6, k0_pay4]

/-- A gate at an entry, the row's product with the weights not yet split. -/
theorem pay10_at (xc : FVec Ideal S512x512 .f32) (w : FVec Ideal S512x512 .bf16) (b : FVec Ideal S1x512 .f32) (r k : Fin 512) :
    k0_pay10 (F := Ideal) xc w b (ix2 r k) = sigm ((∑ j, xc (ix2 r j) * w (ix2 j k)) + b (ix2 0 k)) := by
  pointwise [k0_pay10, k0_pay9, sigm]
  rw [zero_sub]

/-- The other gate is formed alike. -/
theorem pay11_at (xc : FVec Ideal S512x512 .f32) (w : FVec Ideal S512x512 .bf16) (b : FVec Ideal S1x512 .f32) (r k : Fin 512) :
    k0_pay11 (F := Ideal) xc w b (ix2 r k) = sigm ((∑ j, xc (ix2 r j) * w (ix2 j k)) + b (ix2 0 k)) := by
  pointwise [k0_pay11, k0_pay9, sigm]
  rw [zero_sub]

/-- The logarithm of a decay at an entry. -/
theorem pay13_at (g : FVec Ideal S512x512 .f32) (lam : FVec Ideal S1x512 .f32) (r k : Fin 512) :
    k0_pay13 (F := Ideal) g (k0_pay12 lam) (ix2 r k) = logDecay (g (ix2 r k)) (lam (ix2 0 k)) := by
  pointwise [k0_pay13, k0_pay12, logDecay, soft]
  simp only [zero_sub]
  rfl

/-- A decay at an entry. -/
theorem pay14_at (g : FVec Ideal S512x512 .f32) (lam : FVec Ideal S1x512 .f32) (r k : Fin 512) :
    k0_pay14 (F := Ideal) g (k0_pay12 lam) (ix2 r k) = Ideal.exp (logDecay (g (ix2 r k)) (lam (ix2 0 k))) := by
  rw [← pay13_at]
  pointwise [k0_pay14]

/-- Only a block's first row takes what is carried in. -/
theorem sel0 (r : Fin 512) (a b : EReal) :
    Scalar.select (IntOp.cmpi CmpIPredicate.eq (BitVec.ofNat 32 r.val) 0#32) a b = if r.val = 0 then a else b := by
  have h : ∀ r : Fin 512, IntOp.cmpi CmpIPredicate.eq (BitVec.ofNat 32 r.val) 0#32 = if r.val = 0 then 1#1 else 0#1 := by decide +kernel
  rw [h]
  split <;> rfl

/-- An input at an entry. -/
theorem pay15_at (xc g i : FVec Ideal S512x512 .f32) (lam H : FVec Ideal S1x512 .f32) (r k : Fin 512) :
    k0_pay15 (F := Ideal) xc g i (k0_pay12 lam) H (ix2 r k)
      = amp (logDecay (g (ix2 r k)) (lam (ix2 0 k))) * i (ix2 r k) * xc (ix2 r k)
        + if r.val = 0 then Ideal.exp (logDecay (g (ix2 r k)) (lam (ix2 0 k))) * H (ix2 0 k) else 0 := by
  rw [← pay14_at, ← pay13_at, ← sel0]
  pointwise [k0_pay15, amp]

/-- The gated state at an entry. -/
theorem pay41_at (s : FVec Ideal S512x512 .f32) (g : FVec Ideal S1x512x512 .f32) (r k : Fin 512) :
    k0_pay41 (F := Ideal) s g (ix3 0 r k) = s (ix2 r k) * gelu (g (ix3 0 r k)) := by
  pointwise [k0_pay41, gelu]

/-! ## The doublings -/

/-- A column of a block by row number (the number's remainder by 512). -/
def col (v : FVec Ideal S512x512 .f32) (l : Fin 512) (i : ℕ) : EReal := v (ix2 ⟨i % 512, Nat.mod_lt _ (by decide)⟩ l)

theorem col_val (v : FVec Ideal S512x512 .f32) (l i : Fin 512) : col v l i.val = v (ix2 i l) := by
  unfold col
  congr 2
  exact Fin.ext (Nat.mod_eq_of_lt i.isLt)

/-- The shifted products' padding is one, the shifted sums' zero. -/
theorem ones_at (r : Fin 256) (l : Fin 512) : ones (F := Ideal) (ix2 r l) = (1 : EReal) := by
  pointwise [ones, k0_pay16]

theorem zeros_at (r : Fin 256) (l : Fin 512) : zeros (F := Ideal) (ix2 r l) = (0 : EReal) := by
  pointwise [zeros, k0_pay18, k0_pay17]

/-- A column shifted down by `n` rows, the padding's entry above. -/
theorem back_col (P : FVec Ideal S256x512 .f32) (e : EReal) (hP : ∀ r l, P (ix2 r l) = e) (v : FVec Ideal S512x512 .f32) (o n : ℕ)
    (hn : n + o = 256) (l i : Fin 512) : back (F := Ideal) o P v (ix2 i l) = if n ≤ i.val then col v l (i.val - n) else e := by
  show padAt (F := Ideal) P v (o + i.val) l = _
  unfold padAt col
  by_cases h : n ≤ i.val
  · rw [dif_neg (by omega), if_pos h]
    congr 2
    exact Fin.ext (by show (o + i.val - 256) % 512 = (i.val - n) % 512; congr 1; omega)
  · rw [dif_pos (by omega), if_neg h]
    exact hP _ _

/-- The products after a doubling, and the sums. -/
theorem pay22_at (A B : FVec Ideal S512x512 .f32) (i l : Fin 512) : k0_pay22 (F := Ideal) A B (ix2 i l) = A (ix2 i l) * B (ix2 i l) := by
  pointwise [k0_pay22]

theorem pay21_at (A U B : FVec Ideal S512x512 .f32) (i l : Fin 512) :
    k0_pay21 (F := Ideal) A U B (ix2 i l) = A (ix2 i l) * B (ix2 i l) + U (ix2 i l) := by
  pointwise [k0_pay21]

/-- The doublings, from windows of `n` rows on, end at windows of 512. -/
def Doubles : ℕ → List ℕ → Prop
  | n, [] => n = 512
  | n, o :: os => n + o = 256 ∧ Doubles (n + n) os

/-- Doublings take windows of `n` rows to windows of 512. -/
theorem doubled_windows {a u : ℕ → EReal} (ha : ∀ i, 0 ≤ a i ∧ a i ≠ ⊤) (l : Fin 512) :
    ∀ (os : List ℕ) (n : ℕ) (A U : FVec Ideal S512x512 .f32), Doubles n os → Scan.Windows a u n (col A l) (col U l)
      → Scan.Windows a u 512 (col (doubled (F := Ideal) os A U).1 l) (col (doubled (F := Ideal) os A U).2 l)
  | [], n, A, U, hn, h => by
    obtain rfl : n = 512 := hn
    exact h
  | o :: os, n, A, U, hn, h => by
    obtain ⟨ho, hd⟩ := hn
    refine doubled_windows ha l os (n + n) _ _ hd fun i hi => ?_
    have w := Scan.windows_double ha (by omega) h i hi
    have ea := back_col (ones (F := Ideal)) 1 ones_at A o n ho l ⟨i, hi⟩
    have eu := back_col (zeros (F := Ideal)) 0 zeros_at U o n ho l ⟨i, hi⟩
    refine ⟨Eq.trans ?_ w.1, Eq.trans ?_ w.2⟩
    · refine (col_val _ l ⟨i, hi⟩).trans ((pay22_at _ _ _ _).trans ?_)
      rw [ea, ← col_val A l ⟨i, hi⟩]
    · refine (col_val _ l ⟨i, hi⟩).trans ((pay21_at _ _ _ _ _).trans ?_)
      rw [eu, ← col_val A l ⟨i, hi⟩, ← col_val U l ⟨i, hi⟩]

/-- The nine doublings are enough for a block. -/
theorem doubles_shifts : Doubles 1 shifts := by
  refine ⟨rfl, rfl, rfl, rfl, rfl, rfl, rfl, rfl, rfl, rfl⟩

/-- Row `i` of the scan of a block is the state after its first `i + 1` rows, from zero. -/
theorem doubled_at (A U : FVec Ideal S512x512 .f32) (l : Fin 512) (ha : ∀ i, 0 ≤ A (ix2 i l) ∧ A (ix2 i l) ≠ (⊤ : EReal)) (i : Fin 512) :
    (doubled (F := Ideal) shifts A U).2 (ix2 i l) = Scan.run (col A l) (col U l) 0 (i.val + 1) 0 := by
  refine (col_val _ l i).symm.trans ?_
  exact Scan.windows_full (doubled_windows (fun i => ha _) l shifts 1 A U doubles_shifts (Scan.windows_one _ _)) i.val i.isLt

/-! ## The body over a stretch of a sequence -/

/-- The blocks hold 512 rows of sequence `b` from time `s` on: the rows, the three rows before them, the state before them, and
    the layer's weights. -/
structure Stretch (p : Args) (b : Fin 2) (s : ℕ) (x : FVec Ideal S1x512x512 .f32) (cw : FVec Ideal S4x512 .f32) (cb : FVec Ideal S1x512 .f32)
    (wa : FVec Ideal S512x512 .bf16) (ba : FVec Ideal S1x512 .f32) (wx : FVec Ideal S512x512 .bf16) (bx lam : FVec Ideal S1x512 .f32)
    (C : FVec Ideal S3x512 .f32) (H : FVec Ideal S1x512 .f32) : Prop where
  x : ∀ i k : Fin 512, x (ix3 0 i k) = stream p b (s + 3 + i.val) k
  cw : ∀ (i : Fin 4) (k : Fin 512), cw (ix2 i k) = p.cw i k
  cb : ∀ k : Fin 512, cb (ix2 0 k) = p.cb k
  wa : ∀ j k : Fin 512, wa (ix2 j k)
    = if j.val / 64 = k.val / 64 then p.wa ⟨j.val / 64, by omega⟩ ⟨j.val % 64, by omega⟩ ⟨k.val % 64, by omega⟩ else 0
  ba : ∀ k : Fin 512, ba (ix2 0 k) = p.ba k
  wx : ∀ j k : Fin 512, wx (ix2 j k)
    = if j.val / 64 = k.val / 64 then p.wx ⟨j.val / 64, by omega⟩ ⟨j.val % 64, by omega⟩ ⟨k.val % 64, by omega⟩ else 0
  bx : ∀ k : Fin 512, bx (ix2 0 k) = p.bx k
  lam : ∀ k : Fin 512, lam (ix2 0 k) = p.lam k
  C : ∀ (i : Fin 3) (k : Fin 512), C (ix2 i k) = stream p b (s + i.val) k
  H : ∀ k : Fin 512, H (ix2 0 k) = state p b s k

variable {p : Args} {b : Fin 2} {s : ℕ} {x : FVec Ideal S1x512x512 .f32} {cw : FVec Ideal S4x512 .f32} {cb : FVec Ideal S1x512 .f32}
  {wa : FVec Ideal S512x512 .bf16} {ba : FVec Ideal S1x512 .f32} {wx : FVec Ideal S512x512 .bf16} {bx lam : FVec Ideal S1x512 .f32}
  {C : FVec Ideal S3x512 .f32} {H : FVec Ideal S1x512 .f32}

/-- The filter's window holds the stream from the three carried rows on. -/
theorem Stretch.window (h : Stretch p b s x cw cb wa ba wx bx lam C H) (r : ℕ) (hr : r < 515) (k : Fin 512) :
    winAt (F := Ideal) C (k0_pay5 (F := Ideal) x) (5 + r) k = stream p b (s + r) k := by
  unfold winAt
  by_cases h3 : r < 3
  · rw [if_pos (by omega), h.C]
    congr 1
    show s + (5 + r - 5) % 3 = s + r
    omega
  · rw [if_neg (by omega), pay5_at, h.x]
    congr 1
    show s + 3 + (5 + r - 8) % 512 = s + r
    omega

/-- The filtered block. -/
theorem Stretch.conv (h : Stretch p b s x cw cb wa ba wx bx lam C H) (i k : Fin 512) :
    conv (F := Ideal) x cw cb C (ix2 i k) = row p b (s + i.val) k := by
  have ht : ∀ n, n < 4 → tap (F := Ideal) n C (k0_pay5 (F := Ideal) x) (ix2 i k) = stream p b (s + i.val + n) k := fun n hn => by
    show winAt (F := Ideal) C (k0_pay5 (F := Ideal) x) (5 + n + i.val) k = _
    rw [show 5 + n + i.val = 5 + (i.val + n) by omega, h.window _ (by omega), Nat.add_assoc]
  unfold Hand.conv
  rw [pay6_at, ht 0 (by omega), ht 1 (by omega), ht 2 (by omega), h.x, h.cb, show s + 3 + i.val = s + i.val + 3 by omega]
  simp only [h.cw]
  rfl

/-- A filtered row times a gate's matrix is the row's block times the gate's block. -/
theorem gate_sum (X : Fin 512 → EReal) (W : Fin 8 → Fin 64 → Fin 64 → EReal) (w : FVec Ideal S512x512 .bf16)
    (hw : ∀ j k : Fin 512, w (ix2 j k)
      = if j.val / 64 = k.val / 64 then W ⟨j.val / 64, by omega⟩ ⟨j.val % 64, by omega⟩ ⟨k.val % 64, by omega⟩ else 0) (k : Fin 512) :
    ∑ j, X j * w (ix2 j k)
      = ∑ d : Fin 64, X ⟨64 * (k.val / 64) + d.val, by omega⟩ * W ⟨k.val / 64, by omega⟩ d ⟨k.val % 64, by omega⟩ := by
  refine sum_block X (fun j => w (ix2 j k)) (fun d => W ⟨k.val / 64, by omega⟩ d ⟨k.val % 64, by omega⟩) ⟨k.val / 64, by omega⟩
    (fun d => ?_) fun j hj => (hw j k).trans (if_neg hj)
  refine (hw _ _).trans ((if_pos (by show (64 * (k.val / 64) + d.val) / 64 = k.val / 64; omega)).trans ?_)
  congr 1
  · exact Fin.ext (by show (64 * (k.val / 64) + d.val) / 64 = k.val / 64; omega)
  · exact Fin.ext (by show (64 * (k.val / 64) + d.val) % 64 = d.val; omega)

/-- The two gates. -/
theorem Stretch.gates (h : Stretch p b s x cw cb wa ba wx bx lam C H) (i k : Fin 512) :
    k0_pay10 (F := Ideal) (Hand.conv (F := Ideal) x cw cb C) wa ba (ix2 i k) = gate (row p b (s + i.val)) p.wa p.ba k
    ∧ k0_pay11 (F := Ideal) (Hand.conv (F := Ideal) x cw cb C) wx bx (ix2 i k) = gate (row p b (s + i.val)) p.wx p.bx k := by
  rw [pay10_at, pay11_at, h.ba, h.bx]
  simp only [h.conv]
  rw [gate_sum _ p.wa wa h.wa, gate_sum _ p.wx wx h.wx]
  exact ⟨rfl, rfl⟩

/-- The decays. -/
theorem Stretch.decay (h : Stretch p b s x cw cb wa ba wx bx lam C H) (i k : Fin 512) :
    k0_pay19 (F := Ideal) (Hand.decay (F := Ideal) (Hand.conv (F := Ideal) x cw cb C) wa ba lam) (ix2 i k) = A p b k (s + i.val) := by
  have e : ∀ v : FVec Ideal S512x512 .f32, k0_pay19 (F := Ideal) v (ix2 i k) = v (ix2 i k) := fun v => by pointwise [k0_pay19]
  rw [e]
  unfold Hand.decay
  rw [pay14_at, (h.gates i k).1, h.lam]
  rfl

/-- The inputs, the carried-in state entering the first row. -/
theorem Stretch.drive (h : Stretch p b s x cw cb wa ba wx bx lam C H) (i k : Fin 512) :
    k0_pay20 (F := Ideal) (Hand.drive (F := Ideal) (Hand.conv (F := Ideal) x cw cb C) wa ba wx bx lam H) (ix2 i k)
      = U p b k (s + i.val) + if i.val = 0 then A p b k (s + i.val) * state p b s k else 0 := by
  have e : ∀ v : FVec Ideal S512x512 .f32, k0_pay20 (F := Ideal) v (ix2 i k) = v (ix2 i k) := fun v => by pointwise [k0_pay20]
  rw [e]
  unfold Hand.drive
  rw [pay15_at, (h.gates i k).1, (h.gates i k).2, h.lam, h.H, h.conv]
  rfl

/-- The states. -/
theorem Stretch.states (h : Stretch p b s x cw cb wa ba wx bx lam C H) (i k : Fin 512) :
    states (F := Ideal) x cw cb wa ba wx bx lam C H (ix2 i k) = state p b (s + (i.val + 1)) k := by
  unfold Hand.states
  have hd : ∀ j, j < 512 → col (k0_pay19 (F := Ideal) (Hand.decay (F := Ideal) (Hand.conv (F := Ideal) x cw cb C) wa ba lam)) k j = A p b k (s + j) :=
    fun j hj => (col_val _ k ⟨j, hj⟩).trans (h.decay ⟨j, hj⟩ k)
  have hu : ∀ j, j < 512 → col (k0_pay20 (F := Ideal) (Hand.drive (F := Ideal) (Hand.conv (F := Ideal) x cw cb C) wa ba wx bx lam H)) k j
      = U p b k (s + j) + if j = 0 then A p b k (s + j) * state p b s k else 0 :=
    fun j hj => (col_val _ k ⟨j, hj⟩).trans (h.drive ⟨j, hj⟩ k)
  rw [doubled_at _ _ k (fun j => by rw [h.decay j k]; exact A_ok p b k _) i]
  unfold state
  rw [Scan.run_split (A p b k) (U p b k) 0 s _ (i.val + 1), Nat.zero_add]
  refine Eq.trans (Scan.run_congr (a' := fun j => A p b k (s + j))
    (u' := fun j => U p b k (s + j) + if j = 0 then A p b k (s + j) * state p b s k else 0) (s' := 0) (i.val + 1) 0 fun j hj => ?_) ?_
  · exact ⟨hd _ (by omega), hu _ (by omega)⟩
  refine Eq.trans (Scan.run_enter (u := fun j => U p b k (s + j)) (state p b s k) (by rw [if_pos rfl]) (fun j hj => ?_) i.val) ?_
  · rw [if_neg (by omega), add_zero]
  · exact Scan.run_congr _ _ fun j hj => by simp only [Nat.zero_add, and_self]

/-- The block of gated states. -/
theorem Stretch.outY (h : Stretch p b s x cw cb wa ba wx bx lam C H) (g : FVec Ideal S1x512x512 .f32) (i k : Fin 512) :
    outY (F := Ideal) x g cw cb wa ba wx bx lam C H (ix3 0 i k) = state p b (s + (i.val + 1)) k * gelu (g (ix3 0 i k)) := by
  unfold Hand.outY
  rw [pay41_at, h.states]

/-- The last row's state, as the result holds it. -/
theorem Stretch.outH (h : Stretch p b s x cw cb wa ba wx bx lam C H) (k : Fin 512) :
    outH (F := Ideal) x cw cb wa ba wx bx lam C H (ix3 0 0 k) = state p b (s + 512) k := by
  have e : ∀ v : FVec Ideal S512x512 .f32, k0_pay1 (F := Ideal) (k0_pay43 v) (ix3 0 0 k) = v (ix2 511 k) := fun v => by
    pointwise [k0_pay1, k0_pay43]
  unfold Hand.outH
  rw [e, h.states]
  rfl

/-- The last row's state, as it is carried on. -/
theorem Stretch.nextH (h : Stretch p b s x cw cb wa ba wx bx lam C H) (k : Fin 512) :
    nextH (F := Ideal) x cw cb wa ba wx bx lam C H (ix2 0 k) = state p b (s + 512) k := by
  have e : ∀ v : FVec Ideal S512x512 .f32, k0_pay42 (F := Ideal) v (ix2 0 k) = v (ix2 511 k) := fun v => by
    pointwise [k0_pay42]
  unfold Hand.nextH
  rw [e, h.states]
  rfl

/-- The window's last three rows. -/
theorem Stretch.last (h : Stretch p b s x cw cb wa ba wx bx lam C H) (i : Fin 3) (k : Fin 512) :
    last3 (F := Ideal) C (k0_pay5 (F := Ideal) x) (ix2 i k) = stream p b (s + 512 + i.val) k := by
  show winAt (F := Ideal) C (k0_pay5 (F := Ideal) x) (517 + i.val) k = _
  rw [show 517 + i.val = 5 + (512 + i.val) by omega, h.window _ (by omega), Nat.add_assoc]

/-- Those rows, as the result holds them. -/
theorem Stretch.outB (h : Stretch p b s x cw cb wa ba wx bx lam C H) (i : Fin 3) (k : Fin 512) :
    outB (F := Ideal) x C (ix3 0 i k) = stream p b (s + 512 + i.val) k := by
  have e : ∀ v : FVec Ideal S3x512 .f32, k0_pay7 (F := Ideal) v (ix3 0 i k) = v (ix2 i k) := fun v => by pointwise [k0_pay7]
  unfold Hand.outB
  rw [e, h.last]

/-- Those rows, as they are carried on. -/
theorem Stretch.nextC (h : Stretch p b s x cw cb wa ba wx bx lam C H) (i : Fin 3) (k : Fin 512) :
    nextC (F := Ideal) x C (ix2 i k) = stream p b (s + 512 + i.val) k := by
  have e : ∀ v : FVec Ideal S3x512 .f32, k0_pay8 (F := Ideal) v (ix2 i k) = v (ix2 i k) := fun v => by pointwise [k0_pay8]
  unfold Hand.nextC
  rw [e, h.last]

end Cert.LruIdeal.Hand

end
-- ==== Proof.LruDiag.lean ====
/- The gated linear recurrence: the gates' weights as the kernel is handed them, blocks on the diagonal of a square matrix. -/
module

public import proofs.«01_k».proof.Proof.Gen.LruIdeal.Frame
public import proofs.«01_k».proof.Proof.LruSpec
public import Idealize.ShloMosaic.Lib.Pointwise
public import Idealize.ShloMosaic.Lib.Routing.OpsPair
public import Idealize.ShloMosaic.Lib.Routing.OpsSet
public import Idealize.ShloMosaic.Lib.DynamicIndex

@[expose] public section

set_option maxRecDepth 16384

noncomputable section

namespace Cert.LruIdeal.Hand

open Idealize.ShloMosaic Idealize.ShloMosaic.TcCoe Idealize.SL.Sem Idealize.ShloMosaic.Routing
open Cert.LruIdeal Cert.LruIdeal.Gen

/-- The dimension numbers by which a block is written at a pair of equal places. -/
abbrev dims : ScatterDims S8x64x8x64 S2 S64x64 := scatter_S8x64x8x64_S2_S64x64_01_02_02_0

/-- Entry `(i, j)` of a block written at places `(p, q)` lands at `(a, i', b, j')` exactly when `a` is `p`, `b` is `q` and the rest agree. -/
theorem lands (idx : IVec S2 32) (n : ℕ) (h0 : (idx (ix1 0)).toInt = n) (h1 : (idx (ix1 1)).toInt = n) (i j : Fin 64) (a : Fin 8) (i' : Fin 64)
    (b : Fin 8) (j' : Fin 64) : dims.resultIdx? (ix2 i j) idx = some (ix4 a i' b j') ↔ (a.val = n ∧ b.val = n) ∧ i = i' ∧ j = j' := by
  have w0 : dims.window (ix2 i j) 0 = 0 := rfl
  have w1 : dims.window (ix2 i j) 1 = i.val := rfl
  have w2 : dims.window (ix2 i j) 2 = 0 := rfl
  have w3 : dims.window (ix2 i j) 3 = j.val := rfl
  have s0 : dims.start (ix2 i j) idx 0 = n := by
    refine Eq.trans ?_ h0
    show (idx _).toInt = _
    congr 2
    funext x
    match x with
    | ⟨0, _⟩ => rfl
  have s1 : dims.start (ix2 i j) idx 1 = 0 := rfl
  have s2 : dims.start (ix2 i j) idx 2 = n := by
    refine Eq.trans ?_ h1
    show (idx _).toInt = _
    congr 2
    funext x
    match x with
    | ⟨0, _⟩ => rfl
  have s3 : dims.start (ix2 i j) idx 3 = 0 := rfl
  rw [resultIdx?_eq_some]
  constructor
  · intro h
    have e0 := h 0
    have e1 := h 1
    have e2 := h 2
    have e3 := h 3
    rw [w0, s0] at e0
    rw [w1, s1] at e1
    rw [w2, s2] at e2
    rw [w3, s3] at e3
    change (n : Int) + 0 = (a.val : Int) at e0
    change (0 : Int) + i.val = (i'.val : Int) at e1
    change (n : Int) + 0 = (b.val : Int) at e2
    change (0 : Int) + j.val = (j'.val : Int) at e3
    exact ⟨⟨by omega, by omega⟩, Fin.ext (by omega), Fin.ext (by omega)⟩
  · rintro ⟨⟨e0, e2⟩, rfl, rfl⟩ x
    match x with
    | ⟨0, _⟩ =>
      show dims.start (ix2 i j) idx 0 + (dims.window (ix2 i j) 0 : Int) = (a.val : Int)
      rw [w0, s0]; omega
    | ⟨1, _⟩ =>
      show dims.start (ix2 i j) idx 1 + (dims.window (ix2 i j) 1 : Int) = (i.val : Int)
      rw [w1, s1]; omega
    | ⟨2, _⟩ =>
      show dims.start (ix2 i j) idx 2 + (dims.window (ix2 i j) 2 : Int) = (b.val : Int)
      rw [w2, s2]; omega
    | ⟨3, _⟩ =>
      show dims.start (ix2 i j) idx 3 + (dims.window (ix2 i j) 3 : Int) = (j.val : Int)
      rw [w3, s3]; omega

/-- The pair of places of block `n`. -/
def places (n : ℕ) : IVec S2 32 :=
  concatenate S2 0 [⟨S1, broadcastInDim S1 ![] bcast_S_S1 (constantI S_ 32 (BitVec.ofNat 32 n))⟩,
    ⟨S1, broadcastInDim S1 ![] bcast_S_S1 (constantI S_ 32 (BitVec.ofNat 32 n))⟩] concatenates_S1_S1_S2_d0

/-- Both places of block `n` are `n`. -/
theorem places_at (n : ℕ) (e : Fin 2) : places n (ix1 e) = BitVec.ofNat 32 n := by
  pointwise [places]
  split <;> rfl

/-- Block `n` of the weights written at its place on the diagonal. -/
def place (w : FVec Ideal S8x64x64 .f32) (n : ℕ) (h : S8x64x64.Slices ![n, 0, 0] S1x64x64) (x : FVec Ideal S8x64x8x64 .f32) : FVec Ideal S8x64x8x64 .f32 :=
  Host.scatter dims (fun _ b => b) x (places n) (shapeCast S64x64 (extractStridedSlice S1x64x64 ![n, 0, 0] w h) shapeCasts_S1x64x64_S64x64)

/-- A block written on the diagonal, at an entry. -/
theorem place_at (w : FVec Ideal S8x64x64 .f32) (n : ℕ) (hn : n < 8) (h : S8x64x64.Slices ![n, 0, 0] S1x64x64) (x : FVec Ideal S8x64x8x64 .f32)
    (a : Fin 8) (i : Fin 64) (b : Fin 8) (j : Fin 64) :
    place w n h x (ix4 a i b j) = if a.val = n ∧ b.val = n then w (ix3 a i j) else x (ix4 a i b j) := by
  have hp : ∀ e : Fin 2, (places n (ix1 e)).toInt = n := fun e => by rw [places_at, toInt_ofNat_of_lt (by omega)]
  have hl := lands (places n) n (hp 0) (hp 1)
  have hu : ∀ i j : Fin 64, shapeCast S64x64 (extractStridedSlice S1x64x64 ![n, 0, 0] w h) shapeCasts_S1x64x64_S64x64 (ix2 i j)
      = w (ix3 ⟨n, hn⟩ i j) := fun i j => by pointwise []
  unfold place
  by_cases hab : a.val = n ∧ b.val = n
  · rw [if_pos hab]
    refine scatter_set_hit dims x (places n) _ _ _ (fun k hk => ?_) (ix2 i j) ((hl i j a i b j).2 ⟨hab, rfl, rfl⟩)
    obtain ⟨i', j', rfl⟩ : ∃ (i' j' : Fin 64), k = ix2 i' j' := ⟨k 0, k 1, eq_ix2 k⟩
    obtain ⟨-, rfl, rfl⟩ := (hl i' j' a i b j).1 hk
    rw [hu]
    exact congrArg (fun e => w (ix3 e i' j')) (Fin.ext hab.1.symm)
  · rw [if_neg hab]
    refine scatter_set_miss dims x (places n) _ _ fun k hk => hab ?_
    obtain ⟨i', j', rfl⟩ : ∃ (i' j' : Fin 64), k = ix2 i' j' := ⟨k 0, k 1, eq_ix2 k⟩
    exact ((hl i' j' a i b j).1 hk).1

/-- Off the diagonal a written block leaves what was there. -/
theorem place_off (w : FVec Ideal S8x64x64 .f32) (n : Fin 8) (h : S8x64x64.Slices ![n.val, 0, 0] S1x64x64) (x : FVec Ideal S8x64x8x64 .f32)
    {a b : Fin 8} (hab : a ≠ b) (i j : Fin 64) : place w n.val h x (ix4 a i b j) = x (ix4 a i b j) :=
  (place_at w n.val n.isLt h x a i b j).trans (if_neg fun e => hab (Fin.ext (e.1.trans e.2.symm)))

/-- On the diagonal a written block is there at its own place only. -/
theorem place_on (w : FVec Ideal S8x64x64 .f32) (n : Fin 8) (h : S8x64x64.Slices ![n.val, 0, 0] S1x64x64) (x : FVec Ideal S8x64x8x64 .f32)
    (a : Fin 8) (i j : Fin 64) (v : EReal) (hv : v = w (ix3 a i j)) (hx : a ≠ n → x (ix4 a i a j) = v) : place w n.val h x (ix4 a i a j) = v := by
  rw [place_at w n.val n.isLt h x a i a j]
  by_cases e : a = n
  · rw [if_pos ⟨congrArg Fin.val e, congrArg Fin.val e⟩, hv]
  · rw [if_neg fun q => e (Fin.ext q.1)]
    exact hx e

/-- The eight blocks on the diagonal, zeros elsewhere. -/
def blocks (w : FVec Ideal S8x64x64 .f32) : FVec Ideal S8x64x8x64 .f32 :=
  place w 7 slices_S8x64x64_S1x64x64_7_0_0 (place w 6 slices_S8x64x64_S1x64x64_6_0_0 (place w 5 slices_S8x64x64_S1x64x64_5_0_0
    (place w 4 slices_S8x64x64_S1x64x64_4_0_0 (place w 3 slices_S8x64x64_S1x64x64_3_0_0 (place w 2 slices_S8x64x64_S1x64x64_2_0_0
      (place w 1 slices_S8x64x64_S1x64x64_1_0_0 (place w 0 slices_S8x64x64_S1x64x64_0_0_0
        (broadcastInDim S8x64x8x64 ![] bcast_S_S8x64x8x64 (constant S_ .f32 0x00000000#32)))))))))

/-- The blocks at an entry. -/
theorem blocks_at (w : FVec Ideal S8x64x64 .f32) (a : Fin 8) (i : Fin 64) (b : Fin 8) (j : Fin 64) :
    blocks w (ix4 a i b j) = if a = b then w (ix3 a i j) else 0 := by
  unfold blocks
  by_cases h : a = b
  · rw [if_pos h]
    subst h
    refine place_on w 7 _ _ a i j _ rfl fun h7 => place_on w 6 _ _ a i j _ rfl fun h6 => place_on w 5 _ _ a i j _ rfl fun h5 =>
      place_on w 4 _ _ a i j _ rfl fun h4 => place_on w 3 _ _ a i j _ rfl fun h3 => place_on w 2 _ _ a i j _ rfl fun h2 =>
      place_on w 1 _ _ a i j _ rfl fun h1 => place_on w 0 _ _ a i j _ rfl fun h0 => ?_
    exfalso
    omega
  · rw [if_neg h]
    refine (place_off w 7 _ _ h i j).trans ((place_off w 6 _ _ h i j).trans ((place_off w 5 _ _ h i j).trans ((place_off w 4 _ _ h i j).trans
      ((place_off w 3 _ _ h i j).trans ((place_off w 2 _ _ h i j).trans ((place_off w 1 _ _ h i j).trans ((place_off w 0 _ _ h i j).trans ?_)))))))
    pointwise []

/-- The square matrix the kernel is handed. -/
def square (w : FVec Ideal S8x64x64 .f32) : FVec Ideal S512x512 .bf16 :=
  truncf .bf16 (shapeCast S512x512 (blocks w) shapeCasts_S8x64x8x64_S512x512) bitsLt_bf16_f32

/-- The square matrix at an entry: zero off the diagonal blocks of 64. -/
theorem square_at (w : FVec Ideal S8x64x64 .f32) (j k : Fin 512) :
    square w (ix2 j k) = if j.val / 64 = k.val / 64 then w (ix3 ⟨j.val / 64, by omega⟩ ⟨j.val % 64, by omega⟩ ⟨k.val % 64, by omega⟩) else 0 := by
  pointwise [square, blocks_at]
  try simp only [Fin.mk.injEq]

variable (m : (ℓ : Loc nD τ sig) → Buf (Elt Ideal) ℓ) (c : Dev nD)

/-- Argument `b` of the program. -/
abbrev arg (b : Ref sig .tc) := m ((c.tc : Thread nD τ).loc b)

set_option maxHeartbeats 8000000 in
/-- The decay gate's matrix is the diagonal of the fourth argument's blocks. -/
theorem V_wa : V m c main_v51 = square (arg m c main_arg3) := by
  unfold V
  after_reads_simp
  rfl

set_option maxHeartbeats 8000000 in
/-- The input gate's matrix is the diagonal of the sixth argument's blocks. -/
theorem V_wx : V m c main_v103 = square (arg m c main_arg5) := by
  unfold V
  after_reads_simp
  rfl

/-- The filter's bias, as a row. -/
theorem V_cb : V m c main_v0 = shapeCast S1x512 (arg m c main_arg2 : FVec Ideal S512 .f32) shapeCasts_S512_S1x512 := by
  unfold V
  after_reads_simp
  rfl

/-- The decay gate's bias, as a row. -/
theorem V_ba : V m c main_v52 = shapeCast S1x512 (arg m c main_arg4 : FVec Ideal S512 .f32) shapeCasts_S512_S1x512 := by
  unfold V
  after_reads_simp
  rfl

/-- The input gate's bias, as a row. -/
theorem V_bx : V m c main_v104 = shapeCast S1x512 (arg m c main_arg6 : FVec Ideal S512 .f32) shapeCasts_S512_S1x512 := by
  unfold V
  after_reads_simp
  rfl

/-- The rates, as a row. -/
theorem V_lam : V m c main_v105 = shapeCast S1x512 (arg m c main_arg7 : FVec Ideal S512 .f32) shapeCasts_S512_S1x512 := by
  unfold V
  after_reads_simp
  rfl

/-- The carried-over state, a row to a sequence. -/
theorem V_h0 : V m c main_v106 = shapeCast S2x1x512 (arg m c main_arg8 : FVec Ideal S2x512 .f32) shapeCasts_S2x512_S2x1x512 := by
  unfold V
  after_reads_simp
  rfl

end Cert.LruIdeal.Hand

end
-- ==== Proof.LruRef.lean ====
/- The gated linear recurrence: the reference's host arrays before its loop, entry by entry. -/
module

public import proofs.«01_k».proof.Proof.Gen.LruRefIdeal.Run
public import proofs.«01_k».proof.Proof.LruSpec
public import Idealize.ShloMosaic.Lib.Pointwise

@[expose] public section

set_option maxRecDepth 16384

noncomputable section

namespace Cert.LruRefIdeal.Hand

open Idealize.ShloMosaic Idealize.ShloMosaic.TcCoe Idealize.SL.Sem Idealize.ShloMosaic.StableHlo Cert.Rows Cert.Lru.Rows Cert.Lru.Spec
open Cert.LruRefIdeal Cert.LruRefIdeal.Gen

/-- A row along every sequence. -/
def along (v : FVec Ideal S512 .f32) : FVec Ideal S2x8192x512 .f32 :=
  broadcastInDim S2x8192x512 ![0, 1, 2] bcast_S1x1x512_S2x8192x512_0_1_2 (broadcastInDim S1x1x512 ![2] bcast_S512_S1x1x512_2 v)

/-- A constant everywhere. -/
def every (w : BitVec 32) : FVec Ideal S2x8192x512 .f32 := broadcastInDim S2x8192x512 ![] bcast_S_S2x8192x512 (constant S_ .f32 w)

/-- The carried-over rows and then the sequence. -/
def padded (h : FVec Ideal S2x8192x7680 .f32) (buf : FVec Ideal S2x3x512 .f32) : FVec Ideal S2x8195x512 .f32 :=
  concatenate S2x8195x512 1 [⟨S2x3x512, buf⟩, ⟨S2x8192x512, extractStridedSlice S2x8192x512 ![0, 0, 3584] h
    slices_S2x8192x7680_S2x8192x512_0_0_3584⟩] concatenates_S2x3x512_S2x8192x512_S2x8195x512_d1

/-- The filtered rows as the reference forms them. -/
def conv (cw : FVec Ideal S4x512 .f32) (cb : FVec Ideal S512 .f32) (p : FVec Ideal S2x8195x512 .f32) : FVec Ideal S2x8192x512 .f32 :=
  addf (addf (addf (addf (along cb)
    (mulf (along (shapeCast _ (extractStridedSlice S1x512 ![0, 0] cw slices_S4x512_S1x512_0_0) shapeCasts_S1x512_S512))
      (extractStridedSlice S2x8192x512 ![0, 0, 0] p slices_S2x8195x512_S2x8192x512_0_0_0)))
    (mulf (along (shapeCast _ (extractStridedSlice S1x512 ![1, 0] cw slices_S4x512_S1x512_1_0) shapeCasts_S1x512_S512))
      (extractStridedSlice S2x8192x512 ![0, 1, 0] p slices_S2x8195x512_S2x8192x512_0_1_0)))
    (mulf (along (shapeCast _ (extractStridedSlice S1x512 ![2, 0] cw slices_S4x512_S1x512_2_0) shapeCasts_S1x512_S512))
      (extractStridedSlice S2x8192x512 ![0, 2, 0] p slices_S2x8195x512_S2x8192x512_0_2_0)))
    (mulf (along (shapeCast _ (extractStridedSlice S1x512 ![3, 0] cw slices_S4x512_S1x512_3_0) shapeCasts_S1x512_S512))
      (extractStridedSlice S2x8192x512 ![0, 3, 0] p slices_S2x8195x512_S2x8192x512_0_3_0))

/-- A gate's row times the blocks of its weights, as the reference forms it. -/
def mixed (w : FVec Ideal S8x64x64 .f32) (x : FVec Ideal S2x8192x512 .f32) : FVec Ideal S2x8192x512 .f32 :=
  shapeCast _ (transpose S2x8192x8x64 [2, 3, 0, 1] (Host.dotGeneral dot_S8x64x64_S2x8192x8x64_S8x64x2x8192_1_3_2_01_0_2 none w
    (shapeCast _ x shapeCasts_S2x8192x512_S2x8192x8x64)) transposes_S8x64x2x8192_S2x8192x8x64_2_3_0_1) shapeCasts_S2x8192x8x64_S2x8192x512

/-- A gate as the reference forms it. -/
def gates (w : FVec Ideal S8x64x64 .f32) (b : FVec Ideal S512 .f32) (x : FVec Ideal S2x8192x512 .f32) : FVec Ideal S2x8192x512 .f32 :=
  Host.divf (every 0x3F800000#32) (addf (every 0x3F800000#32) (Host.exp (Host.negf (addf (mixed w x) (along b)))))

/-- The softened maximum with zero as the reference forms it. -/
def softs (z : FVec Ideal S512 .f32) : FVec Ideal S512 .f32 :=
  select (cmpf .une (subf z (broadcastInDim S512 ![] bcast_S_S512 (constant S_ .f32 0x00000000#32))) (subf z (broadcastInDim S512 ![] bcast_S_S512 (constant S_ .f32 0x00000000#32))))
    (addf z (broadcastInDim S512 ![] bcast_S_S512 (constant S_ .f32 0x00000000#32)))
    (addf (maximumf z (broadcastInDim S512 ![] bcast_S_S512 (constant S_ .f32 0x00000000#32)))
      (Host.log1p (Host.exp (Host.negf (Host.absf (subf z (broadcastInDim S512 ![] bcast_S_S512 (constant S_ .f32 0x00000000#32))))))))

/-- The logarithms of the decays as the reference forms them. -/
def logs (r : FVec Ideal S2x8192x512 .f32) (lam : FVec Ideal S512 .f32) : FVec Ideal S2x8192x512 .f32 :=
  mulf (mulf (every 0xC1000000#32) r) (along (softs (Host.negf lam)))

/-- The inputs as the reference forms them. -/
def drives (l ig x : FVec Ideal S2x8192x512 .f32) : FVec Ideal S2x8192x512 .f32 :=
  mulf (mulf (Host.sqrt (maximumf (Host.negf (Host.expm1 (mulf (every 0x40000000#32) l))) (every 0x2B8CBCCC#32))) ig) x

/-- A sequence's rows with time first. -/
def timeFirst (v : FVec Ideal S2x8192x512 .f32) : FVec Ideal S8192x2x512 .f32 :=
  transpose S8192x2x512 [1, 0, 2] v transposes_S2x8192x512_S8192x2x512_1_0_2

/-- The layer's arrays as one record. -/
def argsOf (h : FVec Ideal S2x8192x7680 .f32) (cw : FVec Ideal S4x512 .f32) (cb : FVec Ideal S512 .f32) (wa : FVec Ideal S8x64x64 .f32)
    (ba : FVec Ideal S512 .f32) (wx : FVec Ideal S8x64x64 .f32) (bx lam : FVec Ideal S512 .f32) (h0 : FVec Ideal S2x512 .f32)
    (buf : FVec Ideal S2x3x512 .f32) : Args where
  h b t k := h (ix3 b t k)
  cw i k := cw (ix2 i k)
  cb k := cb (ix1 k)
  wa n d e := wa (ix3 n d e)
  ba k := ba (ix1 k)
  wx n d e := wx (ix3 n d e)
  bx k := bx (ix1 k)
  lam k := lam (ix1 k)
  h0 b k := h0 (ix2 b k)
  buf b i k := buf (ix3 b i k)

/-- The padded rows at an entry. -/
theorem padded_at (h : FVec Ideal S2x8192x7680 .f32) (buf : FVec Ideal S2x3x512 .f32) (b : Fin 2) (s : Fin 8195) (k : Fin 512) :
    padded h buf (ix3 b s k) = if hs : s.val < 3 then buf (ix3 b ⟨s.val, hs⟩ k)
      else h (ix3 b ⟨s.val - 3, by omega⟩ ⟨3584 + k.val, by omega⟩) := by
  pointwise [padded]

/-- The filter at an entry, over the padded rows. -/
theorem conv_at (cw : FVec Ideal S4x512 .f32) (cb : FVec Ideal S512 .f32) (p : FVec Ideal S2x8195x512 .f32) (b : Fin 2) (t : Fin 8192) (k : Fin 512) :
    conv cw cb p (ix3 b t k) = taps4 (cb (ix1 k)) (fun i => cw (ix2 i k)) (p (ix3 b ⟨t.val, by omega⟩ k)) (p (ix3 b ⟨t.val + 1, by omega⟩ k))
      (p (ix3 b ⟨t.val + 2, by omega⟩ k)) (p (ix3 b ⟨t.val + 3, by omega⟩ k)) := by
  pointwise [conv, along, taps4]
  simp only [Nat.add_comm]

/-- A gate's product at an entry: the row's block of 64 entries times the block's weights. -/
theorem mixed_at (w : FVec Ideal S8x64x64 .f32) (x : FVec Ideal S2x8192x512 .f32) (b : Fin 2) (t : Fin 8192) (k : Fin 512) :
    mixed w x (ix3 b t k) = ∑ d : Fin 64, x (ix3 b t ⟨64 * (k.val / 64) + d.val, by omega⟩) * w (ix3 ⟨k.val / 64, by omega⟩ d ⟨k.val % 64, by omega⟩) := by
  pointwise [mixed]
  refine Finset.sum_congr rfl fun d _ => (mul_comm _ _).trans ?_
  simp only [Nat.mul_comm]

/-- A gate at an entry. -/
theorem gates_at (w : FVec Ideal S8x64x64 .f32) (v : FVec Ideal S512 .f32) (x : FVec Ideal S2x8192x512 .f32) (b : Fin 2) (t : Fin 8192) (k : Fin 512) :
    gates w v x (ix3 b t k) = gate (fun k => x (ix3 b t k)) (fun n d e => w (ix3 n d e)) (fun k => v (ix1 k)) k := by
  pointwise [gates, every, along, mixed_at, gate, sigm]

/-- The softened maximum at an entry. -/
theorem softs_at (z : FVec Ideal S512 .f32) (k : Fin 512) : softs z (ix1 k) = soft (z (ix1 k)) := by
  pointwise [softs, soft]
  rw [if_neg fun h => h rfl]
  rfl

/-- The logarithm of a decay at an entry. -/
theorem logs_at (r : FVec Ideal S2x8192x512 .f32) (lam : FVec Ideal S512 .f32) (b : Fin 2) (t : Fin 8192) (k : Fin 512) :
    logs r lam (ix3 b t k) = logDecay (r (ix3 b t k)) (lam (ix1 k)) := by
  pointwise [logs, every, along, softs_at, logDecay]

/-- An input at an entry. -/
theorem drives_at (l ig x : FVec Ideal S2x8192x512 .f32) (b : Fin 2) (t : Fin 8192) (k : Fin 512) :
    drives l ig x (ix3 b t k) = amp (l (ix3 b t k)) * ig (ix3 b t k) * x (ix3 b t k) := by
  pointwise [drives, every, amp]
  rw [neg_expm1]

/-- Rows with time first, at an entry. -/
theorem timeFirst_at (v : FVec Ideal S2x8192x512 .f32) (b : Fin 2) (t : Fin 8192) (k : Fin 512) : timeFirst v (ix3 t b k) = v (ix3 b t k) := by
  pointwise [timeFirst]

variable (m : (ℓ : Loc nD τ sig) → Buf (Elt Ideal) ℓ) (c : Dev nD)

/-- Argument `b` of the program. -/
abbrev arg (b : Ref sig .tc) := m ((c.tc : Thread nD τ).loc b)

/-- The filtered rows of the arguments. -/
abbrev rows : FVec Ideal S2x8192x512 .f32 := conv (arg m c main_arg1) (arg m c main_arg2) (padded (arg m c main_arg0) (arg m c main_arg9))

/-- The logarithms of the decays of the arguments. -/
abbrev rates : FVec Ideal S2x8192x512 .f32 := logs (gates (arg m c main_arg3) (arg m c main_arg4) (rows m c)) (arg m c main_arg7)

set_option maxHeartbeats 8000000 in
/-- The decays at the loop's entry. -/
theorem entry_a : entryContents Value.preI m c (Proc.devRef .tc main_v79_0) = timeFirst (Host.exp (rates m c)) := by
  simp only [entryContents, afterL_cons, afterL_nil]
  after_reads_simp
  rfl

set_option maxHeartbeats 8000000 in
/-- The inputs at the loop's entry. -/
theorem entry_u : entryContents Value.preI m c (Proc.devRef .tc main_v79_1)
    = timeFirst (drives (rates m c) (gates (arg m c main_arg5) (arg m c main_arg6) (rows m c)) (rows m c)) := by
  simp only [entryContents, afterL_cons, afterL_nil]
  after_reads_simp
  rfl

/-- The state at the loop's entry. -/
theorem entry_h : entryContents Value.preI m c (Proc.devRef .tc main_v79_3) = arg m c main_arg8 := by
  simp only [entryContents, afterL_cons, afterL_nil]
  after_reads_simp
  rfl

/-- The gate's columns at the loop's entry. -/
theorem entry_g : entryContents Value.preI m c (Proc.devRef .tc main_v1)
    = extractStridedSlice S2x8192x512 ![0, 0, 4096] (arg m c main_arg0) slices_S2x8192x7680_S2x8192x512_0_0_4096 := by
  simp only [entryContents, afterL_cons, afterL_nil]
  after_reads_simp

/-- The rows carried on, at the loop's entry. -/
theorem entry_b : entryContents Value.preI m c (Proc.devRef .tc main_v33)
    = extractStridedSlice S2x3x512 ![0, 8192, 0] (padded (arg m c main_arg0) (arg m c main_arg9)) slices_S2x8195x512_S2x3x512_0_8192_0 := by
  simp only [entryContents, afterL_cons, afterL_nil]
  after_reads_simp
  rfl

/-- The layer's arrays, from the launch contents. -/
abbrev args : Args := argsOf (arg m c main_arg0) (arg m c main_arg1) (arg m c main_arg2) (arg m c main_arg3) (arg m c main_arg4)
  (arg m c main_arg5) (arg m c main_arg6) (arg m c main_arg7) (arg m c main_arg8) (arg m c main_arg9)

/-- The padded rows are the stream. -/
theorem padded_stream (b : Fin 2) (s : Fin 8195) (k : Fin 512) :
    padded (arg m c main_arg0) (arg m c main_arg9) (ix3 b s k) = stream (args m c) b s.val k := by
  rw [padded_at]
  unfold stream
  by_cases h : s.val < 3
  · rw [dif_pos h, if_pos h]
    show arg m c main_arg9 _ = arg m c main_arg9 _
    congr 2
    exact Fin.ext (Nat.mod_eq_of_lt h).symm
  · rw [dif_neg h, if_neg h]
    show arg m c main_arg0 _ = arg m c main_arg0 _
    congr 2
    exact Fin.ext (Nat.mod_eq_of_lt (by omega)).symm

/-- The filtered rows. -/
theorem rows_at (b : Fin 2) (t : Fin 8192) (k : Fin 512) : rows m c (ix3 b t k) = row (args m c) b t.val k := by
  rw [rows, conv_at]
  simp only [padded_stream]
  rfl

/-- The logarithms of the decays. -/
theorem rates_at (b : Fin 2) (t : Fin 8192) (k : Fin 512) :
    rates m c (ix3 b t k) = logDecay (gate (row (args m c) b t.val) (args m c).wa (args m c).ba k) ((args m c).lam k) := by
  rw [rates, logs_at, gates_at]
  simp only [rows_at]
  rfl

/-- The decays at the loop's entry, entry by entry. -/
theorem entry_a_at (b : Fin 2) (t : Fin 8192) (k : Fin 512) :
    timeFirst (Host.exp (rates m c)) (ix3 t b k) = A (args m c) b k t.val := by
  rw [timeFirst_at]
  exact congrArg Ideal.exp (rates_at m c b t k)

/-- The inputs at the loop's entry, entry by entry. -/
theorem entry_u_at (b : Fin 2) (t : Fin 8192) (k : Fin 512) :
    timeFirst (drives (rates m c) (gates (arg m c main_arg5) (arg m c main_arg6) (rows m c)) (rows m c)) (ix3 t b k)
      = U (args m c) b k t.val := by
  rw [timeFirst_at, drives_at, rates_at, gates_at]
  simp only [rows_at]
  rfl

end Cert.LruRefIdeal.Hand

end
-- ==== Proof.LruValue.lean ====
/- The recurrence's three results: the blocks the grid points write, put together, are the recurrence over each whole
   sequence, the state and the three rows passing from block to block. -/
module

public import proofs.«01_k».proof.Proof.LruEntries
public import proofs.«01_k».proof.Proof.LruDiag
public import proofs.«01_k».proof.Proof.LruIdealFrame
public import proofs.«01_k».proof.Proof.LruRef
public import Idealize.ShloMosaic.Lib.Pipeline.ReadBack
public import Idealize.ShloMosaic.Lib.Pipeline.ValueKit

@[expose] public section

set_option maxRecDepth 16384

noncomputable section

namespace Cert.LruIdeal.Hand

open Idealize.ShloMosaic Idealize.ShloMosaic.TcCoe Idealize.SL.Sem Cert.Rows Cert.Lru.Spec
open Idealize.ShloMosaic.Pipeline (Dat)
open Cert.LruIdeal Cert.LruIdeal.Gen
open Cert.LruRefIdeal.Hand (argsOf)

variable (m : (ℓ : Loc nD τ sig) → Buf (Elt Ideal) ℓ) (c : Dev nD)

/-- Where the windows stand at point `t`: the rows and the result at row block `t % 16` of sequence `t / 16` (the rows read at
    their columns of the projection), the sequence's own arrays at `t / 16`, the weights whole. -/
theorem idx : ∀ t : Fin cfg0.N, win0_0.index t = ![t.val / 16, t.val % 16, 7] ∧ win0_1.index t = ![t.val / 16, t.val % 16, 8]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![t.val / 16, 0, 0]
    ∧ win0_10.index t = ![t.val / 16, 0, 0] ∧ win0_11.index t = ![t.val / 16, t.val % 16, 0]
    ∧ win0_12.index t = ![t.val / 16, 0, 0] ∧ win0_13.index t = ![t.val / 16, 0, 0] ∧ t.val < 32 :=
  (by decide +kernel : ∀ t : Fin grid0.N, win0_0.index t = ![t.val / 16, t.val % 16, 7] ∧ win0_1.index t = ![t.val / 16, t.val % 16, 8]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![t.val / 16, 0, 0]
    ∧ win0_10.index t = ![t.val / 16, 0, 0] ∧ win0_11.index t = ![t.val / 16, t.val % 16, 0]
    ∧ win0_12.index t = ![t.val / 16, 0, 0] ∧ win0_13.index t = ![t.val / 16, 0, 0] ∧ t.val < 32)

theorem lt32 (t : Fin cfg0.N) : t.val < 32 := (idx t).2.2.2.2.2.2.2.2.2.2.2.2.2.2

/-- The sequence point `t` lies in. -/
def seqOf (t : Fin cfg0.N) : Fin 2 := ⟨t.val / 16, by have := lt32 t; omega⟩

/-- The time of row `r` of point `t`'s block. -/
def timeOf (t : Fin cfg0.N) (r : Fin 512) : Fin 8192 := ⟨t.val % 16 * 512 + r.val, by omega⟩

/-- The layer's arguments. -/
abbrev args : Args := argsOf (arg m c main_arg0) (arg m c main_arg1) (arg m c main_arg2) (arg m c main_arg3) (arg m c main_arg4)
  (arg m c main_arg5) (arg m c main_arg6) (arg m c main_arg7) (arg m c main_arg8) (arg m c main_arg9)

/-- The blocks that move with the point, entry by entry, as entries of the arguments. -/
theorem moving (t : Fin cfg0.N) :
    (∀ r k : Fin 512, (iblk m c 0 t (ix3 0 r k) : EReal) = (args m c).h (seqOf t) (timeOf t r) ⟨3584 + k.val, by omega⟩)
    ∧ (∀ r k : Fin 512, (iblk m c 1 t (ix3 0 r k) : EReal) = (args m c).h (seqOf t) (timeOf t r) ⟨4096 + k.val, by omega⟩)
    ∧ (∀ k : Fin 512, (iblk m c 9 t (ix3 0 0 k) : EReal) = (args m c).h0 (seqOf t) k)
    ∧ (∀ (i : Fin 3) (k : Fin 512), (iblk m c 10 t (ix3 0 i k) : EReal) = (args m c).buf (seqOf t) i k) := by
  unfold args argsOf seqOf timeOf
  refine ⟨?_, ?_, ?_, ?_⟩ <;> intros
  · blk_point [iblk, V, idx t]
  · blk_point [iblk, V, idx t]
  · blk_point [iblk, V_h0, idx t]
  · blk_point [iblk, V, idx t]

/-- The blocks that stand still. -/
theorem still (t : Fin cfg0.N) :
    (∀ (i : Fin 4) (k : Fin 512), (iblk m c 2 t (ix2 i k) : EReal) = (args m c).cw i k)
    ∧ (∀ k : Fin 512, (iblk m c 3 t (ix2 0 k) : EReal) = (args m c).cb k)
    ∧ (∀ j k : Fin 512, (iblk m c 4 t (ix2 j k) : EReal) = square (arg m c main_arg3) (ix2 j k))
    ∧ (∀ k : Fin 512, (iblk m c 5 t (ix2 0 k) : EReal) = (args m c).ba k)
    ∧ (∀ j k : Fin 512, (iblk m c 6 t (ix2 j k) : EReal) = square (arg m c main_arg5) (ix2 j k))
    ∧ (∀ k : Fin 512, (iblk m c 7 t (ix2 0 k) : EReal) = (args m c).bx k)
    ∧ (∀ k : Fin 512, (iblk m c 8 t (ix2 0 k) : EReal) = (args m c).lam k) := by
  unfold args argsOf
  refine ⟨?_, ?_, ?_, ?_, ?_, ?_, ?_⟩ <;> intros
  · blk_point [iblk, V, idx t]
  · blk_point [iblk, V_cb, idx t]
  · refine Eq.trans (?_ : _ = (V m c main_v51 (ix2 _ _) : EReal)) (congrFun (V_wa m c) _)
    generalize hw : V m c main_v51 = w
    blk_point [iblk, hw, idx t]
  · blk_point [iblk, V_ba, idx t]
  · refine Eq.trans (?_ : _ = (V m c main_v103 (ix2 _ _) : EReal)) (congrFun (V_wx m c) _)
    generalize hw : V m c main_v103 = w
    blk_point [iblk, hw, idx t]
  · blk_point [iblk, V_bx, idx t]
  · blk_point [iblk, V_lam, idx t]

end Cert.LruIdeal.Hand

end
-- ==== Proof.LruFinal.lean ====
/- The recurrence's three result arrays after the run: every block begins with the state and the rows the sequence has
   there, so the blocks put together are the recurrence over the whole sequence. -/
module

public import proofs.«01_k».proof.Proof.LruValue

@[expose] public section

set_option maxRecDepth 16384

noncomputable section

namespace Cert.LruIdeal.Hand

open Idealize.ShloMosaic Idealize.ShloMosaic.TcCoe Idealize.SL.Sem Cert.Rows Cert.Lru.Spec
open Idealize.ShloMosaic.Pipeline (Dat)
open Cert.LruIdeal Cert.LruIdeal.Gen

variable (m : (ℓ : Loc nD τ sig) → Buf (Elt Ideal) ℓ) (c : Dev nD)

/-- Point `t`'s blocks hold its stretch of the sequence, given the carried rows and state. -/
theorem stretch_of (t : Fin cfg0.N) (C : FVec Ideal S3x512 .f32) (H : FVec Ideal S1x512 .f32)
    (hC : ∀ (i : Fin 3) (k : Fin 512), C (ix2 i k) = stream (args m c) (seqOf t) (t.val % 16 * 512 + i.val) k)
    (hH : ∀ k : Fin 512, H (ix2 0 k) = state (args m c) (seqOf t) (t.val % 16 * 512) k) :
    Stretch (args m c) (seqOf t) (t.val % 16 * 512) (iblk m c 0 t) (iblk m c 2 t) (iblk m c 3 t) (iblk m c 4 t) (iblk m c 5 t)
      (iblk m c 6 t) (iblk m c 7 t) (iblk m c 8 t) C H := by
  obtain ⟨h2, h3, h4, h5, h6, h7, h8⟩ := still m c t
  refine ⟨fun i k => ?_, h2, h3, fun j k => (h4 j k).trans (square_at _ j k), h5, fun j k => (h6 j k).trans (square_at _ j k), h7, h8, hC, hH⟩
  refine ((moving m c t).1 i k).trans ?_
  unfold stream
  rw [if_neg (by omega)]
  refine congrArg (fun e => (args m c).h (seqOf t) e _) (Fin.ext ?_)
  show t.val % 16 * 512 + i.val = (t.val % 16 * 512 + 3 + i.val - 3) % 8192
  omega

/-- The initial rows of a sequence, at an entry. -/
theorem initial_rows (t : Fin cfg0.N) (i : Fin 3) (k : Fin 512) : (initial m c t).1 (ix2 i k) = (args m c).buf (seqOf t) i k := by
  have e : ∀ v : FVec Ideal S1x3x512 .f32, k0_pay2 (F := Ideal) v (ix2 i k) = v (ix3 0 i k) := fun v => by pointwise [k0_pay2]
  exact (e (iblk m c 10 t)).trans ((moving m c t).2.2.2 i k)

/-- The initial state of a sequence, at an entry. -/
theorem initial_state (t : Fin cfg0.N) (k : Fin 512) : (initial m c t).2 (ix2 0 k) = (args m c).h0 (seqOf t) k := by
  have e : ∀ v : FVec Ideal S1x1x512 .f32, k0_pay3 (F := Ideal) v (ix2 0 k) = v (ix3 0 0 k) := fun v => by pointwise [k0_pay3]
  exact (e (iblk m c 9 t)).trans ((moving m c t).2.2.1 k)

/-- A sequence's first point begins with what the sequence begins with. -/
theorem stretch_first (t : Fin cfg0.N) (h : t.val % 16 = 0) :
    Stretch (args m c) (seqOf t) (t.val % 16 * 512) (iblk m c 0 t) (iblk m c 2 t) (iblk m c 3 t) (iblk m c 4 t)
      (iblk m c 5 t) (iblk m c 6 t) (iblk m c 7 t) (iblk m c 8 t) (begins m c t.val t.isLt).1 (begins m c t.val t.isLt).2 := by
  rw [begins_first m c t.val t.isLt h]
  refine stretch_of m c t (initial m c t).1 (initial m c t).2 (fun i k => (initial_rows m c t i k).trans ?_) fun k => (initial_state m c t k).trans ?_
  · generalize seqOf t = b
    generalize args m c = p
    unfold stream
    rw [if_pos (by omega)]
    refine congrArg (fun e => p.buf b e k) (Fin.ext ?_)
    show i.val = (t.val % 16 * 512 + i.val) % 3
    omega
  · rw [h]
    rfl

/-- Every point begins with the rows and the state the sequence has there. -/
theorem stretch : ∀ (n : ℕ) (hn : n < cfg0.N),
    Stretch (args m c) (seqOf ⟨n, hn⟩) (n % 16 * 512) (iblk m c 0 ⟨n, hn⟩) (iblk m c 2 ⟨n, hn⟩) (iblk m c 3 ⟨n, hn⟩) (iblk m c 4 ⟨n, hn⟩)
      (iblk m c 5 ⟨n, hn⟩) (iblk m c 6 ⟨n, hn⟩) (iblk m c 7 ⟨n, hn⟩) (iblk m c 8 ⟨n, hn⟩) (begins m c n hn).1 (begins m c n hn).2 := by
  intro n
  induction n with
  | zero => exact fun hn => stretch_first m c ⟨0, hn⟩ rfl
  | succ n ih =>
    intro hn
    by_cases h : (n + 1) % 16 = 0
    · exact stretch_first m c ⟨n + 1, hn⟩ h
    · have p := ih (Nat.lt_of_succ_lt hn)
      have hs : seqOf ⟨n, Nat.lt_of_succ_lt hn⟩ = seqOf ⟨n + 1, hn⟩ := Fin.ext (by show n / 16 = (n + 1) / 16; omega)
      have ht : n % 16 * 512 + 512 = (n + 1) % 16 * 512 := by omega
      have hC := p.nextC
      have hH := p.nextH
      rw [hs, ht] at hC hH
      rw [begins_rest m c n hn h]
      exact stretch_of m c ⟨n + 1, hn⟩ (leaves m c n (Nat.lt_of_succ_lt hn)).1 (leaves m c n (Nat.lt_of_succ_lt hn)).2 hC hH

/-- The whole first result. -/
def finalY (p : Args) : FVec Ideal S2x8192x512 .f32 := fun i => out p (i 0) (i 1) (i 2)

/-- The whole second result. -/
def finalH (p : Args) : FVec Ideal S2x1x512 .f32 := fun i => state p (i 0) 8192 (i 2)

/-- The whole third result. -/
def finalB (p : Args) : FVec Ideal S2x3x512 .f32 := fun i => stream p (i 0) (8192 + (i 1).val) (i 2)

/-- The first result array after the run. -/
theorem final11 : (dats m 0 c).arrAt 11 cfg0.N = finalY (args m c) := by
  refine (dats m 0 c).arrAt_eq_of_covers 11 (finalY (args m c)) (by decide +kernel) fun t _ y => ?_
  blk_simp
  rw [after_11]
  idx_vars y
  obtain rfl : y0 = 0 := Subsingleton.elim _ _
  refine ((stretch m c t.val t.isLt).outY (iblk m c 1 t) y1 y2).trans ?_
  refine (?_ : _ = finalY (args m c) (ix3 (seqOf t) (timeOf t y1) y2)).trans ?_
  · rw [(moving m c t).2.1]
    rfl
  · unfold seqOf timeOf
    blk_ext [idx t]

/-- The other two results are flushed at the last point of each sequence. -/
theorem flushed : ∀ t : Fin cfg0.N, ((cfg0.win 12).flush t = true → t.val % 16 = 15) ∧ ((cfg0.win 13).flush t = true → t.val % 16 = 15) := by
  decide +kernel

/-- The second result array after the run. -/
theorem final12 : (dats m 0 c).arrAt 12 cfg0.N = finalH (args m c) := by
  refine (dats m 0 c).arrAt_eq_of_covers 12 (finalH (args m c)) (by decide +kernel) fun t ht y => ?_
  blk_simp
  rw [after_12]
  have hf := (flushed t).1 ht
  idx_vars y
  obtain rfl : y0 = 0 := Subsingleton.elim _ _
  obtain rfl : y1 = 0 := Subsingleton.elim _ _
  refine ((stretch m c t.val t.isLt).outH y2).trans ?_
  refine (?_ : _ = finalH (args m c) (ix3 (seqOf t) 0 y2)).trans ?_
  · rw [hf]
    rfl
  · unfold seqOf
    blk_ext [idx t]

/-- The third result array after the run. -/
theorem final13 : (dats m 0 c).arrAt 13 cfg0.N = finalB (args m c) := by
  refine (dats m 0 c).arrAt_eq_of_covers 13 (finalB (args m c)) (by decide +kernel) fun t ht y => ?_
  blk_simp
  rw [after_13]
  have hf := (flushed t).2 ht
  idx_vars y
  obtain rfl : y0 = 0 := Subsingleton.elim _ _
  refine ((stretch m c t.val t.isLt).outB y1 y2).trans ?_
  refine (?_ : _ = finalB (args m c) (ix3 (seqOf t) y1 y2)).trans ?_
  · rw [hf]
    rfl
  · unfold seqOf
    blk_ext [idx t]

end Cert.LruIdeal.Hand

end
-- ==== Proof.LruLoop.lean ====
/- The gated linear recurrence: the reference's loop, its results, and its frame. -/
module

public import proofs.«01_k».proof.Proof.LruRef
public import Idealize.ShloMosaic.Lib.WordCmp

@[expose] public section

set_option maxRecDepth 16384

noncomputable section

namespace Cert.LruRefIdeal.Hand

open Idealize.ShloMosaic Idealize.ShloMosaic.TcCoe Idealize.SL.Sem Idealize.ShloMosaic.StableHlo Cert.Rows Cert.Lru.Rows Cert.Lru.Spec
open Cert.LruRefIdeal Cert.LruRefIdeal.Gen Cert.LruRefIdeal.Value

/-- The loop's counter as a number. -/
theorem counter_val {k : ℕ} (h : k < 8192) : (Scf.iv 0#32 1#32 k).toInt = (k : Int) := by
  rw [Scf.toInt_iv (lb := 0#32) (ub := 8192#32) (st := 1#32) (by decide) (by
    have : Scf.trips 0#32 8192#32 1#32 = 8192 := by decide
    omega)]
  show (0 : Int) + k * 1 = k
  omega

/-- Where a trip's slices start. -/
abbrev starts (n : IVec S_ 32) (a : Fin 3) : Int := ((![n, constantI S_ 32 0#32, constantI S_ 32 0#32] : Fin 3 → IVec S_ 32) a (Shape.Idx.first h_S_)).toInt

/-- The starts, as numbers. -/
theorem starts_val {k : ℕ} (h : k < 8192) (a : Fin 3) : starts (fun _ => Scf.iv 0#32 1#32 k) a = ((![k, 0, 0] : Fin 3 → ℕ) a : Int) := by
  fin_cases a
  · exact counter_val h
  · rfl
  · rfl

/-- The row a trip reads fits. -/
theorem fits {k : ℕ} (h : k < 8192) : S8192x2x512.Slices ![k, 0, 0] S1x2x512 :=
  ⟨rfl, fun a => by fin_cases a <;> simp <;> omega⟩

/-- One trip's new state, from the decays, the inputs, the counter and the state. -/
def next (a u : FVec Ideal S8192x2x512 .f32) (n : IVec S_ 32) (h : FVec Ideal S2x512 .f32) : FVec Ideal S2x512 .f32 :=
  addf (mulf (shapeCast S2x512 (Host.dynamicSlice S1x2x512 a (starts n) sliceFits_S8192x2x512_S1x2x512) shapeCasts_S1x2x512_S2x512) h)
    (shapeCast S2x512 (Host.dynamicSlice S1x2x512 u (starts n) sliceFits_S8192x2x512_S1x2x512) shapeCasts_S1x2x512_S2x512)

/-- One trip's states with the new one written. -/
def write (hs : FVec Ideal S8192x2x512 .f32) (v : FVec Ideal S2x512 .f32) (n : IVec S_ 32) : FVec Ideal S8192x2x512 .f32 :=
  Host.dynamicUpdateSlice hs (broadcastInDim S1x2x512 ![1, 2] bcast_S2x512_S1x2x512_1_2 v) (starts n) updateFits_S8192x2x512_S1x2x512

/-- The new state at an entry. -/
theorem next_at (a u : FVec Ideal S8192x2x512 .f32) (h : FVec Ideal S2x512 .f32) {k : ℕ} (hk : k < 8192) (b : Fin 2) (l : Fin 512) :
    next a u (fun _ => Scf.iv 0#32 1#32 k) h (ix2 b l) = a (ix3 ⟨k, hk⟩ b l) * h (ix2 b l) + u (ix3 ⟨k, hk⟩ b l) := by
  unfold next
  rw [WordCmp.dynamicSlice_eq_extract _ a _ _ _ (fits hk) (starts_val hk), WordCmp.dynamicSlice_eq_extract _ u _ _ _ (fits hk) (starts_val hk)]
  pointwise []

/-- The written states at an entry. -/
theorem write_at (hs : FVec Ideal S8192x2x512 .f32) (v : FVec Ideal S2x512 .f32) {k : ℕ} (hk : k < 8192) (t : Fin 8192) (b : Fin 2) (l : Fin 512) :
    write hs v (fun _ => Scf.iv 0#32 1#32 k) (ix3 t b l) = if t.val = k then v (ix2 b l) else hs (ix3 t b l) := by
  unfold write
  rw [WordCmp.dynamicUpdateSlice_eq_update _ _ _ _ _ (fits hk) (starts_val hk)]
  pointwise []
  by_cases h : t.val = k
  · rw [dif_pos (by omega), if_pos h]
  · rw [dif_neg (by omega), if_neg h]

variable (m : (ℓ : Loc nD τ sig) → Buf (Elt Ideal) ℓ) (c : Dev nD)

/-- The decays stay through the loop. -/
theorem loop_a : ∀ k, atK m k c (Proc.devRef .tc main_v79_0) = timeFirst (Host.exp (rates m c))
  | 0 => entry_a m c
  | k + 1 => (trip_agree (atK m k c) main_v79_0 (by decide)).trans ((STEP_main_v79_0 _).trans (loop_a k))

/-- The inputs stay through the loop. -/
theorem loop_u : ∀ k, atK m k c (Proc.devRef .tc main_v79_1)
      = timeFirst (drives (rates m c) (gates (arg m c main_arg5) (arg m c main_arg6) (rows m c)) (rows m c))
  | 0 => entry_u m c
  | k + 1 => (trip_agree (atK m k c) main_v79_1 (by decide)).trans ((STEP_main_v79_1 _).trans (loop_u k))

/-- The state before trip `k` is the recurrence after `k` rows. -/
theorem loop_h (b : Fin 2) (l : Fin 512) : ∀ k, k ≤ 8192 →
    (atK m k c (Proc.devRef .tc main_v79_3) : FVec Ideal S2x512 .f32) (ix2 b l) = state (args m c) b k l
  | 0, _ => congrFun (entry_h m c) (ix2 b l)
  | k + 1, hk => by
    have e : (atK m (k + 1) c (Proc.devRef .tc main_v79_3) : FVec Ideal S2x512 .f32)
        = next (atK m k c (Proc.devRef .tc main_v79_0)) (atK m k c (Proc.devRef .tc main_v79_1)) (atK m k c (Proc.devRef .tc main_v79_2))
          (atK m k c (Proc.devRef .tc main_v79_3)) := (trip_agree (atK m k c) main_v79_3 (by decide)).trans (STEP_main_v79_3 _)
    rw [e, atK_ctr]
    refine (next_at _ _ _ (by omega : k < 8192) b l).trans ((congrArg₂ (fun x y : EReal => x + y) (congrArg₂ (fun x y : EReal => x * y) ((congrFun (loop_a m c k) _).trans (entry_a_at m c b _ l))
      (loop_h b l k (by omega))) ((congrFun (loop_u m c k) _).trans (entry_u_at m c b _ l))).trans ?_)
    show _ = Scan.run _ _ 0 (k + 1) _
    unfold Scan.run
    rw [Nat.zero_add]
    rfl

/-- The states written before trip `k` are the recurrence's. -/
theorem loop_hs (b : Fin 2) (l : Fin 512) (t : Fin 8192) : ∀ k, k ≤ 8192 → t.val < k →
    (atK m k c (Proc.devRef .tc main_v79_4) : FVec Ideal S8192x2x512 .f32) (ix3 t b l) = state (args m c) b (t.val + 1) l
  | 0, _, h => absurd h (Nat.not_lt_zero _)
  | k + 1, hk, h => by
    have e : (atK m (k + 1) c (Proc.devRef .tc main_v79_4) : FVec Ideal S8192x2x512 .f32)
        = write (atK m k c (Proc.devRef .tc main_v79_4)) (atK m (k + 1) c (Proc.devRef .tc main_v79_3)) (atK m k c (Proc.devRef .tc main_v79_2)) :=
      ((trip_agree (atK m k c) main_v79_4 (by decide)).trans (STEP_main_v79_4 _)).trans
        (congrArg (fun v => write (atK m k c (Proc.devRef .tc main_v79_4)) v (atK m k c (Proc.devRef .tc main_v79_2)))
          ((trip_agree (atK m k c) main_v79_3 (by decide)).trans (STEP_main_v79_3 _)).symm)
    rw [e, atK_ctr]
    refine (write_at _ _ (by omega : k < 8192) t b l).trans ?_
    by_cases ht : t.val = k
    · rw [if_pos ht]
      exact (loop_h m c b l (k + 1) hk).trans (by rw [ht])
    · rw [if_neg ht]
      exact loop_hs b l t k (by omega) (by omega)

/-- What the loop's operations do not write keeps its contents. -/
theorem loop_keeps (r : Ref sig .tc) (hc : r ∉ condOps_W) (h0 : r ∉ while0Ops0_W) (h1 : r ∉ while0Ops0_1_W) (h2 : r ∉ while0Ops0_2_W)
    (h3 : r ∉ while0Ops0_3_W) (h4 : r ∉ while0Ops0_4_W) : ∀ k, atK m k c (Proc.devRef .tc r) = entryContents preI m c (Proc.devRef .tc r)
  | 0 => rfl
  | k + 1 => by
    refine Eq.trans ?_ (loop_keeps r hc h0 h1 h2 h3 h4 k)
    show afterL bodyI (after condOps (atK m k c)) _ = _
    simp only [afterL_cons, afterL_nil]
    rw [after_of_writes_sub _ _ while0Ops0_4_writes h4, after_of_writes_sub _ _ while0Ops0_3_writes h3, after_of_writes_sub _ _ while0Ops0_2_writes h2,
      after_of_writes_sub _ _ while0Ops0_1_writes h1, after_of_writes_sub _ _ while0Ops0_writes h0, after_of_writes_sub _ _ condOps_writes hc]

/-- What the operations after the loop write. -/
abbrev postW : List (Ref sig .tc) := [main_v80, main_v81, main_v82, main_cst_7, main_v83, main_v84, main_v85, main_cst_8, main_v86, main_v87,
  main_v88, main_cst_9, main_v89, main_v90, main_cst_10, main_v91, main_v92, main_v93, main_v94, main_v95]

/-- The operations after the loop write those references only. -/
theorem post_writes : (hostOps0_3 : List (HloOp τ sig (Elt Ideal))).Forall fun op => op.writes ⊆ (postW.map (Proc.devRef (τ := τ) .tc)).toFinset :=
  StableHlo.forall_writes_sub_of_map rfl

/-- A reference that the loop does not write. -/
abbrev LoopFree (r : Ref sig .tc) : Prop :=
  ∀ W ∈ [condOps_W, while0Ops0_W, while0Ops0_1_W, while0Ops0_2_W, while0Ops0_3_W, while0Ops0_4_W], r ∉ W

/-- A reference that the loop does not write holds, at the loop's end, what it held at its entry. -/
theorem loop_end {r : Ref sig .tc} (h : LoopFree r) :
    after condOps (atK m 8192 c) (Proc.devRef .tc r) = entryContents preI m c (Proc.devRef .tc r) :=
  (after_of_writes_sub _ _ condOps_writes (h _ (by simp))).trans (loop_keeps m c r (h _ (by simp)) (h _ (by simp)) (h _ (by simp)) (h _ (by simp))
    (h _ (by simp)) (h _ (by simp)) 8192)

/-- A reference that no operation writes ends with its launch contents. -/
theorem final_arg (r : Ref sig .tc) (h : LoopFree r) (hp : ∀ W ∈ [hostOps0_W, hostOps0_1_W, hostOps0_2_W, postW], r ∉ W) :
    finalContents condOps preI bodyI postI 8192 m c (Proc.devRef .tc r) = m ((c.tc : Thread nD τ).loc r) := by
  show afterL postI (after condOps (atK m 8192 c)) _ = _
  simp only [afterL_cons, afterL_nil]
  refine (after_of_writes_sub _ _ post_writes (hp _ (by simp))).trans ((loop_end m c h).trans ?_)
  simp only [entryContents, afterL_cons, afterL_nil]
  rw [after_of_writes_sub _ _ hostOps0_2_writes (hp _ (by simp)), after_of_writes_sub _ _ hostOps0_1_writes (hp _ (by simp)),
    after_of_writes_sub _ _ hostOps0_writes (hp _ (by simp))]

/-- The gate's factor as the reference forms it. -/
def gelus (g : FVec Ideal S2x8192x512 .f32) : FVec Ideal S2x8192x512 .f32 :=
  mulf g (mulf (every 0x3F000000#32) (addf (every 0x3F800000#32) (Host.tanh (mulf (every 0x3F4C422A#32)
    (addf g (mulf (every 0x3D372713#32) (mulf (mulf g g) g)))))))

/-- The gate's factor at an entry. -/
theorem gelus_at (g : FVec Ideal S2x8192x512 .f32) (b : Fin 2) (t : Fin 8192) (k : Fin 512) : gelus g (ix3 b t k) = gelu (g (ix3 b t k)) := by
  pointwise [gelus, every, gelu]

/-- The first result, from the contents at the loop's end. -/
theorem post_y (V : Valuation τ sig (Elt Ideal)) : after hostOps0_3 V (Proc.devRef .tc main_v94)
    = mulf (F := Ideal) (φ := .f32) (transpose S2x8192x512 [1, 0, 2] (V (Proc.devRef .tc main_v79_4)) transposes_S8192x2x512_S2x8192x512_1_0_2)
      (gelus (V (Proc.devRef .tc main_v1))) := by
  after_reads_simp
  rfl

/-- The second result, from the contents at the loop's end. -/
theorem post_h (V : Valuation τ sig (Elt Ideal)) : after hostOps0_3 V (Proc.devRef .tc main_v95)
    = shapeCast S2x1x512 (V (Proc.devRef .tc main_v79_3) : FVec Ideal S2x512 .f32) shapeCasts_S2x512_S2x1x512 := by
  after_reads_simp
  rfl

/-- The first result: the recurrence's states times the gate. -/
def outArr (p : Args) : FVec Ideal S2x8192x512 .f32 := fun i => out p (i 0) (i 1) (i 2)

/-- The second result: the states after the last row. -/
def lastArr (p : Args) : FVec Ideal S2x1x512 .f32 := fun i => state p (i 0) 8192 (i 2)

/-- The third result: the last three rows of the stream. -/
def bufArr (p : Args) : FVec Ideal S2x3x512 .f32 := fun i => stream p (i 0) (8192 + (i 1).val) (i 2)

/-- The first result holds the recurrence's states times the gate. -/
theorem final_y : finalContents condOps preI bodyI postI 8192 m c (Proc.devRef .tc main_v94) = outArr (args m c) := by
  show afterL postI (after condOps (atK m 8192 c)) _ = _
  simp only [afterL_cons, afterL_nil]
  refine (post_y _).trans ?_
  rw [loop_end m c (r := main_v1) (by decide +kernel), after_of_writes_sub _ _ condOps_writes (r := main_v79_4) (by decide +kernel), entry_g]
  refine funext fun (i : S2x8192x512.Idx) => ?_
  obtain ⟨b, t, k, rfl⟩ : ∃ (b : Fin 2) (t : Fin 8192) (k : Fin 512), i = ix3 b t k := ⟨i 0, i 1, i 2, eq_ix3 i⟩
  refine (congrArg₂ (fun x y : EReal => x * y) (?_ : _ = state (args m c) b (t.val + 1) k) (gelus_at _ b t k)).trans ?_
  · refine Eq.trans ?_ (loop_hs m c b k t 8192 (le_refl _) t.isLt)
    pointwise []
  · show _ = state (args m c) b (t.val + 1) k * gelu (arg m c main_arg0 (ix3 b t ⟨4096 + k.val, by omega⟩))
    refine congrArg (fun z => state (args m c) b (t.val + 1) k * gelu z) ?_
    pointwise []

/-- The second result holds the states after the last row. -/
theorem final_h : finalContents condOps preI bodyI postI 8192 m c (Proc.devRef .tc main_v95) = lastArr (args m c) := by
  show afterL postI (after condOps (atK m 8192 c)) _ = _
  simp only [afterL_cons, afterL_nil]
  refine (post_h _).trans ?_
  rw [after_of_writes_sub _ _ condOps_writes (r := main_v79_3) (by decide +kernel)]
  refine funext fun (i : S2x1x512.Idx) => ?_
  obtain ⟨b, u, k, rfl⟩ : ∃ (b : Fin 2) (u : Fin 1) (k : Fin 512), i = ix3 b u k := ⟨i 0, i 1, i 2, eq_ix3 i⟩
  refine Eq.trans ?_ (loop_h m c b k 8192 (le_refl _))
  pointwise []

/-- The third result holds the last three rows of the stream. -/
theorem final_b : finalContents condOps preI bodyI postI 8192 m c (Proc.devRef .tc main_v33) = bufArr (args m c) := by
  show afterL postI (after condOps (atK m 8192 c)) _ = _
  simp only [afterL_cons, afterL_nil]
  refine (after_of_writes_sub _ _ post_writes (by decide +kernel)).trans ((loop_end m c (by decide +kernel)).trans ((entry_b m c).trans ?_))
  refine funext fun (i : S2x3x512.Idx) => ?_
  obtain ⟨b, u, k, rfl⟩ : ∃ (b : Fin 2) (u : Fin 3) (k : Fin 512), i = ix3 b u k := ⟨i 0, i 1, i 2, eq_ix3 i⟩
  refine Eq.trans ?_ (padded_stream m c b ⟨8192 + u.val, by omega⟩ k)
  pointwise []

/-- Every execution of the reference ends with the three results and the arguments as they were. -/
theorem run_values (ρ : Dev nD → PrngReg) : θ_run (defs (F := Ideal)) (onTc (τ := τ) (main (F := Ideal))) ⟨m, fun _ => 0, ρ⟩ (fun r => ∀ c : Dev nD,
      r.2.mem ((c.tc : Thread nD τ).loc main_v94) = outArr (args m c)
      ∧ r.2.mem ((c.tc : Thread nD τ).loc main_v95) = lastArr (args m c)
      ∧ r.2.mem ((c.tc : Thread nD τ).loc main_v33) = bufArr (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun r h c => ?_) (Value.run_fold (F := Ideal) m ρ)
  have keep : ∀ b : Ref sig .tc, (Proc.devRef .tc b : DevRef τ sig).isScoped = false → LoopFree b →
      (∀ W ∈ [hostOps0_W, hostOps0_1_W, hostOps0_2_W, postW], b ∉ W) → r.2.mem ((c.tc : Thread nD τ).loc b) = m ((c.tc : Thread nD τ).loc b) :=
    fun b hs hl hp => (h c b hs).trans (final_arg m c b hl hp)
  exact ⟨(h c main_v94 rfl).trans (final_y m c), (h c main_v95 rfl).trans (final_h m c), (h c main_v33 rfl).trans (final_b m c),
    keep _ rfl (by decide +kernel) (by decide +kernel), keep _ rfl (by decide +kernel) (by decide +kernel), keep _ rfl (by decide +kernel) (by decide +kernel),
    keep _ rfl (by decide +kernel) (by decide +kernel), keep _ rfl (by decide +kernel) (by decide +kernel), keep _ rfl (by decide +kernel) (by decide +kernel),
    keep _ rfl (by decide +kernel) (by decide +kernel), keep _ rfl (by decide +kernel) (by decide +kernel), keep _ rfl (by decide +kernel) (by decide +kernel),
    keep _ rfl (by decide +kernel) (by decide +kernel)⟩

end Cert.LruRefIdeal.Hand

end
-- ==== Proof.LruClaims.lean ====
/- The recurrence: the two claims that speak of the reference. -/
module

public import proofs.«01_k».proof.Defs
public import proofs.«01_k».proof.Proof.LruFinal
public import proofs.«01_k».proof.Proof.LruLoop
public import Idealize.ShloMosaic.Lib.Claim

@[expose] public section

set_option maxRecDepth 16384

noncomputable section

namespace Cert.LruClaims

open Idealize.ShloMosaic Idealize.ShloMosaic.TcCoe Idealize.SL.Sem

/-- The reference runs, leaves its arguments as they were and leaves no semaphore raised. -/
theorem frame_ref : Cert.quiescent_LruRefIdeal := by
  intro m g _
  refine (θ_run Cert.LruRefIdeal.defs _ _).mono (fun r h => ⟨?_, sem_eq_zero_of_no_sems (by decide) r.2⟩) (Cert.LruRefIdeal.Hand.run_values m g)
  exact fun c => (h c).2.2.2

set_option maxHeartbeats 4000000 in
/-- The blocked recurrence and the plain one leave equal arrays. -/
theorem algebraic : Cert.algebraic_LruIdeal_LruRefIdeal := by
  pair_intro
  · run_from Cert.LruIdeal.Hand.run_main m g
  · have same : ∀ c : Dev Cert.LruRefIdeal.nD, Cert.LruRefIdeal.Hand.args m' c = Cert.LruIdeal.Hand.args m c := fun c => by
      obtain ⟨a0, a1, a2, a3, a4, a5, a6, a7, a8, a9⟩ := hagree c
      unfold Cert.LruRefIdeal.Hand.args Cert.LruIdeal.Hand.args Cert.LruRefIdeal.Hand.arg Cert.LruIdeal.Hand.arg
      rw [a0, a1, a2, a3, a4, a5, a6, a7, a8, a9]
    run_from Cert.LruRefIdeal.Hand.run_values m' g'
    · refine Eq.trans ?_ (Cert.LruIdeal.Hand.final11 m c).symm
      exact congrArg Cert.LruRefIdeal.Hand.outArr (same c)
    · refine Eq.trans ?_ (Cert.LruIdeal.Hand.final12 m c).symm
      exact congrArg Cert.LruRefIdeal.Hand.lastArr (same c)
    · refine Eq.trans ?_ (Cert.LruIdeal.Hand.final13 m c).symm
      exact congrArg Cert.LruRefIdeal.Hand.bufArr (same c)

end Cert.LruClaims

end
-- ==== Proof.FfnBody.lean ====
/- The feed-forward's body: what one grid point computes, over the blocks it is given. -/
module

public import proofs.«01_k».proof.Proof.Gen.FfnIdeal.Value
public import proofs.«01_k».proof.Proof.FfnRows
public import Idealize.ShloMosaic.Lib.Pointwise
public import Idealize.ShloMosaic.Lib.Pipeline.ValueKit

@[expose] public section

set_option maxRecDepth 16384

noncomputable section

namespace Cert.Rows

/-- The entry of a block's column two rows before row `r`: of the block, or of the two rows carried into it. -/
def back2 (u : Fin 512 → EReal) (c : Fin 2 → EReal) (r : Fin 512) : EReal :=
  if 2 ≤ r.val then u ⟨(r.val + 512 - 2) % 512, by omega⟩ else if r.val = 0 then c 0 else c 1

/-- The entry of a block's column one row before row `r`: of the block, or the last row carried into it. -/
def back1 (u : Fin 512 → EReal) (c : Fin 2 → EReal) (r : Fin 512) : EReal :=
  if 1 ≤ r.val then u ⟨(r.val + 512 - 1) % 512, by omega⟩ else c 1

theorem back_congr {u u' : Fin 512 → EReal} {c c' : Fin 2 → EReal} (hu : ∀ r, u r = u' r) (hc : ∀ k, c k = c' k) (r : Fin 512) :
    back2 u c r = back2 u' c' r ∧ back1 u c r = back1 u' c' r := by rw [funext hu, funext hc]; exact ⟨rfl, rfl⟩

end Cert.Rows

namespace Cert.FfnIdeal.Hand

open Idealize.ShloMosaic Idealize.ShloMosaic.TcCoe Idealize.SL.Sem Cert.Rows
open Cert.FfnIdeal Cert.FfnIdeal.Gen

/-- The row's number as a 32-bit word: its remainder by 512 is itself. -/
theorem pay3_at (r : Fin 512) (l : Fin 1024) : k0_pay3 (ix2 r l) = BitVec.ofNat 32 r.val := by
  pointwise [k0_pay3]
  revert r
  decide +kernel

theorem sel2 (r : Fin 512) (a b : EReal) :
    Scalar.select (IntOp.cmpi CmpIPredicate.sge (BitVec.ofNat 32 r.val) 2#32) a b = if 2 ≤ r.val then a else b := by
  have h : ∀ r : Fin 512, IntOp.cmpi CmpIPredicate.sge (BitVec.ofNat 32 r.val) 2#32 = if 2 ≤ r.val then 1#1 else 0#1 := by decide +kernel
  rw [h]
  split <;> rfl

theorem sel1 (r : Fin 512) (a b : EReal) :
    Scalar.select (IntOp.cmpi CmpIPredicate.sge (BitVec.ofNat 32 r.val) 1#32) a b = if 1 ≤ r.val then a else b := by
  have h : ∀ r : Fin 512, IntOp.cmpi CmpIPredicate.sge (BitVec.ofNat 32 r.val) 1#32 = if 1 ≤ r.val then 1#1 else 0#1 := by decide +kernel
  rw [h]
  split <;> rfl

theorem sel0 (r : Fin 512) (a b : EReal) :
    Scalar.select (IntOp.cmpi CmpIPredicate.eq (BitVec.ofNat 32 r.val) 0#32) a b = if r.val = 0 then a else b := by
  have h : ∀ r : Fin 512, IntOp.cmpi CmpIPredicate.eq (BitVec.ofNat 32 r.val) 0#32 = if r.val = 0 then 1#1 else 0#1 := by decide +kernel
  rw [h]
  split <;> rfl

/-- A product with one third of a half of the up-projection. -/
theorem pay7_at (x : FVec Ideal S512x1024 .bf16) (w : FVec Ideal S1024x1024 .bf16) (r : Fin 512) (l : Fin 1024) :
    k0_pay7 (F := Ideal) x w (ix2 r l) = ∑ k, x (ix2 r k) * w (ix2 k l) := by
  pointwise [k0_pay7]

/-- The other five such products are formed alike. -/
theorem same (x : FVec Ideal S512x1024 .bf16) (w : FVec Ideal S1024x1024 .bf16) :
    k0_pay8 (F := Ideal) x w = k0_pay7 x w ∧ k0_pay13 (F := Ideal) x w = k0_pay7 x w ∧ k0_pay14 (F := Ideal) x w = k0_pay7 x w
      ∧ k0_pay20 (F := Ideal) x w = k0_pay7 x w ∧ k0_pay21 (F := Ideal) x w = k0_pay7 x w := ⟨rfl, rfl, rfl, rfl, rfl⟩

/-- The filter's first third at an entry. -/
theorem pay9_at (v1 : FVec Ideal S512x1024 .bf16) (v19 : FVec Ideal S3x3072 .f32) (v21 : FVec Ideal S1x3072 .f32)
    (v36 : FVec Ideal S1024x1024 .bf16) (v42 v43 : FVec Ideal S1x1024 .f32) (r : Fin 512) (l : Fin 1024)
    (u : Fin 512 → EReal) (hu : ∀ r, k0_pay7 (F := Ideal) v1 v36 (ix2 r l) = u r) (c : Fin 2 → EReal)
    (h0 : v42 (ix2 0 l) = c 0) (h1 : v43 (ix2 0 l) = c 1) :
    k0_pay9 (F := Ideal) v1 k0_pay3 v19 v21 v36 v42 v43 (ix2 r l)
      = taps (v21 (ix2 0 ⟨l.val, by omega⟩)) (fun k => v19 (ix2 k ⟨l.val, by omega⟩)) (back2 u c r) (back1 u c r) (u r) := by
  pointwise [k0_pay9]
  simp only [pay3_at, sel2, sel1, sel0, hu, h0, h1]
  rfl

/-- The gated first third projected down, added to what was there. -/
theorem pay12_at (v35 v41 v74 : FVec Ideal S512x1024 .f32) (v98 : FVec Ideal S1024x1024 .bf16) (r : Fin 512) (l : Fin 1024) :
    k0_pay12 (F := Ideal) v35 v41 v74 v98 (ix2 r l)
      = v35 (ix2 r l) + ∑ j, gelu (v74 (ix2 r j)) * v41 (ix2 r j) * v98 (ix2 j l) := by
  pointwise [k0_pay12, gelu]

/-- The filter's second third at an entry, through the unit. -/
theorem pay18_at (v19 : FVec Ideal S3x3072 .f32) (v21 : FVec Ideal S1x3072 .f32) (v104 : FVec Ideal S512x1024 .f32)
    (v108 v109 : FVec Ideal S1x1024 .f32) (r : Fin 512) (l : Fin 1024)
    (u : Fin 512 → EReal) (hu : ∀ r, v104 (ix2 r l) = u r) (c : Fin 2 → EReal)
    (h0 : v108 (ix2 0 l) = c 0) (h1 : v109 (ix2 0 l) = c 1) :
    k0_pay18 (F := Ideal) k0_pay3 v19 v21 v104 v109 (k0_pay15 k0_pay3 v108 v109) (ix2 r l)
      = gelu (taps (v21 (ix2 0 ⟨1024 + l.val, by omega⟩)) (fun k => v19 (ix2 k ⟨1024 + l.val, by omega⟩))
          (back2 u c r) (back1 u c r) (u r)) := by
  pointwise [k0_pay18, k0_pay15]
  simp only [pay3_at, sel2, sel1, sel0, hu, h0, h1]
  rfl

/-- The gated second third projected down, added to what was there. -/
theorem pay19_at (v101 v107 v161 : FVec Ideal S512x1024 .f32) (v164 : FVec Ideal S1024x1024 .bf16) (r : Fin 512) (l : Fin 1024) :
    k0_pay19 (F := Ideal) v101 v107 v161 v164 (ix2 r l)
      = v101 (ix2 r l) + ∑ j, v161 (ix2 r j) * v107 (ix2 r j) * v164 (ix2 j l) := by
  pointwise [k0_pay19]

/-- The filter's last third at an entry, the last tap added. -/
theorem pay22_at (v1 : FVec Ideal S512x1024 .bf16) (v19 : FVec Ideal S3x3072 .f32) (v21 : FVec Ideal S1x3072 .f32)
    (v168 : FVec Ideal S1024x1024 .bf16) (v174 v175 : FVec Ideal S1x1024 .f32) (r : Fin 512) (l : Fin 1024)
    (u : Fin 512 → EReal) (hu : ∀ r, k0_pay20 (F := Ideal) v1 v168 (ix2 r l) = u r) (c : Fin 2 → EReal)
    (h0 : v174 (ix2 0 l) = c 0) (h1 : v175 (ix2 0 l) = c 1) :
    k0_pay22 (F := Ideal) v1 k0_pay3 v19 v21 v168 v174 v175 (ix2 r l) + k0_pay23 (F := Ideal) v19 (ix2 0 l) * u r
      = taps (v21 (ix2 0 ⟨2048 + l.val, by omega⟩)) (fun k => v19 (ix2 k ⟨2048 + l.val, by omega⟩))
          (back2 u c r) (back1 u c r) (u r) := by
  pointwise [k0_pay22, k0_pay23]
  simp only [pay3_at, sel2, sel1, sel0, hu, h0, h1]
  rfl

/-- The row before the layer norm: the residual plus the three thirds projected down. -/
theorem pay26_at (v0 v167 v170 v173 v202 : FVec Ideal S512x1024 .f32) (v203 : FVec Ideal S1x1024 .f32)
    (v230 : FVec Ideal S1024x1024 .bf16) (r : Fin 512) (l : Fin 1024) :
    k0_pay26 (F := Ideal) v0 v167 v170 v173 v202 v203 v230 (ix2 r l)
      = Ideal.ofBits FTy.f32 0x3FD744FD#32 * v0 (ix2 r l) + (v167 (ix2 r l)
        + ∑ j, gelu (v202 (ix2 r j) + v203 (ix2 0 j) * v170 (ix2 r j)) * v173 (ix2 r j) * v230 (ix2 j l)) := by
  pointwise [k0_pay26, gelu]

/-- The row's sum. -/
theorem pay29_at (v0 v167 v170 v173 v202 : FVec Ideal S512x1024 .f32) (v203 : FVec Ideal S1x1024 .f32)
    (v230 : FVec Ideal S1024x1024 .bf16) (r : Fin 512) :
    k0_pay29 (F := Ideal) v0 v167 v170 v173 v202 v203 v230 (ix2 r 0)
      = ∑ l, k0_pay26 (F := Ideal) v0 v167 v170 v173 v202 v203 v230 (ix2 r l) := by
  pointwise [k0_pay29]

/-- The layer norm of a row whose sum is given. -/
theorem pay1_at (p : FVec Ideal S512x1024 .f32) (g b : FVec Ideal S1x1024 .f32) (s : FVec Ideal S512x1 .f32)
    (r : Fin 512) (P : Fin 1024 → EReal) (hP : ∀ l, p (ix2 r l) = P l) (hs : s (ix2 r 0) = ∑ l, p (ix2 r l)) (l : Fin 1024) :
    k0_pay1 (F := Ideal) p (k0_pay27 g) (k0_pay28 b) s (FloatOps.ofBits FTy.f32 0x44800000#32) (ix2 r l)
      = layerNorm P (g (ix2 0 l)) (b (ix2 0 l)) l := by
  pointwise [k0_pay1, k0_pay27, k0_pay28, layerNorm, mean]
  simp only [hs, hP]

/-- The body's row before the layer norm, over the blocks: the residual plus the gated, filtered row projected down. The
    up-projection comes in six column blocks, the down-projection in three row blocks, the carried-over rows in six pieces. -/
theorem body_pre (x : FVec Ideal S512x1024 .f32) (cw : FVec Ideal S3x3072 .f32) (cb : FVec Ideal S1x3072 .f32)
    (w0 w1 w2 p0 p1 p2 d0 d1 d2 : FVec Ideal S1024x1024 .bf16) (a0 a1 a2 b0 b1 b2 : FVec Ideal S1x1024 .f32)
    (W : Fin 1024 → Fin 6144 → EReal) (D : Fin 3072 → Fin 1024 → EReal) (C : Fin 2 → Fin 3072 → EReal)
    (hw0 : ∀ k l : Fin 1024, w0 (ix2 k l) = W k ⟨l.val, by omega⟩)
    (hw1 : ∀ k l : Fin 1024, w1 (ix2 k l) = W k ⟨1024 + l.val, by omega⟩)
    (hw2 : ∀ k l : Fin 1024, w2 (ix2 k l) = W k ⟨2048 + l.val, by omega⟩)
    (hp0 : ∀ k l : Fin 1024, p0 (ix2 k l) = W k ⟨3072 + l.val, by omega⟩)
    (hp1 : ∀ k l : Fin 1024, p1 (ix2 k l) = W k ⟨3072 + (1024 + l.val), by omega⟩)
    (hp2 : ∀ k l : Fin 1024, p2 (ix2 k l) = W k ⟨3072 + (2048 + l.val), by omega⟩)
    (hd0 : ∀ j l : Fin 1024, d0 (ix2 j l) = D ⟨j.val, by omega⟩ l)
    (hd1 : ∀ j l : Fin 1024, d1 (ix2 j l) = D ⟨1024 + j.val, by omega⟩ l)
    (hd2 : ∀ j l : Fin 1024, d2 (ix2 j l) = D ⟨2048 + j.val, by omega⟩ l)
    (ha0 : ∀ l : Fin 1024, a0 (ix2 0 l) = C 0 ⟨l.val, by omega⟩) (hb0 : ∀ l : Fin 1024, b0 (ix2 0 l) = C 1 ⟨l.val, by omega⟩)
    (ha1 : ∀ l : Fin 1024, a1 (ix2 0 l) = C 0 ⟨1024 + l.val, by omega⟩) (hb1 : ∀ l : Fin 1024, b1 (ix2 0 l) = C 1 ⟨1024 + l.val, by omega⟩)
    (ha2 : ∀ l : Fin 1024, a2 (ix2 0 l) = C 0 ⟨2048 + l.val, by omega⟩) (hb2 : ∀ l : Fin 1024, b2 (ix2 0 l) = C 1 ⟨2048 + l.val, by omega⟩)
    (r : Fin 512) (l : Fin 1024) :
    k0_pay26 (F := Ideal) x (k0_pay19 (k0_pay12 k0_pay6 (k0_pay8 (k0_pay2 x) p0)
        (k0_pay9 (k0_pay2 x) k0_pay3 cw (k0_pay4 cb) w0 a0 b0) d0) (k0_pay14 (k0_pay2 x) p1)
        (k0_pay18 k0_pay3 cw (k0_pay4 cb) (k0_pay13 (k0_pay2 x) w1) b1 (k0_pay15 k0_pay3 a1 b1)) d1)
        (k0_pay20 (k0_pay2 x) w2) (k0_pay21 (k0_pay2 x) p2) (k0_pay22 (k0_pay2 x) k0_pay3 cw (k0_pay4 cb) w2 a2 b2)
        (k0_pay23 cw) d2 (ix2 r l)
      = resid (fun k => x (ix2 r k))
          (fun d => gelu (taps (cb (ix2 0 d)) (fun k => cw (ix2 k d))
              (back2 (fun r => upCol (fun k => x (ix2 r k)) W ⟨d.val, by omega⟩) (C · d) r)
              (back1 (fun r => upCol (fun k => x (ix2 r k)) W ⟨d.val, by omega⟩) (C · d) r)
              (upCol (fun k => x (ix2 r k)) W ⟨d.val, by omega⟩))
            * upCol (fun k => x (ix2 r k)) W ⟨3072 + d.val, by omega⟩) D l := by
  have e2 : ∀ r k, k0_pay2 (F := Ideal) x (ix2 r k) = (x (ix2 r k) : EReal) := fun r k => by pointwise [k0_pay2]
  have e4 : k0_pay4 (F := Ideal) cb = cb := by funext i; idx_vars i; pointwise [k0_pay4]
  have e6 : k0_pay6 (F := Ideal) (ix2 r l) = (0 : EReal) := by pointwise [k0_pay6]
  have up : ∀ (w : FVec Ideal S1024x1024 .bf16) (o : Fin 1024 → Fin 6144) (hw : ∀ k l : Fin 1024, w (ix2 k l) = W k (o l))
      (r : Fin 512) (j : Fin 1024), k0_pay7 (F := Ideal) (k0_pay2 x) w (ix2 r j) = upCol (fun k => x (ix2 r k)) W (o j) := by
    intro w o hw r j
    rw [pay7_at]
    exact Finset.sum_congr rfl fun k _ => by rw [e2, hw]
  rw [(same _ p0).1, (same _ w1).2.1, (same _ p1).2.2.1, (same _ w2).2.2.2.1, (same _ p2).2.2.2.2, e4, pay26_at, pay19_at, pay12_at, e6,
    zero_add]
  unfold resid
  rw [sum_thirds]
  refine congrArg (_ + ·) (congr (congrArg _ (congr (congrArg _ ?_) ?_)) ?_) <;> refine Finset.sum_congr rfl fun j _ => ?_
  · rw [pay9_at _ _ _ _ _ _ r j _ (up w0 _ hw0 · j) (fun k => C k ⟨j.val, by omega⟩) (ha0 j) (hb0 j), up p0 _ hp0, hd0]
  · rw [pay18_at _ _ _ _ _ r j _ (up w1 _ hw1 · j) (fun k => C k ⟨1024 + j.val, by omega⟩) (ha1 j) (hb1 j), up p1 _ hp1, hd1]
  · have h := pay22_at (k0_pay2 x) cw cb w2 a2 b2 r j _ (up w2 _ hw2 · j) (fun k => C k ⟨2048 + j.val, by omega⟩) (ha2 j) (hb2 j)
    rw [up w2 _ hw2, up p2 _ hp2, hd2, h]

end Cert.FfnIdeal.Hand

end
-- ==== Proof.FfnValue.lean ====
/- The feed-forward's two results: the blocks the grid points write, put together, are the layer norm of every row and the
   last rows of the up-projected first half. -/
module

public import proofs.«01_k».proof.Proof.FfnBody
public import Idealize.ShloMosaic.Lib.Pipeline.ReadBack

@[expose] public section

set_option maxRecDepth 16384

noncomputable section

namespace Cert.FfnIdeal.Hand

open Idealize.ShloMosaic Idealize.ShloMosaic.TcCoe Idealize.SL.Sem Cert.Rows
open Idealize.ShloMosaic.Pipeline (Dat)
open Cert.FfnIdeal Cert.FfnIdeal.Gen
open Cert.FfnRefIdeal.Hand (ucol)

variable (m : (ℓ : Loc nD τ sig) → Buf (Elt Ideal) ℓ)

/-- Where the windows stand at point `t`: the rows at row block `t`, the carried-over rows and the tail at the sequence the
    block lies in, the weights whole. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val / 16, 0, 0] ∧ win0_8.index t = ![t.val / 16, 0, 0] ∧ win0_9.index t = ![t.val, 0]
    ∧ win0_10.index t = ![t.val / 16, 0, 0] ∧ t.val < 32 :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val / 16, 0, 0] ∧ win0_8.index t = ![t.val / 16, 0, 0] ∧ win0_9.index t = ![t.val, 0]
    ∧ win0_10.index t = ![t.val / 16, 0, 0] ∧ t.val < 32)

theorem lt32 (t : Fin cfg0.N) : t.val < 32 := (idx t).2.2.2.2.2.2.2.2.2.2.2

/-- Row `r` of block `t`, as a row of the stream. -/
def rowOf (t : Fin cfg0.N) (r : Fin 512) : Fin 16384 := ⟨t.val * 512 + r.val, by have := lt32 t; omega⟩

/-- The sequence block `t` lies in. -/
def seqOf (t : Fin cfg0.N) : Fin 2 := ⟨t.val / 16, by have := lt32 t; omega⟩

/-- The blocks, entry by entry, as entries of the arguments. -/
theorem blocks (c : Dev nD) (t : Fin cfg0.N) :
    (∀ (r : Fin 512) (k : Fin 1024), (iblk m c 0 t (ix2 r k) : EReal) = m ((c : Thread nD τ).loc main_arg0) (ix2 (rowOf t r) k))
    ∧ (∀ (k : Fin 1024) (d : Fin 6144), (iblk m c 1 t (ix2 k d) : EReal) = m ((c : Thread nD τ).loc main_arg1) (ix2 k d))
    ∧ (∀ (k : Fin 3) (d : Fin 3072), (iblk m c 2 t (ix2 k d) : EReal) = m ((c : Thread nD τ).loc main_arg2) (ix2 k d))
    ∧ (∀ d : Fin 3072, (iblk m c 3 t (ix2 0 d) : EReal) = m ((c : Thread nD τ).loc main_arg3) (ix1 d))
    ∧ (∀ (d : Fin 3072) (k : Fin 1024), (iblk m c 4 t (ix2 d k) : EReal) = m ((c : Thread nD τ).loc main_arg4) (ix2 d k))
    ∧ (∀ l : Fin 1024, (iblk m c 5 t (ix2 0 l) : EReal) = m ((c : Thread nD τ).loc main_arg5) (ix1 l))
    ∧ (∀ l : Fin 1024, (iblk m c 6 t (ix2 0 l) : EReal) = m ((c : Thread nD τ).loc main_arg6) (ix1 l))
    ∧ (∀ (k : Fin 2) (d : Fin 3072), (iblk m c 7 t (ix3 0 k d) : EReal) = m ((c : Thread nD τ).loc main_arg7) (ix3 (seqOf t) k d)) := by
  unfold rowOf seqOf
  refine ⟨?_, ?_, ?_, ?_, ?_, ?_, ?_, ?_⟩ <;> intros <;> blk_point [iblk, V, idx t]

/-- Column `d` of the up-projected stream, from the arguments. -/
def U (c : Dev nD) (d : Fin 6144) (R : Fin 16384) : EReal :=
  ucol (m ((c : Thread nD τ).loc main_arg0)) (m ((c : Thread nD τ).loc main_arg1)) d R

theorem U_eq (c : Dev nD) {d d' : Fin 6144} {R R' : Fin 16384} (h : d.val = d'.val) (h' : R.val = R'.val) :
    U m c d R = U m c d' R' := by rw [Fin.ext h, Fin.ext h']

/-- A column block of the body's product is the up-projection's columns at the block's rows. -/
theorem up_at (c : Dev nD) (t : Fin cfg0.N) (w : FVec Ideal S1024x1024 .bf16) (o : Fin 1024 → Fin 6144)
    (hw : ∀ k l : Fin 1024, w (ix2 k l) = iblk m c 1 t (ix2 k (o l))) (r : Fin 512) (l : Fin 1024) :
    k0_pay7 (F := Ideal) (k0_pay2 (iblk m c 0 t)) w (ix2 r l) = U m c (o l) (rowOf t r) := by
  have e2 : ∀ k, k0_pay2 (F := Ideal) (iblk m c 0 t) (ix2 r k) = (iblk m c 0 t (ix2 r k) : EReal) := fun k => by pointwise [k0_pay2]
  rw [pay7_at]
  unfold U ucol upCol
  exact Finset.sum_congr rfl fun k _ => by rw [e2, hw, (blocks m c t).1, (blocks m c t).2.1]

/-- The two rows carried into block `t`: the sequence's own at its start, the last two of the block before elsewhere. -/
def carried (c : Dev nD) (t : Fin cfg0.N) (k : Fin 2) (d : Fin 3072) : EReal :=
  if t.val % 16 = 0 then m ((c : Thread nD τ).loc main_arg7) (ix3 (seqOf t) k d)
  else U m c ⟨d.val, by omega⟩ ⟨t.val * 512 - 2 + k.val, by have := lt32 t; omega⟩

/-- One and two rows back in a block with its carried rows is one and two rows back in the sequence. -/
theorem back_lag (u : Fin 16384 → EReal) (buf : Fin 2 → Fin 2 → EReal) (t : Fin cfg0.N) (cr : Fin 2 → EReal)
    (hc : ∀ k, cr k = if t.val % 16 = 0 then buf (seqOf t) k else u ⟨t.val * 512 - 2 + k.val, by have := lt32 t; omega⟩) (r : Fin 512) :
    back2 (fun r => u (rowOf t r)) cr r = lag u buf 2 (by omega) (rowOf t r)
      ∧ back1 (fun r => u (rowOf t r)) cr r = lag u buf 1 (by omega) (rowOf t r) := by
  have ht := lt32 t
  have eq : ∀ {a b : Fin 16384}, a.val = b.val → u a = u b := fun h => congrArg u (Fin.ext h)
  have eb : ∀ {a a' b b' : Fin 2}, a.val = a'.val → b.val = b'.val → buf a b = buf a' b' :=
    fun h h' => congrArg₂ buf (Fin.ext h) (Fin.ext h')
  unfold back2 back1 lag
  constructor
  · by_cases h2 : 2 ≤ r.val
    · rw [if_pos h2, dif_pos (by simp only [rowOf]; omega)]
      exact eq (by simp only [rowOf]; omega)
    · rw [if_neg h2]
      by_cases hs : t.val % 16 = 0
      · rw [dif_neg (by simp only [rowOf]; omega)]
        by_cases h0 : r.val = 0
        · rw [if_pos h0, hc, if_pos hs]
          exact eb (by simp only [rowOf, seqOf]; omega) (by simp only [rowOf, Fin.val_zero]; omega)
        · rw [if_neg h0, hc, if_pos hs]
          exact eb (by simp only [rowOf, seqOf]; omega) (by simp only [rowOf, Fin.val_one]; omega)
      · rw [dif_pos (by simp only [rowOf]; omega)]
        by_cases h0 : r.val = 0
        · rw [if_pos h0, hc, if_neg hs]
          exact eq (by simp only [rowOf, Fin.val_zero]; omega)
        · rw [if_neg h0, hc, if_neg hs]
          exact eq (by simp only [rowOf, Fin.val_one]; omega)
  · by_cases h1 : 1 ≤ r.val
    · rw [if_pos h1, dif_pos (by simp only [rowOf]; omega)]
      exact eq (by simp only [rowOf]; omega)
    · rw [if_neg h1, hc]
      by_cases hs : t.val % 16 = 0
      · rw [if_pos hs, dif_neg (by simp only [rowOf]; omega)]
        exact eb (by simp only [rowOf, seqOf]; omega) (by simp only [rowOf, Fin.val_one]; omega)
      · rw [if_neg hs, dif_pos (by simp only [rowOf]; omega)]
        exact eq (by simp only [rowOf, Fin.val_one]; omega)

/-- The first result at row `R`, column `l`: the layer norm of the row, from the argument arrays. -/
def out (c : Dev nD) (R : Fin 16384) (l : Fin 1024) : EReal :=
  layerNorm (Cert.FfnRefIdeal.Hand.pre (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg7)) R) (m ((c : Thread nD τ).loc main_arg5) (ix1 l)) (m ((c : Thread nD τ).loc main_arg6) (ix1 l)) l

/-- The body's result at point `t`, its weights' column and row blocks and the carried rows' pieces given by their entries. -/
theorem body_out (c : Dev nD) (t : Fin cfg0.N)
    (w0 w1 w2 p0 p1 p2 d0 d1 d2 : FVec Ideal S1024x1024 .bf16) (a0 a1 a2 b0 b1 b2 : FVec Ideal S1x1024 .f32)
    (hw0 : ∀ k l : Fin 1024, w0 (ix2 k l) = iblk m c 1 t (ix2 k (⟨l.val, by omega⟩ : Fin 6144)))
    (hw1 : ∀ k l : Fin 1024, w1 (ix2 k l) = iblk m c 1 t (ix2 k (⟨1024 + l.val, by omega⟩ : Fin 6144)))
    (hw2 : ∀ k l : Fin 1024, w2 (ix2 k l) = iblk m c 1 t (ix2 k (⟨2048 + l.val, by omega⟩ : Fin 6144)))
    (hp0 : ∀ k l : Fin 1024, p0 (ix2 k l) = iblk m c 1 t (ix2 k (⟨3072 + l.val, by omega⟩ : Fin 6144)))
    (hp1 : ∀ k l : Fin 1024, p1 (ix2 k l) = iblk m c 1 t (ix2 k (⟨4096 + l.val, by omega⟩ : Fin 6144)))
    (hp2 : ∀ k l : Fin 1024, p2 (ix2 k l) = iblk m c 1 t (ix2 k (⟨5120 + l.val, by omega⟩ : Fin 6144)))
    (hd0 : ∀ j l : Fin 1024, d0 (ix2 j l) = iblk m c 4 t (ix2 (⟨j.val, by omega⟩ : Fin 3072) l))
    (hd1 : ∀ j l : Fin 1024, d1 (ix2 j l) = iblk m c 4 t (ix2 (⟨1024 + j.val, by omega⟩ : Fin 3072) l))
    (hd2 : ∀ j l : Fin 1024, d2 (ix2 j l) = iblk m c 4 t (ix2 (⟨2048 + j.val, by omega⟩ : Fin 3072) l))
    (ha0 : ∀ l : Fin 1024, a0 (ix2 0 l) = carried m c t 0 ⟨l.val, by omega⟩)
    (hb0 : ∀ l : Fin 1024, b0 (ix2 0 l) = carried m c t 1 ⟨l.val, by omega⟩)
    (ha1 : ∀ l : Fin 1024, a1 (ix2 0 l) = carried m c t 0 ⟨1024 + l.val, by omega⟩)
    (hb1 : ∀ l : Fin 1024, b1 (ix2 0 l) = carried m c t 1 ⟨1024 + l.val, by omega⟩)
    (ha2 : ∀ l : Fin 1024, a2 (ix2 0 l) = carried m c t 0 ⟨2048 + l.val, by omega⟩)
    (hb2 : ∀ l : Fin 1024, b2 (ix2 0 l) = carried m c t 1 ⟨2048 + l.val, by omega⟩)
    (v167 v202 : FVec Ideal S512x1024 .f32)
    (e167 : v167 = k0_pay19 (k0_pay12 k0_pay6 (k0_pay8 (k0_pay2 (iblk m c 0 t)) p0)
        (k0_pay9 (k0_pay2 (iblk m c 0 t)) k0_pay3 (iblk m c 2 t) (k0_pay4 (iblk m c 3 t)) w0 a0 b0) d0) (k0_pay14 (k0_pay2 (iblk m c 0 t)) p1)
        (k0_pay18 k0_pay3 (iblk m c 2 t) (k0_pay4 (iblk m c 3 t)) (k0_pay13 (k0_pay2 (iblk m c 0 t)) w1) b1 (k0_pay15 k0_pay3 a1 b1)) d1)
    (e202 : v202 = k0_pay22 (k0_pay2 (iblk m c 0 t)) k0_pay3 (iblk m c 2 t) (k0_pay4 (iblk m c 3 t)) w2 a2 b2)
    (r : Fin 512) (l : Fin 1024) :
    k0_pay1 (F := Ideal)
      (k0_pay26 (iblk m c 0 t) v167 (k0_pay20 (k0_pay2 (iblk m c 0 t)) w2) (k0_pay21 (k0_pay2 (iblk m c 0 t)) p2) v202
        (k0_pay23 (iblk m c 2 t)) d2)
      (k0_pay27 (iblk m c 5 t)) (k0_pay28 (iblk m c 6 t))
      (k0_pay29 (iblk m c 0 t) v167 (k0_pay20 (k0_pay2 (iblk m c 0 t)) w2) (k0_pay21 (k0_pay2 (iblk m c 0 t)) p2) v202
        (k0_pay23 (iblk m c 2 t)) d2) (FloatOps.ofBits FTy.f32 0x44800000#32) (ix2 r l)
      = out m c (rowOf t r) l := by
  obtain ⟨B0, B1, B2, B3, B4, B5, B6, -⟩ := blocks m c t
  subst e167 e202
  refine (pay1_at _ _ _ _ r _ (fun l => body_pre (iblk m c 0 t) (iblk m c 2 t) (iblk m c 3 t) w0 w1 w2 p0 p1 p2 d0 d1 d2
    a0 a1 a2 b0 b1 b2 (fun k d => iblk m c 1 t (ix2 k d)) (fun d k => iblk m c 4 t (ix2 d k)) (carried m c t)
    hw0 hw1 hw2 hp0 (fun k l => (hp1 k l).trans (congrArg (fun j => iblk m c 1 t (ix2 k j)) (Fin.ext (by simp only; omega))))
    (fun k l => (hp2 k l).trans (congrArg (fun j => iblk m c 1 t (ix2 k j)) (Fin.ext (by simp only; omega))))
    hd0 hd1 hd2 ha0 hb0 ha1 hb1 ha2 hb2 r l) (pay29_at _ _ _ _ _ _ _ r) l).trans ?_
  have eu : ∀ (d : Fin 6144) (r : Fin 512), upCol (fun k => iblk m c 0 t (ix2 r k)) (fun k d => iblk m c 1 t (ix2 k d)) d
      = U m c d (rowOf t r) := fun d r => by
    unfold U ucol upCol
    exact Finset.sum_congr rfl fun k _ => by simp only [B0, B1]
  refine layerNorm_congr (fun k => resid_congr (fun k => B0 r k) (fun d => ?_) (fun d k => B4 d k) k) (B5 l) (B6 l) l
  simp only [eu, B2, B3]
  obtain ⟨h2, h1⟩ := back_lag (U m c ⟨d.val, by omega⟩) (fun b k => m ((c : Thread nD τ).loc main_arg7) (ix3 b k d)) t
    (fun k => carried m c t k d) (fun k => rfl) r
  rw [h2, h1]
  rfl

/-- The last two rows of a block. -/
theorem last_at (v : FVec Ideal S512x1024 .f32) (x : FVec Ideal S512x1024 .bf16) (w : FVec Ideal S1024x1024 .bf16) (k : Fin 2) (l : Fin 1024) :
    k0_pay10 (F := Ideal) x w (ix2 k l) = k0_pay7 (F := Ideal) x w (ix2 ⟨510 + k.val, by omega⟩ l)
    ∧ k0_pay16 (F := Ideal) v (ix2 k l) = v (ix2 ⟨510 + k.val, by omega⟩ l)
    ∧ k0_pay24 (F := Ideal) v (ix2 k l) = v (ix2 ⟨510 + k.val, by omega⟩ l) := by
  refine ⟨?_, ?_, ?_⟩ <;> pointwise [k0_pay10, k0_pay16, k0_pay24]

/-- The last eight rows of a block. -/
theorem tail_at (v : FVec Ideal S512x1024 .f32) (k : Fin 8) (l : Fin 1024) :
    k0_pay11 (F := Ideal) v (ix3 0 k l) = v (ix2 ⟨504 + k.val, by omega⟩ l)
    ∧ k0_pay17 (F := Ideal) v (ix3 0 k l) = v (ix2 ⟨504 + k.val, by omega⟩ l)
    ∧ k0_pay25 (F := Ideal) v (ix3 0 k l) = v (ix2 ⟨504 + k.val, by omega⟩ l) := by
  refine ⟨?_, ?_, ?_⟩ <;> pointwise [k0_pay11, k0_pay17, k0_pay25]

/-- The last two rows of block `t`'s up-projected first half. -/
def carry (c : Dev nD) (t : Fin cfg0.N) : FVec Ideal S2x3072 .f32 :=
  fun i => U m c ⟨(i 1).val, by have : (i 1).val < 3072 := (i 1).isLt; omega⟩ (rowOf t ⟨510 + (i 0).val, by have : (i 0).val < 2 := (i 0).isLt; omega⟩)

/-- An entry of the three column blocks' last two rows, wherever it lies. -/
theorem carry_at (c : Dev nD) (t : Fin cfg0.N) (w : FVec Ideal S1024x1024 .bf16) (o : ℕ) (ho : o + 1024 ≤ 3072)
    (hw : ∀ k l : Fin 1024, w (ix2 k l) = iblk m c 1 t (ix2 k (⟨o + l.val, by omega⟩ : Fin 6144)))
    (x : S2x1024.Idx) (y : S2x3072.Idx) (h0 : (y 0).val = (x 0).val) (h1 : (y 1).val = o + (x 1).val) :
    k0_pay10 (F := Ideal) (k0_pay2 (iblk m c 0 t)) w x = carry m c t y
    ∧ k0_pay16 (F := Ideal) (k0_pay13 (k0_pay2 (iblk m c 0 t)) w) x = carry m c t y
    ∧ k0_pay24 (F := Ideal) (k0_pay20 (k0_pay2 (iblk m c 0 t)) w) x = carry m c t y := by
  idx_vars x
  have e := (up_at m c t w (fun l => ⟨o + l.val, by omega⟩) hw ⟨510 + x0.val, by have := x0.isLt; omega⟩ x1).trans
    (U_eq m c (d' := ⟨(y 1).val, by have : (y 1).val < 3072 := (y 1).isLt; omega⟩)
      (R' := rowOf t ⟨510 + (y 0).val, by have : (y 0).val < 2 := (y 0).isLt; omega⟩)
      (by simp only; exact h1.symm) (by simp only [rowOf]; rw [h0]))
  rw [(last_at (k0_pay13 (k0_pay2 (iblk m c 0 t)) w) _ _ x0 x1).1, (last_at (k0_pay13 (k0_pay2 (iblk m c 0 t)) w) (k0_pay2 (iblk m c 0 t)) w x0 x1).2.1,
    (last_at (k0_pay20 (k0_pay2 (iblk m c 0 t)) w) (k0_pay2 (iblk m c 0 t)) w x0 x1).2.2, (same _ _).2.1, (same _ _).2.2.2.1]
  exact ⟨e, e, e⟩

/-- What point `t` leaves for the next: the last two rows of its block's up-projected first half. -/
theorem scratch_at (c : Dev nD) (t : Fin cfg0.N) : (outsAt0 m c t.val t.isLt).2.2 = carry m c t := by
  funext y
  by_cases h : t.val % 16 = 0
  · rw [outsAt0_A m c t h]
    frame_out
    refine View.canon_append_of_piecesOf (Val := Elt Ideal) (e := .f32) (carry m c t) [_] [_, _, _]
      ⟨fun x => (carry_at m c t _ 2048 (by omega) (fun k l => ?_) x _ ?_ ?_).2.2, fun x => (carry_at m c t _ 1024 (by omega) (fun k l => ?_) x _ ?_ ?_).2.1,
        fun x => (carry_at m c t _ 0 (by omega) (fun k l => ?_) x _ ?_ ?_).1, trivial⟩ y (View.cover_of_tiledL _ ![2, 1024] (by sl_kernel_rfl) y)
    all_goals first | pointwise | skip
    all_goals blk_simp
  · rw [outsAt0_B m c t h]
    frame_out
    canon_tiles x h
    · exact (carry_at m c t _ 2048 (by omega) (fun k l => by pointwise) x y h0 h1).2.2
    · exact (carry_at m c t _ 1024 (by omega) (fun k l => by pointwise) x y h0 h1).2.1
    · exact (carry_at m c t _ 0 (by omega) (fun k l => by pointwise) x y h0 (by omega)).1

/-- The first output's block at point `t`. -/
theorem out_at (c : Dev nD) (t : Fin cfg0.N) (r : Fin 512) (l : Fin 1024) :
    (outsAt0 m c t.val t.isLt).1 (ix2 r l) = out m c (rowOf t r) l := by
  by_cases h : t.val % 16 = 0
  · rw [outsAt0_A m c t h]
    frame_open
    simp (disch := decide) only [↓ View.readCov_skip, ↓ View.readCov_cons_toLoadRect, ↓ View.readCov_fill]
    frame_out
    have B7 : ∀ (k : Fin 2) (d : Fin 3072), (iblk m c 7 t (ix3 0 k d) : EReal) = carried m c t k d := fun k d => by
      rw [(blocks m c t).2.2.2.2.2.2.2]; unfold carried; rw [if_pos h]
    refine body_out m c t _ _ _ _ _ _ _ _ _ _ _ _ _ _ _ ?_ ?_ ?_ ?_ ?_ ?_ ?_ ?_ ?_ ?_ ?_ ?_ ?_ ?_ ?_ _ _ rfl rfl r l
    all_goals intros
    all_goals first | rw [← B7] | skip
    all_goals pointwise [k0_pay5]
  · rw [outsAt0_B m c t h]
    frame_out
    simp only [read_unread_whole]
    have BC : ∀ (k : Fin 2) (d : Fin 3072), carried m c t k d
        = (outsAt0 m c (t.val - 1) (by omega)).2.2 (ix2 k d) := fun k d => by
      rw [scratch_at m c ⟨t.val - 1, by omega⟩]
      unfold carried
      rw [if_neg h]
      exact congrArg (U m c _) (Fin.ext (by
        have e : ((ix2 k d : S2x3072.Idx) 0).val = k.val := rfl
        have ht := lt32 t
        simp only [rowOf, e]
        omega))
    refine body_out m c t _ _ _ _ _ _ _ _ _ _ _ _ _ _ _ ?_ ?_ ?_ ?_ ?_ ?_ ?_ ?_ ?_ ?_ ?_ ?_ ?_ ?_ ?_ _ _ rfl rfl r l
    all_goals intros
    all_goals first | rw [BC] | skip
    all_goals pointwise

/-- The whole first output. -/
def outArr (c : Dev nD) : FVec Ideal S16384x1024 .f32 := fun i => out m c (i 0) (i 1)

/-- The first output array after the run, entry by entry, is the reference's first result. -/
theorem final9 (c : Dev nD) : (dats m 0 c).arrAt 9 cfg0.N = outArr m c := by
  refine (dats m 0 c).arrAt_eq_of_covers 9 (outArr m c) (by decide +kernel) fun t _ y => ?_
  blk_simp
  rw [after0_9]
  idx_vars y
  refine (out_at m c t y0 y1).trans ?_
  refine (?_ : outArr m c (ix2 (rowOf t y0) y1) = _)
  unfold rowOf
  blk_ext [idx t]

/-- The whole second output: the last eight rows of each sequence's up-projected first half. -/
def tailArr (c : Dev nD) : FVec Ideal S2x8x3072 .f32 :=
  fun i => U m c ⟨(i 2).val, by have : (i 2).val < 3072 := (i 2).isLt; omega⟩ (Cert.FfnRefIdeal.Hand.row (i 0) ⟨8184 + (i 1).val, by have : (i 1).val < 8 := (i 1).isLt; omega⟩)

/-- The second output's block at point `t`: the last eight rows of its block's up-projected first half. -/
theorem tail_out (c : Dev nD) (t : Fin cfg0.N) (y : S1x8x3072.Idx) :
    (outsAt0 m c t.val t.isLt).2.1 y = U m c ⟨(y 2).val, by have : (y 2).val < 3072 := (y 2).isLt; omega⟩
      (rowOf t ⟨504 + (y 1).val, by have : (y 1).val < 8 := (y 1).isLt; omega⟩) := by
  by_cases h : t.val % 16 = 0
  all_goals first | rw [outsAt0_A m c t h] | rw [outsAt0_B m c t h]
  all_goals
    frame_out
    canon_tiles x h
    all_goals
      idx_vars x
      obtain rfl : x0 = 0 := Subsingleton.elim _ _
    · rw [(tail_at _ x1 x2).2.2, (same _ _).2.2.2.1]
      refine (up_at m c t _ (fun l => ⟨2048 + l.val, by omega⟩) (fun k l => by pointwise) _ _).trans ?_
      exact U_eq m c (by simp only; omega) (by simp only [rowOf]; omega)
    · rw [(tail_at _ x1 x2).2.1, (same _ _).2.1]
      refine (up_at m c t _ (fun l => ⟨1024 + l.val, by omega⟩) (fun k l => by pointwise) _ _).trans ?_
      exact U_eq m c (by simp only; omega) (by simp only [rowOf]; omega)
    · rw [(tail_at _ x1 x2).1]
      refine (up_at m c t _ (fun l => ⟨l.val, by omega⟩) (fun k l => by pointwise) _ _).trans ?_
      exact U_eq m c (by simp only; omega) (by simp only [rowOf]; omega)

/-- The second output is flushed at the last point of each sequence. -/
theorem flushed : ∀ t : Fin cfg0.N, (cfg0.win 10).flush t = true → t.val % 16 = 15 := by decide +kernel

theorem final10 (c : Dev nD) : (dats m 0 c).arrAt 10 cfg0.N = tailArr m c := by
  refine (dats m 0 c).arrAt_eq_of_covers 10 (tailArr m c) (by decide +kernel) fun t ht y => ?_
  blk_simp
  rw [after0_10, tail_out]
  have hf := flushed t ht
  idx_vars y
  obtain rfl : y0 = 0 := Subsingleton.elim _ _
  refine (?_ : _ = tailArr m c (ix3 (seqOf t) y1 y2)).trans ?_
  · exact U_eq m c rfl (by
      show t.val * 512 + (504 + y1.val) = t.val / 16 * 8192 + (8184 + y1.val)
      omega)
  · unfold seqOf
    blk_ext [idx t]

end Cert.FfnIdeal.Hand

end
-- ==== Proof.FfnClaims.lean ====
/- The feed-forward: the two claims that speak of the reference. -/
module

public import proofs.«01_k».proof.Defs
public import proofs.«01_k».proof.Proof.Gen.FfnIdeal.Frame
public import proofs.«01_k».proof.Proof.Gen.FfnRefIdeal.Run
public import proofs.«01_k».proof.Proof.FfnValue
public import Idealize.ShloMosaic.Lib.Claim

@[expose] public section

set_option maxRecDepth 16384

noncomputable section

namespace Cert.FfnClaims

open Idealize.ShloMosaic Idealize.ShloMosaic.TcCoe Idealize.SL.Sem

/-- The reference runs, leaves its arguments as they were and leaves no semaphore raised. -/
theorem frame_ref : Cert.quiescent_FfnRefIdeal := by
  intro m g _
  refine (θ_run Cert.FfnRefIdeal.defs _ _).mono (fun r h => ⟨?_, sem_eq_zero_of_no_sems (by decide) r.2⟩) (Cert.FfnRefIdeal.Value.run (F := Ideal) m g)
  exact fun c => (h c).2.2

/-- The blocked feed-forward and the plain one leave equal arrays. -/
theorem algebraic : Cert.algebraic_FfnIdeal_FfnRefIdeal := by
  pair_intro
  · run_from Cert.FfnIdeal.Gen.run_main m g
  · run_from Cert.FfnRefIdeal.Value.run m' g'
    · refine (?_ : Cert.FfnRefIdeal.Value.res_out0 (F := Ideal) m' c = _).trans (Cert.FfnIdeal.Hand.final9 m c).symm
      funext i
      obtain ⟨R, l, rfl⟩ : ∃ (R : Fin 16384) (l : Fin 1024), i = ix2 R l := ⟨i 0, i 1, eq_ix2 i⟩
      refine (Cert.FfnRefIdeal.Hand.result_at m' c R l).trans ?_
      obtain ⟨a0, a1, a2, a3, a4, a5, a6, a7⟩ := hagree c
      rw [a0, a1, a2, a3, a4, a5, a6, a7]
      rfl
    · refine Eq.trans ?_ (Cert.FfnIdeal.Hand.final10 m c).symm
      funext i
      obtain ⟨b, k, d, rfl⟩ : ∃ (b : Fin 2) (k : Fin 8) (d : Fin 3072), i = ix3 b k d := ⟨i 0, i 1, i 2, eq_ix3 i⟩
      exact Cert.FfnRefIdeal.Hand.tail_at _ _ b k d

end Cert.FfnClaims

end
-- ==== Proof.MergeValue.lean ====
/- The branch merge: every block the kernel writes is the block of the gated sum of the three branches, projected,
   added to the residual and normalised row by row. -/
module

public import proofs.«01_k».proof.Proof.Gen.MergeIdeal.Value
public import proofs.«01_k».proof.Proof.Gen.MergeRefIdeal.Run
public import proofs.«01_k».proof.Proof.RowNorm
public import Idealize.ShloMosaic.Lib.Pointwise
public import Idealize.ShloMosaic.Lib.Pipeline.ValueKit
public import Idealize.ShloMosaic.Lib.Claim

@[expose] public section

set_option maxRecDepth 16384

noncomputable section

namespace Cert.Rows

/-- One branch at one column: the logistic of its gate times its row against its weight's column. -/
def branch (gate : EReal) (o w : Fin 512 → EReal) : EReal := sigm gate * ∑ x, o x * w x

theorem branch_congr {o o' w w' : Fin 512 → EReal} (gate : EReal) (ho : ∀ k, o k = o' k) (hw : ∀ k, w k = w' k) :
    branch gate o w = branch gate o' w' := by rw [funext ho, funext hw]

/-- The three branches' gated sum at column `j`: the gates lie side by side in columns 4608 to 7679 of the projected stream. -/
def merged (h : Fin 7680 → EReal) (oa oh ol : Fin 512 → EReal) (wa wh wl : Fin 512 → Fin 1024 → EReal) (j : Fin 1024) : EReal :=
  branch (h ⟨4608 + j.val, by omega⟩) oa (wa · j) + branch (h ⟨5632 + j.val, by omega⟩) oh (wh · j)
    + branch (h ⟨6656 + j.val, by omega⟩) ol (wl · j)

end Cert.Rows

namespace Cert.MergeRefIdeal.Hand

open Idealize.ShloMosaic Idealize.ShloMosaic.TcCoe Idealize.SL.Sem Cert.Rows
open Cert.MergeRefIdeal Cert.MergeRefIdeal.Gen

/-- Row `R` of the residual plus the projected merge, from the argument arrays. -/
def pre (x : FVec Ideal S16384x1024 .f32) (h : FVec Ideal S16384x7680 .f32) (oa oh ol : FVec Ideal S16384x512 .f32)
    (wa wh wl : FVec Ideal S512x1024 .f32) (wo : FVec Ideal S1024x1024 .f32) (R : Fin 16384) : Fin 1024 → EReal :=
  resid (fun k => x (ix2 R k))
    (merged (fun k => h (ix2 R k)) (fun k => oa (ix2 R k)) (fun k => oh (ix2 R k)) (fun k => ol (ix2 R k))
      (fun k j => wa (ix2 k j)) (fun k j => wh (ix2 k j)) (fun k j => wl (ix2 k j)))
    (fun j k => wo (ix2 j k))

variable (m : (ℓ : Loc nD τ sig) → Buf (Elt Ideal) ℓ)

/-- The reference's result at row `R`, column `l`: the layer norm of that row. -/
theorem result_at (c : Dev nD) (R : Fin 16384) (l : Fin 1024) :
    Cert.MergeRefIdeal.Value.res_out0 (F := Ideal) m c (ix2 R l)
      = layerNorm (pre (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) R)
          (m ((c.tc : Thread nD τ).loc main_arg9) (ix1 l)) (m ((c.tc : Thread nD τ).loc main_arg10) (ix1 l)) l := by
  pointwise [Cert.MergeRefIdeal.Value.res_out0, Cert.MergeRefIdeal.Value.res_main_v49, layerNorm, mean, pre, resid, merged, branch, sigm]
  simp only [← Nat.add_assoc, Nat.reduceAdd]

end Cert.MergeRefIdeal.Hand

namespace Cert.MergeIdeal.Hand

open Idealize.ShloMosaic Idealize.ShloMosaic.TcCoe Idealize.SL.Sem Cert.Rows
open Idealize.ShloMosaic.Pipeline (Dat)
open Cert.MergeIdeal Cert.MergeIdeal.Gen

/-- The body's last payload at an entry, over what it is given: the centred row, scaled. -/
theorem pay1_at (g b : FVec Ideal S1x1024 .f32) (d : FVec Ideal S512x1024 .f32) (s : FVec Ideal S512 .f32)
    (r : Fin 512) (l : Fin 1024) : k0_pay1 (F := Ideal) g b d s (ix2 r l)
      = d (ix2 r l) * Ideal.rsqrt (Ideal.div (s (ix1 r)) (Ideal.ofBits FTy.f32 0x44800000#32) + Ideal.ofBits FTy.f32 0x3727C5AC#32)
          * g (ix2 0 l) + b (ix2 0 l) := by
  pointwise [k0_pay1]

/-- The scale and the shift pass through the body as they are. -/
theorem pay3_at (g : FVec Ideal S1x1024 .f32) (l : Fin 1024) : k0_pay3 (F := Ideal) g (ix2 0 l) = g (ix2 0 l) := by
  pointwise [k0_pay3]

/-- The scale and the shift pass through the body as they are. -/
theorem pay4_at (g : FVec Ideal S1x1024 .f32) (l : Fin 1024) : k0_pay4 (F := Ideal) g (ix2 0 l) = g (ix2 0 l) := by
  pointwise [k0_pay4]

/-- The sum of squares of a row whose centred entries are known. -/
theorem pay6_at (v32 : FVec Ideal S512x1024 .f32) (v33 : FVec Ideal S512x512 .f32) (v35 : FVec Ideal S512x1024 .bf16)
    (v38 v39 : FVec Ideal S512x512 .f32) (v51 : FVec Ideal S1024x1024 .bf16) (v54 : FVec Ideal S512x1024 .f32)
    (r : Fin 512) (D : Fin 1024 → EReal) (hD : ∀ l : Fin 1024, k0_pay5 (F := Ideal) v32 v33 v35 v38 v39 v51 v54 (ix2 r l) = D l) :
    k0_pay6 (F := Ideal) v32 v33 v35 v38 v39 v51 v54 (ix1 r) = ∑ l, D l * D l := by
  pointwise [k0_pay6]
  simp only [hD]

/-- Two branches' gated sum at an entry, each gate given in two halves. -/
theorem pay2_at (v0 : FVec Ideal S512x512 .f32) (v2 : FVec Ideal S512x1024 .bf16) (v5 v6 v16 : FVec Ideal S512x512 .f32)
    (v18 : FVec Ideal S512x1024 .bf16) (v21 v22 : FVec Ideal S512x512 .f32) (r : Fin 512) (p q : Fin 1024 → EReal)
    (h5 : ∀ j : Fin 512, v5 (ix2 r j) = p ⟨j.val, by omega⟩) (h6 : ∀ j : Fin 512, v6 (ix2 r j) = p ⟨512 + j.val, by omega⟩)
    (h21 : ∀ j : Fin 512, v21 (ix2 r j) = q ⟨j.val, by omega⟩) (h22 : ∀ j : Fin 512, v22 (ix2 r j) = q ⟨512 + j.val, by omega⟩)
    (l : Fin 1024) : k0_pay2 (F := Ideal) v0 v2 v5 v6 v16 v18 v21 v22 (ix2 r l)
      = branch (p l) (fun x => v0 (ix2 r x)) (fun x => v2 (ix2 x l))
        + branch (q l) (fun x => v16 (ix2 r x)) (fun x => v18 (ix2 x l)) := by
  pointwise [k0_pay2, branch, sigm]
  by_cases h : l.val < 512
  · simp only [h, dite_true, zero_sub, h5, h21]
  · have e : (⟨512 + (l.val - 512), by omega⟩ : Fin 1024) = l := Fin.ext (by simp only; omega)
    simp only [h, dite_false, zero_sub, h6, h22, e]

/-- The centred row at an entry: the third branch added, the sum projected and added to the residual, the mean taken off. -/
theorem pay5_at (v32 : FVec Ideal S512x1024 .f32) (v33 : FVec Ideal S512x512 .f32) (v35 : FVec Ideal S512x1024 .bf16)
    (v38 v39 : FVec Ideal S512x512 .f32) (v51 : FVec Ideal S1024x1024 .bf16) (v54 : FVec Ideal S512x1024 .f32)
    (r : Fin 512) (p : Fin 1024 → EReal)
    (h38 : ∀ j : Fin 512, v38 (ix2 r j) = p ⟨j.val, by omega⟩) (h39 : ∀ j : Fin 512, v39 (ix2 r j) = p ⟨512 + j.val, by omega⟩)
    (P : Fin 1024 → EReal)
    (hP : P = resid (fun k => v54 (ix2 r k))
      (fun j => v32 (ix2 r j) + branch (p j) (fun x => v33 (ix2 r x)) (fun x => v35 (ix2 x j))) (fun j k => v51 (ix2 j k)))
    (l : Fin 1024) : k0_pay5 (F := Ideal) v32 v33 v35 v38 v39 v51 v54 (ix2 r l) = P l - mean P := by
  subst hP
  simp only [resid, sum_halves (fun j => _ * _), mean, branch, sigm]
  pointwise [k0_pay5]
  simp only [zero_sub, h38, h39]

/-- The first two branches' sum as the body forms it, from the blocks read whole. -/
theorem pay7_eq (x0 : FVec Ideal S512x1024 .f32) (x1 x2 x3 x4 x5 x6 x7 x8 x9 : FVec Ideal S512x512 .f32)
    (x10 x11 x12 : FVec Ideal S512x1024 .bf16) (x13 : FVec Ideal S1024x1024 .bf16) (x14 x15 : FVec Ideal S1x1024 .f32) :
    k0_pay7 (F := Ideal) x0 x1 x2 x3 x4 x5 x6 x7 x8 x9 x10 x11 x12 x13 x14 x15 = k0_pay2 x1 x10 x4 x5 x2 x11 x6 x7 := by
  unfold k0_pay7
  frame_out

/-- The body's result at an entry, over its blocks: the layer norm of the row, the gates given in halves. -/
theorem body_at (x0 : FVec Ideal S512x1024 .f32) (x1 x2 x3 x4 x5 x6 x7 x8 x9 : FVec Ideal S512x512 .f32)
    (x10 x11 x12 : FVec Ideal S512x1024 .bf16) (x13 : FVec Ideal S1024x1024 .bf16) (x14 x15 : FVec Ideal S1x1024 .f32)
    (r : Fin 512) (p q s : Fin 1024 → EReal)
    (h4 : ∀ j : Fin 512, x4 (ix2 r j) = p ⟨j.val, by omega⟩) (h5 : ∀ j : Fin 512, x5 (ix2 r j) = p ⟨512 + j.val, by omega⟩)
    (h6 : ∀ j : Fin 512, x6 (ix2 r j) = q ⟨j.val, by omega⟩) (h7 : ∀ j : Fin 512, x7 (ix2 r j) = q ⟨512 + j.val, by omega⟩)
    (h8 : ∀ j : Fin 512, x8 (ix2 r j) = s ⟨j.val, by omega⟩) (h9 : ∀ j : Fin 512, x9 (ix2 r j) = s ⟨512 + j.val, by omega⟩)
    (l : Fin 1024) :
    k0_pay1 (F := Ideal) (k0_pay3 x14) (k0_pay4 x15) (k0_pay5 (k0_pay2 x1 x10 x4 x5 x2 x11 x6 x7) x3 x12 x8 x9 x13 x0)
      (k0_pay6 (k0_pay2 x1 x10 x4 x5 x2 x11 x6 x7) x3 x12 x8 x9 x13 x0) (ix2 r l)
      = layerNorm (resid (fun k => x0 (ix2 r k))
          (fun j => branch (p j) (fun x => x1 (ix2 r x)) (fun x => x10 (ix2 x j))
            + branch (q j) (fun x => x2 (ix2 r x)) (fun x => x11 (ix2 x j))
            + branch (s j) (fun x => x3 (ix2 r x)) (fun x => x12 (ix2 x j)))
          (fun j k => x13 (ix2 j k))) (x14 (ix2 0 l)) (x15 (ix2 0 l)) l := by
  have h := pay5_at (k0_pay2 x1 x10 x4 x5 x2 x11 x6 x7) x3 x12 x8 x9 x13 x0 r s h8 h9 _ rfl
  simp only [pay2_at x1 x10 x4 x5 x2 x11 x6 x7 r p q h4 h5 h6 h7] at h
  rw [pay1_at, pay6_at _ _ _ _ _ _ _ r _ h, h l, pay3_at, pay4_at]
  rfl

variable (m : (ℓ : Loc nD τ sig) → Buf (Elt Ideal) ℓ)

/-- Where the windows stand at point `t`: the stream's windows at row block `t`, the six gate windows at column blocks 9 to
    14, the weights whole. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 9] ∧ win0_5.index t = ![t.val, 10]
    ∧ win0_6.index t = ![t.val, 11] ∧ win0_7.index t = ![t.val, 12] ∧ win0_8.index t = ![t.val, 13]
    ∧ win0_9.index t = ![t.val, 14] ∧ win0_10.index t = ![0, 0] ∧ win0_11.index t = ![0, 0] ∧ win0_12.index t = ![0, 0]
    ∧ win0_13.index t = ![0, 0] ∧ win0_14.index t = ![0, 0] ∧ win0_15.index t = ![0, 0] ∧ win0_16.index t = ![t.val, 0]
    ∧ t.val < 32 :=
  (by decide +kernel : ∀ t : Fin grid0.N, win0_0.index t = ![t.val, 0] ∧ win0_1.index t = ![t.val, 0] ∧ win0_2.index t = ![t.val, 0]
    ∧ win0_3.index t = ![t.val, 0] ∧ win0_4.index t = ![t.val, 9] ∧ win0_5.index t = ![t.val, 10]
    ∧ win0_6.index t = ![t.val, 11] ∧ win0_7.index t = ![t.val, 12] ∧ win0_8.index t = ![t.val, 13]
    ∧ win0_9.index t = ![t.val, 14] ∧ win0_10.index t = ![0, 0] ∧ win0_11.index t = ![0, 0] ∧ win0_12.index t = ![0, 0]
    ∧ win0_13.index t = ![0, 0] ∧ win0_14.index t = ![0, 0] ∧ win0_15.index t = ![0, 0] ∧ win0_16.index t = ![t.val, 0]
    ∧ t.val < 32)

/-- Row `r` of block `t`, as a row of the stream. -/
def rowOf (t : Fin cfg0.N) (r : Fin 512) : Fin 16384 := ⟨t.val * 512 + r.val, by have := (idx t).2.2.2.2.2.2.2.2.2.2.2.2.2.2.2.2.2; omega⟩

/-- The gate windows' columns, laid side by side two by two, are the gates' columns of the projected stream. -/
theorem gates (c : Dev nD) (t : Fin cfg0.N) (r j : Fin 512) :
    (iblk m c 4 t (ix2 r j) : EReal) = m ((c : Thread nD τ).loc main_arg1) (ix2 (rowOf t r) ⟨4608 + j.val, by omega⟩)
    ∧ (iblk m c 5 t (ix2 r j) : EReal) = m ((c : Thread nD τ).loc main_arg1) (ix2 (rowOf t r) ⟨4608 + (512 + j.val), by omega⟩)
    ∧ (iblk m c 6 t (ix2 r j) : EReal) = m ((c : Thread nD τ).loc main_arg1) (ix2 (rowOf t r) ⟨5632 + j.val, by omega⟩)
    ∧ (iblk m c 7 t (ix2 r j) : EReal) = m ((c : Thread nD τ).loc main_arg1) (ix2 (rowOf t r) ⟨5632 + (512 + j.val), by omega⟩)
    ∧ (iblk m c 8 t (ix2 r j) : EReal) = m ((c : Thread nD τ).loc main_arg1) (ix2 (rowOf t r) ⟨6656 + j.val, by omega⟩)
    ∧ (iblk m c 9 t (ix2 r j) : EReal) = m ((c : Thread nD τ).loc main_arg1) (ix2 (rowOf t r) ⟨6656 + (512 + j.val), by omega⟩) := by
  unfold rowOf
  refine ⟨?_, ?_, ?_, ?_, ?_, ?_⟩ <;> blk_ext [iblk, V, idx t]

/-- The output at row `R`, column `l`: the layer norm of the row, from the argument arrays. -/
def out (c : Dev nD) (R : Fin 16384) (l : Fin 1024) : EReal :=
  layerNorm (Cert.MergeRefIdeal.Hand.pre (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) R) (m ((c : Thread nD τ).loc main_arg9) (ix1 l))
    (m ((c : Thread nD τ).loc main_arg10) (ix1 l)) l

/-- The other windows' blocks, entry by entry: rows of the stream and of the branches, the weights whole. -/
theorem blocks (c : Dev nD) (t : Fin cfg0.N) (r : Fin 512) :
    (∀ k : Fin 1024, (iblk m c 0 t (ix2 r k) : EReal) = m ((c : Thread nD τ).loc main_arg0) (ix2 (rowOf t r) k))
    ∧ (∀ k : Fin 512, (iblk m c 1 t (ix2 r k) : EReal) = m ((c : Thread nD τ).loc main_arg2) (ix2 (rowOf t r) k))
    ∧ (∀ k : Fin 512, (iblk m c 2 t (ix2 r k) : EReal) = m ((c : Thread nD τ).loc main_arg3) (ix2 (rowOf t r) k))
    ∧ (∀ k : Fin 512, (iblk m c 3 t (ix2 r k) : EReal) = m ((c : Thread nD τ).loc main_arg4) (ix2 (rowOf t r) k))
    ∧ (∀ (k : Fin 512) (j : Fin 1024), (iblk m c 10 t (ix2 k j) : EReal) = m ((c : Thread nD τ).loc main_arg5) (ix2 k j))
    ∧ (∀ (k : Fin 512) (j : Fin 1024), (iblk m c 11 t (ix2 k j) : EReal) = m ((c : Thread nD τ).loc main_arg6) (ix2 k j))
    ∧ (∀ (k : Fin 512) (j : Fin 1024), (iblk m c 12 t (ix2 k j) : EReal) = m ((c : Thread nD τ).loc main_arg7) (ix2 k j))
    ∧ (∀ k j : Fin 1024, (iblk m c 13 t (ix2 k j) : EReal) = m ((c : Thread nD τ).loc main_arg8) (ix2 k j))
    ∧ (∀ l : Fin 1024, (iblk m c 14 t (ix2 0 l) : EReal) = m ((c : Thread nD τ).loc main_arg9) (ix1 l))
    ∧ (∀ l : Fin 1024, (iblk m c 15 t (ix2 0 l) : EReal) = m ((c : Thread nD τ).loc main_arg10) (ix1 l)) := by
  unfold rowOf
  refine ⟨?_, ?_, ?_, ?_, ?_, ?_, ?_, ?_, ?_, ?_⟩ <;> intros <;> blk_point [iblk, V, idx t]

/-- The layer norm of the row the blocks give at point `t` is the layer norm of that row of the whole. -/
theorem point (c : Dev nD) (t : Fin cfg0.N) (r : Fin 512) (l : Fin 1024) :
    layerNorm (resid (fun k => iblk m c 0 t (ix2 r k))
        (fun j => branch (m ((c : Thread nD τ).loc main_arg1) (ix2 (rowOf t r) ⟨4608 + j.val, by omega⟩))
              (fun x => iblk m c 1 t (ix2 r x)) (fun x => iblk m c 10 t (ix2 x j))
            + branch (m ((c : Thread nD τ).loc main_arg1) (ix2 (rowOf t r) ⟨5632 + j.val, by omega⟩))
              (fun x => iblk m c 2 t (ix2 r x)) (fun x => iblk m c 11 t (ix2 x j))
            + branch (m ((c : Thread nD τ).loc main_arg1) (ix2 (rowOf t r) ⟨6656 + j.val, by omega⟩))
              (fun x => iblk m c 3 t (ix2 r x)) (fun x => iblk m c 12 t (ix2 x j)))
        (fun j k => iblk m c 13 t (ix2 j k))) (iblk m c 14 t (ix2 0 l)) (iblk m c 15 t (ix2 0 l)) l
      = out m c (rowOf t r) l := by
  obtain ⟨b0, b1, b2, b3, b10, b11, b12, b13, b14, b15⟩ := blocks m c t r
  unfold out Cert.MergeRefIdeal.Hand.pre
  refine layerNorm_congr (fun k => resid_congr (fun k => b0 k) (fun j => ?_) (fun j k => b13 j k) k) (b14 l) (b15 l) l
  unfold merged
  rw [branch_congr _ b1 (fun k => b10 k j), branch_congr _ b2 (fun k => b11 k j), branch_congr _ b3 (fun k => b12 k j)]

/-- The whole output. -/
def outArr (c : Dev nD) : FVec Ideal S16384x1024 .f32 := fun i => out m c (i 0) (i 1)

/-- The output array after the run, entry by entry, is the reference's result. -/
theorem final (c : Dev nD) : (dats m 0 c).arrAt 16 cfg0.N
    = outArr m c := by
  refine (dats m 0 c).arrAt_eq_of_covers 16 (outArr m c) (by decide +kernel) fun t _ y => ?_
  blk_simp
  rw [after0_16]
  frame_out
  idx_vars y
  have g := fun j => gates m c t y0 j
  rw [pay7_eq]
  refine (body_at _ _ _ _ _ _ _ _ _ _ _ _ _ _ _ _ y0
    (fun j => m ((c : Thread nD τ).loc main_arg1) (ix2 (rowOf t y0) ⟨4608 + j.val, by omega⟩))
    (fun j => m ((c : Thread nD τ).loc main_arg1) (ix2 (rowOf t y0) ⟨5632 + j.val, by omega⟩))
    (fun j => m ((c : Thread nD τ).loc main_arg1) (ix2 (rowOf t y0) ⟨6656 + j.val, by omega⟩))
    (fun j => (g j).1) (fun j => (g j).2.1) (fun j => (g j).2.2.1) (fun j => (g j).2.2.2.1)
    (fun j => (g j).2.2.2.2.1) (fun j => (g j).2.2.2.2.2) y1).trans ((point m c t y0 y1).trans ?_)
  refine (?_ : outArr m c (ix2 (rowOf t y0) y1) = _)
  unfold rowOf
  blk_ext [idx t]

end Cert.MergeIdeal.Hand

end
-- ==== Proof.MergeClaims.lean ====
/- The branch merge: the two claims that speak of the reference. -/
module

public import proofs.«01_k».proof.Defs
public import proofs.«01_k».proof.Proof.Gen.MergeIdeal.Frame
public import proofs.«01_k».proof.Proof.Gen.MergeRefIdeal.Run
public import proofs.«01_k».proof.Proof.MergeValue
public import Idealize.ShloMosaic.Lib.Claim

@[expose] public section

set_option maxRecDepth 16384

noncomputable section

namespace Cert.MergeClaims

open Idealize.ShloMosaic Idealize.ShloMosaic.TcCoe Idealize.SL.Sem

/-- The reference runs, leaves its arguments as they were and leaves no semaphore raised. -/
theorem frame_ref : Cert.quiescent_MergeRefIdeal := by
  intro m g _
  refine (θ_run Cert.MergeRefIdeal.defs _ _).mono (fun r h => ⟨?_, sem_eq_zero_of_no_sems (by decide) r.2⟩) (Cert.MergeRefIdeal.Value.run (F := Ideal) m g)
  exact fun c => (h c).2

/-- The blocked merge and the plain merge leave equal arrays. -/
theorem algebraic : Cert.algebraic_MergeIdeal_MergeRefIdeal := by
  pair_intro
  · run_from Cert.MergeIdeal.Gen.run_main m g
    exact hc.1 16
  · run_from Cert.MergeRefIdeal.Value.run m' g'
    refine (?_ : Cert.MergeRefIdeal.Value.res_out0 (F := Ideal) m' c = _).trans (Cert.MergeIdeal.Hand.final m c).symm
    funext i
    obtain ⟨R, l, rfl⟩ : ∃ (R : Fin 16384) (l : Fin 1024), i = ix2 R l := ⟨i 0, i 1, eq_ix2 i⟩
    refine (Cert.MergeRefIdeal.Hand.result_at m' c R l).trans ?_
    obtain ⟨a0, a1, a2, a3, a4, a5, a6, a7, a8, a9, a10⟩ := hagree c
    rw [a0, a1, a2, a3, a4, a5, a6, a7, a8, a9, a10]
    rfl

end Cert.MergeClaims

end
-- ==== Proof.ProjValue.lean ====
/- The input projection: every block the kernel writes is the block of the plain matrix product. -/
module

public import proofs.«01_k».proof.Proof.Gen.ProjIdeal.Value
public import proofs.«01_k».proof.Proof.Gen.ProjRefIdeal.Run
public import Idealize.ShloMosaic.Lib.Pointwise
public import Idealize.ShloMosaic.Lib.Pipeline.ValueKit
public import Idealize.ShloMosaic.Lib.Claim

@[expose] public section

set_option maxRecDepth 16384

noncomputable section

namespace Cert.ProjRefIdeal

open Idealize.ShloMosaic

/-- The projection in the reference's words: one product of the whole stream with the whole weight. -/
def product (x : FVec Ideal S16384x1024 .f32) (w : FVec Ideal S1024x7680 .f32) : FVec Ideal S16384x7680 .f32 :=
  Host.dotGeneral dot_S16384x1024_S1024x7680_S16384x7680_1_0_0_1_n_n none x w

end Cert.ProjRefIdeal

namespace Cert.ProjIdeal.Hand

open Idealize.ShloMosaic Idealize.ShloMosaic.TcCoe Idealize.SL.Sem
open Idealize.ShloMosaic.Pipeline (Dat)
open Cert.ProjIdeal Cert.ProjIdeal.Gen

variable (m : (ℓ : Loc nD τ sig) → Buf (Elt Ideal) ℓ)

/-- Where the windows stand at point `t`: five column blocks for each block of rows. -/
theorem idx : ∀ t : Fin cfg0.N, win0_0.index t = ![t.val / 5, 0] ∧ win0_1.index t = ![0, t.val % 5]
    ∧ win0_2.index t = ![t.val / 5, t.val % 5] :=
  (by decide +kernel : ∀ t : Fin grid0.N, win0_0.index t = ![t.val / 5, 0] ∧ win0_1.index t = ![0, t.val % 5]
    ∧ win0_2.index t = ![t.val / 5, t.val % 5])

/-- One entry of a block: the row of the stream's block against the column of the weight's block is the entry of the
    whole product that lies under it. -/
theorem point (c : Dev nD) (t : Fin cfg0.N) (y : S1024x1536.Idx) :
    k0_pay1 (F := Ideal) (iblk m c 0 t) (iblk m c 1 t) y
      = Cert.ProjRefIdeal.product (m ((c : Thread nD τ).loc main_arg0)) (m ((c : Thread nD τ).loc main_arg1))
          (((cfg0.win 2).blk t).view.emb y) := by
  pointwise [k0_pay1, Cert.ProjRefIdeal.product]
  blk_point [iblk, V, idx t]

/-- The output array after the run is the product. -/
theorem final (c : Dev nD) : (dats m 0 c).arrAt 2 cfg0.N
    = Cert.ProjRefIdeal.product (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.ProjIdeal.Hand

end
-- ==== Proof.ProjClaims.lean ====
/- The input projection: the two claims that speak of the reference. -/
module

public import proofs.«01_k».proof.Defs
public import proofs.«01_k».proof.Proof.Gen.ProjIdeal.Frame
public import proofs.«01_k».proof.Proof.Gen.ProjRefIdeal.Run
public import proofs.«01_k».proof.Proof.ProjValue
public import Idealize.ShloMosaic.Lib.Claim

@[expose] public section

set_option maxRecDepth 16384

noncomputable section

namespace Cert.ProjClaims

open Idealize.ShloMosaic Idealize.ShloMosaic.TcCoe Idealize.SL.Sem

/-- The reference runs, leaves its arguments as they were and leaves no semaphore raised. -/
theorem frame_ref : Cert.quiescent_ProjRefIdeal := by
  intro m g _
  refine (θ_run Cert.ProjRefIdeal.defs _ _).mono (fun r h => ⟨?_, sem_eq_zero_of_no_sems (by decide) r.2⟩) (Cert.ProjRefIdeal.Value.run (F := Ideal) m g)
  exact fun c => (h c).2

/-- The blocked product and the plain product leave equal arrays. -/
theorem algebraic : Cert.algebraic_ProjIdeal_ProjRefIdeal := by
  pair_intro
  · run_from Cert.ProjIdeal.Gen.run_main m g
  · hlo_run
    exact (Cert.ProjIdeal.Hand.final m c).symm

end Cert.ProjClaims

end
-- ==== Proof.Rotary.lean ====
/- The rotary embedding of one row of eight heads of 64 entries, and taking columns of a table by a list of column numbers. -/
module

public import Idealize.ShloMosaic.Lib.Pointwise

@[expose] public section

noncomputable section

namespace Cert.Rotary

open Idealize.ShloMosaic

/-- A row of eight heads after the rotation by the position's angles, whose cosines and sines are `cs` and `sn`: in each head
    the first eight entries are turned against the next eight, and the other 48 stay. -/
def turned (x : Fin 512 → EReal) (cs sn : Fin 8 → EReal) (l : Fin 512) : EReal :=
  if l.val % 64 < 8 then x l * cs ⟨l.val % 8, by omega⟩ - x ⟨(l.val + 8) % 512, by omega⟩ * sn ⟨l.val % 8, by omega⟩
  else if l.val % 64 < 16 then x l * cs ⟨l.val % 8, by omega⟩ + x ⟨l.val - 8, by omega⟩ * sn ⟨l.val % 8, by omega⟩
  else x l

/-- A table row of 128 lanes that multiplies the entries themselves. -/
def keep (cs : Fin 8 → EReal) (k : Fin 128) : EReal := if k.val % 64 < 16 then cs ⟨k.val % 8, by omega⟩ else 1

/-- A table row of 128 lanes that multiplies the entries eight lanes below. -/
def below (sn : Fin 8 → EReal) (k : Fin 128) : EReal :=
  if 8 ≤ k.val % 64 ∧ k.val % 64 < 16 then sn ⟨k.val % 8, by omega⟩ else 0

/-- A table row of 128 lanes that multiplies the entries eight lanes above. -/
def above (sn : Fin 8 → EReal) (k : Fin 128) : EReal := if k.val % 64 < 8 then -sn ⟨k.val % 8, by omega⟩ else 0

/-- The three products by table rows, added, are the rotation. -/
theorem turned_of (x : Fin 512 → EReal) (cs sn : Fin 8 → EReal) (l : Fin 512) (y z : EReal)
    (hy : 8 ≤ l.val % 64 → y = x ⟨l.val - 8, by omega⟩) (hz : l.val % 64 < 8 → z = x ⟨(l.val + 8) % 512, by omega⟩) :
    x l * keep cs ⟨l.val % 128, by omega⟩ + y * below sn ⟨l.val % 128, by omega⟩ + z * above sn ⟨l.val % 128, by omega⟩
      = turned x cs sn l := by
  have h8 : l.val % 128 % 8 = l.val % 8 := by omega
  have h64 : l.val % 128 % 64 = l.val % 64 := by omega
  unfold turned keep below above
  simp only [h8, h64]
  by_cases h1 : l.val % 64 < 8
  · rw [if_pos (by omega : l.val % 64 < 16), if_neg (by omega), if_pos h1, if_pos h1, hz h1, mul_zero, add_zero, mul_neg, sub_eq_add_neg]
  · by_cases h2 : l.val % 64 < 16
    · rw [if_pos h2, if_pos ⟨by omega, h2⟩, if_neg h1, if_neg h1, if_pos h2, hy (by omega), mul_zero, add_zero]
    · rw [if_neg h2, if_neg (by omega), if_neg h1, if_neg h1, if_neg h2, mul_one, mul_zero, mul_zero, add_zero, add_zero]

/-- The same at the entries and the lane a block of 128 lanes names. -/
theorem turned_at (x : Fin 512 → EReal) (cs sn : Fin 8 → EReal) (l p y z : Fin 512) (k : Fin 128) (hp : p.val = l.val)
    (hk : k.val = l.val % 128) (hy : 8 ≤ l.val % 64 → y.val = l.val - 8) (hz : l.val % 64 < 8 → z.val = (l.val + 8) % 512) :
    x p * keep cs k + x y * below sn k + x z * above sn k = turned x cs sn l := by
  obtain rfl : p = l := Fin.ext hp
  rw [show k = ⟨p.val % 128, by omega⟩ from Fin.ext hk]
  exact turned_of x cs sn p _ _ (fun h => congrArg x (Fin.ext (hy h))) fun h => congrArg x (Fin.ext (hz h))

section Take

variable {α : Type}

/-- Dimension numbers that take whole columns of a table of `N` rows and `C` columns by `B` column numbers. -/
abbrev takeCols (N C B : Nat) (wf : GatherDims.WF ⟨2, ![N, C]⟩ ⟨2, ![B, 1]⟩ ⟨2, ![N, B]⟩ [0] [1] [] [1] [] 1 ![N, 1]) :
    GatherDims ⟨2, ![N, C]⟩ ⟨2, ![B, 1]⟩ ⟨2, ![N, B]⟩ where
  offsetDims := [0]
  collapsedSliceDims := [1]
  operandBatchingDims := []
  startIndicesBatchingDims := []
  startIndexMap := [1]
  indexVectorDim := 1
  sliceSizes := ![N, 1]
  wf := wf

/-- Row `r` of the columns taken, at place `k`: row `r` of the table at the column number there, read signed and held to the
    table's columns. -/
theorem takeCols_at {N C B w : Nat} (hC : 0 < C)
    (wf : GatherDims.WF ⟨2, ![N, C]⟩ ⟨2, ![B, 1]⟩ ⟨2, ![N, B]⟩ [0] [1] [] [1] [] 1 ![N, 1])
    (x : (⟨2, ![N, C]⟩ : Shape).Idx → α) (idx : IVec ⟨2, ![B, 1]⟩ w) (r : Fin N) (k : Fin B) :
    Host.gather (takeCols N C B wf) x idx (ix2 r k) = x (ix2 r ⟨min (idx (ix2 k 0)).toInt.toNat (C - 1), by omega⟩) := by
  unfold Host.gather
  congr 1
  funext a
  refine Fin.ext ?_
  show (takeCols N C B wf).start (ix2 r k) idx a + (takeCols N C B wf).batchCoord (ix2 r k) a
      + (takeCols N C B wf).offCoord (ix2 r k) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by simp at h)]
    unfold GatherDims.start GatherDims.offCoord
    rw [dif_neg (by simp)]
    rw [dif_pos ((GatherDims.mem_sKept _ _).mpr ⟨by simp, by simp⟩)]
    simp only [Nat.zero_add]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (takeCols N C B wf).startIndexMap from List.mem_singleton.mpr rfl)]
    have hsi : (takeCols N C B wf).siIdx (ix2 r k) ⟨List.idxOf (1 : Fin 2) (takeCols N C B wf).startIndexMap,
        List.idxOf_lt_length_iff.2 (List.mem_singleton.mpr rfl)⟩ = ix2 k 0 := by
      funext b; refine Fin.ext ?_
      match b with
      | ⟨0, _⟩ => rfl
      | ⟨1, _⟩ => rfl
    rw [hsi]
    rfl

end Take

end Cert.Rotary

end
-- ==== Proof.RopeRef.lean ====
/- The rotary embedding in plain words, entry by entry: each row of eight heads is turned by the angles of its position. -/
module

public import proofs.«01_k».proof.Proof.Rotary
public import proofs.«01_k».proof.Proof.Gen.RopeRefIdeal.Run
public import Idealize.ShloMosaic.Lib.Pointwise
public import Idealize.ShloMosaic.Lib.Claim

@[expose] public section

set_option maxRecDepth 16384

noncomputable section

namespace Cert.RopeRefIdeal.Hand

open Idealize.ShloMosaic Idealize.ShloMosaic.TcCoe Cert.Rotary
open Cert.RopeRefIdeal Cert.RopeRefIdeal.Gen

/-- The angles: each position times each of the eight frequencies. -/
def angles : FVec Ideal S8192x8 .f32 :=
  mulf (broadcastInDim S8192x8 ![0, 1] bcast_S8192x1_S8192x8_0_1 (broadcastInDim S8192x1 ![0] bcast_S8192_S8192x1_0 (sitofp .f32 (iotaInDim S8192 32 0))))
    (broadcastInDim S8192x8 ![0, 1] bcast_S1x8_S8192x8_0_1 (broadcastInDim S1x8 ![1] bcast_S8_S1x8_1
      (Host.powf (broadcastInDim S8 ![] bcast_S_S8 (constant S_ .f32 0x48F42400#32))
        (Host.divf (Host.negf (sitofp .f32 (iotaInDim S8 32 0))) (broadcastInDim S8 ![] bcast_S_S8 (constant S_ .f32 0x41000000#32))))))

/-- The cosines of the angles. -/
def cosines : FVec Ideal S8192x8 .f32 := Host.cos angles

/-- The sines of the angles. -/
def sines : FVec Ideal S8192x8 .f32 := Host.sin angles

/-- A table spread over the sequences and the heads. -/
def spread (x : FVec Ideal S8192x8 .f32) : FVec Ideal S2x8192x8x8 .f32 :=
  broadcastInDim S2x8192x8x8 ![0, 1, 2, 3] bcast_S1x8192x1x8_S2x8192x8x8_0_1_2_3
    (broadcastInDim S1x8192x1x8 ![1, 3] bcast_S8192x8_S1x8192x1x8_1_3 x)

/-- The first eight entries of each head. -/
def first (x : FVec Ideal S2x8192x512 .f32) : FVec Ideal S2x8192x8x8 .f32 :=
  extractStridedSlice S2x8192x8x8 ![0, 0, 0, 0] (shapeCast _ x shapeCasts_S2x8192x512_S2x8192x8x64) slices_S2x8192x8x64_S2x8192x8x8_0_0_0_0

/-- The next eight entries of each head. -/
def second (x : FVec Ideal S2x8192x512 .f32) : FVec Ideal S2x8192x8x8 .f32 :=
  extractStridedSlice S2x8192x8x8 ![0, 0, 0, 8] (shapeCast _ x shapeCasts_S2x8192x512_S2x8192x8x64) slices_S2x8192x8x64_S2x8192x8x8_0_0_0_8

/-- The whole array of heads rotated. -/
def rotated (x : FVec Ideal S2x8192x512 .f32) : FVec Ideal S2x8192x512 .f32 :=
  shapeCast _ (concatenate S2x8192x8x64 3
    [⟨S2x8192x8x8, (subf (mulf (first x) (spread cosines)) (mulf (second x) (spread sines)) : FVec Ideal S2x8192x8x8 .f32)⟩,
      ⟨S2x8192x8x8, (addf (mulf (second x) (spread cosines)) (mulf (first x) (spread sines)) : FVec Ideal S2x8192x8x8 .f32)⟩,
      ⟨S2x8192x8x48, (extractStridedSlice S2x8192x8x48 ![0, 0, 0, 16] (shapeCast _ x shapeCasts_S2x8192x512_S2x8192x8x64)
        slices_S2x8192x8x64_S2x8192x8x48_0_0_0_16 : FVec Ideal S2x8192x8x48 .f32)⟩]
    concatenates_S2x8192x8x8_S2x8192x8x8_S2x8192x8x48_S2x8192x8x64_d3) shapeCasts_S2x8192x8x64_S2x8192x512

/-- The pieces at an entry. -/
theorem pieces_at (x : FVec Ideal S2x8192x512 .f32) (y : FVec Ideal S8192x8 .f32) (b : Fin 2) (t : Fin 8192) (n f : Fin 8) :
    first x (ix4 b t n f) = x (ix3 b t ⟨n.val * 64 + f.val, by omega⟩)
    ∧ second x (ix4 b t n f) = x (ix3 b t ⟨n.val * 64 + (8 + f.val), by omega⟩)
    ∧ spread y (ix4 b t n f) = y (ix2 t f) := by
  refine ⟨?_, ?_, ?_⟩
  · pointwise [first]
  · pointwise [second]
  · pointwise [spread]

/-- A row of the rotated array is the row of the array turned by the position's angles. -/
theorem rotated_at (x : FVec Ideal S2x8192x512 .f32) (b : Fin 2) (t : Fin 8192) (l : Fin 512) :
    rotated x (ix3 b t l) = turned (fun l => x (ix3 b t l)) (fun f => cosines (ix2 t f)) (fun f => sines (ix2 t f)) l := by
  have ex : ∀ {k k' : Fin 512}, k.val = k'.val → x (ix3 b t k) = x (ix3 b t k') := fun h => by rw [Fin.ext h]
  have ec : ∀ {k k' : Fin 8}, k.val = k'.val → cosines (ix2 t k) = cosines (ix2 t k') := fun h => by rw [Fin.ext h]
  have es : ∀ {k k' : Fin 8}, k.val = k'.val → sines (ix2 t k) = sines (ix2 t k') := fun h => by rw [Fin.ext h]
  unfold turned
  pointwise [rotated]
  by_cases h1 : l.val % 64 < 8
  · have p := pieces_at x cosines b t ⟨l.val / 64, by omega⟩ ⟨l.val % 64, h1⟩
    have q := pieces_at x sines b t ⟨l.val / 64, by omega⟩ ⟨l.val % 64, h1⟩
    rw [dif_pos h1, if_pos h1, p.1, p.2.1, p.2.2, q.2.2]
    exact congrArg₂ (· - ·) (congrArg₂ (· * ·) (ex (by simp only; omega)) (ec (by simp only; omega)))
      (congrArg₂ (· * ·) (ex (by simp only; omega)) (es (by simp only; omega)))
  · by_cases h2 : l.val % 64 < 16
    · have h3 : l.val % 64 - 8 < 8 := by omega
      have p := pieces_at x cosines b t ⟨l.val / 64, by omega⟩ ⟨l.val % 64 - 8, h3⟩
      have q := pieces_at x sines b t ⟨l.val / 64, by omega⟩ ⟨l.val % 64 - 8, h3⟩
      rw [dif_neg h1, dif_pos h3, if_neg h1, if_pos h2, p.1, p.2.1, p.2.2, q.2.2]
      exact congrArg₂ (· + ·) (congrArg₂ (· * ·) (ex (by simp only; omega)) (ec (by simp only; omega)))
        (congrArg₂ (· * ·) (ex (by simp only; omega)) (es (by simp only; omega)))
    · rw [dif_neg h1, dif_neg (by omega), if_neg h1, if_neg h2]
      exact ex (by simp only; omega)

variable (m : (ℓ : Loc nD τ sig) → Buf (Elt Ideal) ℓ) (c : Dev nD)

/-- The projected rows. -/
abbrev h : FVec Ideal S2x8192x7680 .f32 := m ((c.tc : Thread nD τ).loc main_arg0)

/-- The queries', the keys' and the values' columns. -/
def columns (o : ℕ) (hs : S2x8192x7680.Slices ![0, 0, o] S2x8192x512) (x : FVec Ideal S2x8192x7680 .f32) : FVec Ideal S2x8192x512 .f32 :=
  extractStridedSlice S2x8192x512 ![0, 0, o] x hs

theorem res_q : Value.res_main_v33 (F := Ideal) m c = rotated (columns 0 slices_S2x8192x7680_S2x8192x512_0_0_0 (h m c)) := rfl

theorem res_k : Value.res_main_v66 (F := Ideal) m c = rotated (columns 512 slices_S2x8192x7680_S2x8192x512_0_0_512 (h m c)) := rfl

end Cert.RopeRefIdeal.Hand

end
-- ==== Proof.RotaryTables.lean ====
/- The three tables of the rotary embedding, at any number of positions: from a table of eight columns, one per frequency,
   the columns are taken lane by lane, the lanes outside the rotated entries filled with one or zero. -/
module

public import proofs.«01_k».proof.Proof.Rotary
public import Idealize.ShloMosaic.Lib.Pointwise

@[expose] public section

set_option maxRecDepth 16384

noncomputable section

namespace Cert.Rotary

open Idealize.ShloMosaic

local notation "One" => (⟨0, ![]⟩ : Shape)
local notation "Lanes" => (⟨1, ![128]⟩ : Shape)
local notation "Row" => (⟨2, ![1, 128]⟩ : Shape)

/-- A number at every lane. -/
def all (b : BitVec 32) : IVec Lanes 32 := broadcastInDim Lanes ![] (by decide) (constantI One 32 b)

/-- The divisor of a remainder, one in place of zero. -/
def divisor (d : BitVec 32) : IVec One 32 :=
  select (cmpi .eq (id (constantI One 32 d)) (constantI One 32 0#32)) (constantI One 32 1#32) (id (constantI One 32 d))

/-- The remainder of truncating division, lane by lane. -/
def rest (x : IVec Lanes 32) (d : BitVec 32) : IVec Lanes 32 := Host.remsi x (broadcastInDim Lanes ![] (by decide) (divisor d))

/-- The remainder with the divisor's sign, lane by lane. -/
def modulo (x : IVec Lanes 32) (d : BitVec 32) : IVec Lanes 32 :=
  select (andi (cmpi .ne (cmpi .slt (rest x d) (all 0#32))
      (broadcastInDim Lanes ![] (by decide) (cmpi .slt (divisor d) (constantI One 32 0#32)))) (cmpi .ne (rest x d) (all 0#32)))
    (addi (rest x d) (broadcastInDim Lanes ![] (by decide) (divisor d))) (rest x d)

/-- Each lane's place in its head. -/
def inHead : IVec Lanes 32 := modulo (iotaInDim Lanes 32 0) 64#32

/-- Each lane's frequency. -/
def frequency : IVec Lanes 32 :=
  select (cmpi .slt (modulo inHead 8#32) (all 0#32)) (addi (modulo inHead 8#32) (all 8#32)) (modulo inHead 8#32)

/-- A condition on the lanes, as a row. -/
def lanesBelow (n : BitVec 32) : IVec Row 1 :=
  cmpi .slt (broadcastInDim Row ![1] (by decide) inHead) (broadcastInDim Row ![] (by decide) (constantI One 32 n))

/-- The lanes from a number on, as a row. -/
def lanesFrom (n : BitVec 32) : IVec Row 1 :=
  cmpi .sge (broadcastInDim Row ![1] (by decide) inHead) (broadcastInDim Row ![] (by decide) (constantI One 32 n))

theorem frequency_at : ∀ k : Fin 128, min (frequency (ix1 k)).toInt.toNat 7 = k.val % 8 := by decide +kernel

theorem lanesBelow_16 : ∀ k : Fin 128, lanesBelow 16#32 (ix2 0 k) = if k.val % 64 < 16 then 1#1 else 0#1 := by decide +kernel

theorem lanesBelow_8 : ∀ k : Fin 128, lanesBelow 8#32 (ix2 0 k) = if k.val % 64 < 8 then 1#1 else 0#1 := by decide +kernel

theorem lanesFrom_8 : ∀ k : Fin 128, andi (lanesFrom 8#32) (lanesBelow 16#32) (ix2 0 k)
    = if 8 ≤ k.val % 64 ∧ k.val % 64 < 16 then 1#1 else 0#1 := by decide +kernel

variable {N : ℕ}

/-- The columns of a table, lane by lane. -/
def columns (wf : GatherDims.WF ⟨2, ![N, 8]⟩ ⟨2, ![128, 1]⟩ ⟨2, ![N, 128]⟩ [0] [1] [] [1] [] 1 ![N, 1])
    (x : FVec Ideal ⟨2, ![N, 8]⟩ .f32) : FVec Ideal ⟨2, ![N, 128]⟩ .f32 :=
  Host.gather (takeCols N 8 128 wf) x (broadcastInDim ⟨2, ![128, 1]⟩ ![0] (by decide) frequency)

/-- A table where the lanes satisfy a condition, a constant elsewhere. -/
def filled (h1 : (⟨2, ![1, 128]⟩ : Shape).BroadcastsInDim ⟨2, ![N, 128]⟩ ![0, 1]) (h0 : (⟨0, ![]⟩ : Shape).BroadcastsInDim ⟨2, ![N, 128]⟩ ![])
    (p : IVec Row 1) (x : FVec Ideal ⟨2, ![N, 128]⟩ .f32) (b : BitVec 32) : FVec Ideal ⟨2, ![N, 128]⟩ .f32 :=
  select (broadcastInDim ⟨2, ![N, 128]⟩ ![0, 1] h1 p) x (broadcastInDim ⟨2, ![N, 128]⟩ ![] h0 (id (constant One .f32 b)))

theorem columns_at (wf : GatherDims.WF ⟨2, ![N, 8]⟩ ⟨2, ![128, 1]⟩ ⟨2, ![N, 128]⟩ [0] [1] [] [1] [] 1 ![N, 1])
    (x : FVec Ideal ⟨2, ![N, 8]⟩ .f32) (r : Fin N) (k : Fin 128) : columns wf x (ix2 r k) = x (ix2 r ⟨k.val % 8, by omega⟩) := by
  refine (takeCols_at (by omega) wf x _ r k).trans (congrArg (fun f => x (ix2 r f)) (Fin.ext ?_))
  exact frequency_at k

theorem filled_at (h1 : (⟨2, ![1, 128]⟩ : Shape).BroadcastsInDim ⟨2, ![N, 128]⟩ ![0, 1])
    (h0 : (⟨0, ![]⟩ : Shape).BroadcastsInDim ⟨2, ![N, 128]⟩ ![]) (p : IVec Row 1) (x : FVec Ideal ⟨2, ![N, 128]⟩ .f32) (b : BitVec 32)
    (c : Prop) [Decidable c] (r : Fin N) (k : Fin 128) (hp : p (ix2 0 k) = if c then 1#1 else 0#1) :
    filled h1 h0 p x b (ix2 r k) = if c then x (ix2 r k) else Ideal.ofBits .f32 b := by
  have e : broadcastInDim ⟨2, ![N, 128]⟩ ![0, 1] h1 p (ix2 r k) = p (ix2 0 k) := by
    refine congrArg p (funext fun a => Fin.ext ?_)
    match a with
    | ⟨0, _⟩ => rfl
    | ⟨1, _⟩ => rfl
  show Scalar.select (broadcastInDim ⟨2, ![N, 128]⟩ ![0, 1] h1 p (ix2 r k)) (x (ix2 r k)) (Ideal.ofBits .f32 b) = _
  rw [e, hp]
  by_cases h : c
  · rw [if_pos h, if_pos h]; rfl
  · rw [if_neg h, if_neg h]; rfl

end Cert.Rotary

end
-- ==== Proof.RopeTables.lean ====
/- The three tables the rotary embedding is handed, entry by entry. -/
module

public import proofs.«01_k».proof.Proof.RopeRef
public import proofs.«01_k».proof.Proof.RotaryTables
public import proofs.«01_k».proof.Proof.Gen.RopeIdeal.Frame
public import Idealize.ShloMosaic.Lib.Pipeline.ValueKit

@[expose] public section

set_option maxRecDepth 16384

noncomputable section

namespace Cert.RopeIdeal.Hand

open Idealize.ShloMosaic Idealize.ShloMosaic.TcCoe Idealize.SL.Sem Cert.Rotary
open Cert.RopeIdeal Cert.RopeIdeal.Gen
open Cert.RopeRefIdeal.Hand (cosines sines)

variable (m : (ℓ : Loc nD τ sig) → Buf (Elt Ideal) ℓ) (c : Dev nD)

/-- The positions' cosines and sines, one per frequency. -/
abbrev cs (t : Fin 8192) (f : Fin 8) : EReal := cosines (ix2 t f)
abbrev sn (t : Fin 8192) (f : Fin 8) : EReal := sines (ix2 t f)

set_option maxHeartbeats 8000000 in
/-- The first table: the cosines at the rotated lanes, ones elsewhere. -/
theorem V_keep : V m c main_v28 = filled bcast_S1x128_S8192x128_0_1 bcast_S_S8192x128 (lanesBelow 16#32)
    (Rotary.columns gather_S8192x8_S128x1_S8192x128_0_1_n_n_1_1_81921_wf cosines) 0x3F800000#32 := by
  unfold V
  after_reads_simp
  rfl

set_option maxHeartbeats 8000000 in
/-- The second table: the sines at the second eight lanes of each head, zeros elsewhere. -/
theorem V_below : V m c main_v43 = filled bcast_S1x128_S8192x128_0_1 bcast_S_S8192x128 (andi (lanesFrom 8#32) (lanesBelow 16#32))
    (Rotary.columns gather_S8192x8_S128x1_S8192x128_0_1_n_n_1_1_81921_wf sines) 0x00000000#32 := by
  unfold V
  after_reads_simp
  rfl

set_option maxHeartbeats 8000000 in
/-- The third table: the sines negated at the first eight lanes of each head, zeros elsewhere. -/
theorem V_above : V m c main_v55 = filled bcast_S1x128_S8192x128_0_1 bcast_S_S8192x128 (lanesBelow 8#32)
    (Host.negf (Rotary.columns gather_S8192x8_S128x1_S8192x128_0_1_n_n_1_1_81921_wf sines)) 0x00000000#32 := by
  unfold V
  after_reads_simp
  rfl

theorem keep_at (t : Fin 8192) (k : Fin 128) : (V m c main_v28 (ix2 t k) : EReal) = keep (cs t) k := by
  rw [V_keep, filled_at _ _ _ _ _ (k.val % 64 < 16) t k (lanesBelow_16 k), columns_at]
  unfold keep
  refine if_congr Iff.rfl rfl ?_
  pointwise []

theorem below_at (t : Fin 8192) (k : Fin 128) : (V m c main_v43 (ix2 t k) : EReal) = below (sn t) k := by
  rw [V_below, filled_at _ _ _ _ _ (8 ≤ k.val % 64 ∧ k.val % 64 < 16) t k (lanesFrom_8 k), columns_at]
  unfold below
  refine if_congr Iff.rfl rfl ?_
  pointwise []

theorem above_at (t : Fin 8192) (k : Fin 128) : (V m c main_v55 (ix2 t k) : EReal) = above (sn t) k := by
  rw [V_above, filled_at _ _ _ _ _ (k.val % 64 < 8) t k (lanesBelow_8 k)]
  unfold above
  refine if_congr Iff.rfl ?_ ?_
  · pointwise []
    exact congrArg (fun z : EReal => -z) (columns_at _ _ t k)
  · pointwise []

end Cert.RopeIdeal.Hand

end
-- ==== Proof.RopeBody.lean ====
/- What the rotary embedding's body does to one block: each row of the queries and of the keys is turned. -/
module

public import proofs.«01_k».proof.Proof.Rotary
public import proofs.«01_k».proof.Proof.Gen.RopeIdeal.Skeleton
public import Idealize.ShloMosaic.Lib.Pointwise

@[expose] public section

set_option maxRecDepth 16384

noncomputable section

namespace Cert.RopeIdeal.Hand

open Idealize.ShloMosaic Cert.Rotary
open Cert.RopeIdeal Cert.RopeIdeal.Gen

/-- The queries' block with the tables' blocks is the rows turned, where the tables' rows are a position's. -/
theorem queries_at (v0 v2 v4 : FVec Ideal S512x128 .f32) (x : FVec Ideal S1x512x512 .f32) (cs sn : Fin 8 → EReal) (r : Fin 512)
    (hk : ∀ k : Fin 128, v0 (ix2 r k) = keep cs k) (hb : ∀ k : Fin 128, v2 (ix2 r k) = below sn k)
    (ha : ∀ k : Fin 128, v4 (ix2 r k) = above sn k) (l : Fin 512) :
    k0_pay10 (F := Ideal) v0 v2 v4 x (ix2 r l) = turned (fun l => x (ix3 0 r l)) cs sn l := by
  pointwise [k0_pay10, k0_pay7, k0_pay8, k0_pay9, hk, hb, ha]
  split
  · refine turned_at (fun l => x (ix3 0 r l)) cs sn l _ _ _ _ ?_ ?_ ?_ ?_ <;> (try simp only) <;> omega
  · split
    · refine turned_at (fun l => x (ix3 0 r l)) cs sn l _ _ _ _ ?_ ?_ ?_ ?_ <;> (try simp only) <;> omega
    · split
      · refine turned_at (fun l => x (ix3 0 r l)) cs sn l _ _ _ _ ?_ ?_ ?_ ?_ <;> (try simp only) <;> omega
      · refine turned_at (fun l => x (ix3 0 r l)) cs sn l _ _ _ _ ?_ ?_ ?_ ?_ <;> (try simp only) <;> omega

/-- The keys' block is treated as the queries' is. -/
theorem keys_eq (v0 v2 v4 : FVec Ideal S512x128 .f32) (x : FVec Ideal S1x512x512 .f32) :
    k0_pay11 (F := Ideal) (k0_pay7 v0) (k0_pay8 v2) (k0_pay9 v4) x = k0_pay10 v0 v2 v4 x := rfl

end Cert.RopeIdeal.Hand

end
-- ==== Proof.RopeValue.lean ====
/- The rotary call's six results: every block the kernel writes is the block of the plain rotation, or of the sums over it. -/
module

public import proofs.«01_k».proof.Proof.RopeTables
public import proofs.«01_k».proof.Proof.RopeBody

@[expose] public section

set_option maxRecDepth 16384

noncomputable section

namespace Cert.RopeIdeal.Hand

open Idealize.ShloMosaic Idealize.ShloMosaic.TcCoe Idealize.SL.Sem Cert.Rotary
open Idealize.ShloMosaic.Pipeline (Dat)
open Cert.RopeIdeal Cert.RopeIdeal.Gen
open Cert.RopeRefIdeal.Hand (rotated rotated_at)

variable (m : (ℓ : Loc nD τ sig) → Buf (Elt Ideal) ℓ) (c : Dev nD)

/-- Where the windows stand at point `t`: at row block `t % 16` of sequence `t / 16`, the tables at row block `t % 16`. -/
theorem idx : ∀ t : Fin cfg0.N, win0_0.index t = ![t.val / 16, t.val % 16, 0] ∧ win0_1.index t = ![t.val / 16, t.val % 16, 1]
    ∧ win0_2.index t = ![t.val / 16, t.val % 16, 2] ∧ win0_3.index t = ![t.val % 16, 0] ∧ win0_4.index t = ![t.val % 16, 0]
    ∧ win0_5.index t = ![t.val % 16, 0] ∧ win0_6.index t = ![t.val / 16, t.val % 16, 0] ∧ win0_7.index t = ![t.val / 16, t.val % 16, 0]
    ∧ win0_8.index t = ![t.val / 16, t.val % 16, 0] ∧ win0_9.index t = ![t.val / 16, t.val % 16, 0]
    ∧ win0_10.index t = ![t.val / 16, t.val % 16, 0] ∧ win0_11.index t = ![t.val / 16, t.val % 16, 0, 0] ∧ t.val < 32 :=
  (by decide +kernel : ∀ t : Fin grid0.N, win0_0.index t = ![t.val / 16, t.val % 16, 0] ∧ win0_1.index t = ![t.val / 16, t.val % 16, 1]
    ∧ win0_2.index t = ![t.val / 16, t.val % 16, 2] ∧ win0_3.index t = ![t.val % 16, 0] ∧ win0_4.index t = ![t.val % 16, 0]
    ∧ win0_5.index t = ![t.val % 16, 0] ∧ win0_6.index t = ![t.val / 16, t.val % 16, 0] ∧ win0_7.index t = ![t.val / 16, t.val % 16, 0]
    ∧ win0_8.index t = ![t.val / 16, t.val % 16, 0] ∧ win0_9.index t = ![t.val / 16, t.val % 16, 0]
    ∧ win0_10.index t = ![t.val / 16, t.val % 16, 0] ∧ win0_11.index t = ![t.val / 16, t.val % 16, 0, 0] ∧ t.val < 32)

/-- The sequence point `t` lies in. -/
def seqOf (t : Fin cfg0.N) : Fin 2 := ⟨t.val / 16, by have := (idx t).2.2.2.2.2.2.2.2.2.2.2.2; omega⟩

/-- The position of row `r` of point `t`'s block. -/
def timeOf (t : Fin cfg0.N) (r : Fin 512) : Fin 8192 := ⟨t.val % 16 * 512 + r.val, by omega⟩

/-- The projection's columns: the queries', the keys' and the values'. -/
def queries : FVec Ideal S2x8192x512 .f32 :=
  Cert.RopeRefIdeal.Hand.columns 0 Cert.RopeRefIdeal.Facts₀.slices_S2x8192x7680_S2x8192x512_0_0_0 (m ((c : Thread nD τ).loc main_arg0))
def keys : FVec Ideal S2x8192x512 .f32 :=
  Cert.RopeRefIdeal.Hand.columns 512 Cert.RopeRefIdeal.Facts₀.slices_S2x8192x7680_S2x8192x512_0_0_512 (m ((c : Thread nD τ).loc main_arg0))
def values : FVec Ideal S2x8192x512 .f32 :=
  Cert.RopeRefIdeal.Hand.columns 1024 Cert.RopeRefIdeal.Facts₀.slices_S2x8192x7680_S2x8192x512_0_0_1024 (m ((c : Thread nD τ).loc main_arg0))

/-- The blocks of the projection, entry by entry. -/
theorem moving (t : Fin cfg0.N) (r l : Fin 512) :
    (iblk m c 0 t (ix3 0 r l) : EReal) = queries m c (ix3 (seqOf t) (timeOf t r) l)
    ∧ (iblk m c 1 t (ix3 0 r l) : EReal) = keys m c (ix3 (seqOf t) (timeOf t r) l)
    ∧ (iblk m c 2 t (ix3 0 r l) : EReal) = values m c (ix3 (seqOf t) (timeOf t r) l) := by
  unfold queries keys values Cert.RopeRefIdeal.Hand.columns seqOf timeOf
  refine ⟨?_, ?_, ?_⟩ <;> pointwise [] <;> blk_point [iblk, V, idx t]

/-- The blocks of the three tables, entry by entry. -/
theorem tables (t : Fin cfg0.N) (r : Fin 512) (k : Fin 128) :
    (iblk m c 3 t (ix2 r k) : EReal) = keep (cs (timeOf t r)) k
    ∧ (iblk m c 4 t (ix2 r k) : EReal) = below (sn (timeOf t r)) k
    ∧ (iblk m c 5 t (ix2 r k) : EReal) = above (sn (timeOf t r)) k := by
  refine ⟨?_, ?_, ?_⟩
  · refine Eq.trans (?_ : _ = (V m c main_v28 (ix2 _ _) : EReal)) (keep_at m c (timeOf t r) k)
    generalize hw : V m c main_v28 = w
    unfold timeOf
    blk_point [iblk, hw, idx t]
  · refine Eq.trans (?_ : _ = (V m c main_v43 (ix2 _ _) : EReal)) (below_at m c (timeOf t r) k)
    generalize hw : V m c main_v43 = w
    unfold timeOf
    blk_point [iblk, hw, idx t]
  · refine Eq.trans (?_ : _ = (V m c main_v55 (ix2 _ _) : EReal)) (above_at m c (timeOf t r) k)
    generalize hw : V m c main_v55 = w
    unfold timeOf
    blk_point [iblk, hw, idx t]

/-- Reading the whole of a block gives the block. -/
theorem whole_table (X : Vec Ideal S512x128 .f32) : Eq (α := Vec Ideal S512x128 .f32) (View.ld X r0_0) X := View.ld_unit_lit _ X (by decide)
theorem whole_rows (X : Vec Ideal S1x512x512 .f32) : Eq (α := Vec Ideal S1x512x512 .f32) (View.ld X r0_1) X := View.ld_unit_lit _ X (by decide)

/-- The block of rotated queries. -/
theorem rotated_queries (t : Fin cfg0.N) (r l : Fin 512) :
    k0_pay10 (F := Ideal) (iblk m c 3 t) (iblk m c 4 t) (iblk m c 5 t) (iblk m c 0 t) (ix2 r l)
      = rotated (queries m c) (ix3 (seqOf t) (timeOf t r) l) := by
  refine (queries_at _ _ _ _ (cs (timeOf t r)) (sn (timeOf t r)) r (fun k => (tables m c t r k).1) (fun k => (tables m c t r k).2.1)
    (fun k => (tables m c t r k).2.2) l).trans ?_
  rw [rotated_at]
  exact congrArg (fun x => turned x _ _ l) (funext fun l => (moving m c t r l).1)

/-- The block of rotated keys. -/
theorem rotated_keys (t : Fin cfg0.N) (r l : Fin 512) :
    k0_pay14 (F := Ideal) (iblk m c 0 t) (iblk m c 1 t) (iblk m c 2 t) (iblk m c 3 t) (iblk m c 4 t) (iblk m c 5 t) (ix2 r l)
      = rotated (keys m c) (ix3 (seqOf t) (timeOf t r) l) := by
  have open14 : k0_pay14 (F := Ideal) (iblk m c 0 t) (iblk m c 1 t) (iblk m c 2 t) (iblk m c 3 t) (iblk m c 4 t) (iblk m c 5 t)
      = k0_pay10 (iblk m c 3 t) (iblk m c 4 t) (iblk m c 5 t) (iblk m c 1 t) := by
    unfold k0_pay14
    simp only [whole_table, whole_rows]
    exact keys_eq _ _ _ _
  rw [open14]
  refine (queries_at _ _ _ _ (cs (timeOf t r)) (sn (timeOf t r)) r (fun k => (tables m c t r k).1) (fun k => (tables m c t r k).2.1)
    (fun k => (tables m c t r k).2.2) l).trans ?_
  rw [rotated_at]
  exact congrArg (fun x => turned x _ _ l) (funext fun l => (moving m c t r l).2.1)

/-- The block of values. -/
theorem plain_values (t : Fin cfg0.N) (r l : Fin 512) :
    k0_pay15 (F := Ideal) (iblk m c 0 t) (iblk m c 1 t) (iblk m c 2 t) (iblk m c 3 t) (iblk m c 4 t) (iblk m c 5 t) (ix2 r l)
      = values m c (ix3 (seqOf t) (timeOf t r) l) := by
  refine Eq.trans ?_ (moving m c t r l).2.2
  unfold k0_pay15
  simp only [whole_table, whole_rows]
  pointwise [k0_pay12]

/-- What the stores do to the arrays they store: a unit axis is put in front. -/
theorem stored (v : FVec Ideal S512x512 .f32) (r l : Fin 512) :
    k0_pay13 (F := Ideal) v (ix3 0 r l) = v (ix2 r l) ∧ k0_pay1 (F := Ideal) v (ix3 0 r l) = v (ix2 r l)
    ∧ k0_pay2 (F := Ideal) v (ix3 0 r l) = v (ix2 r l) ∧ (k0_pay3 (F := Ideal) v (ix3 0 r l) : EReal) = v (ix2 r l)
    ∧ (k0_pay4 (F := Ideal) v (ix3 0 r l) : EReal) = v (ix2 r l) := by
  refine ⟨?_, ?_, ?_, ?_, ?_⟩
  · pointwise [k0_pay13]
  · pointwise [k0_pay1]
  · pointwise [k0_pay2]
  · pointwise [k0_pay3]
  · pointwise [k0_pay4]

/-- The first result array after the run: the rotated queries. -/
theorem final6 : (dats m 0 c).arrAt 6 cfg0.N = rotated (queries m c) := by
  refine (dats m 0 c).arrAt_eq_of_covers 6 (rotated (queries m c)) (by decide +kernel) fun t _ y => ?_
  blk_simp
  rw [after0_6]
  frame_out
  idx_vars y
  obtain rfl : y0 = 0 := Subsingleton.elim _ _
  refine ((stored _ y1 y2).1.trans (rotated_queries m c t y1 y2)).trans ?_
  unfold seqOf timeOf
  blk_ext [idx t]

/-- The second: the rotated keys. -/
theorem final7 : (dats m 0 c).arrAt 7 cfg0.N = rotated (keys m c) := by
  refine (dats m 0 c).arrAt_eq_of_covers 7 (rotated (keys m c)) (by decide +kernel) fun t _ y => ?_
  blk_simp
  rw [after0_7]
  frame_out
  idx_vars y
  obtain rfl : y0 = 0 := Subsingleton.elim _ _
  refine ((stored _ y1 y2).2.1.trans (rotated_keys m c t y1 y2)).trans ?_
  unfold seqOf timeOf
  blk_ext [idx t]

/-- The third: the values. -/
theorem final8 : (dats m 0 c).arrAt 8 cfg0.N = values m c := by
  refine (dats m 0 c).arrAt_eq_of_covers 8 (values m c) (by decide +kernel) fun t _ y => ?_
  blk_simp
  rw [after0_8]
  frame_out
  idx_vars y
  obtain rfl : y0 = 0 := Subsingleton.elim _ _
  refine ((stored _ y1 y2).2.2.1.trans (plain_values m c t y1 y2)).trans ?_
  unfold seqOf timeOf
  blk_ext [idx t]

/-- The fourth: the rotated keys in the narrow type, which holds the same numbers. -/
theorem final9 : (dats m 0 c).arrAt 9 cfg0.N = (rotated (keys m c) : S2x8192x512.Idx → EReal) := by
  refine (dats m 0 c).arrAt_eq_of_covers 9 (rotated (keys m c) : S2x8192x512.Idx → EReal) (by decide +kernel) fun t _ y => ?_
  blk_simp
  rw [after0_9]
  frame_out
  idx_vars y
  obtain rfl : y0 = 0 := Subsingleton.elim _ _
  refine ((stored _ y1 y2).2.2.2.1.trans (rotated_keys m c t y1 y2)).trans ?_
  unfold seqOf timeOf
  blk_ext [idx t]

/-- The fifth: the values in the narrow type. -/
theorem final10 : (dats m 0 c).arrAt 10 cfg0.N = (values m c : S2x8192x512.Idx → EReal) := by
  refine (dats m 0 c).arrAt_eq_of_covers 10 (values m c : S2x8192x512.Idx → EReal) (by decide +kernel) fun t _ y => ?_
  blk_simp
  rw [after0_10]
  frame_out
  idx_vars y
  obtain rfl : y0 = 0 := Subsingleton.elim _ _
  refine ((stored _ y1 y2).2.2.2.2.trans (plain_values m c t y1 y2)).trans ?_
  unfold seqOf timeOf
  blk_ext [idx t]

/-- The sum of the rotated keys over 256 positions. -/
def blockSum (b : Fin 2) (n : Fin 32) (l : Fin 512) : EReal :=
  ∑ p : Fin 256, (rotated (keys m c) (ix3 b ⟨n.val * 256 + p.val, by omega⟩ l) : EReal)

/-- The sixth result, whole. -/
def sums : FVec Ideal S2x32x1x512 .f32 := fun i => blockSum m c (i 0) (i 1) (i 3)

/-- The two sums each point stores. -/
theorem halves (v : FVec Ideal S512x512 .f32) (l : Fin 512) :
    (k0_pay5 (F := Ideal) v (ix4 0 0 0 l) : EReal) = ∑ p : Fin 256, (v (ix2 ⟨p.val, by omega⟩ l) : EReal)
    ∧ (k0_pay6 (F := Ideal) v (ix4 0 0 0 l) : EReal) = ∑ p : Fin 256, (v (ix2 ⟨256 + p.val, by omega⟩ l) : EReal) := by
  constructor
  · pointwise [k0_pay5]
  · pointwise [k0_pay6]

/-- The block of sums at a point. -/
theorem sums_out (t : Fin cfg0.N) (y : S1x2x1x512.Idx) :
    (out0_11 (F := Ideal) (iblk m c 0 t) (iblk m c 1 t) (iblk m c 2 t) (iblk m c 3 t) (iblk m c 4 t) (iblk m c 5 t) y : EReal)
      = blockSum m c (seqOf t) ⟨t.val % 16 * 2 + (y 1).val, by have : (y 1).val < 2 := (y 1).isLt; omega⟩ (y 3) := by
  unfold out0_11 blockSum
  canon_tiles x h
  all_goals
    idx_vars x
    obtain rfl : x0 = 0 := Subsingleton.elim _ _
    obtain rfl : x1 = 0 := Subsingleton.elim _ _
    obtain rfl : x2 = 0 := Subsingleton.elim _ _
  · rw [(halves _ x3).2]
    refine Finset.sum_congr rfl fun p _ => (rotated_keys m c t _ x3).trans (congrArg (rotated (keys m c)) ?_)
    unfold timeOf
    refine congrArg₂ (ix3 (seqOf t)) (Fin.ext ?_) (Fin.ext ?_) <;> (try simp only) <;> omega
  · rw [(halves _ x3).1]
    refine Finset.sum_congr rfl fun p _ => (rotated_keys m c t _ x3).trans (congrArg (rotated (keys m c)) ?_)
    unfold timeOf
    refine congrArg₂ (ix3 (seqOf t)) (Fin.ext ?_) (Fin.ext ?_) <;> (try simp only) <;> omega

theorem final11 : (dats m 0 c).arrAt 11 cfg0.N = sums m c := by
  refine (dats m 0 c).arrAt_eq_of_covers 11 (sums m c) (by decide +kernel) fun t _ y => ?_
  blk_simp
  rw [after0_11, sums_out]
  idx_vars y
  obtain rfl : y0 = 0 := Subsingleton.elim _ _
  obtain rfl : y2 = 0 := Subsingleton.elim _ _
  refine (?_ : sums m c (ix4 (seqOf t) ⟨t.val % 16 * 2 + y1.val, by omega⟩ 0 y3) = _)
  unfold seqOf
  blk_ext [idx t]

end Cert.RopeIdeal.Hand

end
-- ==== Proof.RopeSums.lean ====
/- The reference's sums of rotated keys, entry by entry. -/
module

public import proofs.«01_k».proof.Proof.RopeRef

@[expose] public section

set_option maxRecDepth 16384

noncomputable section

namespace Cert.RopeRefIdeal.Hand

open Idealize.ShloMosaic Idealize.ShloMosaic.TcCoe
open Cert.RopeRefIdeal Cert.RopeRefIdeal.Gen

variable (m : (ℓ : Loc nD τ sig) → Buf (Elt Ideal) ℓ) (c : Dev nD)

/-- The sums, from the keys. -/
def sumsOf (x : FVec Ideal S2x8192x512 .f32) : FVec Ideal S2x32x1x512 .f32 :=
  broadcastInDim S2x32x1x512 ![0, 1, 3] bcast_S2x32x512_S2x32x1x512_0_1_3
    (Host.reduceAdd (shapeCast _ x shapeCasts_S2x8192x512_S2x32x256x512) (constant S_ .f32 0x00000000#32) reducesTo_S2x32x256x512_S2x32x512_d2 h_S_)

theorem res_sums : Value.res_main_v70 (F := Ideal) m c = sumsOf (Value.res_main_v66 m c) := rfl

/-- Each sum is over 256 successive positions. -/
theorem sumsOf_at (x : FVec Ideal S2x8192x512 .f32) (b : Fin 2) (n : Fin 32) (l : Fin 512) :
    (sumsOf x (ix4 b n 0 l) : EReal) = ∑ p : Fin 256, (x (ix3 b ⟨n.val * 256 + p.val, by omega⟩ l) : EReal) := by
  pointwise [sumsOf]

end Cert.RopeRefIdeal.Hand

end
-- ==== Proof.RopeClaims.lean ====
/- The rotary call: the two claims that speak of the reference. -/
module

public import proofs.«01_k».proof.Defs
public import proofs.«01_k».proof.Proof.RopeValue
public import proofs.«01_k».proof.Proof.RopeSums
public import Idealize.ShloMosaic.Lib.Claim

@[expose] public section

set_option maxRecDepth 16384

noncomputable section

namespace Cert.RopeClaims

open Idealize.ShloMosaic Idealize.ShloMosaic.TcCoe Idealize.SL.Sem
open Cert.RopeIdeal.Hand (queries keys values)

/-- The reference runs, leaves its argument as it was and leaves no semaphore raised. -/
theorem frame_ref : Cert.quiescent_RopeRefIdeal := by
  intro m g _
  refine (θ_run Cert.RopeRefIdeal.defs _ _).mono (fun r h => ⟨?_, sem_eq_zero_of_no_sems (by decide) r.2⟩) (Cert.RopeRefIdeal.Value.run (F := Ideal) m g)
  exact fun c => (h c).2.2.2.2.2.2

set_option maxHeartbeats 4000000 in
/-- The rotation by shifted copies and the rotation of pairs leave equal arrays. -/
theorem algebraic : Cert.algebraic_RopeIdeal_RopeRefIdeal := by
  pair_intro
  · run_from Cert.RopeIdeal.Gen.run_main m g
  · run_from Cert.RopeRefIdeal.Value.run m' g'
    · refine Eq.trans ?_ (Cert.RopeIdeal.Hand.final6 m c).symm
      rw [Cert.RopeRefIdeal.Hand.res_q]
      unfold queries Cert.RopeRefIdeal.Hand.h
      rw [hagree c]
    · refine Eq.trans ?_ (Cert.RopeIdeal.Hand.final7 m c).symm
      rw [Cert.RopeRefIdeal.Hand.res_k]
      unfold keys Cert.RopeRefIdeal.Hand.h
      rw [hagree c]
    · refine Eq.trans ?_ (Cert.RopeIdeal.Hand.final8 m c).symm
      rfl
    · refine Eq.trans ?_ (Cert.RopeIdeal.Hand.final9 m c).symm
      refine Eq.trans (?_ : _ = Cert.RopeRefIdeal.Value.res_main_v66 m' c) ?_
      · rfl
      · rw [Cert.RopeRefIdeal.Hand.res_k]
        unfold keys Cert.RopeRefIdeal.Hand.h
        rw [hagree c]
    · refine Eq.trans ?_ (Cert.RopeIdeal.Hand.final10 m c).symm
      rfl
    · refine Eq.trans ?_ (Cert.RopeIdeal.Hand.final11 m c).symm
      funext i
      idx_vars i
      obtain rfl : i2 = 0 := Subsingleton.elim _ _
      refine ((congrFun (Cert.RopeRefIdeal.Hand.res_sums m' c) _).trans (Cert.RopeRefIdeal.Hand.sumsOf_at _ i0 i1 i3)).trans ?_
      unfold Cert.RopeIdeal.Hand.sums Cert.RopeIdeal.Hand.blockSum
      rw [Cert.RopeRefIdeal.Hand.res_k]
      unfold keys Cert.RopeRefIdeal.Hand.h
      rw [hagree c]
      rfl

end Cert.RopeClaims

end
-- ==== Proof.RopeSampleRef.lean ====
/- The rotary embedding of the sample group in plain words: eight positions from 8192 on, 32 rows of the batch. -/
module

public import proofs.«01_k».proof.Proof.Rotary
public import proofs.«01_k».proof.Proof.Gen.RopeSampleRefIdeal.Run
public import Idealize.ShloMosaic.Lib.Pointwise
public import Idealize.ShloMosaic.Lib.Claim

@[expose] public section

set_option maxRecDepth 16384

noncomputable section

namespace Cert.RopeSampleRefIdeal.Hand

open Idealize.ShloMosaic Idealize.ShloMosaic.TcCoe Cert.Rotary
open Cert.RopeSampleRefIdeal Cert.RopeSampleRefIdeal.Gen

/-- The positions, which follow the 8192 of the past. -/
def positions : IVec S8 32 := addi (broadcastInDim S8 ![] bcast_S_S8 (constantI S_ 32 8192#32)) (iotaInDim S8 32 0)

/-- The eight frequencies: powers of 500000. -/
def frequencies : FVec Ideal S8 .f32 :=
  Host.powf (broadcastInDim S8 ![] bcast_S_S8 (constant S_ .f32 0x48F42400#32))
    (Host.divf (Host.negf (sitofp .f32 (iotaInDim S8 32 0))) (broadcastInDim S8 ![] bcast_S_S8 (constant S_ .f32 0x41000000#32)))

/-- The angles: each position times each of the frequencies. -/
def angles : FVec Ideal S8x8 .f32 :=
  mulf (broadcastInDim S8x8 ![0, 1] bcast_S8x1_S8x8_0_1 (broadcastInDim S8x1 ![0] bcast_S8_S8x1_0 (sitofp .f32 positions)))
    (broadcastInDim S8x8 ![0, 1] bcast_S1x8_S8x8_0_1 (broadcastInDim S1x8 ![1] bcast_S8_S1x8_1 frequencies))

/-- Their cosines and sines. -/
def cosines : FVec Ideal S8x8 .f32 := Host.cos angles
def sines : FVec Ideal S8x8 .f32 := Host.sin angles

/-- A table of angles' values, at every row of the batch and every head. -/
def overHeads (y : FVec Ideal S8x8 .f32) : FVec Ideal S32x8x8x8 .f32 :=
  broadcastInDim S32x8x8x8 ![0, 1, 2, 3] bcast_S1x8x1x8_S32x8x8x8_0_1_2_3 (broadcastInDim S1x8x1x8 ![1, 3] bcast_S8x8_S1x8x1x8_1_3 y)

/-- The heads apart. -/
def heads (x : FVec Ideal S32x8x512 .f32) : FVec Ideal S32x8x8x64 .f32 := shapeCast _ x shapeCasts_S32x8x512_S32x8x8x64

/-- The two halves of each head's rotated part. -/
def low (x : FVec Ideal S32x8x512 .f32) : FVec Ideal S32x8x8x8 .f32 :=
  extractStridedSlice S32x8x8x8 ![0, 0, 0, 0] (heads x) slices_S32x8x8x64_S32x8x8x8_0_0_0_0
def high (x : FVec Ideal S32x8x512 .f32) : FVec Ideal S32x8x8x8 .f32 :=
  extractStridedSlice S32x8x8x8 ![0, 0, 0, 8] (heads x) slices_S32x8x8x64_S32x8x8x8_0_0_0_8

/-- The heads rotated and put together again. -/
def rotated (x : FVec Ideal S32x8x512 .f32) : FVec Ideal S32x8x512 .f32 :=
  shapeCast _ (concatenate S32x8x8x64 3
    [⟨S32x8x8x8, (subf (mulf (low x) (overHeads cosines)) (mulf (high x) (overHeads sines)) : FVec Ideal S32x8x8x8 .f32)⟩,
      ⟨S32x8x8x8, (addf (mulf (high x) (overHeads cosines)) (mulf (low x) (overHeads sines)) : FVec Ideal S32x8x8x8 .f32)⟩,
      ⟨S32x8x8x48, (extractStridedSlice S32x8x8x48 ![0, 0, 0, 16] (heads x) slices_S32x8x8x64_S32x8x8x48_0_0_0_16 : FVec Ideal S32x8x8x48 .f32)⟩]
    concatenates_S32x8x8x8_S32x8x8x8_S32x8x8x48_S32x8x8x64_d3) shapeCasts_S32x8x8x64_S32x8x512

/-- Each of these, at an entry. -/
theorem overHeads_at (y : FVec Ideal S8x8 .f32) (b : Fin 32) (t n f : Fin 8) : overHeads y (ix4 b t n f) = y (ix2 t f) := by
  pointwise [overHeads]

theorem low_at (x : FVec Ideal S32x8x512 .f32) (b : Fin 32) (t n f : Fin 8) :
    low x (ix4 b t n f) = x (ix3 b t ⟨n.val * 64 + f.val, by omega⟩) := by
  pointwise [low, heads]

theorem high_at (x : FVec Ideal S32x8x512 .f32) (b : Fin 32) (t n f : Fin 8) :
    high x (ix4 b t n f) = x (ix3 b t ⟨n.val * 64 + (8 + f.val), by omega⟩) := by
  pointwise [high, heads]

/-- A row of the rotated array is the row of the array turned by the position's angles. -/
theorem rotated_at (x : FVec Ideal S32x8x512 .f32) (b : Fin 32) (t : Fin 8) (l : Fin 512) :
    rotated x (ix3 b t l) = turned (fun l => x (ix3 b t l)) (fun f => cosines (ix2 t f)) (fun f => sines (ix2 t f)) l := by
  have ex : ∀ {k k' : Fin 512}, k.val = k'.val → x (ix3 b t k) = x (ix3 b t k') := fun h => by rw [Fin.ext h]
  have ey : ∀ (y : FVec Ideal S8x8 .f32) {k k' : Fin 8}, k.val = k'.val → y (ix2 t k) = y (ix2 t k') := fun y _ _ h => by rw [Fin.ext h]
  unfold turned
  pointwise [rotated, heads]
  by_cases h1 : l.val % 64 < 8
  · rw [dif_pos h1, if_pos h1, low_at x b t ⟨l.val / 64, by omega⟩ ⟨l.val % 64, h1⟩, high_at x b t ⟨l.val / 64, by omega⟩ ⟨l.val % 64, h1⟩,
      overHeads_at, overHeads_at]
    exact congrArg₂ (· - ·) (congrArg₂ (· * ·) (ex (by simp only; omega)) (ey cosines (by simp only; omega)))
      (congrArg₂ (· * ·) (ex (by simp only; omega)) (ey sines (by simp only; omega)))
  · rw [dif_neg h1, if_neg h1]
    by_cases h2 : l.val % 64 < 16
    · have h3 : l.val % 64 - 8 < 8 := by omega
      rw [dif_pos h3, if_pos h2, low_at x b t ⟨l.val / 64, by omega⟩ ⟨l.val % 64 - 8, h3⟩,
        high_at x b t ⟨l.val / 64, by omega⟩ ⟨l.val % 64 - 8, h3⟩, overHeads_at, overHeads_at]
      exact congrArg₂ (· + ·) (congrArg₂ (· * ·) (ex (by simp only; omega)) (ey cosines (by simp only; omega)))
        (congrArg₂ (· * ·) (ex (by simp only; omega)) (ey sines (by simp only; omega)))
    · rw [dif_neg (by omega), if_neg h2]
      exact ex (by simp only; omega)

variable (m : (ℓ : Loc nD τ sig) → Buf (Elt Ideal) ℓ) (c : Dev nD)

/-- The columns the call rotates and the columns it hands on. -/
def queriesOf (x : FVec Ideal S32x8x7680 .f32) : FVec Ideal S32x8x512 .f32 :=
  extractStridedSlice S32x8x512 ![0, 0, 0] x slices_S32x8x7680_S32x8x512_0_0_0
def keysOf (x : FVec Ideal S32x8x7680 .f32) : FVec Ideal S32x8x512 .f32 :=
  extractStridedSlice S32x8x512 ![0, 0, 512] x slices_S32x8x7680_S32x8x512_0_0_512
def valuesOf (x : FVec Ideal S32x8x7680 .f32) : FVec Ideal S32x8x512 .f32 :=
  extractStridedSlice S32x8x512 ![0, 0, 1024] x slices_S32x8x7680_S32x8x512_0_0_1024

/-- The reference's results in these words. -/
theorem res_q : Value.res_main_v35 (F := Ideal) m c = rotated (queriesOf (m ((c.tc : Thread nD τ).loc main_arg0))) := rfl

theorem res_k : Value.res_main_v68 (F := Ideal) m c = rotated (keysOf (m ((c.tc : Thread nD τ).loc main_arg0))) := rfl

end Cert.RopeSampleRefIdeal.Hand

end
-- ==== Proof.RopeSampleTables.lean ====
/- The three tables the sample group's rotary call is handed, entry by entry. -/
module

public import proofs.«01_k».proof.Proof.RopeSampleRef
public import proofs.«01_k».proof.Proof.RotaryTables
public import proofs.«01_k».proof.Proof.Gen.RopeSampleIdeal.Frame
public import Idealize.ShloMosaic.Lib.Pipeline.ValueKit

@[expose] public section

set_option maxRecDepth 16384

noncomputable section

namespace Cert.RopeSampleIdeal.Hand

open Idealize.ShloMosaic Idealize.ShloMosaic.TcCoe Idealize.SL.Sem Cert.Rotary
open Cert.RopeSampleIdeal Cert.RopeSampleIdeal.Gen
open Cert.RopeSampleRefIdeal.Hand (cosines sines)

variable (m : (ℓ : Loc nD τ sig) → Buf (Elt Ideal) ℓ) (c : Dev nD)

/-- A position's cosines and sines, one per frequency. -/
abbrev cs (t : Fin 8) (f : Fin 8) : EReal := cosines (ix2 t f)
abbrev sn (t : Fin 8) (f : Fin 8) : EReal := sines (ix2 t f)

set_option maxHeartbeats 8000000 in
/-- The first table is the cosines spread over the lanes, ones at the lanes that are not rotated. -/
theorem keep_at (t : Fin 8) (k : Fin 128) : (V m c main_v30 (ix2 t k) : EReal) = keep (cs t) k := by
  have e : V m c main_v30 = filled bcast_S1x128_S8x128_0_1 bcast_S_S8x128 (lanesBelow 16#32)
      (columns gather_S8x8_S128x1_S8x128_0_1_n_n_1_1_81_wf cosines) 0x3F800000#32 := by
    unfold V
    after_reads_simp
    rfl
  rw [e, filled_at _ _ _ _ _ (k.val % 64 < 16) t k (lanesBelow_16 k), columns_at]
  unfold keep
  refine if_congr Iff.rfl rfl ?_
  pointwise []

set_option maxHeartbeats 8000000 in
/-- The second is the sines at the second eight lanes of each head, zero elsewhere. -/
theorem below_at (t : Fin 8) (k : Fin 128) : (V m c main_v45 (ix2 t k) : EReal) = below (sn t) k := by
  have e : V m c main_v45 = filled bcast_S1x128_S8x128_0_1 bcast_S_S8x128 (andi (lanesFrom 8#32) (lanesBelow 16#32))
      (columns gather_S8x8_S128x1_S8x128_0_1_n_n_1_1_81_wf sines) 0x00000000#32 := by
    unfold V
    after_reads_simp
    rfl
  rw [e, filled_at _ _ _ _ _ (8 ≤ k.val % 64 ∧ k.val % 64 < 16) t k (lanesFrom_8 k), columns_at]
  unfold below
  refine if_congr Iff.rfl rfl ?_
  pointwise []

set_option maxHeartbeats 8000000 in
/-- The third is the sines negated at the first eight lanes of each head, zero elsewhere. -/
theorem above_at (t : Fin 8) (k : Fin 128) : (V m c main_v57 (ix2 t k) : EReal) = above (sn t) k := by
  have e : V m c main_v57 = filled bcast_S1x128_S8x128_0_1 bcast_S_S8x128 (lanesBelow 8#32)
      (Host.negf (columns gather_S8x8_S128x1_S8x128_0_1_n_n_1_1_81_wf sines)) 0x00000000#32 := by
    unfold V
    after_reads_simp
    rfl
  rw [e, filled_at _ _ _ _ _ (k.val % 64 < 8) t k (lanesBelow_8 k)]
  unfold above
  refine if_congr Iff.rfl ?_ ?_
  · pointwise []
    exact congrArg (fun z : EReal => -z) (columns_at _ _ t k)
  · pointwise []

end Cert.RopeSampleIdeal.Hand

end
-- ==== Proof.RopeSampleBody.lean ====
/- The sample group's rotary body at an entry: eight rows of eight heads. -/
module

public import proofs.«01_k».proof.Proof.Rotary
public import proofs.«01_k».proof.Proof.Gen.RopeSampleIdeal.Frame
public import Idealize.ShloMosaic.Lib.Pointwise
public import Idealize.ShloMosaic.Lib.Pipeline.ValueKit

@[expose] public section

set_option maxRecDepth 16384

noncomputable section

namespace Cert.RopeSampleIdeal.Hand

open Idealize.ShloMosaic Idealize.ShloMosaic.TcCoe Idealize.SL.Sem Cert.Rotary
open Cert.RopeSampleIdeal Cert.RopeSampleIdeal.Gen

/-- Where the tables' rows are a position's, the body turns the rows it is handed. -/
theorem body_at (v0 v2 v4 : FVec Ideal S8x128 .f32) (x : FVec Ideal S1x8x512 .f32) (cs sn : Fin 8 → EReal) (r : Fin 8)
    (hk : ∀ k : Fin 128, v0 (ix2 r k) = keep cs k) (hb : ∀ k : Fin 128, v2 (ix2 r k) = below sn k)
    (ha : ∀ k : Fin 128, v4 (ix2 r k) = above sn k) (l : Fin 512) :
    k0_pay8 (F := Ideal) v0 v2 v4 x (ix2 r l) = turned (fun l => x (ix3 0 r l)) cs sn l := by
  pointwise [k0_pay8, k0_pay5, k0_pay6, k0_pay7, hk, hb, ha]
  repeat' split
  all_goals refine turned_at (fun l => x (ix3 0 r l)) cs sn l _ _ _ _ ?_ ?_ ?_ ?_ <;> (try simp only) <;> omega

/-- The keys are treated as the queries are. -/
theorem keys_body (v0 v2 v4 : FVec Ideal S8x128 .f32) (x : FVec Ideal S1x8x512 .f32) :
    k0_pay9 (F := Ideal) (k0_pay5 v0) (k0_pay6 v2) (k0_pay7 v4) x = k0_pay8 v0 v2 v4 x := rfl

/-- What the stores do to the arrays they store: a unit axis is put in front, and the narrow type holds the same numbers. -/
theorem stores_at (v : FVec Ideal S8x512 .f32) (r : Fin 8) (l : Fin 512) :
    k0_pay11 (F := Ideal) v (ix3 0 r l) = v (ix2 r l) ∧ k0_pay1 (F := Ideal) v (ix3 0 r l) = v (ix2 r l)
    ∧ k0_pay2 (F := Ideal) v (ix3 0 r l) = v (ix2 r l) ∧ (k0_pay3 (F := Ideal) v (ix3 0 r l) : EReal) = v (ix2 r l)
    ∧ (k0_pay4 (F := Ideal) v (ix3 0 r l) : EReal) = v (ix2 r l) := by
  refine ⟨?_, ?_, ?_, ?_, ?_⟩
  · pointwise [k0_pay11]
  · pointwise [k0_pay1]
  · pointwise [k0_pay2]
  · pointwise [k0_pay3]
  · pointwise [k0_pay4]

end Cert.RopeSampleIdeal.Hand

end
-- ==== Proof.RopeSampleValue.lean ====
/- The sample group's rotary call: one point of the grid to each row of the batch, its blocks put together. -/
module

public import proofs.«01_k».proof.Proof.RopeSampleTables
public import proofs.«01_k».proof.Proof.RopeSampleBody

@[expose] public section

set_option maxRecDepth 16384

noncomputable section

namespace Cert.RopeSampleIdeal.Hand

open Idealize.ShloMosaic Idealize.ShloMosaic.TcCoe Idealize.SL.Sem Cert.Rotary
open Idealize.ShloMosaic.Pipeline (Dat)
open Cert.RopeSampleIdeal Cert.RopeSampleIdeal.Gen
open Cert.RopeSampleRefIdeal.Hand (rotated rotated_at queriesOf keysOf valuesOf)

variable (m : (ℓ : Loc nD τ sig) → Buf (Elt Ideal) ℓ) (c : Dev nD)

/-- Point `t` works on row `t` of the batch; the tables stand still. -/
theorem idx : ∀ t : Fin cfg0.N, win0_0.index t = ![t.val, 0, 0] ∧ win0_1.index t = ![t.val, 0, 1]
    ∧ win0_2.index t = ![t.val, 0, 2] ∧ win0_3.index t = ![0, 0] ∧ win0_4.index t = ![0, 0]
    ∧ win0_5.index t = ![0, 0] ∧ win0_6.index t = ![t.val, 0, 0] ∧ win0_7.index t = ![t.val, 0, 0]
    ∧ win0_8.index t = ![t.val, 0, 0] ∧ win0_9.index t = ![t.val, 0, 0] ∧ win0_10.index t = ![t.val, 0, 0] ∧ t.val < 32 :=
  (by decide +kernel : ∀ t : Fin grid0.N, win0_0.index t = ![t.val, 0, 0] ∧ win0_1.index t = ![t.val, 0, 1]
    ∧ win0_2.index t = ![t.val, 0, 2] ∧ win0_3.index t = ![0, 0] ∧ win0_4.index t = ![0, 0]
    ∧ win0_5.index t = ![0, 0] ∧ win0_6.index t = ![t.val, 0, 0] ∧ win0_7.index t = ![t.val, 0, 0]
    ∧ win0_8.index t = ![t.val, 0, 0] ∧ win0_9.index t = ![t.val, 0, 0] ∧ win0_10.index t = ![t.val, 0, 0] ∧ t.val < 32)

/-- The row of the batch at point `t`. -/
def rowOf (t : Fin cfg0.N) : Fin 32 := ⟨t.val, (idx t).2.2.2.2.2.2.2.2.2.2.2⟩

/-- The projected rows. -/
abbrev h : FVec Ideal S32x8x7680 .f32 := m ((c : Thread nD τ).loc main_arg0)

/-- The blocks of the projection, entry by entry. -/
theorem moving (t : Fin cfg0.N) (r : Fin 8) (l : Fin 512) :
    (iblk m c 0 t (ix3 0 r l) : EReal) = queriesOf (h m c) (ix3 (rowOf t) r l)
    ∧ (iblk m c 1 t (ix3 0 r l) : EReal) = keysOf (h m c) (ix3 (rowOf t) r l)
    ∧ (iblk m c 2 t (ix3 0 r l) : EReal) = valuesOf (h m c) (ix3 (rowOf t) r l) := by
  unfold queriesOf keysOf valuesOf rowOf
  refine ⟨?_, ?_, ?_⟩ <;> pointwise [] <;> blk_point [iblk, V, idx t]

/-- The blocks of the tables, entry by entry. -/
theorem tables (t : Fin cfg0.N) (r : Fin 8) (k : Fin 128) :
    (iblk m c 3 t (ix2 r k) : EReal) = keep (cs r) k ∧ (iblk m c 4 t (ix2 r k) : EReal) = below (sn r) k
    ∧ (iblk m c 5 t (ix2 r k) : EReal) = above (sn r) k := by
  refine ⟨?_, ?_, ?_⟩
  · refine Eq.trans (?_ : _ = (V m c main_v30 (ix2 _ _) : EReal)) (keep_at m c r k)
    generalize hw : V m c main_v30 = w
    blk_point [iblk, hw, idx t]
  · refine Eq.trans (?_ : _ = (V m c main_v45 (ix2 _ _) : EReal)) (below_at m c r k)
    generalize hw : V m c main_v45 = w
    blk_point [iblk, hw, idx t]
  · refine Eq.trans (?_ : _ = (V m c main_v57 (ix2 _ _) : EReal)) (above_at m c r k)
    generalize hw : V m c main_v57 = w
    blk_point [iblk, hw, idx t]

/-- Reading the whole of a block gives the block. -/
theorem whole_table (X : Vec Ideal S8x128 .f32) : Eq (α := Vec Ideal S8x128 .f32) (View.ld X r0_0) X := View.ld_unit_lit _ X (by decide)
theorem whole_rows (X : Vec Ideal S1x8x512 .f32) : Eq (α := Vec Ideal S1x8x512 .f32) (View.ld X r0_1) X := View.ld_unit_lit _ X (by decide)

/-- A block of rows, given what its entries are, leaves the body rotated. -/
theorem turned_block (t : Fin cfg0.N) (X : Vec Ideal S1x8x512 .f32) (x : FVec Ideal S32x8x512 .f32)
    (hX : ∀ (r : Fin 8) (l : Fin 512), (X (ix3 0 r l) : EReal) = x (ix3 (rowOf t) r l)) (r : Fin 8) (l : Fin 512) :
    k0_pay8 (F := Ideal) (iblk m c 3 t) (iblk m c 4 t) (iblk m c 5 t) X (ix2 r l) = rotated x (ix3 (rowOf t) r l) := by
  refine (body_at _ _ _ _ (cs r) (sn r) r (fun k => (tables m c t r k).1) (fun k => (tables m c t r k).2.1)
    (fun k => (tables m c t r k).2.2) l).trans ?_
  rw [rotated_at]
  exact congrArg (fun z => turned z _ _ l) (funext fun l => hX r l)

/-- The keys' block and the values' block as the body computes them. -/
theorem keys_block (t : Fin cfg0.N) (r : Fin 8) (l : Fin 512) :
    k0_pay12 (F := Ideal) (iblk m c 0 t) (iblk m c 1 t) (iblk m c 2 t) (iblk m c 3 t) (iblk m c 4 t) (iblk m c 5 t) (ix2 r l)
      = rotated (keysOf (h m c)) (ix3 (rowOf t) r l) := by
  refine Eq.trans ?_ (turned_block m c t (iblk m c 1 t) _ (fun r l => (moving m c t r l).2.1) r l)
  unfold k0_pay12
  simp only [whole_table, whole_rows]
  exact congrFun (keys_body _ _ _ _) _

theorem values_block (t : Fin cfg0.N) (r : Fin 8) (l : Fin 512) :
    k0_pay13 (F := Ideal) (iblk m c 0 t) (iblk m c 1 t) (iblk m c 2 t) (iblk m c 3 t) (iblk m c 4 t) (iblk m c 5 t) (ix2 r l)
      = valuesOf (h m c) (ix3 (rowOf t) r l) := by
  refine Eq.trans ?_ (moving m c t r l).2.2
  unfold k0_pay13
  simp only [whole_table, whole_rows]
  pointwise [k0_pay10]

/-- The five result arrays after the run. -/
theorem final6 : (dats m 0 c).arrAt 6 cfg0.N = rotated (queriesOf (h m c)) := by
  refine (dats m 0 c).arrAt_eq_of_covers 6 (rotated (queriesOf (h m c))) (by decide +kernel) fun t _ y => ?_
  blk_simp
  rw [after0_6]
  frame_out
  idx_vars y
  obtain rfl : y0 = 0 := Subsingleton.elim _ _
  refine ((stores_at _ y1 y2).1.trans (turned_block m c t (iblk m c 0 t) _ (fun r l => (moving m c t r l).1) y1 y2)).trans ?_
  unfold rowOf
  blk_ext [idx t]

theorem final7 : (dats m 0 c).arrAt 7 cfg0.N = rotated (keysOf (h m c)) := by
  refine (dats m 0 c).arrAt_eq_of_covers 7 (rotated (keysOf (h m c))) (by decide +kernel) fun t _ y => ?_
  blk_simp
  rw [after0_7]
  frame_out
  idx_vars y
  obtain rfl : y0 = 0 := Subsingleton.elim _ _
  refine ((stores_at _ y1 y2).2.1.trans (keys_block m c t y1 y2)).trans ?_
  unfold rowOf
  blk_ext [idx t]

theorem final8 : (dats m 0 c).arrAt 8 cfg0.N = valuesOf (h m c) := by
  refine (dats m 0 c).arrAt_eq_of_covers 8 (valuesOf (h m c)) (by decide +kernel) fun t _ y => ?_
  blk_simp
  rw [after0_8]
  frame_out
  idx_vars y
  obtain rfl : y0 = 0 := Subsingleton.elim _ _
  refine ((stores_at _ y1 y2).2.2.1.trans (values_block m c t y1 y2)).trans ?_
  unfold rowOf
  blk_ext [idx t]

theorem final9 : (dats m 0 c).arrAt 9 cfg0.N = (rotated (keysOf (h m c)) : S32x8x512.Idx → EReal) := by
  refine (dats m 0 c).arrAt_eq_of_covers 9 (rotated (keysOf (h m c)) : S32x8x512.Idx → EReal) (by decide +kernel) fun t _ y => ?_
  blk_simp
  rw [after0_9]
  frame_out
  idx_vars y
  obtain rfl : y0 = 0 := Subsingleton.elim _ _
  refine ((stores_at _ y1 y2).2.2.2.1.trans (keys_block m c t y1 y2)).trans ?_
  unfold rowOf
  blk_ext [idx t]

theorem final10 : (dats m 0 c).arrAt 10 cfg0.N = (valuesOf (h m c) : S32x8x512.Idx → EReal) := by
  refine (dats m 0 c).arrAt_eq_of_covers 10 (valuesOf (h m c) : S32x8x512.Idx → EReal) (by decide +kernel) fun t _ y => ?_
  blk_simp
  rw [after0_10]
  frame_out
  idx_vars y
  obtain rfl : y0 = 0 := Subsingleton.elim _ _
  refine ((stores_at _ y1 y2).2.2.2.2.trans (values_block m c t y1 y2)).trans ?_
  unfold rowOf
  blk_ext [idx t]

end Cert.RopeSampleIdeal.Hand

end
-- ==== Proof.RopeSampleClaims.lean ====
/- The sample group's rotary call: the two claims that speak of the reference. -/
module

public import proofs.«01_k».proof.Defs
public import proofs.«01_k».proof.Proof.RopeSampleValue
public import Idealize.ShloMosaic.Lib.Claim

@[expose] public section

set_option maxRecDepth 16384

noncomputable section

namespace Cert.RopeSampleClaims

open Idealize.ShloMosaic Idealize.ShloMosaic.TcCoe Idealize.SL.Sem
open Cert.RopeSampleIdeal.Hand (h)
open Cert.RopeSampleRefIdeal.Hand (rotated keysOf valuesOf)

/-- The reference runs, leaves its argument as it was and leaves no semaphore raised. -/
theorem frame_ref : Cert.quiescent_RopeSampleRefIdeal := by
  intro m g _
  refine (θ_run Cert.RopeSampleRefIdeal.defs _ _).mono (fun r h => ⟨?_, sem_eq_zero_of_no_sems (by decide) r.2⟩)
    (Cert.RopeSampleRefIdeal.Value.run (F := Ideal) m g)
  exact fun c => (h c).2.2.2.2.2

set_option maxHeartbeats 4000000 in
/-- The rotation by shifted copies and the rotation of pairs leave equal arrays. -/
theorem algebraic : Cert.algebraic_RopeSampleIdeal_RopeSampleRefIdeal := by
  pair_intro
  · run_from Cert.RopeSampleIdeal.Gen.run_main m g
  · run_from Cert.RopeSampleRefIdeal.Value.run m' g'
    · refine Eq.trans ?_ (Cert.RopeSampleIdeal.Hand.final6 m c).symm
      rw [Cert.RopeSampleRefIdeal.Hand.res_q, hagree c]
    · refine Eq.trans ?_ (Cert.RopeSampleIdeal.Hand.final7 m c).symm
      rw [Cert.RopeSampleRefIdeal.Hand.res_k, hagree c]
    · refine Eq.trans ?_ (Cert.RopeSampleIdeal.Hand.final8 m c).symm
      rfl
    · refine Eq.trans ?_ (Cert.RopeSampleIdeal.Hand.final9 m c).symm
      refine Eq.trans (?_ : _ = Cert.RopeSampleRefIdeal.Value.res_main_v68 m' c) ?_
      · rfl
      · rw [Cert.RopeSampleRefIdeal.Hand.res_k, hagree c]
    · refine Eq.trans ?_ (Cert.RopeSampleIdeal.Hand.final10 m c).symm
      rfl

end Cert.RopeSampleClaims

end
-- ==== Proof.FfnSampleRef.lean ====
/- The feed-forward on the sample batch: what the reference computes, entry by entry. -/
module

public import proofs.«01_k».proof.Proof.Gen.FfnSampleRefIdeal.Run
public import proofs.«01_k».proof.Proof.FfnRows
public import Idealize.ShloMosaic.Lib.Pointwise

@[expose] public section

set_option maxRecDepth 16384

noncomputable section

namespace Cert.Rows

open Idealize.ShloMosaic

/-- The entry of a column `n` rows before row `R`, the rows eight to a sequence: of the batch inside the sequence, of the
    carried-over rows before its start. -/
def lag8 (u : Fin 256 → EReal) (buf : Fin 32 → Fin 2 → EReal) (n : ℕ) (hn : n ≤ 2) (R : Fin 256) : EReal :=
  if h : n ≤ R.val % 8 then u ⟨R.val - n, by omega⟩ else buf ⟨R.val / 8, by omega⟩ ⟨R.val % 8 + 2 - n, by omega⟩

end Cert.Rows

namespace Cert.FfnSampleRefIdeal.Hand

open Idealize.ShloMosaic Idealize.ShloMosaic.TcCoe Idealize.SL.Sem Cert.Rows
open Cert.FfnSampleRefIdeal Cert.FfnSampleRefIdeal.Gen

/-- Column `d` of the up-projected batch, row by row. -/
def ucol (x : FVec Ideal S256x1024 .f32) (w : FVec Ideal S1024x6144 .f32) (d : Fin 6144) (R : Fin 256) : EReal :=
  upCol (fun k => x (ix2 R k)) (fun k d => w (ix2 k d)) d

/-- The filtered first half at row `R`, column `d`. -/
def filt (x : FVec Ideal S256x1024 .f32) (w : FVec Ideal S1024x6144 .f32) (cw : FVec Ideal S3x3072 .f32)
    (cb : FVec Ideal S3072 .f32) (buf : FVec Ideal S32x2x3072 .f32) (R : Fin 256) (d : Fin 3072) : EReal :=
  taps (cb (ix1 d)) (fun k => cw (ix2 k d))
    (lag8 (ucol x w ⟨d.val, by omega⟩) (fun b k => buf (ix3 b k d)) 2 (by omega) R)
    (lag8 (ucol x w ⟨d.val, by omega⟩) (fun b k => buf (ix3 b k d)) 1 (by omega) R) (ucol x w ⟨d.val, by omega⟩ R)

/-- Row `R` of the residual plus the gated row projected down, from the argument arrays. -/
def pre (x : FVec Ideal S256x1024 .f32) (w : FVec Ideal S1024x6144 .f32) (cw : FVec Ideal S3x3072 .f32)
    (cb : FVec Ideal S3072 .f32) (wd : FVec Ideal S3072x1024 .f32) (buf : FVec Ideal S32x2x3072 .f32) (R : Fin 256) :
    Fin 1024 → EReal :=
  resid (fun k => x (ix2 R k)) (fun d => gelu (filt x w cw cb buf R d) * ucol x w ⟨3072 + d.val, by omega⟩ R)
    (fun d k => wd (ix2 d k))

/-- Row `s` of sequence `b`, as a row of the batch. -/
def row (b : Fin 32) (s : Fin 8) : Fin 256 := ⟨b.val * 8 + s.val, by omega⟩

/-- The batch projected up, by sequence. -/
def hid (x : FVec Ideal S256x1024 .f32) (w : FVec Ideal S1024x6144 .f32) : FVec Ideal S32x8x6144 .f32 :=
  Host.dotGeneral dot_S32x8x1024_S1024x6144_S32x8x6144_2_0_01_1_n_n none
    (shapeCast _ x shapeCasts_S256x1024_S32x8x1024) w

/-- The first half with the carried-over rows before it. -/
def padded (h : FVec Ideal S32x8x6144 .f32) (buf : FVec Ideal S32x2x3072 .f32) : FVec Ideal S32x10x3072 .f32 :=
  concatenate S32x10x3072 1 [⟨S32x2x3072, buf⟩, ⟨S32x8x3072, extractStridedSlice S32x8x3072 ![0, 0, 0] h
    slices_S32x8x6144_S32x8x3072_0_0_0⟩] concatenates_S32x2x3072_S32x8x3072_S32x10x3072_d1

/-- The filtered first half as the reference forms it. -/
def conv (cw : FVec Ideal S3x3072 .f32) (cb : FVec Ideal S3072 .f32) (p : FVec Ideal S32x10x3072 .f32) :
    FVec Ideal S32x8x3072 .f32 :=
  addf (addf (addf (broadcastInDim S32x8x3072 ![0, 1, 2] bcast_S1x1x3072_S32x8x3072_0_1_2 (broadcastInDim S1x1x3072 ![2] bcast_S3072_S1x1x3072_2 cb))
    (mulf (broadcastInDim S32x8x3072 ![0, 1, 2] bcast_S1x1x3072_S32x8x3072_0_1_2 (broadcastInDim S1x1x3072 ![2] bcast_S3072_S1x1x3072_2 (shapeCast _ (extractStridedSlice S1x3072 ![0, 0] cw slices_S3x3072_S1x3072_0_0) shapeCasts_S1x3072_S3072)))
      (extractStridedSlice S32x8x3072 ![0, 0, 0] p slices_S32x10x3072_S32x8x3072_0_0_0)))
    (mulf (broadcastInDim S32x8x3072 ![0, 1, 2] bcast_S1x1x3072_S32x8x3072_0_1_2 (broadcastInDim S1x1x3072 ![2] bcast_S3072_S1x1x3072_2 (shapeCast _ (extractStridedSlice S1x3072 ![1, 0] cw slices_S3x3072_S1x3072_1_0) shapeCasts_S1x3072_S3072)))
      (extractStridedSlice S32x8x3072 ![0, 1, 0] p slices_S32x10x3072_S32x8x3072_0_1_0)))
    (mulf (broadcastInDim S32x8x3072 ![0, 1, 2] bcast_S1x1x3072_S32x8x3072_0_1_2 (broadcastInDim S1x1x3072 ![2] bcast_S3072_S1x1x3072_2 (shapeCast _ (extractStridedSlice S1x3072 ![2, 0] cw slices_S3x3072_S1x3072_2_0) shapeCasts_S1x3072_S3072)))
      (extractStridedSlice S32x8x3072 ![0, 2, 0] p slices_S32x10x3072_S32x8x3072_0_2_0))

/-- The gated rows as the reference forms them from the filtered half `z` and the projected batch `h`. -/
def gated (z : FVec Ideal S32x8x3072 .f32) (h : FVec Ideal S32x8x6144 .f32) : FVec Ideal S32x8x3072 .f32 :=
  mulf (mulf z (mulf (broadcastInDim S32x8x3072 ![] bcast_S_S32x8x3072 (constant S_ .f32 0x3F000000#32))
    (addf (broadcastInDim S32x8x3072 ![] bcast_S_S32x8x3072 (constant S_ .f32 0x3F800000#32))
      (Host.tanh (mulf (broadcastInDim S32x8x3072 ![] bcast_S_S32x8x3072 (constant S_ .f32 0x3F4C422A#32))
        (addf z (mulf (broadcastInDim S32x8x3072 ![] bcast_S_S32x8x3072 (constant S_ .f32 0x3D372713#32)) (mulf (mulf z z) z))))))))
    (extractStridedSlice S32x8x3072 ![0, 0, 3072] h slices_S32x8x6144_S32x8x3072_0_0_3072)

/-- The rows before the layer norm as the reference forms them. -/
def preArr (x : FVec Ideal S256x1024 .f32) (f : FVec Ideal S32x8x3072 .f32) (wd : FVec Ideal S3072x1024 .f32) :
    FVec Ideal S32x8x1024 .f32 :=
  addf (mulf (broadcastInDim S32x8x1024 ![] bcast_S_S32x8x1024 (constant S_ .f32 0x3FD744FD#32))
    (shapeCast _ x shapeCasts_S256x1024_S32x8x1024))
    (Host.dotGeneral dot_S32x8x3072_S3072x1024_S32x8x1024_2_0_01_1_n_n none f wd)

/-- The rows less their means as the reference forms them. -/
def centred (p : FVec Ideal S32x8x1024 .f32) : FVec Ideal S32x8x1024 .f32 :=
  subf p (broadcastInDim S32x8x1024 ![0, 1, 2] bcast_S32x8x1_S32x8x1024_0_1_2 (Host.divf
    (broadcastInDim S32x8x1 ![0, 1] bcast_S32x8_S32x8x1_0_1 (Host.reduceAdd p (constant S_ .f32 0x00000000#32) reducesTo_S32x8x1024_S32x8_d2 h_S_))
    (broadcastInDim S32x8x1 ![] bcast_S_S32x8x1 (constant S_ .f32 0x44800000#32))))

/-- The layer norm as the reference forms it from the centred rows. -/
def normed (q : FVec Ideal S32x8x1024 .f32) (g b : FVec Ideal S1024 .f32) : FVec Ideal S256x1024 .f32 :=
  shapeCast _ (addf (mulf (mulf q (broadcastInDim S32x8x1024 ![0, 1, 2] bcast_S32x8x1_S32x8x1024_0_1_2
    (Host.rsqrt (addf (Host.divf (broadcastInDim S32x8x1 ![0, 1] bcast_S32x8_S32x8x1_0_1 (Host.reduceAdd (mulf q q) (constant S_ .f32 0x00000000#32) reducesTo_S32x8x1024_S32x8_d2 h_S_))
      (broadcastInDim S32x8x1 ![] bcast_S_S32x8x1 (constant S_ .f32 0x44800000#32)))
      (broadcastInDim S32x8x1 ![] bcast_S_S32x8x1 (constant S_ .f32 0x3727C5AC#32))))))
    (broadcastInDim S32x8x1024 ![0, 1, 2] bcast_S1x1x1024_S32x8x1024_0_1_2 (broadcastInDim S1x1x1024 ![2] bcast_S1024_S1x1x1024_2 g)))
    (broadcastInDim S32x8x1024 ![0, 1, 2] bcast_S1x1x1024_S32x8x1024_0_1_2 (broadcastInDim S1x1x1024 ![2] bcast_S1024_S1x1x1024_2 b)))
    shapeCasts_S32x8x1024_S256x1024

/-- The projected batch at an entry. -/
theorem hid_at (x : FVec Ideal S256x1024 .f32) (w : FVec Ideal S1024x6144 .f32) (b : Fin 32) (s : Fin 8) (d : Fin 6144) :
    hid x w (ix3 b s d) = ucol x w d (row b s) := by
  pointwise [hid, ucol, upCol, row]

/-- The padded half at an entry: a carried-over row, or the row of the batch two before. -/
theorem padded_at (h : FVec Ideal S32x8x6144 .f32) (buf : FVec Ideal S32x2x3072 .f32) (b : Fin 32) (s : Fin 10) (d : Fin 3072) :
    padded h buf (ix3 b s d) = if hs : s.val < 2 then buf (ix3 b ⟨s.val, hs⟩ d)
      else h (ix3 b ⟨s.val - 2, by omega⟩ ⟨d.val, by omega⟩) := by
  pointwise [padded]

/-- The filter at an entry, over the padded half. -/
theorem conv_at (cw : FVec Ideal S3x3072 .f32) (cb : FVec Ideal S3072 .f32) (p : FVec Ideal S32x10x3072 .f32)
    (b : Fin 32) (s : Fin 8) (d : Fin 3072) :
    conv cw cb p (ix3 b s d) = taps (cb (ix1 d)) (fun k => cw (ix2 k d)) (p (ix3 b ⟨s.val, by omega⟩ d))
      (p (ix3 b ⟨s.val + 1, by omega⟩ d)) (p (ix3 b ⟨s.val + 2, by omega⟩ d)) := by
  pointwise [conv, taps]
  simp only [Nat.add_comm s.val]

/-- The gated rows at an entry. -/
theorem gated_at (z : FVec Ideal S32x8x3072 .f32) (h : FVec Ideal S32x8x6144 .f32) (b : Fin 32) (s : Fin 8) (d : Fin 3072) :
    gated z h (ix3 b s d) = gelu (z (ix3 b s d)) * h (ix3 b s ⟨3072 + d.val, by omega⟩) := by
  pointwise [gated, gelu]

/-- The rows before the layer norm at an entry. -/
theorem preArr_at (x : FVec Ideal S256x1024 .f32) (f : FVec Ideal S32x8x3072 .f32) (wd : FVec Ideal S3072x1024 .f32)
    (b : Fin 32) (s : Fin 8) (l : Fin 1024) :
    preArr x f wd (ix3 b s l) = resid (fun k => x (ix2 (row b s) k)) (fun d => f (ix3 b s d)) (fun d k => wd (ix2 d k)) l := by
  pointwise [preArr, resid, row]

/-- The centred rows at an entry. -/
theorem centred_at (p : FVec Ideal S32x8x1024 .f32) (b : Fin 32) (s : Fin 8) (l : Fin 1024) :
    centred p (ix3 b s l) = p (ix3 b s l) - mean (fun k => p (ix3 b s k)) := by
  pointwise [centred, mean]

/-- The layer norm at an entry, from the rows before it. -/
theorem normed_at (p : FVec Ideal S32x8x1024 .f32) (g b : FVec Ideal S1024 .f32) (R : Fin 256) (P : Fin 1024 → EReal)
    (hP : ∀ k, p (ix3 ⟨R.val / 8, by omega⟩ ⟨R.val % 8, by omega⟩ k) = P k) (l : Fin 1024) :
    normed (centred p) g b (ix2 R l) = layerNorm P (g (ix1 l)) (b (ix1 l)) l := by
  pointwise [normed]
  simp only [centred_at, hP, layerNorm, mean]

/-- A row's sequence and place in it give the row back. -/
theorem row_self (R : Fin 256) : row ⟨R.val / 8, by omega⟩ ⟨R.val % 8, by omega⟩ = R :=
  Fin.ext (by simp only [row]; omega)

/-- The padded half, from place `n` on, is the column `2 - n` rows before. -/
theorem padded_lag (x : FVec Ideal S256x1024 .f32) (w : FVec Ideal S1024x6144 .f32) (buf : FVec Ideal S32x2x3072 .f32)
    (b : Fin 32) (s : Fin 8) (d : Fin 3072) (n : ℕ) (hn : n ≤ 2) :
    padded (hid x w) buf (ix3 b ⟨s.val + (2 - n), by omega⟩ d)
      = lag8 (ucol x w ⟨d.val, by omega⟩) (fun b k => buf (ix3 b k d)) n hn (row b s) := by
  have e : (row b s).val % 8 = s.val := by simp only [row]; omega
  have e' : (row b s).val / 8 = b.val := by simp only [row]; omega
  rw [padded_at]
  unfold lag8
  by_cases h : n ≤ s.val
  · rw [dif_neg (by simp only; omega), dif_pos (e ▸ h), hid_at]
    exact congrArg _ (Fin.ext (by simp only [row]; omega))
  · rw [dif_pos (by simp only; omega), dif_neg (e ▸ h)]
    exact congrArg₂ (fun b k => buf (ix3 b k d)) (Fin.ext e'.symm) (Fin.ext (by simp only [e]; omega))

/-- The rows before the layer norm, row by row. -/
theorem pre_at (x : FVec Ideal S256x1024 .f32) (w : FVec Ideal S1024x6144 .f32) (cw : FVec Ideal S3x3072 .f32)
    (cb : FVec Ideal S3072 .f32) (wd : FVec Ideal S3072x1024 .f32) (buf : FVec Ideal S32x2x3072 .f32) (R : Fin 256) (k : Fin 1024) :
    preArr x (gated (conv cw cb (padded (hid x w) buf)) (hid x w)) wd
      (ix3 ⟨R.val / 8, by omega⟩ ⟨R.val % 8, by omega⟩ k) = pre x w cw cb wd buf R k := by
  rw [preArr_at]
  refine resid_congr (fun k => by rw [row_self]) (fun d => ?_) (fun _ _ => rfl) k
  have h2 := padded_lag x w buf ⟨R.val / 8, by omega⟩ ⟨R.val % 8, by omega⟩ d 2 (by omega)
  have h1 := padded_lag x w buf ⟨R.val / 8, by omega⟩ ⟨R.val % 8, by omega⟩ d 1 (by omega)
  have h0 := padded_lag x w buf ⟨R.val / 8, by omega⟩ ⟨R.val % 8, by omega⟩ d 0 (by omega)
  rw [row_self] at h2 h1 h0
  rw [gated_at, conv_at, hid_at, row_self]
  exact congrArg (fun z => gelu z * _) (congr (congr (congrArg _ h2) h1) (h0.trans (by simp [lag8])))

variable (m : (ℓ : Loc nD τ sig) → Buf (Elt Ideal) ℓ)

/-- The reference's first result at row `R`, column `l`: the layer norm of that row. -/
theorem result_at (c : Dev nD) (R : Fin 256) (l : Fin 1024) :
    Cert.FfnSampleRefIdeal.Value.res_out0 (F := Ideal) m c (ix2 R l)
      = layerNorm (pre (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg7)) R)
          (m ((c.tc : Thread nD τ).loc main_arg5) (ix1 l)) (m ((c.tc : Thread nD τ).loc main_arg6) (ix1 l)) l :=
  normed_at _ _ _ R _ (fun k => pre_at _ _ _ _ _ _ R k) l

/-- The reference's second result: the up-projected first half. -/
theorem half_at (x : FVec Ideal S256x1024 .f32) (w : FVec Ideal S1024x6144 .f32) (R : Fin 256) (d : Fin 3072) :
    shapeCast S256x3072 (extractStridedSlice S32x8x3072 ![0, 0, 0] (hid x w) slices_S32x8x6144_S32x8x3072_0_0_0)
      shapeCasts_S32x8x3072_S256x3072 (ix2 R d) = ucol x w ⟨d.val, by omega⟩ R := by
  refine Eq.trans (?_ : _ = hid x w (ix3 ⟨R.val / 8, by omega⟩ ⟨R.val % 8, by omega⟩ ⟨d.val, by omega⟩)) ?_
  · pointwise
  · rw [hid_at, row_self]

end Cert.FfnSampleRefIdeal.Hand

end
-- ==== Proof.FfnSampleBody.lean ====
/- The feed-forward on the sample batch: what the body computes over the blocks it is given, all 256 rows at once. -/
module

public import proofs.«01_k».proof.Proof.Gen.FfnSampleIdeal.Frame
public import proofs.«01_k».proof.Proof.FfnSampleRef
public import Idealize.ShloMosaic.Lib.Pointwise
public import Idealize.ShloMosaic.Lib.Pipeline.ValueKit

@[expose] public section

set_option maxRecDepth 16384

noncomputable section

namespace Cert.Rows

/-- The entry of a column `n` rows before row `r`, rows eight to a sequence: of the column where the sequence reaches back
    that far, of the column `p` of stand-ins elsewhere. -/
def behind (n : ℕ) (u p : Fin 256 → EReal) (r : Fin 256) : EReal :=
  if n ≤ r.val % 8 then u ⟨(r.val + 256 - n) % 256, by omega⟩ else p r

end Cert.Rows

namespace Cert.FfnSampleIdeal.Hand

open Idealize.ShloMosaic Idealize.ShloMosaic.TcCoe Idealize.SL.Sem Cert.Rows
open Cert.FfnSampleIdeal Cert.FfnSampleIdeal.Gen

/-- The row's place in its sequence as a 32-bit word. -/
theorem pay3_at (r : Fin 256) (l : Fin 1024) : k0_pay3 (ix2 r l) = BitVec.ofNat 32 (r.val % 8) := by
  pointwise [k0_pay3]
  revert r
  decide +kernel

theorem sel2 (r : Fin 256) (a b : EReal) :
    Scalar.select (IntOp.cmpi CmpIPredicate.sge (BitVec.ofNat 32 (r.val % 8)) 2#32) a b = if 2 ≤ r.val % 8 then a else b := by
  have h : ∀ r : Fin 256, IntOp.cmpi CmpIPredicate.sge (BitVec.ofNat 32 (r.val % 8)) 2#32 = if 2 ≤ r.val % 8 then 1#1 else 0#1 := by
    decide +kernel
  rw [h]
  split <;> rfl

theorem sel1 (r : Fin 256) (a b : EReal) :
    Scalar.select (IntOp.cmpi CmpIPredicate.sge (BitVec.ofNat 32 (r.val % 8)) 1#32) a b = if 1 ≤ r.val % 8 then a else b := by
  have h : ∀ r : Fin 256, IntOp.cmpi CmpIPredicate.sge (BitVec.ofNat 32 (r.val % 8)) 1#32 = if 1 ≤ r.val % 8 then 1#1 else 0#1 := by
    decide +kernel
  rw [h]
  split <;> rfl

/-- A product with one third of a half of the up-projection. -/
theorem pay12_at (x : FVec Ideal S256x1024 .f32) (w : FVec Ideal S1024x1024 .bf16) (r : Fin 256) (l : Fin 1024) :
    k0_pay12 (F := Ideal) (k0_pay2 x) w (ix2 r l) = ∑ k, x (ix2 r k) * w (ix2 k l) := by
  pointwise [k0_pay12, k0_pay2]

/-- The other five such products are formed alike. -/
theorem same (x : FVec Ideal S256x1024 .f32) (w : FVec Ideal S1024x1024 .bf16) :
    k0_pay6 (F := Ideal) x w = k0_pay12 (k0_pay2 x) w ∧ k0_pay7 (F := Ideal) x w = k0_pay12 (k0_pay2 x) w
      ∧ k0_pay13 (F := Ideal) (k0_pay2 x) w = k0_pay12 (k0_pay2 x) w ∧ k0_pay16 (F := Ideal) (k0_pay2 x) w = k0_pay12 (k0_pay2 x) w
      ∧ k0_pay17 (F := Ideal) (k0_pay2 x) w = k0_pay12 (k0_pay2 x) w := ⟨rfl, rfl, rfl, rfl, rfl⟩

/-- The gated first third projected down. -/
theorem pay11_at (v19 : FVec Ideal S3x3072 .f32) (v21 : FVec Ideal S1x3072 .f32) (v25 v28 q2 q1 : FVec Ideal S256x1024 .f32)
    (d : FVec Ideal S1024x1024 .bf16) (r : Fin 256) (l : Fin 1024) :
    k0_pay11 (F := Ideal) k0_pay3 v19 v21 k0_pay5 v25 v28 (k0_pay8 q2) (k0_pay9 q1) k0_pay10 d (ix2 r l)
      = ∑ j : Fin 1024, gelu (taps (v21 (ix2 0 ⟨j.val, by omega⟩)) (fun k => v19 (ix2 k ⟨j.val, by omega⟩))
          (behind 2 (fun r => v25 (ix2 r j)) (fun r => q2 (ix2 r j)) r) (behind 1 (fun r => v25 (ix2 r j)) (fun r => q1 (ix2 r j)) r)
          (v25 (ix2 r j))) * v28 (ix2 r j) * d (ix2 j l) := by
  pointwise [k0_pay11, k0_pay5, k0_pay8, k0_pay9, k0_pay10]
  simp only [pay3_at, sel2, sel1, zero_add]
  rfl

/-- The filter's second third at an entry, through the unit. -/
theorem pay14_at (v19 : FVec Ideal S3x3072 .f32) (v21 : FVec Ideal S1x3072 .f32) (v77 q2 q1 : FVec Ideal S256x1024 .f32)
    (r : Fin 256) (l : Fin 1024) :
    k0_pay14 (F := Ideal) k0_pay3 v19 v21 v77 q2 q1 (ix2 r l)
      = gelu (taps (v21 (ix2 0 ⟨1024 + l.val, by omega⟩)) (fun k => v19 (ix2 k ⟨1024 + l.val, by omega⟩))
          (behind 2 (fun r => v77 (ix2 r l)) (fun r => q2 (ix2 r l)) r) (behind 1 (fun r => v77 (ix2 r l)) (fun r => q1 (ix2 r l)) r)
          (v77 (ix2 r l))) := by
  pointwise [k0_pay14]
  simp only [pay3_at, sel2, sel1]
  rfl

/-- The gated second third projected down, added to what was there. -/
theorem pay15_at (v74 v80 v120 : FVec Ideal S256x1024 .f32) (d : FVec Ideal S1024x1024 .bf16) (r : Fin 256) (l : Fin 1024) :
    k0_pay15 (F := Ideal) v74 v80 v120 d (ix2 r l) = v74 (ix2 r l) + ∑ j, v120 (ix2 r j) * v80 (ix2 r j) * d (ix2 j l) := by
  pointwise [k0_pay15]

/-- The filter's last third at an entry. -/
theorem pay18_at (v1 : FVec Ideal S256x1024 .bf16) (w : FVec Ideal S1024x1024 .bf16) (v19 : FVec Ideal S3x3072 .f32)
    (v21 : FVec Ideal S1x3072 .f32) (q2 q1 : FVec Ideal S256x1024 .f32) (r : Fin 256) (l : Fin 1024) :
    k0_pay18 (F := Ideal) v1 k0_pay3 v19 v21 w q2 q1 (ix2 r l)
      = taps (v21 (ix2 0 ⟨2048 + l.val, by omega⟩)) (fun k => v19 (ix2 k ⟨2048 + l.val, by omega⟩))
          (behind 2 (fun r => k0_pay16 (F := Ideal) v1 w (ix2 r l)) (fun r => q2 (ix2 r l)) r)
          (behind 1 (fun r => k0_pay16 (F := Ideal) v1 w (ix2 r l)) (fun r => q1 (ix2 r l)) r)
          (k0_pay16 (F := Ideal) v1 w (ix2 r l)) := by
  pointwise [k0_pay18]
  simp only [pay3_at, sel2, sel1]
  rfl

/-- The filter's last third squared. -/
theorem pay19_eq (v1 : FVec Ideal S256x1024 .bf16) (w : FVec Ideal S1024x1024 .bf16) (v19 : FVec Ideal S3x3072 .f32)
    (v21 : FVec Ideal S1x3072 .f32) (q2 q1 : FVec Ideal S256x1024 .f32) :
    k0_pay19 (F := Ideal) v1 k0_pay3 v19 v21 w q2 q1
      = mulf (k0_pay18 (F := Ideal) v1 k0_pay3 v19 v21 w q2 q1) (k0_pay18 (F := Ideal) v1 k0_pay3 v19 v21 w q2 q1) := rfl

/-- The layer norm of the residual plus the three thirds projected down. -/
theorem pay21_at (x v126 v132 z : FVec Ideal S256x1024 .f32) (d : FVec Ideal S1024x1024 .bf16) (g b : FVec Ideal S1x1024 .f32)
    (r : Fin 256) (P : Fin 1024 → EReal)
    (hP : ∀ l, Ideal.ofBits FTy.f32 0x3FD744FD#32 * x (ix2 r l)
      + (v126 (ix2 r l) + ∑ j, gelu (z (ix2 r j)) * v132 (ix2 r j) * d (ix2 j l)) = P l) (l : Fin 1024) :
    k0_pay1 (F := Ideal) (k0_pay20 b) (k0_pay21 x v126 v132 z (mulf z z) d g) (ix2 r l)
      = layerNorm P (g (ix2 0 l)) (b (ix2 0 l)) l := by
  unfold gelu at hP
  pointwise [k0_pay1, k0_pay20, k0_pay21]
  simp only [hP, layerNorm, mean]

/-- The body's result over the blocks: the layer norm of the residual plus the gated, filtered row projected down. The
    up-projection comes in six column blocks, the down-projection in three row blocks, the stand-ins in three column blocks. -/
theorem body_at (x : FVec Ideal S256x1024 .f32) (cw : FVec Ideal S3x3072 .f32) (cb : FVec Ideal S1x3072 .f32)
    (g b : FVec Ideal S1x1024 .f32) (w0 w1 w2 p0 p1 p2 d0 d1 d2 : FVec Ideal S1024x1024 .bf16)
    (a0 a1 a2 b0 b1 b2 : FVec Ideal S256x1024 .f32)
    (W : Fin 1024 → Fin 6144 → EReal) (D : Fin 3072 → Fin 1024 → EReal) (Q2 Q1 : Fin 3072 → Fin 256 → EReal)
    (hw0 : ∀ k l : Fin 1024, w0 (ix2 k l) = W k ⟨l.val, by omega⟩)
    (hw1 : ∀ k l : Fin 1024, w1 (ix2 k l) = W k ⟨1024 + l.val, by omega⟩)
    (hw2 : ∀ k l : Fin 1024, w2 (ix2 k l) = W k ⟨2048 + l.val, by omega⟩)
    (hp0 : ∀ k l : Fin 1024, p0 (ix2 k l) = W k ⟨3072 + l.val, by omega⟩)
    (hp1 : ∀ k l : Fin 1024, p1 (ix2 k l) = W k ⟨3072 + (1024 + l.val), by omega⟩)
    (hp2 : ∀ k l : Fin 1024, p2 (ix2 k l) = W k ⟨3072 + (2048 + l.val), by omega⟩)
    (hd0 : ∀ j l : Fin 1024, d0 (ix2 j l) = D ⟨j.val, by omega⟩ l)
    (hd1 : ∀ j l : Fin 1024, d1 (ix2 j l) = D ⟨1024 + j.val, by omega⟩ l)
    (hd2 : ∀ j l : Fin 1024, d2 (ix2 j l) = D ⟨2048 + j.val, by omega⟩ l)
    (ha0 : ∀ (r : Fin 256) (l : Fin 1024), a0 (ix2 r l) = Q2 ⟨l.val, by omega⟩ r)
    (ha1 : ∀ (r : Fin 256) (l : Fin 1024), a1 (ix2 r l) = Q2 ⟨1024 + l.val, by omega⟩ r)
    (ha2 : ∀ (r : Fin 256) (l : Fin 1024), a2 (ix2 r l) = Q2 ⟨2048 + l.val, by omega⟩ r)
    (hb0 : ∀ (r : Fin 256) (l : Fin 1024), b0 (ix2 r l) = Q1 ⟨l.val, by omega⟩ r)
    (hb1 : ∀ (r : Fin 256) (l : Fin 1024), b1 (ix2 r l) = Q1 ⟨1024 + l.val, by omega⟩ r)
    (hb2 : ∀ (r : Fin 256) (l : Fin 1024), b2 (ix2 r l) = Q1 ⟨2048 + l.val, by omega⟩ r)
    (r : Fin 256) (l : Fin 1024) :
    k0_pay1 (F := Ideal) (k0_pay20 b) (k0_pay21 x
        (k0_pay15 (k0_pay11 k0_pay3 cw (k0_pay4 cb) k0_pay5 (k0_pay6 x w0) (k0_pay7 x p0) (k0_pay8 a0) (k0_pay9 b0) k0_pay10 d0)
          (k0_pay13 (k0_pay2 x) p1) (k0_pay14 k0_pay3 cw (k0_pay4 cb) (k0_pay12 (k0_pay2 x) w1) a1 b1) d1)
        (k0_pay17 (k0_pay2 x) p2) (k0_pay18 (k0_pay2 x) k0_pay3 cw (k0_pay4 cb) w2 a2 b2)
        (k0_pay19 (k0_pay2 x) k0_pay3 cw (k0_pay4 cb) w2 a2 b2) d2 g) (ix2 r l)
      = layerNorm (resid (fun k => x (ix2 r k))
          (fun d => gelu (taps (cb (ix2 0 d)) (fun k => cw (ix2 k d))
              (behind 2 (fun r => upCol (fun k => x (ix2 r k)) W ⟨d.val, by omega⟩) (Q2 d) r)
              (behind 1 (fun r => upCol (fun k => x (ix2 r k)) W ⟨d.val, by omega⟩) (Q1 d) r)
              (upCol (fun k => x (ix2 r k)) W ⟨d.val, by omega⟩))
            * upCol (fun k => x (ix2 r k)) W ⟨3072 + d.val, by omega⟩) D) (g (ix2 0 l)) (b (ix2 0 l)) l := by
  have e4 : k0_pay4 (F := Ideal) cb = cb := by funext i; idx_vars i; pointwise [k0_pay4]
  have up : ∀ (w : FVec Ideal S1024x1024 .bf16) (o : Fin 1024 → Fin 6144) (hw : ∀ k l : Fin 1024, w (ix2 k l) = W k (o l))
      (r : Fin 256) (j : Fin 1024), k0_pay12 (F := Ideal) (k0_pay2 x) w (ix2 r j) = upCol (fun k => x (ix2 r k)) W (o j) := by
    intro w o hw r j
    rw [pay12_at]
    exact Finset.sum_congr rfl fun k _ => by rw [hw]
  rw [e4, pay19_eq, (same x w0).1, (same x p0).2.1, (same x p1).2.2.1, (same x p2).2.2.2.2]
  refine pay21_at x _ _ _ d2 g b r _ (fun l => ?_) l
  rw [pay15_at, pay11_at]
  unfold resid
  rw [sum_thirds]
  refine congrArg (_ + ·) (congr (congrArg _ (congr (congrArg _ ?_) ?_)) ?_) <;> refine Finset.sum_congr rfl fun j _ => ?_
  · simp only [up w0 _ hw0, up p0 _ hp0, hd0, ha0, hb0]
  · simp only [pay14_at, up w1 _ hw1, up p1 _ hp1, hd1, ha1, hb1]
  · simp only [pay18_at, (same x w2).2.2.2.1, up w2 _ hw2, up p2 _ hp2, hd2, ha2, hb2]

end Cert.FfnSampleIdeal.Hand

end
-- ==== Proof.FfnSampleCarry.lean ====
/- The feed-forward on the sample batch: the rows that stand in for those before a sequence's start, as the kernel is handed
   them, spread over eight rows to a sequence. -/
module

public import proofs.«01_k».proof.Proof.FfnSampleBody
public import Idealize.ShloMosaic.Lib.Routing.OpsPair
public import Idealize.ShloMosaic.Lib.Routing.OpsSet
public import Idealize.ShloMosaic.Lib.DynamicIndex

@[expose] public section

set_option maxRecDepth 16384

noncomputable section

namespace Cert.FfnSampleIdeal.Hand

open Idealize.ShloMosaic Idealize.ShloMosaic.TcCoe Idealize.SL.Sem Idealize.ShloMosaic.Routing Cert.Rows
open Cert.FfnSampleIdeal Cert.FfnSampleIdeal.Gen

/-- The dimension numbers by which one row of every sequence is written. -/
abbrev dims : ScatterDims S32x8x3072 S1 S32x3072 := scatter_S32x8x3072_S1_S32x3072_01_1_1_0

/-- The row of a sequence that is written. -/
def place (n : ℕ) : IVec S1 32 := broadcastInDim S1 ![] bcast_S_S1 (constantI S_ 32 (BitVec.ofNat 32 n))

theorem place_at (n : ℕ) : place n (ix1 0) = BitVec.ofNat 32 n := by
  pointwise [place]

/-- Entry `(b, d)` written at row `n` lands at `(b', s, d')` exactly when `s` is `n` and the rest agree. -/
theorem lands (idx : IVec S1 32) (n : ℕ) (h0 : (idx (ix1 0)).toInt = n) (b : Fin 32) (d : Fin 3072) (b' : Fin 32) (s : Fin 8) (d' : Fin 3072) :
    dims.resultIdx? (ix2 b d) idx = some (ix3 b' s d') ↔ s.val = n ∧ b = b' ∧ d = d' := by
  have w0 : dims.window (ix2 b d) 0 = b.val := rfl
  have w1 : dims.window (ix2 b d) 1 = 0 := rfl
  have w2 : dims.window (ix2 b d) 2 = d.val := rfl
  have s0 : dims.start (ix2 b d) idx 0 = 0 := rfl
  have s1 : dims.start (ix2 b d) idx 1 = n := by
    refine Eq.trans ?_ h0
    show (idx _).toInt = _
    congr 2
    funext x
    match x with
    | ⟨0, _⟩ => rfl
  have s2 : dims.start (ix2 b d) idx 2 = 0 := rfl
  rw [resultIdx?_eq_some]
  constructor
  · intro h
    have e0 := h 0
    have e1 := h 1
    have e2 := h 2
    rw [w0, s0] at e0
    rw [w1, s1] at e1
    rw [w2, s2] at e2
    change (0 : Int) + b.val = (b'.val : Int) at e0
    change (n : Int) + 0 = (s.val : Int) at e1
    change (0 : Int) + d.val = (d'.val : Int) at e2
    exact ⟨by omega, Fin.ext (by omega), Fin.ext (by omega)⟩
  · rintro ⟨e1, rfl, rfl⟩ x
    match x with
    | ⟨0, _⟩ =>
      show dims.start (ix2 b d) idx 0 + (dims.window (ix2 b d) 0 : Int) = (b.val : Int)
      rw [w0, s0]; omega
    | ⟨1, _⟩ =>
      show dims.start (ix2 b d) idx 1 + (dims.window (ix2 b d) 1 : Int) = (s.val : Int)
      rw [w1, s1]; omega
    | ⟨2, _⟩ =>
      show dims.start (ix2 b d) idx 2 + (dims.window (ix2 b d) 2 : Int) = (d.val : Int)
      rw [w2, s2]; omega

/-- Row `n` of every sequence of `x` overwritten by row `k` of `buf`. -/
def setRow (n k : ℕ) (h : S32x2x3072.Slices ![0, k, 0] S32x1x3072) (buf : FVec Ideal S32x2x3072 .f32) (x : FVec Ideal S32x8x3072 .f32) :
    FVec Ideal S32x8x3072 .f32 :=
  Host.scatter dims (fun _ b => b) x (place n) (shapeCast S32x3072 (extractStridedSlice S32x1x3072 ![0, k, 0] buf h) shapeCasts_S32x1x3072_S32x3072)

/-- An overwritten batch at an entry. -/
theorem setRow_at (n k : ℕ) (hn : n < 8) (hk : k < 2) (h : S32x2x3072.Slices ![0, k, 0] S32x1x3072) (buf : FVec Ideal S32x2x3072 .f32)
    (x : FVec Ideal S32x8x3072 .f32) (b : Fin 32) (s : Fin 8) (d : Fin 3072) :
    setRow n k h buf x (ix3 b s d) = if s.val = n then buf (ix3 b ⟨k, hk⟩ d) else x (ix3 b s d) := by
  have hl := lands (place n) n (by rw [place_at, toInt_ofNat_of_lt (by omega)])
  have hu : ∀ (b : Fin 32) (d : Fin 3072), shapeCast S32x3072 (extractStridedSlice S32x1x3072 ![0, k, 0] buf h) shapeCasts_S32x1x3072_S32x3072 (ix2 b d)
      = buf (ix3 b ⟨k, hk⟩ d) := fun b d => by pointwise []
  unfold setRow
  by_cases e : s.val = n
  · rw [if_pos e]
    refine scatter_set_hit dims x (place n) _ _ _ (fun i hi => ?_) (ix2 b d) ((hl b d b s d).2 ⟨e, rfl, rfl⟩)
    obtain ⟨b', d', rfl⟩ : ∃ (b' : Fin 32) (d' : Fin 3072), i = ix2 b' d' := ⟨i 0, i 1, eq_ix2 i⟩
    obtain ⟨-, rfl, rfl⟩ := (hl b' d' b s d).1 hi
    exact hu b' d'
  · rw [if_neg e]
    refine scatter_set_miss dims x (place n) _ _ fun i hi => e ?_
    obtain ⟨b', d', rfl⟩ : ∃ (b' : Fin 32) (d' : Fin 3072), i = ix2 b' d' := ⟨i 0, i 1, eq_ix2 i⟩
    exact ((hl b' d' b s d).1 hi).1

/-- A batch of zeros. -/
def zeros : FVec Ideal S32x8x3072 .f32 := broadcastInDim S32x8x3072 ![] bcast_S_S32x8x3072 (constant S_ .f32 0x00000000#32)

/-- The stand-ins for the entry two rows back: the carried-over rows, at each sequence's first two rows. -/
def back2 (buf : FVec Ideal S32x2x3072 .f32) : FVec Ideal S256x3072 .f32 :=
  shapeCast S256x3072 (setRow 1 1 slices_S32x2x3072_S32x1x3072_0_1_0 buf (setRow 0 0 slices_S32x2x3072_S32x1x3072_0_0_0 buf zeros))
    shapeCasts_S32x8x3072_S256x3072

/-- The stand-ins for the entry one row back: the last carried-over row, at each sequence's first row. -/
def back1 (buf : FVec Ideal S32x2x3072 .f32) : FVec Ideal S256x3072 .f32 :=
  shapeCast S256x3072 (setRow 0 1 slices_S32x2x3072_S32x1x3072_0_1_0 buf zeros) shapeCasts_S32x8x3072_S256x3072

/-- A reshaped batch at an entry. -/
theorem flat_at (x : FVec Ideal S32x8x3072 .f32) (R : Fin 256) (d : Fin 3072) :
    shapeCast S256x3072 x shapeCasts_S32x8x3072_S256x3072 (ix2 R d) = x (ix3 ⟨R.val / 8, by omega⟩ ⟨R.val % 8, by omega⟩ d) := by
  pointwise []

/-- Two rows back in the column with its stand-ins is two rows back in the sequence. -/
theorem behind_two (u : Fin 256 → EReal) (buf : FVec Ideal S32x2x3072 .f32) (R : Fin 256) (d : Fin 3072) :
    behind 2 u (fun r => back2 buf (ix2 r d)) R = lag8 u (fun b k => buf (ix3 b k d)) 2 (by omega) R := by
  unfold behind lag8
  by_cases h : 2 ≤ R.val % 8
  · rw [if_pos h, dif_pos h]
    exact congrArg u (Fin.ext (by simp only; omega))
  · rw [if_neg h, dif_neg h]
    unfold back2
    beta_reduce
    rw [flat_at, setRow_at 1 1 (by omega) (by omega), setRow_at 0 0 (by omega) (by omega)]
    by_cases h1 : R.val % 8 = 1
    · rw [if_pos h1]
      exact congrArg (fun k => buf (ix3 _ k d)) (Fin.ext (by simp only; omega))
    · rw [if_neg h1, if_pos (by simp only; omega)]
      exact congrArg (fun k => buf (ix3 _ k d)) (Fin.ext (by simp only; omega))

/-- One row back in the column with its stand-ins is one row back in the sequence. -/
theorem behind_one (u : Fin 256 → EReal) (buf : FVec Ideal S32x2x3072 .f32) (R : Fin 256) (d : Fin 3072) :
    behind 1 u (fun r => back1 buf (ix2 r d)) R = lag8 u (fun b k => buf (ix3 b k d)) 1 (by omega) R := by
  unfold behind lag8
  by_cases h : 1 ≤ R.val % 8
  · rw [if_pos h, dif_pos h]
    exact congrArg u (Fin.ext (by simp only; omega))
  · rw [if_neg h, dif_neg h]
    unfold back1
    beta_reduce
    rw [flat_at, setRow_at 0 1 (by omega) (by omega), if_pos (by simp only; omega)]
    exact congrArg (fun k => buf (ix3 _ k d)) (Fin.ext (by simp only; omega))

variable (m : (ℓ : Loc nD τ sig) → Buf (Elt Ideal) ℓ) (c : Dev nD)

set_option maxHeartbeats 8000000 in
/-- The kernel's eighth operand is the stand-ins two rows back. -/
theorem V_back2 : V m c main_v14 = back2 (m ((c.tc : Thread nD τ).loc main_arg7)) := by
  unfold V
  after_reads_simp
  rfl

set_option maxHeartbeats 8000000 in
/-- The kernel's ninth operand is the stand-ins one row back. -/
theorem V_back1 : V m c main_v19 = back1 (m ((c.tc : Thread nD τ).loc main_arg7)) := by
  unfold V
  after_reads_simp
  rfl

/-- The first and the third operand are arguments. -/
theorem V_args : V m c main_arg0 = m ((c.tc : Thread nD τ).loc main_arg0) ∧ V m c main_arg2 = m ((c.tc : Thread nD τ).loc main_arg2) := by
  constructor <;>
  · unfold V
    after_reads_simp
    try rfl

/-- The up-projection's weights, their words shortened. -/
theorem V_up : V m c main_v0 = (truncf .bf16 (m ((c.tc : Thread nD τ).loc main_arg1) : FVec Ideal S1024x6144 .f32) bitsLt_bf16_f32 : FVec Ideal S1024x6144 .bf16) := by
  unfold V
  after_reads_simp

/-- The filter's bias, as a row. -/
theorem V_bias : V m c main_v1 = shapeCast S1x3072 (m ((c.tc : Thread nD τ).loc main_arg3) : FVec Ideal S3072 .f32) shapeCasts_S3072_S1x3072 := by
  unfold V
  after_reads_simp
  rfl

/-- The down-projection's weights, their words shortened. -/
theorem V_down : V m c main_v2 = (truncf .bf16 (m ((c.tc : Thread nD τ).loc main_arg4) : FVec Ideal S3072x1024 .f32) bitsLt_bf16_f32 : FVec Ideal S3072x1024 .bf16) := by
  unfold V
  after_reads_simp

/-- The layer norm's scale, as a row. -/
theorem V_scale : V m c main_v3 = shapeCast S1x1024 (m ((c.tc : Thread nD τ).loc main_arg5) : FVec Ideal S1024 .f32) shapeCasts_S1024_S1x1024 := by
  unfold V
  after_reads_simp
  rfl

/-- The layer norm's shift, as a row. -/
theorem V_shift : V m c main_v4 = shapeCast S1x1024 (m ((c.tc : Thread nD τ).loc main_arg6) : FVec Ideal S1024 .f32) shapeCasts_S1024_S1x1024 := by
  unfold V
  after_reads_simp
  rfl

end Cert.FfnSampleIdeal.Hand

end
-- ==== Proof.FfnSampleValue.lean ====
/- The feed-forward on the sample batch: the kernel's two results are the layer norm of every row and the up-projected first
   half. -/
module

public import proofs.«01_k».proof.Proof.FfnSampleCarry
public import Idealize.ShloMosaic.Lib.Pipeline.ReadBack

@[expose] public section

set_option maxRecDepth 16384

noncomputable section

namespace Cert.FfnSampleIdeal.Hand

open Idealize.ShloMosaic Idealize.ShloMosaic.TcCoe Idealize.SL.Sem Cert.Rows
open Idealize.ShloMosaic.Pipeline (Dat)
open Cert.FfnSampleIdeal Cert.FfnSampleIdeal.Gen
open Cert.FfnSampleRefIdeal.Hand (ucol)

variable (m : (ℓ : Loc nD τ sig) → Buf (Elt Ideal) ℓ)

/-- At the one point every window stands on its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] :=
  (by decide +kernel : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0])

set_option maxHeartbeats 2000000 in
/-- The blocks, entry by entry, as entries of the arguments. -/
theorem blocks (c : Dev nD) (t : Fin cfg0.N) :
    (∀ (r : Fin 256) (k : Fin 1024), (iblk m c 0 t (ix2 r k) : EReal) = m ((c : Thread nD τ).loc main_arg0) (ix2 r k))
    ∧ (∀ (k : Fin 1024) (d : Fin 6144), (iblk m c 1 t (ix2 k d) : EReal) = m ((c : Thread nD τ).loc main_arg1) (ix2 k d))
    ∧ (∀ (k : Fin 3) (d : Fin 3072), (iblk m c 2 t (ix2 k d) : EReal) = m ((c : Thread nD τ).loc main_arg2) (ix2 k d))
    ∧ (∀ d : Fin 3072, (iblk m c 3 t (ix2 0 d) : EReal) = m ((c : Thread nD τ).loc main_arg3) (ix1 d))
    ∧ (∀ (d : Fin 3072) (k : Fin 1024), (iblk m c 4 t (ix2 d k) : EReal) = m ((c : Thread nD τ).loc main_arg4) (ix2 d k))
    ∧ (∀ l : Fin 1024, (iblk m c 5 t (ix2 0 l) : EReal) = m ((c : Thread nD τ).loc main_arg5) (ix1 l))
    ∧ (∀ l : Fin 1024, (iblk m c 6 t (ix2 0 l) : EReal) = m ((c : Thread nD τ).loc main_arg6) (ix1 l)) := by
  refine ⟨fun r k => ?_, fun k d => ?_, fun k d => ?_, fun d => ?_, fun d k => ?_, fun l => ?_, fun l => ?_⟩
  · refine Eq.trans (?_ : _ = (V m c main_arg0 (ix2 r k) : EReal)) ?_
    · generalize hw : V m c main_arg0 = w
      blk_point [iblk, hw, idx t]
    · exact congrFun (V_args m c).1 _
  · refine Eq.trans (?_ : _ = (V m c main_v0 (ix2 k d) : EReal)) ?_
    · generalize hw : V m c main_v0 = w
      blk_point [iblk, hw, idx t]
    · rw [V_up]
      pointwise
  · refine Eq.trans (?_ : _ = (V m c main_arg2 (ix2 k d) : EReal)) ?_
    · generalize hw : V m c main_arg2 = w
      blk_point [iblk, hw, idx t]
    · exact congrFun (V_args m c).2 _
  · refine Eq.trans (?_ : _ = (V m c main_v1 (ix2 0 d) : EReal)) ?_
    · generalize hw : V m c main_v1 = w
      blk_point [iblk, hw, idx t]
    · rw [V_bias]
      pointwise
  · refine Eq.trans (?_ : _ = (V m c main_v2 (ix2 d k) : EReal)) ?_
    · generalize hw : V m c main_v2 = w
      blk_point [iblk, hw, idx t]
    · rw [V_down]
      pointwise
  · refine Eq.trans (?_ : _ = (V m c main_v3 (ix2 0 l) : EReal)) ?_
    · generalize hw : V m c main_v3 = w
      blk_point [iblk, hw, idx t]
    · rw [V_scale]
      pointwise
  · refine Eq.trans (?_ : _ = (V m c main_v4 (ix2 0 l) : EReal)) ?_
    · generalize hw : V m c main_v4 = w
      blk_point [iblk, hw, idx t]
    · rw [V_shift]
      pointwise

/-- The blocks of the last two operands read the whole array. -/
theorem whole_read (t : Fin cfg0.N) (X : FVec Ideal S256x3072 .f32) (r : Fin 256) (d : Fin 3072) :
    (((cfg0.win 7).blk t).view.read (Elt Ideal) X (ix2 r d) : EReal) = X (ix2 r d)
    ∧ (((cfg0.win 8).blk t).view.read (Elt Ideal) X (ix2 r d) : EReal) = X (ix2 r d) := by
  constructor <;> blk_point [idx t]

/-- The stand-ins' blocks, entry by entry. -/
theorem stands (c : Dev nD) (t : Fin cfg0.N) :
    (∀ (r : Fin 256) (d : Fin 3072), (iblk m c 7 t (ix2 r d) : EReal) = back2 (m ((c : Thread nD τ).loc main_arg7)) (ix2 r d))
    ∧ (∀ (r : Fin 256) (d : Fin 3072), (iblk m c 8 t (ix2 r d) : EReal) = back1 (m ((c : Thread nD τ).loc main_arg7)) (ix2 r d)) :=
  ⟨fun r d => (whole_read t (V m c main_v14) r d).1.trans (congrFun (V_back2 m c) _),
    fun r d => (whole_read t (V m c main_v19) r d).2.trans (congrFun (V_back1 m c) _)⟩

/-- Column `d` of the up-projected batch, from the arguments. -/
def U (c : Dev nD) (d : Fin 6144) (R : Fin 256) : EReal :=
  ucol (m ((c : Thread nD τ).loc main_arg0)) (m ((c : Thread nD τ).loc main_arg1)) d R

/-- The first result at row `R`, column `l`: the layer norm of the row, from the argument arrays. -/
def out (c : Dev nD) (R : Fin 256) (l : Fin 1024) : EReal :=
  layerNorm (Cert.FfnSampleRefIdeal.Hand.pre (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg7)) R) (m ((c : Thread nD τ).loc main_arg5) (ix1 l)) (m ((c : Thread nD τ).loc main_arg6) (ix1 l)) l

/-- What the body's row comes to over the blocks is the reference's. -/
theorem row_out (c : Dev nD) (t : Fin cfg0.N) (r : Fin 256) (l : Fin 1024) :
    layerNorm (resid (fun k => iblk m c 0 t (ix2 r k))
        (fun d => gelu (taps (iblk m c 3 t (ix2 0 d)) (fun k => iblk m c 2 t (ix2 k d))
            (behind 2 (fun r => upCol (fun k => iblk m c 0 t (ix2 r k)) (fun k d => iblk m c 1 t (ix2 k d)) ⟨d.val, by omega⟩)
              (fun r => iblk m c 7 t (ix2 r d)) r)
            (behind 1 (fun r => upCol (fun k => iblk m c 0 t (ix2 r k)) (fun k d => iblk m c 1 t (ix2 k d)) ⟨d.val, by omega⟩)
              (fun r => iblk m c 8 t (ix2 r d)) r)
            (upCol (fun k => iblk m c 0 t (ix2 r k)) (fun k d => iblk m c 1 t (ix2 k d)) ⟨d.val, by omega⟩))
          * upCol (fun k => iblk m c 0 t (ix2 r k)) (fun k d => iblk m c 1 t (ix2 k d)) ⟨3072 + d.val, by omega⟩)
        (fun d k => iblk m c 4 t (ix2 d k))) (iblk m c 5 t (ix2 0 l)) (iblk m c 6 t (ix2 0 l)) l = out m c r l := by
  obtain ⟨B0, B1, B2, B3, B4, B5, B6⟩ := blocks m c t
  obtain ⟨B7, B8⟩ := stands m c t
  have eu : ∀ (d : Fin 6144) (r : Fin 256), upCol (fun k => iblk m c 0 t (ix2 r k)) (fun k d => iblk m c 1 t (ix2 k d)) d
      = U m c d r := fun d r => by
    unfold U ucol upCol
    exact Finset.sum_congr rfl fun k _ => by simp only [B0, B1]
  refine layerNorm_congr (fun k => resid_congr (fun k => B0 r k) (fun d => ?_) (fun d k => B4 d k) k) (B5 l) (B6 l) l
  simp only [eu, B2, B3, B7, B8]
  rw [behind_two, behind_one]
  rfl

/-- The first output's block. -/
theorem out_at (c : Dev nD) (t : Fin cfg0.N) (r : Fin 256) (l : Fin 1024) : (outsAt0 m c t).1 (ix2 r l) = out m c r l := by
  refine Eq.trans ?_ (row_out m c t r l)
  unfold outsAt0
  frame_out
  refine body_at (iblk m c 0 t) (iblk m c 2 t) (iblk m c 3 t) (iblk m c 5 t) (iblk m c 6 t) _ _ _ _ _ _ _ _ _ _ _ _ _ _ _
    (fun k d => iblk m c 1 t (ix2 k d)) (fun d k => iblk m c 4 t (ix2 d k)) (fun d r => iblk m c 7 t (ix2 r d)) (fun d r => iblk m c 8 t (ix2 r d))
    ?_ ?_ ?_ ?_ ?_ ?_ ?_ ?_ ?_ ?_ ?_ ?_ ?_ ?_ ?_ r l
  all_goals intros
  all_goals pointwise
  all_goals exact congrArg (fun j => iblk m c 1 t (ix2 _ j)) (Fin.ext (by simp only; omega))

/-- The whole first output. -/
def outArr (c : Dev nD) : FVec Ideal S256x1024 .f32 := fun i => out m c (i 0) (i 1)

/-- The first output array after the run. -/
theorem final9 (c : Dev nD) : (dats m 0 c).arrAt 9 cfg0.N = outArr m c := by
  refine (dats m 0 c).arrAt_eq_of_covers 9 (outArr m c) (by decide +kernel) fun t _ y => ?_
  blk_simp
  rw [after0_9]
  idx_vars y
  refine (out_at m c t y0 y1).trans ?_
  refine (?_ : outArr m c (ix2 y0 y1) = _)
  blk_ext [idx t]

/-- The whole second output: the up-projected first half. -/
def halfArr (c : Dev nD) : FVec Ideal S256x3072 .f32 :=
  fun i => U m c ⟨(i 1).val, by have : (i 1).val < 3072 := (i 1).isLt; omega⟩ (i 0)

/-- A column block of the body's product is the up-projection's columns. -/
theorem up_at (c : Dev nD) (t : Fin cfg0.N) (w : FVec Ideal S1024x1024 .bf16) (o : ℕ) (ho : o + 1024 ≤ 3072)
    (hw : ∀ k l : Fin 1024, w (ix2 k l) = iblk m c 1 t (ix2 k (⟨o + l.val, by omega⟩ : Fin 6144)))
    (x : S256x1024.Idx) (y : S256x3072.Idx) (h0 : (y 0).val = (x 0).val) (h1 : (y 1).val = o + (x 1).val) :
    k0_pay12 (F := Ideal) (k0_pay2 (iblk m c 0 t)) w x = halfArr m c y := by
  idx_vars x
  rw [pay12_at]
  unfold halfArr U ucol upCol
  have hx : x1.val < 1024 := x1.isLt
  have e0 : y 0 = x0 := Fin.ext h0
  have e1 : (⟨o + x1.val, by omega⟩ : Fin 6144) = ⟨(y 1).val, by have : (y 1).val < 3072 := (y 1).isLt; omega⟩ := Fin.ext h1.symm
  rw [e0, ← e1]
  exact Finset.sum_congr rfl fun k _ => by rw [hw, (blocks m c t).1, (blocks m c t).2.1]

/-- The second output's block. -/
theorem half_at (c : Dev nD) (t : Fin cfg0.N) : (outsAt0 m c t).2 = halfArr m c := by
  funext y
  unfold outsAt0
  frame_out
  canon_tiles x h
  · rw [(same _ _).2.2.2.1]
    exact up_at m c t _ 2048 (by omega) (fun k l => by pointwise) x y h0 h1
  · exact up_at m c t _ 1024 (by omega) (fun k l => by pointwise) x y h0 h1
  · rw [(same _ _).1]
    exact up_at m c t _ 0 (by omega) (fun k l => by pointwise) x y h0 (by omega)

/-- The second output array after the run. -/
theorem final10 (c : Dev nD) : (dats m 0 c).arrAt 10 cfg0.N = halfArr m c := by
  refine (dats m 0 c).arrAt_eq_of_covers 10 (halfArr m c) (by decide +kernel) fun t _ y => ?_
  blk_simp
  rw [after0_10, half_at]
  idx_vars y
  refine (?_ : halfArr m c (ix2 y0 y1) = _)
  blk_ext [idx t]

end Cert.FfnSampleIdeal.Hand

end
-- ==== Proof.FfnSampleClaims.lean ====
/- The feed-forward on the sample batch: the two claims that speak of the reference. -/
module

public import proofs.«01_k».proof.Defs
public import proofs.«01_k».proof.Proof.Gen.FfnSampleIdeal.Frame
public import proofs.«01_k».proof.Proof.Gen.FfnSampleRefIdeal.Run
public import proofs.«01_k».proof.Proof.FfnSampleValue
public import Idealize.ShloMosaic.Lib.Claim

@[expose] public section

set_option maxRecDepth 16384

noncomputable section

namespace Cert.FfnSampleClaims

open Idealize.ShloMosaic Idealize.ShloMosaic.TcCoe Idealize.SL.Sem

/-- The reference runs, leaves its arguments as they were and leaves no semaphore raised. -/
theorem frame_ref : Cert.quiescent_FfnSampleRefIdeal := by
  intro m g _
  refine (θ_run Cert.FfnSampleRefIdeal.defs _ _).mono (fun r h => ⟨?_, sem_eq_zero_of_no_sems (by decide) r.2⟩)
    (Cert.FfnSampleRefIdeal.Value.run (F := Ideal) m g)
  exact fun c => (h c).2.2

/-- The kernel and the plain feed-forward leave equal arrays. -/
theorem algebraic : Cert.algebraic_FfnSampleIdeal_FfnSampleRefIdeal := by
  pair_intro
  · run_from Cert.FfnSampleIdeal.Gen.run_main m g
  · run_from Cert.FfnSampleRefIdeal.Value.run m' g'
    · refine (?_ : Cert.FfnSampleRefIdeal.Value.res_out0 (F := Ideal) m' c = _).trans (Cert.FfnSampleIdeal.Hand.final9 m c).symm
      funext i
      obtain ⟨R, l, rfl⟩ : ∃ (R : Fin 256) (l : Fin 1024), i = ix2 R l := ⟨i 0, i 1, eq_ix2 i⟩
      refine (Cert.FfnSampleRefIdeal.Hand.result_at m' c R l).trans ?_
      obtain ⟨a0, a1, a2, a3, a4, a5, a6, a7⟩ := hagree c
      rw [a0, a1, a2, a3, a4, a5, a6, a7]
      rfl
    · refine Eq.trans ?_ (Cert.FfnSampleIdeal.Hand.final10 m c).symm
      funext i
      obtain ⟨R, d, rfl⟩ : ∃ (R : Fin 256) (d : Fin 3072), i = ix2 R d := ⟨i 0, i 1, eq_ix2 i⟩
      exact Cert.FfnSampleRefIdeal.Hand.half_at _ _ R d

end Cert.FfnSampleClaims

end
-- ==== Proof.LruSampleBody.lean ====
/- The gated linear recurrence on the sample batch: what the kernel's body leaves at a grid point, as one expression of the blocks
   it is handed. -/
module

public import proofs.«01_k».proof.Proof.Gen.LruSampleIdeal.Frame
public import Idealize.ShloMosaic.Lib.Pointwise
public import Idealize.ShloMosaic.Lib.Pipeline.ValueKit
public import Idealize.ShloMosaic.Lib.Pipeline.ReadBack

@[expose] public section

set_option maxRecDepth 16384

noncomputable section

namespace Cert.LruSampleIdeal.Hand

open Idealize.ShloMosaic Idealize.ShloMosaic.TcCoe Idealize.SL.Sem
open Idealize.ShloMosaic.Pipeline (Dat)
open Cert.LruSampleIdeal Cert.LruSampleIdeal.Gen

/-- What was written to a scratch array of sixteen rows, the last first. -/
abbrev Written := List (View.Piece (Elt Ideal) S16x512 .f32)

/-- Eight rows written from row eight on. -/
def top (v : FVec Ideal S8x512 .f32) (L : Written) : Written := ⟨Rect.unit ![8, 0] ![8, 512] inb_S16x512_S8x512_8_0, v⟩ :: L

/-- Eight rows written from row zero on. -/
def low (v : FVec Ideal S8x512 .f32) : Written := [⟨Rect.unit ![0, 0] ![8, 512] inb_S16x512_S8x512_0_0, v⟩]

/-- Three rows written from row five on. -/
def lead (C : FVec Ideal S3x512 .f32) : Written := [⟨Rect.unit ![5, 0] ![3, 512] inb_S16x512_S3x512_5_0, C⟩]

/-- Eight rows read from row `o` on. -/
def seen (L : Written) (o : ℕ) (h : ∀ a, (![o, 0] : Fin 2 → ℕ) a + (![8, 512] : Fin 2 → ℕ) a ≤ S16x512.size a) : FVec Ideal S8x512 .f32 :=
  fun j => View.canon L ((Rect.unit (s := S16x512) ![o, 0] ![8, 512] h).toLoadRect.idx j)

/-- The filtered rows. -/
def filtered (x : FVec Ideal S1x8x512 .f32) (cw : FVec Ideal S4x512 .f32) (cb : FVec Ideal S1x512 .f32) (buf : FVec Ideal S1x3x512 .f32) :
    FVec Ideal S8x512 .f32 :=
  k0_pay8 (F := Ideal) x cw cb (seen (top (k0_pay7 x) (lead (k0_pay4 buf))) 5 inb_S16x512_S8x512_5_0)
    (seen (top (k0_pay7 x) (lead (k0_pay4 buf))) 6 inb_S16x512_S8x512_6_0) (seen (top (k0_pay7 x) (lead (k0_pay4 buf))) 7 inb_S16x512_S8x512_7_0)

/-- The decays of the filtered rows `f`. -/
def decays (f : FVec Ideal S8x512 .f32) (wa : FVec Ideal S512x512 .bf16) (ba lam : FVec Ideal S1x512 .f32) : FVec Ideal S8x512 .f32 :=
  k0_pay21 (F := Ideal) (k0_pay16 (k0_pay12 f wa ba) (k0_pay14 lam))

/-- The inputs of the filtered rows `f`, the state `H` entering the first. -/
def drives (f : FVec Ideal S8x512 .f32) (wa : FVec Ideal S512x512 .bf16) (ba : FVec Ideal S1x512 .f32) (wx : FVec Ideal S512x512 .bf16)
    (bx lam H : FVec Ideal S1x512 .f32) : FVec Ideal S8x512 .f32 :=
  k0_pay22 (F := Ideal) (k0_pay17 f (k0_pay12 f wa ba) (k0_pay13 f wx bx) (k0_pay14 lam) H)

variable (A U : FVec Ideal S8x512 .f32)

/-- The decays as first written, and the inputs. -/
def wA0 : Written := top A (low (k0_pay18 (F := Ideal)))
def wU0 : Written := top U (low (k0_pay20 (F := Ideal) k0_pay19))

/-- The same after the first doubling, -/
def wA1 : Written := top (k0_pay24 (F := Ideal) (seen (wA0 A) 8 inb_S16x512_S8x512_8_0) (seen (wA0 A) 7 inb_S16x512_S8x512_7_0)) (wA0 A)
def wU1 : Written := top (k0_pay23 (F := Ideal) (seen (wA0 A) 8 inb_S16x512_S8x512_8_0) (seen (wU0 U) 8 inb_S16x512_S8x512_8_0)
  (seen (wU0 U) 7 inb_S16x512_S8x512_7_0)) (wU0 U)

/-- the second, -/
def wA2 : Written := top (k0_pay27 (F := Ideal) (seen (wA1 A) 8 inb_S16x512_S8x512_8_0) (seen (wA1 A) 6 inb_S16x512_S8x512_6_0)) (wA1 A)
def wU2 : Written := top (k0_pay26 (F := Ideal) (k0_pay25 (seen (wA1 A) 8 inb_S16x512_S8x512_8_0) (seen (wU1 A U) 8 inb_S16x512_S8x512_8_0)
  (seen (wU1 A U) 6 inb_S16x512_S8x512_6_0))) (wU1 A U)

/-- and the third. -/
def wU3 : Written := top (k0_pay28 (F := Ideal) (seen (wA2 A) 8 inb_S16x512_S8x512_8_0) (seen (wU2 A U) 8 inb_S16x512_S8x512_8_0)
  (seen (wU2 A U) 4 inb_S16x512_S8x512_4_0)) (wU2 A U)

/-- The states after each of the eight rows. -/
def states : FVec Ideal S8x512 .f32 := seen (wU3 A U) 8 inb_S16x512_S8x512_8_0

variable (m : (ℓ : Loc nD τ sig) → Buf (Elt Ideal) ℓ) (c : Dev nD) (t : Fin cfg0.N)

/-- The filtered rows of point `t`. -/
def filteredOf : FVec Ideal S8x512 .f32 := filtered (iblk m c 0 t) (iblk m c 2 t) (iblk m c 3 t) (iblk m c 10 t)

/-- The states of point `t`. -/
def statesOf : FVec Ideal S8x512 .f32 :=
  states (decays (filteredOf m c t) (iblk m c 4 t) (iblk m c 5 t) (iblk m c 8 t))
    (drives (filteredOf m c t) (iblk m c 4 t) (iblk m c 5 t) (iblk m c 6 t) (iblk m c 7 t) (iblk m c 8 t) (k0_pay5 (F := Ideal) (iblk m c 9 t)))

set_option maxHeartbeats 8000000 in
/-- The second output's block at point `t`. -/
theorem out2 : (outsAt0 m c t).2.1 = k0_pay3 (F := Ideal) (statesOf m c t) := by
  unfold outsAt0
  frame_out
  simp only [View.readCov_eq_canon']
  rfl

set_option maxHeartbeats 8000000 in
/-- The first output's block at point `t`. -/
theorem out1 : (outsAt0 m c t).1 = k0_pay1 (F := Ideal) (statesOf m c t) (k0_pay30 (iblk m c 1 t)) (k0_pay31 (iblk m c 1 t)) k0_pay32 := by
  unfold outsAt0
  frame_out
  simp only [View.readCov_eq_canon']
  rfl

/-- The third output's block at point `t`. -/
theorem out3 : (outsAt0 m c t).2.2 = k0_pay9 (F := Ideal) (fun j => View.canon (top (k0_pay7 (F := Ideal) (iblk m c 0 t)) (lead (k0_pay4 (iblk m c 10 t))))
    ((Rect.unit (s := S16x512) ![9, 0] ![3, 512] inb_S16x512_S3x512_9_0).toLoadRect.idx j)) := by
  unfold outsAt0
  frame_out
  simp only [View.readCov_eq_canon']
  rfl

end Cert.LruSampleIdeal.Hand

end
-- ==== Proof.LruSampleEntries.lean ====
/- The gated linear recurrence on the sample batch, entry by entry: over blocks that hold a whole sequence of eight rows, what the
   kernel's body computes is the recurrence's states over that sequence. -/
module

public import proofs.«01_k».proof.Proof.LruSampleBody
public import proofs.«01_k».proof.Proof.LruEntries
public import Idealize.ShloMosaic.Lib.Pointwise

@[expose] public section

set_option maxRecDepth 16384

noncomputable section

namespace Cert.LruSampleIdeal.Hand

open Idealize.ShloMosaic Cert.Rows Cert.Lru.Rows Cert.Lru.Spec Cert
open Cert.LruSampleIdeal Cert.LruSampleIdeal.Gen
open Cert.LruIdeal.Hand (gate_sum)

/-! ## Rows written and read back -/

/-- A row inside the last write is that write's. -/
theorem canon_in (o n : ℕ) (h : ∀ a, (![o, 0] : Fin 2 → ℕ) a + (![n, 512] : Fin 2 → ℕ) a ≤ S16x512.size a)
    (w : (Rect.unit (s := S16x512) ![o, 0] ![n, 512] h).shape.Idx → EReal) (L : Written) (r : Fin 16) (k : Fin 512) (j : Fin n) (hj : r.val = o + j.val) :
    View.canon ((⟨Rect.unit ![o, 0] ![n, 512] h, w⟩ : View.Piece (Elt Ideal) S16x512 .f32) :: L) (ix2 r k) = w (ix2 j k) := by
  have e : (ix2 r k : S16x512.Idx) = (Rect.unit (s := S16x512) ![o, 0] ![n, 512] h).emb (ix2 j k) := by
    funext a
    match a with
    | ⟨0, _⟩ => exact Fin.ext (by show r.val = o + 1 * j.val; omega)
    | ⟨1, _⟩ => exact Fin.ext (by show k.val = 0 + 1 * k.val; omega)
  rw [e]
  exact View.canon_cons_emb (Val := Elt Ideal) (e := .f32) _ w L (ix2 j k)

/-- A row before the last write is that of the writes before. -/
theorem canon_before (o n : ℕ) (h : ∀ a, (![o, 0] : Fin 2 → ℕ) a + (![n, 512] : Fin 2 → ℕ) a ≤ S16x512.size a)
    (w : (Rect.unit (s := S16x512) ![o, 0] ![n, 512] h).shape.Idx → EReal) (L : Written) (r : Fin 16) (k : Fin 512) (hr : r.val < o) :
    View.canon ((⟨Rect.unit ![o, 0] ![n, 512] h, w⟩ : View.Piece (Elt Ideal) S16x512 .f32) :: L) (ix2 r k) = View.canon L (ix2 r k) := by
  refine View.canon_cons_of_not_mem (Val := Elt Ideal) (e := .f32) _ L fun hm => ?_
  have e : o ≤ r.val := ((Rect.mem_set_unit (s := S16x512) (off := ![o, 0]) (size := ![n, 512]) (inb := h)).1 hm 0).1
  omega

/-- Reading from row `o` on, row `r` read is row `o + r`. -/
theorem seen_at (L : Written) (o : ℕ) (h : ∀ a, (![o, 0] : Fin 2 → ℕ) a + (![8, 512] : Fin 2 → ℕ) a ≤ S16x512.size a) (r : Fin 8) (k : Fin 512)
    (q : Fin 16) (hq : q.val = o + r.val) : seen L o h (ix2 r k) = View.canon L (ix2 q k) := by
  unfold seen
  refine congrArg (View.canon L) ?_
  funext a
  match a with
  | ⟨0, _⟩ => exact Fin.ext (by show o + 1 * r.val = q.val; omega)
  | ⟨1, _⟩ => exact Fin.ext (by show 0 + 1 * k.val = k.val; omega)

/-- Rows zero to seven hold `e` everywhere. -/
def Below (e : EReal) (L : Written) : Prop := ∀ (q : Fin 16) (k : Fin 512), q.val < 8 → View.canon L (ix2 q k) = e

theorem below_low {e : EReal} {P : FVec Ideal S8x512 .f32} (h : ∀ r k, P (ix2 r k) = e) : Below e (low P) := fun q k hq =>
  (canon_in 0 8 inb_S16x512_S8x512_0_0 P [] q k ⟨q.val, hq⟩ (by show q.val = 0 + q.val; omega)).trans (h _ _)

theorem below_top {e : EReal} {L : Written} (v : FVec Ideal S8x512 .f32) (h : Below e L) : Below e (top v L) := fun q k hq =>
  (canon_before 8 8 inb_S16x512_S8x512_8_0 v L q k hq).trans (h q k hq)

/-- Reading `n` rows back from rows written over such rows gives the rows `n` before, `e` above. -/
theorem seen_back {e : EReal} {L : Written} (v : FVec Ideal S8x512 .f32) (hL : Below e L) (o n : ℕ) (hn : n + o = 8)
    (h : ∀ a, (![o, 0] : Fin 2 → ℕ) a + (![8, 512] : Fin 2 → ℕ) a ≤ S16x512.size a) (r : Fin 8) (k : Fin 512) :
    seen (top v L) o h (ix2 r k) = if hr : n ≤ r.val then v (ix2 ⟨r.val - n, by omega⟩ k) else e := by
  rw [seen_at (top v L) o h r k ⟨o + r.val, by omega⟩ rfl]
  by_cases hr : n ≤ r.val
  · rw [dif_pos hr]
    exact canon_in 8 8 inb_S16x512_S8x512_8_0 v L _ k ⟨r.val - n, by omega⟩ (by show o + r.val = 8 + (r.val - n); omega)
  · rw [dif_neg hr]
    exact below_top v hL _ k (by show o + r.val < 8; omega)

/-- Reading back the rows just written. -/
theorem seen_top (L : Written) (v : FVec Ideal S8x512 .f32) (r : Fin 8) (k : Fin 512) :
    seen (top v L) 8 inb_S16x512_S8x512_8_0 (ix2 r k) = v (ix2 r k) := by
  rw [seen_at (top v L) 8 _ r k ⟨8 + r.val, by omega⟩ rfl]
  exact canon_in 8 8 inb_S16x512_S8x512_8_0 v L _ k r rfl

/-- The filter's window: the three carried rows, then the block. -/
theorem window_at (v : FVec Ideal S8x512 .f32) (C : FVec Ideal S3x512 .f32) (q : Fin 16) (k : Fin 512) (h5 : 5 ≤ q.val) :
    View.canon (top v (lead C)) (ix2 q k) = if h : q.val < 8 then C (ix2 ⟨q.val - 5, by omega⟩ k) else v (ix2 ⟨q.val - 8, by omega⟩ k) := by
  by_cases h : q.val < 8
  · rw [dif_pos h]
    exact (canon_before 8 8 inb_S16x512_S8x512_8_0 v _ q k h).trans
      (canon_in 5 3 inb_S16x512_S3x512_5_0 C [] q k ⟨q.val - 5, by omega⟩ (by show q.val = 5 + (q.val - 5); omega))
  · rw [dif_neg h]
    exact canon_in 8 8 inb_S16x512_S8x512_8_0 v _ q k ⟨q.val - 8, by omega⟩ (by show q.val = 8 + (q.val - 8); omega)

/-! ## The parts of the body at an entry -/

/-- The block behind its leading unit axis. -/
theorem pay7_at (x : FVec Ideal S1x8x512 .f32) (r : Fin 8) (k : Fin 512) : k0_pay7 (F := Ideal) x (ix2 r k) = x (ix3 0 r k) := by
  pointwise [k0_pay7, k0_pay6]

theorem pay4_at (x : FVec Ideal S1x3x512 .f32) (r : Fin 3) (k : Fin 512) : k0_pay4 (F := Ideal) x (ix2 r k) = x (ix3 0 r k) := by
  pointwise [k0_pay4]

theorem pay5_at (x : FVec Ideal S1x1x512 .f32) (k : Fin 512) : k0_pay5 (F := Ideal) x (ix2 0 k) = x (ix3 0 0 k) := by
  pointwise [k0_pay5]

/-- The filter at an entry. -/
theorem pay8_at (x : FVec Ideal S1x8x512 .f32) (cw : FVec Ideal S4x512 .f32) (cb : FVec Ideal S1x512 .f32)
    (t0 t1 t2 : FVec Ideal S8x512 .f32) (r : Fin 8) (k : Fin 512) :
    k0_pay8 (F := Ideal) x cw cb t0 t1 t2 (ix2 r k)
      = taps4 (cb (ix2 0 k)) (fun i => cw (ix2 i k)) (t0 (ix2 r k)) (t1 (ix2 r k)) (t2 (ix2 r k)) (x (ix3 0 r k)) := by
  rw [← taps4_last]
  pointwise [k0_pay8, k0_pay6]

/-- A gate at an entry, the row's product with the weights not yet split. -/
theorem pay12_at (xc : FVec Ideal S8x512 .f32) (w : FVec Ideal S512x512 .bf16) (b : FVec Ideal S1x512 .f32) (r : Fin 8) (k : Fin 512) :
    k0_pay12 (F := Ideal) xc w b (ix2 r k) = sigm ((∑ j, xc (ix2 r j) * w (ix2 j k)) + b (ix2 0 k)) := by
  pointwise [k0_pay12, k0_pay11, sigm]
  rw [zero_sub]

/-- The other gate is formed alike. -/
theorem pay13_at (xc : FVec Ideal S8x512 .f32) (w : FVec Ideal S512x512 .bf16) (b : FVec Ideal S1x512 .f32) (r : Fin 8) (k : Fin 512) :
    k0_pay13 (F := Ideal) xc w b (ix2 r k) = sigm ((∑ j, xc (ix2 r j) * w (ix2 j k)) + b (ix2 0 k)) := by
  pointwise [k0_pay13, k0_pay11, sigm]
  rw [zero_sub]

/-- The logarithm of a decay at an entry. -/
theorem pay15_at (g : FVec Ideal S8x512 .f32) (lam : FVec Ideal S1x512 .f32) (r : Fin 8) (k : Fin 512) :
    k0_pay15 (F := Ideal) g (k0_pay14 lam) (ix2 r k) = logDecay (g (ix2 r k)) (lam (ix2 0 k)) := by
  pointwise [k0_pay15, k0_pay14, logDecay, soft]
  simp only [zero_sub]
  rfl

/-- A decay at an entry. -/
theorem pay16_at (g : FVec Ideal S8x512 .f32) (lam : FVec Ideal S1x512 .f32) (r : Fin 8) (k : Fin 512) :
    k0_pay16 (F := Ideal) g (k0_pay14 lam) (ix2 r k) = Ideal.exp (logDecay (g (ix2 r k)) (lam (ix2 0 k))) := by
  rw [← pay15_at]
  pointwise [k0_pay16]

/-- Only the first row takes what is carried in. -/
theorem sel0 (r : Fin 8) (a b : EReal) :
    Scalar.select (IntOp.cmpi CmpIPredicate.eq (BitVec.ofNat 32 r.val) 0#32) a b = if r.val = 0 then a else b := by
  have h : ∀ r : Fin 8, IntOp.cmpi CmpIPredicate.eq (BitVec.ofNat 32 r.val) 0#32 = if r.val = 0 then 1#1 else 0#1 := by decide +kernel
  rw [h]
  split <;> rfl

/-- An input at an entry. -/
theorem pay17_at (xc g i : FVec Ideal S8x512 .f32) (lam H : FVec Ideal S1x512 .f32) (r : Fin 8) (k : Fin 512) :
    k0_pay17 (F := Ideal) xc g i (k0_pay14 lam) H (ix2 r k)
      = amp (logDecay (g (ix2 r k)) (lam (ix2 0 k))) * i (ix2 r k) * xc (ix2 r k)
        + if r.val = 0 then Ideal.exp (logDecay (g (ix2 r k)) (lam (ix2 0 k))) * H (ix2 0 k) else 0 := by
  rw [← pay16_at, ← pay15_at, ← sel0]
  pointwise [k0_pay17, amp]

/-- The gated state at an entry. -/
theorem pay1_at (s : FVec Ideal S8x512 .f32) (g : FVec Ideal S1x8x512 .f32) (r : Fin 8) (k : Fin 512) :
    k0_pay1 (F := Ideal) s (k0_pay30 g) (k0_pay31 g) k0_pay32 (ix3 0 r k) = s (ix2 r k) * gelu (g (ix3 0 r k)) := by
  pointwise [k0_pay1, k0_pay30, k0_pay31, k0_pay32, gelu]

/-! ## The doublings -/

/-- The rows above the decays are ones, those above the inputs zeros. -/
theorem below_A (A : FVec Ideal S8x512 .f32) : Below 1 (low (k0_pay18 (F := Ideal))) := below_low fun r k => by pointwise [k0_pay18]

theorem below_U (U : FVec Ideal S8x512 .f32) : Below 0 (low (k0_pay20 (F := Ideal) k0_pay19)) :=
  below_low fun r k => by pointwise [k0_pay20, k0_pay19]

/-- Each of the eight rows holds the window of `n` rows that ends in it. -/
def Eight (a u : ℕ → EReal) (k : Fin 512) (n : ℕ) (A U : FVec Ideal S8x512 .f32) : Prop :=
  ∀ i : Fin 8, A (ix2 i k) = Scan.prod (Scan.pad 1 a) (i.val + 513 - n) n ∧ U (ix2 i k) = Scan.run (Scan.pad 1 a) (Scan.pad 0 u) (i.val + 513 - n) n 0

/-- A doubling takes windows of `n` rows to windows of `2 n`. -/
theorem eight_double {a u : ℕ → EReal} {k : Fin 512} {n : ℕ} (ha : ∀ i, 0 ≤ a i ∧ a i ≠ ⊤) (hn : n ≤ 256) {A U A' U' : FVec Ideal S8x512 .f32}
    (h : Eight a u k n A U)
    (hA : ∀ i : Fin 8, A' (ix2 i k) = A (ix2 i k) * if h : n ≤ i.val then A (ix2 ⟨i.val - n, by omega⟩ k) else 1)
    (hU : ∀ i : Fin 8, U' (ix2 i k) = A (ix2 i k) * (if h : n ≤ i.val then U (ix2 ⟨i.val - n, by omega⟩ k) else 0) + U (ix2 i k)) :
    Eight a u k (n + n) A' U' := fun i => by
  obtain ⟨w1, w2⟩ := Scan.windows_double (A := fun i => Scan.prod (Scan.pad 1 a) (i + 513 - n) n)
    (U := fun i => Scan.run (Scan.pad 1 a) (Scan.pad 0 u) (i + 513 - n) n 0) ha hn (fun _ _ => ⟨rfl, rfl⟩) i.val (by omega)
  rw [← w1, ← w2, hA, hU, (h i).1, (h i).2]
  by_cases hi : n ≤ i.val
  · simp only [dif_pos hi, if_pos hi, (h ⟨i.val - n, by omega⟩).1, (h ⟨i.val - n, by omega⟩).2, and_self]
  · simp only [dif_neg hi, if_neg hi, and_self]

/-- The sums and the products after each doubling. -/
theorem pay23_at (A U B : FVec Ideal S8x512 .f32) (i : Fin 8) (k : Fin 512) :
    k0_pay23 (F := Ideal) A U B (ix2 i k) = A (ix2 i k) * B (ix2 i k) + U (ix2 i k) := by pointwise [k0_pay23]

theorem pay24_at (A B : FVec Ideal S8x512 .f32) (i : Fin 8) (k : Fin 512) :
    k0_pay24 (F := Ideal) A B (ix2 i k) = A (ix2 i k) * B (ix2 i k) := by pointwise [k0_pay24]

theorem pay25_at (A U B : FVec Ideal S8x512 .f32) (i : Fin 8) (k : Fin 512) :
    k0_pay26 (F := Ideal) (k0_pay25 A U B) (ix2 i k) = A (ix2 i k) * B (ix2 i k) + U (ix2 i k) := by pointwise [k0_pay25, k0_pay26]

theorem pay27_at (A B : FVec Ideal S8x512 .f32) (i : Fin 8) (k : Fin 512) :
    k0_pay27 (F := Ideal) A B (ix2 i k) = A (ix2 i k) * B (ix2 i k) := by pointwise [k0_pay27]

theorem pay28_at (A U B : FVec Ideal S8x512 .f32) (i : Fin 8) (k : Fin 512) :
    k0_pay28 (F := Ideal) A U B (ix2 i k) = A (ix2 i k) * B (ix2 i k) + U (ix2 i k) := by pointwise [k0_pay28]

/-- Row `i` of the scan is the state after the first `i + 1` rows, from zero. -/
theorem states_at (A U : FVec Ideal S8x512 .f32) (a u : ℕ → EReal) (k : Fin 512) (ha : ∀ i, 0 ≤ a i ∧ a i ≠ ⊤)
    (hA : ∀ i : Fin 8, A (ix2 i k) = a i.val) (hU : ∀ i : Fin 8, U (ix2 i k) = u i.val) (i : Fin 8) :
    states A U (ix2 i k) = Scan.run a u 0 (i.val + 1) 0 := by
  have w1 : Eight a u k 1 A U := fun i => by
    rw [hA, hU]
    exact Scan.windows_one a u i.val (by omega)
  have bA0 := below_A A
  have bU0 := below_U U
  have w2 : Eight a u k 2 _ _ := eight_double ha (by decide) w1
    (A' := k0_pay24 (F := Ideal) (seen (wA0 A) 8 inb_S16x512_S8x512_8_0) (seen (wA0 A) 7 inb_S16x512_S8x512_7_0))
    (U' := k0_pay23 (F := Ideal) (seen (wA0 A) 8 inb_S16x512_S8x512_8_0) (seen (wU0 U) 8 inb_S16x512_S8x512_8_0) (seen (wU0 U) 7 inb_S16x512_S8x512_7_0))
    (fun i => by rw [pay24_at]; unfold wA0; rw [seen_top, seen_back A bA0 7 1 rfl])
    (fun i => by rw [pay23_at]; unfold wA0 wU0; rw [seen_top, seen_top, seen_back U bU0 7 1 rfl])
  have bA1 : Below 1 (wA0 A) := below_top _ bA0
  have bU1 : Below 0 (wU0 U) := below_top _ bU0
  have w4 : Eight a u k 4 _ _ := eight_double ha (by decide) w2
    (A' := k0_pay27 (F := Ideal) (seen (wA1 A) 8 inb_S16x512_S8x512_8_0) (seen (wA1 A) 6 inb_S16x512_S8x512_6_0))
    (U' := k0_pay26 (F := Ideal) (k0_pay25 (seen (wA1 A) 8 inb_S16x512_S8x512_8_0) (seen (wU1 A U) 8 inb_S16x512_S8x512_8_0)
      (seen (wU1 A U) 6 inb_S16x512_S8x512_6_0)))
    (fun i => by rw [pay27_at]; unfold wA1; rw [seen_top, seen_back _ bA1 6 2 rfl])
    (fun i => by rw [pay25_at]; unfold wA1 wU1; rw [seen_top, seen_top, seen_back _ bU1 6 2 rfl])
  have bA2 : Below 1 (wA1 A) := below_top _ bA1
  have bU2 : Below 0 (wU1 A U) := below_top _ bU1
  have w8 : Eight a u k 8 (k0_pay29 (F := Ideal) (seen (wA2 A) 8 inb_S16x512_S8x512_8_0) (seen (wA2 A) 4 inb_S16x512_S8x512_4_0)) _ := eight_double ha (by decide) w4
    (U' := k0_pay28 (F := Ideal) (seen (wA2 A) 8 inb_S16x512_S8x512_8_0) (seen (wU2 A U) 8 inb_S16x512_S8x512_8_0) (seen (wU2 A U) 4 inb_S16x512_S8x512_4_0))
    (fun i => by
      have e : ∀ A B : FVec Ideal S8x512 .f32, k0_pay29 (F := Ideal) A B (ix2 i k) = A (ix2 i k) * B (ix2 i k) := fun A B => by pointwise [k0_pay29]
      rw [e]; unfold wA2; rw [seen_top, seen_back _ bA2 4 4 rfl])
    (fun i => by rw [pay28_at]; unfold wA2 wU2; rw [seen_top, seen_top, seen_back _ bU2 4 4 rfl])
  unfold states wU3
  rw [seen_top, (w8 i).2]
  have s := Scan.run_split (Scan.pad 1 a) (Scan.pad 0 u) (i.val + 513 - 8) (7 - i.val) 0 (i.val + 1)
  rw [show 7 - i.val + (i.val + 1) = 8 by omega, Scan.run_idle 0 (7 - i.val) fun j hj => ⟨if_pos (by omega), if_pos (by omega)⟩] at s
  refine s.trans (Scan.run_congr _ _ fun j hj => ?_)
  unfold Scan.pad
  rw [if_neg (by omega), if_neg (by omega)]
  exact ⟨congrArg a (by omega), congrArg u (by omega)⟩

/-! ## The body over a sequence -/

/-- The blocks hold sequence `p`: its rows, the three rows before them, the state before them, and the layer's weights. -/
structure Whole (p : Args) (x : FVec Ideal S1x8x512 .f32) (cw : FVec Ideal S4x512 .f32) (cb : FVec Ideal S1x512 .f32)
    (wa : FVec Ideal S512x512 .bf16) (ba : FVec Ideal S1x512 .f32) (wx : FVec Ideal S512x512 .bf16) (bx lam : FVec Ideal S1x512 .f32)
    (H : FVec Ideal S1x1x512 .f32) (C : FVec Ideal S1x3x512 .f32) : Prop where
  x : ∀ (i : Fin 8) (k : Fin 512), x (ix3 0 i k) = stream p 0 (3 + i.val) k
  cw : ∀ (i : Fin 4) (k : Fin 512), cw (ix2 i k) = p.cw i k
  cb : ∀ k : Fin 512, cb (ix2 0 k) = p.cb k
  wa : ∀ j k : Fin 512, wa (ix2 j k)
    = if j.val / 64 = k.val / 64 then p.wa ⟨j.val / 64, by omega⟩ ⟨j.val % 64, by omega⟩ ⟨k.val % 64, by omega⟩ else 0
  ba : ∀ k : Fin 512, ba (ix2 0 k) = p.ba k
  wx : ∀ j k : Fin 512, wx (ix2 j k)
    = if j.val / 64 = k.val / 64 then p.wx ⟨j.val / 64, by omega⟩ ⟨j.val % 64, by omega⟩ ⟨k.val % 64, by omega⟩ else 0
  bx : ∀ k : Fin 512, bx (ix2 0 k) = p.bx k
  lam : ∀ k : Fin 512, lam (ix2 0 k) = p.lam k
  H : ∀ k : Fin 512, H (ix3 0 0 k) = p.h0 0 k
  C : ∀ (i : Fin 3) (k : Fin 512), C (ix3 0 i k) = stream p 0 i.val k

variable {p : Args} {x : FVec Ideal S1x8x512 .f32} {cw : FVec Ideal S4x512 .f32} {cb : FVec Ideal S1x512 .f32}
  {wa : FVec Ideal S512x512 .bf16} {ba : FVec Ideal S1x512 .f32} {wx : FVec Ideal S512x512 .bf16} {bx lam : FVec Ideal S1x512 .f32}
  {H : FVec Ideal S1x1x512 .f32} {C : FVec Ideal S1x3x512 .f32}

/-- The filter's window holds the stream. -/
theorem Whole.window (h : Whole p x cw cb wa ba wx bx lam H C) (q : Fin 16) (r : ℕ) (hq : q.val = 5 + r) (k : Fin 512) :
    View.canon (top (k0_pay7 (F := Ideal) x) (lead (k0_pay4 (F := Ideal) C))) (ix2 q k) = stream p 0 r k := by
  rw [window_at _ _ q k (by omega)]
  by_cases h8 : q.val < 8
  · rw [dif_pos h8, pay4_at, h.C]
    congr 1
    show q.val - 5 = r
    omega
  · rw [dif_neg h8, pay7_at, h.x]
    congr 1
    show 3 + (q.val - 8) = r
    omega

/-- The filtered block. -/
theorem Whole.conv (h : Whole p x cw cb wa ba wx bx lam H C) (i : Fin 8) (k : Fin 512) : filtered x cw cb C (ix2 i k) = row p 0 i.val k := by
  unfold filtered
  rw [pay8_at, seen_at _ 5 _ i k ⟨5 + i.val, by omega⟩ rfl, seen_at _ 6 _ i k ⟨6 + i.val, by omega⟩ rfl, seen_at _ 7 _ i k ⟨7 + i.val, by omega⟩ rfl,
    h.window _ i.val rfl, h.window _ (i.val + 1) (by show 6 + i.val = 5 + (i.val + 1); omega),
    h.window _ (i.val + 2) (by show 7 + i.val = 5 + (i.val + 2); omega), h.x, h.cb, Nat.add_comm 3]
  simp only [h.cw]
  rfl

/-- The two gates. -/
theorem Whole.gates (h : Whole p x cw cb wa ba wx bx lam H C) (i : Fin 8) (k : Fin 512) :
    k0_pay12 (F := Ideal) (filtered x cw cb C) wa ba (ix2 i k) = gate (row p 0 i.val) p.wa p.ba k
    ∧ k0_pay13 (F := Ideal) (filtered x cw cb C) wx bx (ix2 i k) = gate (row p 0 i.val) p.wx p.bx k := by
  rw [pay12_at, pay13_at, h.ba, h.bx]
  simp only [h.conv]
  rw [gate_sum _ p.wa wa h.wa, gate_sum _ p.wx wx h.wx]
  exact ⟨rfl, rfl⟩

/-- The decays. -/
theorem Whole.decay (h : Whole p x cw cb wa ba wx bx lam H C) (i : Fin 8) (k : Fin 512) :
    decays (filtered x cw cb C) wa ba lam (ix2 i k) = A p 0 k i.val := by
  have e : ∀ v : FVec Ideal S8x512 .f32, k0_pay21 (F := Ideal) v (ix2 i k) = v (ix2 i k) := fun v => by pointwise [k0_pay21]
  unfold decays
  rw [e, pay16_at, (h.gates i k).1, h.lam]
  rfl

/-- The inputs, the carried-in state entering the first row. -/
theorem Whole.drive (h : Whole p x cw cb wa ba wx bx lam H C) (i : Fin 8) (k : Fin 512) :
    drives (filtered x cw cb C) wa ba wx bx lam (k0_pay5 (F := Ideal) H) (ix2 i k)
      = U p 0 k i.val + if i.val = 0 then A p 0 k i.val * p.h0 0 k else 0 := by
  have e : ∀ v : FVec Ideal S8x512 .f32, k0_pay22 (F := Ideal) v (ix2 i k) = v (ix2 i k) := fun v => by pointwise [k0_pay22]
  unfold drives
  rw [e, pay17_at, (h.gates i k).1, (h.gates i k).2, h.lam, pay5_at, h.H, h.conv]
  rfl

/-- The states. -/
theorem Whole.states (h : Whole p x cw cb wa ba wx bx lam H C) (i : Fin 8) (k : Fin 512) :
    Hand.states (decays (filtered x cw cb C) wa ba lam) (drives (filtered x cw cb C) wa ba wx bx lam (k0_pay5 (F := Ideal) H)) (ix2 i k)
      = state p 0 (i.val + 1) k := by
  refine (states_at _ _ (A p 0 k) (fun j => U p 0 k j + if j = 0 then A p 0 k j * p.h0 0 k else 0) k (A_ok p 0 k) (fun i => h.decay i k)
    (fun i => h.drive i k) i).trans ?_
  refine Scan.run_enter (u := U p 0 k) (p.h0 0 k) (by rw [if_pos rfl]) (fun j hj => ?_) i.val
  rw [if_neg (by omega), add_zero]

end Cert.LruSampleIdeal.Hand

end
-- ==== Proof.LruSampleDiag.lean ====
/- The gated linear recurrence on the sample batch: the gates' weights and the other arrays as the kernel is handed them. -/
module

public import proofs.«01_k».proof.Proof.Gen.LruSampleIdeal.Frame
public import proofs.«01_k».proof.Proof.LruDiag

@[expose] public section

set_option maxRecDepth 16384

noncomputable section

namespace Cert.LruSampleIdeal.Hand

open Idealize.ShloMosaic Idealize.ShloMosaic.TcCoe Idealize.SL.Sem
open Cert.LruSampleIdeal Cert.LruSampleIdeal.Gen
open Cert.LruIdeal.Hand (square)

variable (m : (ℓ : Loc nD τ sig) → Buf (Elt Ideal) ℓ) (c : Dev nD)

/-- Argument `b` of the program. -/
abbrev arg (b : Ref sig .tc) := m ((c.tc : Thread nD τ).loc b)

set_option maxHeartbeats 8000000 in
/-- The decay gate's matrix is the diagonal of the fourth argument's blocks. -/
theorem V_wa : V m c main_v51 = square (arg m c main_arg3) := by
  unfold V
  after_reads_simp
  rfl

set_option maxHeartbeats 8000000 in
/-- The input gate's matrix is the diagonal of the sixth argument's blocks. -/
theorem V_wx : V m c main_v103 = square (arg m c main_arg5) := by
  unfold V
  after_reads_simp
  rfl

/-- The filter's bias, as a row. -/
theorem V_cb : V m c main_v0 = shapeCast S1x512 (arg m c main_arg2 : FVec Ideal S512 .f32) shapeCasts_S512_S1x512 := by
  unfold V
  after_reads_simp
  rfl

/-- The decay gate's bias, as a row. -/
theorem V_ba : V m c main_v52 = shapeCast S1x512 (arg m c main_arg4 : FVec Ideal S512 .f32) shapeCasts_S512_S1x512 := by
  unfold V
  after_reads_simp
  rfl

/-- The input gate's bias, as a row. -/
theorem V_bx : V m c main_v104 = shapeCast S1x512 (arg m c main_arg6 : FVec Ideal S512 .f32) shapeCasts_S512_S1x512 := by
  unfold V
  after_reads_simp
  rfl

/-- The rates, as a row. -/
theorem V_lam : V m c main_v105 = shapeCast S1x512 (arg m c main_arg7 : FVec Ideal S512 .f32) shapeCasts_S512_S1x512 := by
  unfold V
  after_reads_simp
  rfl

/-- The carried-over state, a row to a sequence. -/
theorem V_h0 : V m c main_v106 = shapeCast S32x1x512 (arg m c main_arg8 : FVec Ideal S32x512 .f32) shapeCasts_S32x512_S32x1x512 := by
  unfold V
  after_reads_simp
  rfl

end Cert.LruSampleIdeal.Hand

end
-- ==== Proof.LruSampleRef.lean ====
/- The gated linear recurrence on the sample batch: the reference's host arrays before its loop, entry by entry. -/
module

public import proofs.«01_k».proof.Proof.Gen.LruSampleRefIdeal.Run
public import proofs.«01_k».proof.Proof.LruSpec
public import Idealize.ShloMosaic.Lib.Pointwise

@[expose] public section

set_option maxRecDepth 16384

noncomputable section

namespace Cert.LruSampleRefIdeal.Hand

open Idealize.ShloMosaic Idealize.ShloMosaic.TcCoe Idealize.SL.Sem Idealize.ShloMosaic.StableHlo Cert.Rows Cert.Lru.Rows Cert.Lru.Spec
open Cert.LruSampleRefIdeal Cert.LruSampleRefIdeal.Gen

/-- A row along every sequence. -/
def along (v : FVec Ideal S512 .f32) : FVec Ideal S32x8x512 .f32 :=
  broadcastInDim S32x8x512 ![0, 1, 2] bcast_S1x1x512_S32x8x512_0_1_2 (broadcastInDim S1x1x512 ![2] bcast_S512_S1x1x512_2 v)

/-- A constant everywhere. -/
def every (w : BitVec 32) : FVec Ideal S32x8x512 .f32 := broadcastInDim S32x8x512 ![] bcast_S_S32x8x512 (constant S_ .f32 w)

/-- The carried-over rows and then the sequence. -/
def padded (h : FVec Ideal S32x8x7680 .f32) (buf : FVec Ideal S32x3x512 .f32) : FVec Ideal S32x11x512 .f32 :=
  concatenate S32x11x512 1 [⟨S32x3x512, buf⟩, ⟨S32x8x512, extractStridedSlice S32x8x512 ![0, 0, 3584] h
    slices_S32x8x7680_S32x8x512_0_0_3584⟩] concatenates_S32x3x512_S32x8x512_S32x11x512_d1

/-- The filtered rows as the reference forms them. -/
def conv (cw : FVec Ideal S4x512 .f32) (cb : FVec Ideal S512 .f32) (p : FVec Ideal S32x11x512 .f32) : FVec Ideal S32x8x512 .f32 :=
  addf (addf (addf (addf (along cb)
    (mulf (along (shapeCast _ (extractStridedSlice S1x512 ![0, 0] cw slices_S4x512_S1x512_0_0) shapeCasts_S1x512_S512))
      (extractStridedSlice S32x8x512 ![0, 0, 0] p slices_S32x11x512_S32x8x512_0_0_0)))
    (mulf (along (shapeCast _ (extractStridedSlice S1x512 ![1, 0] cw slices_S4x512_S1x512_1_0) shapeCasts_S1x512_S512))
      (extractStridedSlice S32x8x512 ![0, 1, 0] p slices_S32x11x512_S32x8x512_0_1_0)))
    (mulf (along (shapeCast _ (extractStridedSlice S1x512 ![2, 0] cw slices_S4x512_S1x512_2_0) shapeCasts_S1x512_S512))
      (extractStridedSlice S32x8x512 ![0, 2, 0] p slices_S32x11x512_S32x8x512_0_2_0)))
    (mulf (along (shapeCast _ (extractStridedSlice S1x512 ![3, 0] cw slices_S4x512_S1x512_3_0) shapeCasts_S1x512_S512))
      (extractStridedSlice S32x8x512 ![0, 3, 0] p slices_S32x11x512_S32x8x512_0_3_0))

/-- A gate's row times the blocks of its weights, as the reference forms it. -/
def mixed (w : FVec Ideal S8x64x64 .f32) (x : FVec Ideal S32x8x512 .f32) : FVec Ideal S32x8x512 .f32 :=
  shapeCast _ (transpose S32x8x8x64 [2, 3, 0, 1] (Host.dotGeneral dot_S8x64x64_S32x8x8x64_S8x64x32x8_1_3_2_01_0_2 none w
    (shapeCast _ x shapeCasts_S32x8x512_S32x8x8x64)) transposes_S8x64x32x8_S32x8x8x64_2_3_0_1) shapeCasts_S32x8x8x64_S32x8x512

/-- A gate as the reference forms it. -/
def gates (w : FVec Ideal S8x64x64 .f32) (b : FVec Ideal S512 .f32) (x : FVec Ideal S32x8x512 .f32) : FVec Ideal S32x8x512 .f32 :=
  Host.divf (every 0x3F800000#32) (addf (every 0x3F800000#32) (Host.exp (Host.negf (addf (mixed w x) (along b)))))

/-- The softened maximum with zero as the reference forms it. -/
def softs (z : FVec Ideal S512 .f32) : FVec Ideal S512 .f32 :=
  select (cmpf .une (subf z (broadcastInDim S512 ![] bcast_S_S512 (constant S_ .f32 0x00000000#32))) (subf z (broadcastInDim S512 ![] bcast_S_S512 (constant S_ .f32 0x00000000#32))))
    (addf z (broadcastInDim S512 ![] bcast_S_S512 (constant S_ .f32 0x00000000#32)))
    (addf (maximumf z (broadcastInDim S512 ![] bcast_S_S512 (constant S_ .f32 0x00000000#32)))
      (Host.log1p (Host.exp (Host.negf (Host.absf (subf z (broadcastInDim S512 ![] bcast_S_S512 (constant S_ .f32 0x00000000#32))))))))

/-- The logarithms of the decays as the reference forms them. -/
def logs (r : FVec Ideal S32x8x512 .f32) (lam : FVec Ideal S512 .f32) : FVec Ideal S32x8x512 .f32 :=
  mulf (mulf (every 0xC1000000#32) r) (along (softs (Host.negf lam)))

/-- The inputs as the reference forms them. -/
def drives (l ig x : FVec Ideal S32x8x512 .f32) : FVec Ideal S32x8x512 .f32 :=
  mulf (mulf (Host.sqrt (maximumf (Host.negf (Host.expm1 (mulf (every 0x40000000#32) l))) (every 0x2B8CBCCC#32))) ig) x

/-- A sequence's rows with time first. -/
def timeFirst (v : FVec Ideal S32x8x512 .f32) : FVec Ideal S8x32x512 .f32 :=
  transpose S8x32x512 [1, 0, 2] v transposes_S32x8x512_S8x32x512_1_0_2

/-- The arrays sequence `b` is computed from, as one record: the sequence's eight rows repeat in the record's longer one. -/
def argsOf (h : FVec Ideal S32x8x7680 .f32) (cw : FVec Ideal S4x512 .f32) (cb : FVec Ideal S512 .f32) (wa : FVec Ideal S8x64x64 .f32)
    (ba : FVec Ideal S512 .f32) (wx : FVec Ideal S8x64x64 .f32) (bx lam : FVec Ideal S512 .f32) (h0 : FVec Ideal S32x512 .f32)
    (buf : FVec Ideal S32x3x512 .f32) (b : Fin 32) : Args where
  h _ t k := h (ix3 b ⟨t.val % 8, Nat.mod_lt _ (by decide)⟩ k)
  cw i k := cw (ix2 i k)
  cb k := cb (ix1 k)
  wa n d e := wa (ix3 n d e)
  ba k := ba (ix1 k)
  wx n d e := wx (ix3 n d e)
  bx k := bx (ix1 k)
  lam k := lam (ix1 k)
  h0 _ k := h0 (ix2 b k)
  buf _ i k := buf (ix3 b i k)

/-- The padded rows at an entry. -/
theorem padded_at (h : FVec Ideal S32x8x7680 .f32) (buf : FVec Ideal S32x3x512 .f32) (b : Fin 32) (s : Fin 11) (k : Fin 512) :
    padded h buf (ix3 b s k) = if hs : s.val < 3 then buf (ix3 b ⟨s.val, hs⟩ k)
      else h (ix3 b ⟨s.val - 3, by omega⟩ ⟨3584 + k.val, by omega⟩) := by
  pointwise [padded]

/-- The filter at an entry, over the padded rows. -/
theorem conv_at (cw : FVec Ideal S4x512 .f32) (cb : FVec Ideal S512 .f32) (p : FVec Ideal S32x11x512 .f32) (b : Fin 32) (t : Fin 8) (k : Fin 512) :
    conv cw cb p (ix3 b t k) = taps4 (cb (ix1 k)) (fun i => cw (ix2 i k)) (p (ix3 b ⟨t.val, by omega⟩ k)) (p (ix3 b ⟨t.val + 1, by omega⟩ k))
      (p (ix3 b ⟨t.val + 2, by omega⟩ k)) (p (ix3 b ⟨t.val + 3, by omega⟩ k)) := by
  pointwise [conv, along, taps4]
  simp only [Nat.add_comm]

/-- A gate's product at an entry: the row's block of 64 entries times the block's weights. -/
theorem mixed_at (w : FVec Ideal S8x64x64 .f32) (x : FVec Ideal S32x8x512 .f32) (b : Fin 32) (t : Fin 8) (k : Fin 512) :
    mixed w x (ix3 b t k) = ∑ d : Fin 64, x (ix3 b t ⟨64 * (k.val / 64) + d.val, by omega⟩) * w (ix3 ⟨k.val / 64, by omega⟩ d ⟨k.val % 64, by omega⟩) := by
  pointwise [mixed]
  refine Finset.sum_congr rfl fun d _ => (mul_comm _ _).trans ?_
  simp only [Nat.mul_comm]

/-- A gate at an entry. -/
theorem gates_at (w : FVec Ideal S8x64x64 .f32) (v : FVec Ideal S512 .f32) (x : FVec Ideal S32x8x512 .f32) (b : Fin 32) (t : Fin 8) (k : Fin 512) :
    gates w v x (ix3 b t k) = gate (fun k => x (ix3 b t k)) (fun n d e => w (ix3 n d e)) (fun k => v (ix1 k)) k := by
  pointwise [gates, every, along, mixed_at, gate, sigm]

/-- The softened maximum at an entry. -/
theorem softs_at (z : FVec Ideal S512 .f32) (k : Fin 512) : softs z (ix1 k) = soft (z (ix1 k)) := by
  pointwise [softs, soft]
  rw [if_neg fun h => h rfl]
  rfl

/-- The logarithm of a decay at an entry. -/
theorem logs_at (r : FVec Ideal S32x8x512 .f32) (lam : FVec Ideal S512 .f32) (b : Fin 32) (t : Fin 8) (k : Fin 512) :
    logs r lam (ix3 b t k) = logDecay (r (ix3 b t k)) (lam (ix1 k)) := by
  pointwise [logs, every, along, softs_at, logDecay]

/-- An input at an entry. -/
theorem drives_at (l ig x : FVec Ideal S32x8x512 .f32) (b : Fin 32) (t : Fin 8) (k : Fin 512) :
    drives l ig x (ix3 b t k) = amp (l (ix3 b t k)) * ig (ix3 b t k) * x (ix3 b t k) := by
  pointwise [drives, every, amp]
  rw [neg_expm1]

/-- Rows with time first, at an entry. -/
theorem timeFirst_at (v : FVec Ideal S32x8x512 .f32) (b : Fin 32) (t : Fin 8) (k : Fin 512) : timeFirst v (ix3 t b k) = v (ix3 b t k) := by
  pointwise [timeFirst]

variable (m : (ℓ : Loc nD τ sig) → Buf (Elt Ideal) ℓ) (c : Dev nD)

/-- Argument `b` of the program. -/
abbrev arg (b : Ref sig .tc) := m ((c.tc : Thread nD τ).loc b)

/-- The filtered rows of the arguments. -/
abbrev rows : FVec Ideal S32x8x512 .f32 := conv (arg m c main_arg1) (arg m c main_arg2) (padded (arg m c main_arg0) (arg m c main_arg9))

/-- The logarithms of the decays of the arguments. -/
abbrev rates : FVec Ideal S32x8x512 .f32 := logs (gates (arg m c main_arg3) (arg m c main_arg4) (rows m c)) (arg m c main_arg7)

set_option maxHeartbeats 8000000 in
/-- The decays at the loop's entry. -/
theorem entry_a : entryContents Value.preI m c (Proc.devRef .tc main_v79_0) = timeFirst (Host.exp (rates m c)) := by
  simp only [entryContents, afterL_cons, afterL_nil]
  after_reads_simp
  rfl

set_option maxHeartbeats 8000000 in
/-- The inputs at the loop's entry. -/
theorem entry_u : entryContents Value.preI m c (Proc.devRef .tc main_v79_1)
    = timeFirst (drives (rates m c) (gates (arg m c main_arg5) (arg m c main_arg6) (rows m c)) (rows m c)) := by
  simp only [entryContents, afterL_cons, afterL_nil]
  after_reads_simp
  rfl

/-- The state at the loop's entry. -/
theorem entry_h : entryContents Value.preI m c (Proc.devRef .tc main_v79_3) = arg m c main_arg8 := by
  simp only [entryContents, afterL_cons, afterL_nil]
  after_reads_simp
  rfl

/-- The gate's columns at the loop's entry. -/
theorem entry_g : entryContents Value.preI m c (Proc.devRef .tc main_v1)
    = extractStridedSlice S32x8x512 ![0, 0, 4096] (arg m c main_arg0) slices_S32x8x7680_S32x8x512_0_0_4096 := by
  simp only [entryContents, afterL_cons, afterL_nil]
  after_reads_simp

/-- The rows carried on, at the loop's entry. -/
theorem entry_b : entryContents Value.preI m c (Proc.devRef .tc main_v33)
    = extractStridedSlice S32x3x512 ![0, 4, 0] (padded (arg m c main_arg0) (arg m c main_arg9)) slices_S32x11x512_S32x3x512_0_4_0 := by
  simp only [entryContents, afterL_cons, afterL_nil]
  after_reads_simp
  rfl

/-- The arrays of each sequence, from the launch contents. -/
abbrev args : Fin 32 → Args := argsOf (arg m c main_arg0) (arg m c main_arg1) (arg m c main_arg2) (arg m c main_arg3) (arg m c main_arg4)
  (arg m c main_arg5) (arg m c main_arg6) (arg m c main_arg7) (arg m c main_arg8) (arg m c main_arg9)

/-- The padded rows are the stream. -/
theorem padded_stream (b : Fin 32) (s : Fin 11) (k : Fin 512) :
    padded (arg m c main_arg0) (arg m c main_arg9) (ix3 b s k) = stream (args m c b) 0 s.val k := by
  rw [padded_at]
  unfold stream
  by_cases h : s.val < 3
  · rw [dif_pos h, if_pos h]
    show arg m c main_arg9 _ = arg m c main_arg9 _
    congr 2
    exact Fin.ext (Nat.mod_eq_of_lt h).symm
  · rw [dif_neg h, if_neg h]
    show arg m c main_arg0 _ = arg m c main_arg0 _
    congr 2
    exact Fin.ext (by show s.val - 3 = (s.val - 3) % 8192 % 8; omega)

/-- The filtered rows. -/
theorem rows_at (b : Fin 32) (t : Fin 8) (k : Fin 512) : rows m c (ix3 b t k) = row (args m c b) 0 t.val k := by
  rw [rows, conv_at]
  simp only [padded_stream]
  rfl

/-- The logarithms of the decays. -/
theorem rates_at (b : Fin 32) (t : Fin 8) (k : Fin 512) :
    rates m c (ix3 b t k) = logDecay (gate (row (args m c b) 0 t.val) (args m c b).wa (args m c b).ba k) ((args m c b).lam k) := by
  rw [rates, logs_at, gates_at]
  simp only [rows_at]
  rfl

/-- The decays at the loop's entry, entry by entry. -/
theorem entry_a_at (b : Fin 32) (t : Fin 8) (k : Fin 512) :
    timeFirst (Host.exp (rates m c)) (ix3 t b k) = A (args m c b) 0 k t.val := by
  rw [timeFirst_at]
  exact congrArg Ideal.exp (rates_at m c b t k)

/-- The inputs at the loop's entry, entry by entry. -/
theorem entry_u_at (b : Fin 32) (t : Fin 8) (k : Fin 512) :
    timeFirst (drives (rates m c) (gates (arg m c main_arg5) (arg m c main_arg6) (rows m c)) (rows m c)) (ix3 t b k)
      = U (args m c b) 0 k t.val := by
  rw [timeFirst_at, drives_at, rates_at, gates_at]
  simp only [rows_at]
  rfl

end Cert.LruSampleRefIdeal.Hand

end
-- ==== Proof.LruSampleLoop.lean ====
/- The gated linear recurrence on the sample batch: the reference's loop, its results, and its frame. -/
module

public import proofs.«01_k».proof.Proof.LruSampleRef
public import Idealize.ShloMosaic.Lib.WordCmp

@[expose] public section

set_option maxRecDepth 16384

noncomputable section

namespace Cert.LruSampleRefIdeal.Hand

open Idealize.ShloMosaic Idealize.ShloMosaic.TcCoe Idealize.SL.Sem Idealize.ShloMosaic.StableHlo Cert.Rows Cert.Lru.Rows Cert.Lru.Spec
open Cert.LruSampleRefIdeal Cert.LruSampleRefIdeal.Gen Cert.LruSampleRefIdeal.Value

/-- The loop's counter as a number. -/
theorem counter_val {k : ℕ} (h : k < 8) : (Scf.iv 0#32 1#32 k).toInt = (k : Int) := by
  rw [Scf.toInt_iv (lb := 0#32) (ub := 8#32) (st := 1#32) (by decide) (by
    have : Scf.trips 0#32 8#32 1#32 = 8 := by decide
    omega)]
  show (0 : Int) + k * 1 = k
  omega

/-- Where a trip's slices start. -/
abbrev starts (n : IVec S_ 32) (a : Fin 3) : Int := ((![n, constantI S_ 32 0#32, constantI S_ 32 0#32] : Fin 3 → IVec S_ 32) a (Shape.Idx.first h_S_)).toInt

/-- The starts, as numbers. -/
theorem starts_val {k : ℕ} (h : k < 8) (a : Fin 3) : starts (fun _ => Scf.iv 0#32 1#32 k) a = ((![k, 0, 0] : Fin 3 → ℕ) a : Int) := by
  fin_cases a
  · exact counter_val h
  · rfl
  · rfl

/-- The row a trip reads fits. -/
theorem fits {k : ℕ} (h : k < 8) : S8x32x512.Slices ![k, 0, 0] S1x32x512 :=
  ⟨rfl, fun a => by fin_cases a <;> simp <;> omega⟩

/-- One trip's new state, from the decays, the inputs, the counter and the state. -/
def next (a u : FVec Ideal S8x32x512 .f32) (n : IVec S_ 32) (h : FVec Ideal S32x512 .f32) : FVec Ideal S32x512 .f32 :=
  addf (mulf (shapeCast S32x512 (Host.dynamicSlice S1x32x512 a (starts n) sliceFits_S8x32x512_S1x32x512) shapeCasts_S1x32x512_S32x512) h)
    (shapeCast S32x512 (Host.dynamicSlice S1x32x512 u (starts n) sliceFits_S8x32x512_S1x32x512) shapeCasts_S1x32x512_S32x512)

/-- One trip's states with the new one written. -/
def write (hs : FVec Ideal S8x32x512 .f32) (v : FVec Ideal S32x512 .f32) (n : IVec S_ 32) : FVec Ideal S8x32x512 .f32 :=
  Host.dynamicUpdateSlice hs (broadcastInDim S1x32x512 ![1, 2] bcast_S32x512_S1x32x512_1_2 v) (starts n) updateFits_S8x32x512_S1x32x512

/-- The new state at an entry. -/
theorem next_at (a u : FVec Ideal S8x32x512 .f32) (h : FVec Ideal S32x512 .f32) {k : ℕ} (hk : k < 8) (b : Fin 32) (l : Fin 512) :
    next a u (fun _ => Scf.iv 0#32 1#32 k) h (ix2 b l) = a (ix3 ⟨k, hk⟩ b l) * h (ix2 b l) + u (ix3 ⟨k, hk⟩ b l) := by
  unfold next
  rw [WordCmp.dynamicSlice_eq_extract _ a _ _ _ (fits hk) (starts_val hk), WordCmp.dynamicSlice_eq_extract _ u _ _ _ (fits hk) (starts_val hk)]
  pointwise []

/-- The written states at an entry. -/
theorem write_at (hs : FVec Ideal S8x32x512 .f32) (v : FVec Ideal S32x512 .f32) {k : ℕ} (hk : k < 8) (t : Fin 8) (b : Fin 32) (l : Fin 512) :
    write hs v (fun _ => Scf.iv 0#32 1#32 k) (ix3 t b l) = if t.val = k then v (ix2 b l) else hs (ix3 t b l) := by
  unfold write
  rw [WordCmp.dynamicUpdateSlice_eq_update _ _ _ _ _ (fits hk) (starts_val hk)]
  pointwise []
  by_cases h : t.val = k
  · rw [dif_pos (by omega), if_pos h]
  · rw [dif_neg (by omega), if_neg h]

variable (m : (ℓ : Loc nD τ sig) → Buf (Elt Ideal) ℓ) (c : Dev nD)

/-- The decays stay through the loop. -/
theorem loop_a : ∀ k, atK m k c (Proc.devRef .tc main_v79_0) = timeFirst (Host.exp (rates m c))
  | 0 => entry_a m c
  | k + 1 => (trip_agree (atK m k c) main_v79_0 (by decide)).trans ((STEP_main_v79_0 _).trans (loop_a k))

/-- The inputs stay through the loop. -/
theorem loop_u : ∀ k, atK m k c (Proc.devRef .tc main_v79_1)
      = timeFirst (drives (rates m c) (gates (arg m c main_arg5) (arg m c main_arg6) (rows m c)) (rows m c))
  | 0 => entry_u m c
  | k + 1 => (trip_agree (atK m k c) main_v79_1 (by decide)).trans ((STEP_main_v79_1 _).trans (loop_u k))

/-- The state before trip `k` is the recurrence after `k` rows. -/
theorem loop_h (b : Fin 32) (l : Fin 512) : ∀ k, k ≤ 8 →
    (atK m k c (Proc.devRef .tc main_v79_3) : FVec Ideal S32x512 .f32) (ix2 b l) = state (args m c b) 0 k l
  | 0, _ => congrFun (entry_h m c) (ix2 b l)
  | k + 1, hk => by
    have e : (atK m (k + 1) c (Proc.devRef .tc main_v79_3) : FVec Ideal S32x512 .f32)
        = next (atK m k c (Proc.devRef .tc main_v79_0)) (atK m k c (Proc.devRef .tc main_v79_1)) (atK m k c (Proc.devRef .tc main_v79_2))
          (atK m k c (Proc.devRef .tc main_v79_3)) := (trip_agree (atK m k c) main_v79_3 (by decide)).trans (STEP_main_v79_3 _)
    rw [e, atK_ctr]
    refine (next_at _ _ _ (by omega : k < 8) b l).trans ((congrArg₂ (fun x y : EReal => x + y) (congrArg₂ (fun x y : EReal => x * y) ((congrFun (loop_a m c k) _).trans (entry_a_at m c b _ l))
      (loop_h b l k (by omega))) ((congrFun (loop_u m c k) _).trans (entry_u_at m c b _ l))).trans ?_)
    show _ = Scan.run _ _ 0 (k + 1) _
    unfold Scan.run
    rw [Nat.zero_add]
    rfl

/-- The states written before trip `k` are the recurrence's. -/
theorem loop_hs (b : Fin 32) (l : Fin 512) (t : Fin 8) : ∀ k, k ≤ 8 → t.val < k →
    (atK m k c (Proc.devRef .tc main_v79_4) : FVec Ideal S8x32x512 .f32) (ix3 t b l) = state (args m c b) 0 (t.val + 1) l
  | 0, _, h => absurd h (Nat.not_lt_zero _)
  | k + 1, hk, h => by
    have e : (atK m (k + 1) c (Proc.devRef .tc main_v79_4) : FVec Ideal S8x32x512 .f32)
        = write (atK m k c (Proc.devRef .tc main_v79_4)) (atK m (k + 1) c (Proc.devRef .tc main_v79_3)) (atK m k c (Proc.devRef .tc main_v79_2)) :=
      ((trip_agree (atK m k c) main_v79_4 (by decide)).trans (STEP_main_v79_4 _)).trans
        (congrArg (fun v => write (atK m k c (Proc.devRef .tc main_v79_4)) v (atK m k c (Proc.devRef .tc main_v79_2)))
          ((trip_agree (atK m k c) main_v79_3 (by decide)).trans (STEP_main_v79_3 _)).symm)
    rw [e, atK_ctr]
    refine (write_at _ _ (by omega : k < 8) t b l).trans ?_
    by_cases ht : t.val = k
    · rw [if_pos ht]
      exact (loop_h m c b l (k + 1) hk).trans (by rw [ht])
    · rw [if_neg ht]
      exact loop_hs b l t k (by omega) (by omega)

/-- What the loop's operations do not write keeps its contents. -/
theorem loop_keeps (r : Ref sig .tc) (hc : r ∉ condOps_W) (h0 : r ∉ while0Ops0_W) (h1 : r ∉ while0Ops0_1_W) (h2 : r ∉ while0Ops0_2_W)
    (h3 : r ∉ while0Ops0_3_W) (h4 : r ∉ while0Ops0_4_W) : ∀ k, atK m k c (Proc.devRef .tc r) = entryContents preI m c (Proc.devRef .tc r)
  | 0 => rfl
  | k + 1 => by
    refine Eq.trans ?_ (loop_keeps r hc h0 h1 h2 h3 h4 k)
    show afterL bodyI (after condOps (atK m k c)) _ = _
    simp only [afterL_cons, afterL_nil]
    rw [after_of_writes_sub _ _ while0Ops0_4_writes h4, after_of_writes_sub _ _ while0Ops0_3_writes h3, after_of_writes_sub _ _ while0Ops0_2_writes h2,
      after_of_writes_sub _ _ while0Ops0_1_writes h1, after_of_writes_sub _ _ while0Ops0_writes h0, after_of_writes_sub _ _ condOps_writes hc]

/-- What the operations after the loop write. -/
abbrev postW : List (Ref sig .tc) := [main_v80, main_v81, main_v82, main_cst_7, main_v83, main_v84, main_v85, main_cst_8, main_v86, main_v87,
  main_v88, main_cst_9, main_v89, main_v90, main_cst_10, main_v91, main_v92, main_v93, main_v94, main_v95]

/-- The operations after the loop write those references only. -/
theorem post_writes : (hostOps0_3 : List (HloOp τ sig (Elt Ideal))).Forall fun op => op.writes ⊆ (postW.map (Proc.devRef (τ := τ) .tc)).toFinset :=
  StableHlo.forall_writes_sub_of_map rfl

/-- A reference that the loop does not write. -/
abbrev LoopFree (r : Ref sig .tc) : Prop :=
  ∀ W ∈ [condOps_W, while0Ops0_W, while0Ops0_1_W, while0Ops0_2_W, while0Ops0_3_W, while0Ops0_4_W], r ∉ W

/-- A reference that the loop does not write holds, at the loop's end, what it held at its entry. -/
theorem loop_end {r : Ref sig .tc} (h : LoopFree r) :
    after condOps (atK m 8 c) (Proc.devRef .tc r) = entryContents preI m c (Proc.devRef .tc r) :=
  (after_of_writes_sub _ _ condOps_writes (h _ (by simp))).trans (loop_keeps m c r (h _ (by simp)) (h _ (by simp)) (h _ (by simp)) (h _ (by simp))
    (h _ (by simp)) (h _ (by simp)) 8)

/-- A reference that no operation writes ends with its launch contents. -/
theorem final_arg (r : Ref sig .tc) (h : LoopFree r) (hp : ∀ W ∈ [hostOps0_W, hostOps0_1_W, hostOps0_2_W, postW], r ∉ W) :
    finalContents condOps preI bodyI postI 8 m c (Proc.devRef .tc r) = m ((c.tc : Thread nD τ).loc r) := by
  show afterL postI (after condOps (atK m 8 c)) _ = _
  simp only [afterL_cons, afterL_nil]
  refine (after_of_writes_sub _ _ post_writes (hp _ (by simp))).trans ((loop_end m c h).trans ?_)
  simp only [entryContents, afterL_cons, afterL_nil]
  rw [after_of_writes_sub _ _ hostOps0_2_writes (hp _ (by simp)), after_of_writes_sub _ _ hostOps0_1_writes (hp _ (by simp)),
    after_of_writes_sub _ _ hostOps0_writes (hp _ (by simp))]

/-- The gate's factor as the reference forms it. -/
def gelus (g : FVec Ideal S32x8x512 .f32) : FVec Ideal S32x8x512 .f32 :=
  mulf g (mulf (every 0x3F000000#32) (addf (every 0x3F800000#32) (Host.tanh (mulf (every 0x3F4C422A#32)
    (addf g (mulf (every 0x3D372713#32) (mulf (mulf g g) g)))))))

/-- The gate's factor at an entry. -/
theorem gelus_at (g : FVec Ideal S32x8x512 .f32) (b : Fin 32) (t : Fin 8) (k : Fin 512) : gelus g (ix3 b t k) = gelu (g (ix3 b t k)) := by
  pointwise [gelus, every, gelu]

/-- The first result, from the contents at the loop's end. -/
theorem post_y (V : Valuation τ sig (Elt Ideal)) : after hostOps0_3 V (Proc.devRef .tc main_v94)
    = mulf (F := Ideal) (φ := .f32) (transpose S32x8x512 [1, 0, 2] (V (Proc.devRef .tc main_v79_4)) transposes_S8x32x512_S32x8x512_1_0_2)
      (gelus (V (Proc.devRef .tc main_v1))) := by
  after_reads_simp
  rfl

/-- The second result, from the contents at the loop's end. -/
theorem post_h (V : Valuation τ sig (Elt Ideal)) : after hostOps0_3 V (Proc.devRef .tc main_v95)
    = extractStridedSlice S32x1x512 ![0, 3, 0] (transpose S32x8x512 [1, 0, 2] (V (Proc.devRef .tc main_v79_4) : FVec Ideal S8x32x512 .f32)
      transposes_S8x32x512_S32x8x512_1_0_2) slices_S32x8x512_S32x1x512_0_3_0 := by
  after_reads_simp

/-- The first result: the recurrence's states times the gate. -/
def outArr (p : Fin 32 → Args) : FVec Ideal S32x8x512 .f32 := fun i => out (p (i 0)) 0 ⟨(i 1).val, lt_of_lt_of_le (i 1).isLt (by decide)⟩ (i 2)

/-- The second result: the states after the fourth row. -/
def lastArr (p : Fin 32 → Args) : FVec Ideal S32x1x512 .f32 := fun i => state (p (i 0)) 0 4 (i 2)

/-- The third result: the three rows of the stream before the fifth. -/
def bufArr (p : Fin 32 → Args) : FVec Ideal S32x3x512 .f32 := fun i => stream (p (i 0)) 0 (4 + (i 1).val) (i 2)

/-- The first result holds the recurrence's states times the gate. -/
theorem final_y : finalContents condOps preI bodyI postI 8 m c (Proc.devRef .tc main_v94) = outArr (args m c) := by
  show afterL postI (after condOps (atK m 8 c)) _ = _
  simp only [afterL_cons, afterL_nil]
  refine (post_y _).trans ?_
  rw [loop_end m c (r := main_v1) (by decide +kernel), after_of_writes_sub _ _ condOps_writes (r := main_v79_4) (by decide +kernel), entry_g]
  refine funext fun (i : S32x8x512.Idx) => ?_
  obtain ⟨b, t, k, rfl⟩ : ∃ (b : Fin 32) (t : Fin 8) (k : Fin 512), i = ix3 b t k := ⟨i 0, i 1, i 2, eq_ix3 i⟩
  refine (congrArg₂ (fun x y : EReal => x * y) (?_ : _ = state (args m c b) 0 (t.val + 1) k) (gelus_at _ b t k)).trans ?_
  · refine Eq.trans ?_ (loop_hs m c b k t 8 (le_refl _) t.isLt)
    pointwise []
  · show _ = state (args m c b) 0 (t.val + 1) k * gelu (arg m c main_arg0 (ix3 b ⟨t.val % 8, Nat.mod_lt _ (by decide)⟩ ⟨4096 + k.val, by omega⟩))
    have e : (⟨t.val % 8, Nat.mod_lt _ (by decide)⟩ : Fin 8) = t := Fin.ext (Nat.mod_eq_of_lt t.isLt)
    rw [e]
    refine congrArg (fun z => state (args m c b) 0 (t.val + 1) k * gelu z) ?_
    pointwise []

/-- The second result holds the states after the fourth row. -/
theorem final_h : finalContents condOps preI bodyI postI 8 m c (Proc.devRef .tc main_v95) = lastArr (args m c) := by
  show afterL postI (after condOps (atK m 8 c)) _ = _
  simp only [afterL_cons, afterL_nil]
  refine (post_h _).trans ?_
  rw [after_of_writes_sub _ _ condOps_writes (r := main_v79_4) (by decide +kernel)]
  refine funext fun (i : S32x1x512.Idx) => ?_
  obtain ⟨b, u, k, rfl⟩ : ∃ (b : Fin 32) (u : Fin 1) (k : Fin 512), i = ix3 b u k := ⟨i 0, i 1, i 2, eq_ix3 i⟩
  obtain rfl : u = 0 := Subsingleton.elim _ _
  refine Eq.trans ?_ (loop_hs m c b k 3 8 (le_refl _) (by decide))
  pointwise []

/-- The third result holds the three rows of the stream before the fifth. -/
theorem final_b : finalContents condOps preI bodyI postI 8 m c (Proc.devRef .tc main_v33) = bufArr (args m c) := by
  show afterL postI (after condOps (atK m 8 c)) _ = _
  simp only [afterL_cons, afterL_nil]
  refine (after_of_writes_sub _ _ post_writes (by decide +kernel)).trans ((loop_end m c (by decide +kernel)).trans ((entry_b m c).trans ?_))
  refine funext fun (i : S32x3x512.Idx) => ?_
  obtain ⟨b, u, k, rfl⟩ : ∃ (b : Fin 32) (u : Fin 3) (k : Fin 512), i = ix3 b u k := ⟨i 0, i 1, i 2, eq_ix3 i⟩
  refine Eq.trans ?_ (padded_stream m c b ⟨4 + u.val, by omega⟩ k)
  pointwise []

/-- Every execution of the reference ends with the three results and the arguments as they were. -/
theorem run_values (ρ : Dev nD → PrngReg) : θ_run (defs (F := Ideal)) (onTc (τ := τ) (main (F := Ideal))) ⟨m, fun _ => 0, ρ⟩ (fun r => ∀ c : Dev nD,
      r.2.mem ((c.tc : Thread nD τ).loc main_v94) = outArr (args m c)
      ∧ r.2.mem ((c.tc : Thread nD τ).loc main_v95) = lastArr (args m c)
      ∧ r.2.mem ((c.tc : Thread nD τ).loc main_v33) = bufArr (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun r h c => ?_) (Value.run_fold (F := Ideal) m ρ)
  have keep : ∀ b : Ref sig .tc, (Proc.devRef .tc b : DevRef τ sig).isScoped = false → LoopFree b →
      (∀ W ∈ [hostOps0_W, hostOps0_1_W, hostOps0_2_W, postW], b ∉ W) → r.2.mem ((c.tc : Thread nD τ).loc b) = m ((c.tc : Thread nD τ).loc b) :=
    fun b hs hl hp => (h c b hs).trans (final_arg m c b hl hp)
  exact ⟨(h c main_v94 rfl).trans (final_y m c), (h c main_v95 rfl).trans (final_h m c), (h c main_v33 rfl).trans (final_b m c),
    keep _ rfl (by decide +kernel) (by decide +kernel), keep _ rfl (by decide +kernel) (by decide +kernel), keep _ rfl (by decide +kernel) (by decide +kernel),
    keep _ rfl (by decide +kernel) (by decide +kernel), keep _ rfl (by decide +kernel) (by decide +kernel), keep _ rfl (by decide +kernel) (by decide +kernel),
    keep _ rfl (by decide +kernel) (by decide +kernel), keep _ rfl (by decide +kernel) (by decide +kernel), keep _ rfl (by decide +kernel) (by decide +kernel),
    keep _ rfl (by decide +kernel) (by decide +kernel)⟩

end Cert.LruSampleRefIdeal.Hand

end
-- ==== Proof.LruSampleValue.lean ====
/- The gated linear recurrence on the sample batch: the blocks the grid points write, put together, are the recurrence over every
   sequence. -/
module

public import proofs.«01_k».proof.Proof.LruSampleEntries
public import proofs.«01_k».proof.Proof.LruSampleDiag
public import proofs.«01_k».proof.Proof.LruSampleLoop

@[expose] public section

set_option maxRecDepth 16384

noncomputable section

namespace Cert.LruSampleIdeal.Hand

open Idealize.ShloMosaic Idealize.ShloMosaic.TcCoe Idealize.SL.Sem Cert.Rows Cert.Lru.Spec
open Idealize.ShloMosaic.Pipeline (Dat)
open Cert.LruSampleIdeal Cert.LruSampleIdeal.Gen
open Cert.LruIdeal.Hand (square square_at)
open Cert.LruSampleRefIdeal.Hand (argsOf outArr lastArr bufArr)

variable (m : (ℓ : Loc nD τ sig) → Buf (Elt Ideal) ℓ) (c : Dev nD)

/-- Where the windows stand at point `t`: the sequence's own arrays at sequence `t` (the rows read at their columns of the
    projection), the weights whole. -/
theorem idx : ∀ t : Fin cfg0.N, win0_0.index t = ![t.val, 0, 7] ∧ win0_1.index t = ![t.val, 0, 8]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![t.val, 0, 0]
    ∧ win0_10.index t = ![t.val, 0, 0] ∧ win0_11.index t = ![t.val, 0, 0]
    ∧ win0_12.index t = ![t.val, 0, 0] ∧ win0_13.index t = ![t.val, 0, 0] ∧ t.val < 32 :=
  (by decide +kernel : ∀ t : Fin grid0.N, win0_0.index t = ![t.val, 0, 7] ∧ win0_1.index t = ![t.val, 0, 8]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![t.val, 0, 0]
    ∧ win0_10.index t = ![t.val, 0, 0] ∧ win0_11.index t = ![t.val, 0, 0]
    ∧ win0_12.index t = ![t.val, 0, 0] ∧ win0_13.index t = ![t.val, 0, 0] ∧ t.val < 32)

/-- The sequence of point `t`. -/
def seqOf (t : Fin cfg0.N) : Fin 32 := ⟨t.val, (idx t).2.2.2.2.2.2.2.2.2.2.2.2.2.2⟩

/-- The layer's arguments, sequence by sequence. -/
abbrev args : Fin 32 → Args := argsOf (arg m c main_arg0) (arg m c main_arg1) (arg m c main_arg2) (arg m c main_arg3) (arg m c main_arg4)
  (arg m c main_arg5) (arg m c main_arg6) (arg m c main_arg7) (arg m c main_arg8) (arg m c main_arg9)

/-- The blocks that move with the point, entry by entry, as entries of the arguments. -/
theorem moving (t : Fin cfg0.N) :
    (∀ (r : Fin 8) (k : Fin 512), (iblk m c 0 t (ix3 0 r k) : EReal) = arg m c main_arg0 (ix3 (seqOf t) r ⟨3584 + k.val, by omega⟩))
    ∧ (∀ (r : Fin 8) (k : Fin 512), (iblk m c 1 t (ix3 0 r k) : EReal) = arg m c main_arg0 (ix3 (seqOf t) r ⟨4096 + k.val, by omega⟩))
    ∧ (∀ k : Fin 512, (iblk m c 9 t (ix3 0 0 k) : EReal) = arg m c main_arg8 (ix2 (seqOf t) k))
    ∧ (∀ (i : Fin 3) (k : Fin 512), (iblk m c 10 t (ix3 0 i k) : EReal) = arg m c main_arg9 (ix3 (seqOf t) i k)) := by
  unfold seqOf
  refine ⟨?_, ?_, ?_, ?_⟩ <;> intros
  · blk_point [iblk, V, idx t]
  · blk_point [iblk, V, idx t]
  · blk_point [iblk, V_h0, idx t]
  · blk_point [iblk, V, idx t]

/-- The blocks that stand still. -/
theorem still (t : Fin cfg0.N) :
    (∀ (i : Fin 4) (k : Fin 512), (iblk m c 2 t (ix2 i k) : EReal) = arg m c main_arg1 (ix2 i k))
    ∧ (∀ k : Fin 512, (iblk m c 3 t (ix2 0 k) : EReal) = arg m c main_arg2 (ix1 k))
    ∧ (∀ j k : Fin 512, (iblk m c 4 t (ix2 j k) : EReal) = square (arg m c main_arg3) (ix2 j k))
    ∧ (∀ k : Fin 512, (iblk m c 5 t (ix2 0 k) : EReal) = arg m c main_arg4 (ix1 k))
    ∧ (∀ j k : Fin 512, (iblk m c 6 t (ix2 j k) : EReal) = square (arg m c main_arg5) (ix2 j k))
    ∧ (∀ k : Fin 512, (iblk m c 7 t (ix2 0 k) : EReal) = arg m c main_arg6 (ix1 k))
    ∧ (∀ k : Fin 512, (iblk m c 8 t (ix2 0 k) : EReal) = arg m c main_arg7 (ix1 k)) := by
  refine ⟨?_, ?_, ?_, ?_, ?_, ?_, ?_⟩ <;> intros
  · blk_point [iblk, V, idx t]
  · blk_point [iblk, V_cb, idx t]
  · refine Eq.trans (?_ : _ = (V m c main_v51 (ix2 _ _) : EReal)) (congrFun (V_wa m c) _)
    generalize hw : V m c main_v51 = w
    blk_point [iblk, hw, idx t]
  · blk_point [iblk, V_ba, idx t]
  · refine Eq.trans (?_ : _ = (V m c main_v103 (ix2 _ _) : EReal)) (congrFun (V_wx m c) _)
    generalize hw : V m c main_v103 = w
    blk_point [iblk, hw, idx t]
  · blk_point [iblk, V_bx, idx t]
  · blk_point [iblk, V_lam, idx t]

/-- Point `t`'s blocks hold sequence `t`. -/
theorem whole (t : Fin cfg0.N) : Whole (args m c (seqOf t)) (iblk m c 0 t) (iblk m c 2 t) (iblk m c 3 t) (iblk m c 4 t) (iblk m c 5 t)
    (iblk m c 6 t) (iblk m c 7 t) (iblk m c 8 t) (iblk m c 9 t) (iblk m c 10 t) := by
  obtain ⟨m0, _, m9, m10⟩ := moving m c t
  obtain ⟨s2, s3, s4, s5, s6, s7, s8⟩ := still m c t
  refine ⟨fun i k => (m0 i k).trans ?_, s2, s3, fun j k => (s4 j k).trans (square_at _ j k), s5, fun j k => (s6 j k).trans (square_at _ j k), s7, s8,
    m9, fun i k => (m10 i k).trans ?_⟩
  · unfold stream
    rw [if_neg (by omega)]
    show arg m c main_arg0 _ = arg m c main_arg0 (ix3 (seqOf t) ⟨(3 + i.val - 3) % 8192 % 8, _⟩ _)
    congr 2
    exact Fin.ext (by show i.val = (3 + i.val - 3) % 8192 % 8; omega)
  · unfold stream
    rw [if_pos i.isLt]
    show arg m c main_arg9 _ = arg m c main_arg9 (ix3 (seqOf t) ⟨i.val % 3, _⟩ k)
    congr 2
    exact Fin.ext (Nat.mod_eq_of_lt i.isLt).symm

/-- The first result array after the run. -/
theorem final11 : (dats m 0 c).arrAt 11 cfg0.N = outArr (args m c) := by
  refine (dats m 0 c).arrAt_eq_of_covers 11 (outArr (args m c)) (by decide +kernel) fun t _ y => ?_
  blk_simp
  rw [after0_11, out1]
  idx_vars y
  obtain rfl : y0 = 0 := Subsingleton.elim _ _
  refine ((pay1_at _ _ y1 y2).trans ?_)
  refine (?_ : _ = outArr (args m c) (ix3 (seqOf t) y1 y2)).trans ?_
  · rw [(moving m c t).2.1]
    refine (congrArg (fun z => z * gelu _) ((whole m c t).states y1 y2)).trans ?_
    show _ = state _ 0 (y1.val + 1) y2 * gelu (arg m c main_arg0 (ix3 (seqOf t) ⟨y1.val % 8, _⟩ _))
    congr 4
    exact Fin.ext (Nat.mod_eq_of_lt y1.isLt).symm
  · unfold seqOf
    blk_ext [idx t]

/-- The second result array after the run. -/
theorem final12 : (dats m 0 c).arrAt 12 cfg0.N = lastArr (args m c) := by
  refine (dats m 0 c).arrAt_eq_of_covers 12 (lastArr (args m c)) (by decide +kernel) fun t _ y => ?_
  blk_simp
  rw [after0_12, out2]
  idx_vars y
  obtain rfl : y0 = 0 := Subsingleton.elim _ _
  obtain rfl : y1 = 0 := Subsingleton.elim _ _
  have e : ∀ v : FVec Ideal S8x512 .f32, k0_pay3 (F := Ideal) v (ix3 0 0 y2) = v (ix2 3 y2) := fun v => by pointwise [k0_pay3]
  refine (e _).trans ?_
  refine (?_ : _ = lastArr (args m c) (ix3 (seqOf t) 0 y2)).trans ?_
  · exact (whole m c t).states 3 y2
  · unfold seqOf
    blk_ext [idx t]

/-- The third result array after the run. -/
theorem final13 : (dats m 0 c).arrAt 13 cfg0.N = bufArr (args m c) := by
  refine (dats m 0 c).arrAt_eq_of_covers 13 (bufArr (args m c)) (by decide +kernel) fun t _ y => ?_
  blk_simp
  rw [after0_13, out3]
  idx_vars y
  obtain rfl : y0 = 0 := Subsingleton.elim _ _
  have e : ∀ v : FVec Ideal S3x512 .f32, k0_pay9 (F := Ideal) v (ix3 0 y1 y2) = v (ix2 y1 y2) := fun v => by pointwise [k0_pay9]
  refine (e _).trans ?_
  refine (?_ : _ = bufArr (args m c) (ix3 (seqOf t) y1 y2)).trans ?_
  · refine Eq.trans ?_ ((whole m c t).window ⟨9 + y1.val, by omega⟩ (4 + y1.val) (by show 9 + y1.val = 5 + (4 + y1.val); omega) y2)
    refine congrArg (View.canon _) ?_
    funext a
    match a with
    | ⟨0, _⟩ => exact Fin.ext (by show 9 + 1 * y1.val = 9 + y1.val; omega)
    | ⟨1, _⟩ => exact Fin.ext (by show 0 + 1 * y2.val = y2.val; omega)
  · unfold seqOf
    blk_ext [idx t]

end Cert.LruSampleIdeal.Hand

end
-- ==== Proof.LruSampleClaims.lean ====
/- The recurrence on the sample batch: the two claims that speak of the reference. -/
module

public import proofs.«01_k».proof.Defs
public import proofs.«01_k».proof.Proof.LruSampleValue
public import proofs.«01_k».proof.Proof.LruSampleLoop
public import Idealize.ShloMosaic.Lib.Claim

@[expose] public section

set_option maxRecDepth 16384

noncomputable section

namespace Cert.LruSampleClaims

open Idealize.ShloMosaic Idealize.ShloMosaic.TcCoe Idealize.SL.Sem

/-- The reference runs, leaves its arguments as they were and leaves no semaphore raised. -/
theorem frame_ref : Cert.quiescent_LruSampleRefIdeal := by
  intro m g _
  refine (θ_run Cert.LruSampleRefIdeal.defs _ _).mono (fun r h => ⟨?_, sem_eq_zero_of_no_sems (by decide) r.2⟩) (Cert.LruSampleRefIdeal.Hand.run_values m g)
  exact fun c => (h c).2.2.2

set_option maxHeartbeats 4000000 in
/-- The blocked recurrence and the plain one leave equal arrays. -/
theorem algebraic : Cert.algebraic_LruSampleIdeal_LruSampleRefIdeal := by
  pair_intro
  · run_from Cert.LruSampleIdeal.Gen.run_main m g
  · have same : ∀ c : Dev Cert.LruSampleRefIdeal.nD, Cert.LruSampleRefIdeal.Hand.args m' c = Cert.LruSampleIdeal.Hand.args m c := fun c => by
      obtain ⟨a0, a1, a2, a3, a4, a5, a6, a7, a8, a9⟩ := hagree c
      unfold Cert.LruSampleRefIdeal.Hand.args Cert.LruSampleIdeal.Hand.args Cert.LruSampleRefIdeal.Hand.arg Cert.LruSampleIdeal.Hand.arg
      rw [a0, a1, a2, a3, a4, a5, a6, a7, a8, a9]
    run_from Cert.LruSampleRefIdeal.Hand.run_values m' g'
    · refine Eq.trans ?_ (Cert.LruSampleIdeal.Hand.final11 m c).symm
      exact congrArg Cert.LruSampleRefIdeal.Hand.outArr (same c)
    · refine Eq.trans ?_ (Cert.LruSampleIdeal.Hand.final12 m c).symm
      exact congrArg Cert.LruSampleRefIdeal.Hand.lastArr (same c)
    · refine Eq.trans ?_ (Cert.LruSampleIdeal.Hand.final13 m c).symm
      exact congrArg Cert.LruSampleRefIdeal.Hand.bufArr (same c)

end Cert.LruSampleClaims

end
-- ==== Proof.lean ====
/- The whole claim, assembled: the recurrence, the feed-forward block, the branch merge, the input projection, the rotary embedding, the rotary embedding of the sample group, the feed-forward block of the sample group, the recurrence of the sample group. -/
module

public import proofs.«01_k».proof.Defs
public import proofs.«01_k».proof.Proof.Gen.Lru
public import proofs.«01_k».proof.Proof.Gen.LruIdeal
public import proofs.«01_k».proof.Proof.Gen.LruRefIdeal
public import proofs.«01_k».proof.Proof.LruFrame
public import proofs.«01_k».proof.Proof.LruIdealFrame
public import proofs.«01_k».proof.Proof.LruClaims
public import proofs.«01_k».proof.Proof.Gen.Ffn
public import proofs.«01_k».proof.Proof.Gen.FfnIdeal
public import proofs.«01_k».proof.Proof.Gen.FfnRefIdeal
public import proofs.«01_k».proof.Proof.Gen.Ffn.Frame
public import proofs.«01_k».proof.Proof.Gen.FfnIdeal.Frame
public import proofs.«01_k».proof.Proof.FfnClaims
public import proofs.«01_k».proof.Proof.Gen.Merge
public import proofs.«01_k».proof.Proof.Gen.MergeIdeal
public import proofs.«01_k».proof.Proof.Gen.MergeRefIdeal
public import proofs.«01_k».proof.Proof.Gen.Merge.Frame
public import proofs.«01_k».proof.Proof.Gen.MergeIdeal.Frame
public import proofs.«01_k».proof.Proof.MergeClaims
public import proofs.«01_k».proof.Proof.Gen.Proj
public import proofs.«01_k».proof.Proof.Gen.ProjIdeal
public import proofs.«01_k».proof.Proof.Gen.ProjRefIdeal
public import proofs.«01_k».proof.Proof.Gen.Proj.Frame
public import proofs.«01_k».proof.Proof.Gen.ProjIdeal.Frame
public import proofs.«01_k».proof.Proof.ProjClaims
public import proofs.«01_k».proof.Proof.Gen.Rope
public import proofs.«01_k».proof.Proof.Gen.RopeIdeal
public import proofs.«01_k».proof.Proof.Gen.RopeRefIdeal
public import proofs.«01_k».proof.Proof.Gen.Rope.Frame
public import proofs.«01_k».proof.Proof.Gen.RopeIdeal.Frame
public import proofs.«01_k».proof.Proof.RopeClaims
public import proofs.«01_k».proof.Proof.Gen.RopeSample
public import proofs.«01_k».proof.Proof.Gen.RopeSampleIdeal
public import proofs.«01_k».proof.Proof.Gen.RopeSampleRefIdeal
public import proofs.«01_k».proof.Proof.Gen.RopeSample.Frame
public import proofs.«01_k».proof.Proof.Gen.RopeSampleIdeal.Frame
public import proofs.«01_k».proof.Proof.RopeSampleClaims
public import proofs.«01_k».proof.Proof.Gen.FfnSample
public import proofs.«01_k».proof.Proof.Gen.FfnSampleIdeal
public import proofs.«01_k».proof.Proof.Gen.FfnSampleRefIdeal
public import proofs.«01_k».proof.Proof.Gen.FfnSample.Frame
public import proofs.«01_k».proof.Proof.Gen.FfnSampleIdeal.Frame
public import proofs.«01_k».proof.Proof.FfnSampleClaims
public import proofs.«01_k».proof.Proof.Gen.LruSample
public import proofs.«01_k».proof.Proof.Gen.LruSampleIdeal
public import proofs.«01_k».proof.Proof.Gen.LruSampleRefIdeal
public import proofs.«01_k».proof.Proof.Gen.LruSample.Frame
public import proofs.«01_k».proof.Proof.Gen.LruSampleIdeal.Frame
public import proofs.«01_k».proof.Proof.LruSampleClaims
public import Idealize.ShloMosaic.Adequacy
public import Idealize.ShloMosaic.Init

@[expose] public section

noncomputable section

namespace Cert.Proof

open Idealize.ShloMosaic Idealize.SL.Sem

/-- Each call runs and leaves its arguments as they were, on words and over the reals, and so does its reference; each
    call's real program is its own text; and each call's results equal its reference's. -/
theorem claim : Cert.Claim := ⟨Cert.Lru.Gen.facts, Cert.LruIdeal.Gen.facts, Cert.LruRefIdeal.Gen.facts, Cert.Ffn.Gen.facts, Cert.FfnIdeal.Gen.facts, Cert.FfnRefIdeal.Gen.facts, Cert.Merge.Gen.facts, Cert.MergeIdeal.Gen.facts, Cert.MergeRefIdeal.Gen.facts, Cert.Proj.Gen.facts, Cert.ProjIdeal.Gen.facts, Cert.ProjRefIdeal.Gen.facts, Cert.Rope.Gen.facts, Cert.RopeIdeal.Gen.facts, Cert.RopeRefIdeal.Gen.facts, Cert.RopeSample.Gen.facts, Cert.RopeSampleIdeal.Gen.facts, Cert.RopeSampleRefIdeal.Gen.facts, Cert.FfnSample.Gen.facts, Cert.FfnSampleIdeal.Gen.facts, Cert.FfnSampleRefIdeal.Gen.facts, Cert.LruSample.Gen.facts, Cert.LruSampleIdeal.Gen.facts, Cert.LruSampleRefIdeal.Gen.facts,
  fun m ρ _ => Cert.Lru.Hand.frame (F := Bits) m ρ,
  fun m ρ _ => Cert.LruIdeal.Hand.frame (F := Ideal) m ρ,
  Cert.LruClaims.frame_ref,
  fun m ρ _ => Cert.Ffn.Gen.frame (F := Bits) m ρ,
  fun m ρ _ => Cert.FfnIdeal.Gen.frame (F := Ideal) m ρ,
  Cert.FfnClaims.frame_ref,
  fun m ρ _ => Cert.Merge.Gen.frame (F := Bits) m ρ,
  fun m ρ _ => Cert.MergeIdeal.Gen.frame (F := Ideal) m ρ,
  Cert.MergeClaims.frame_ref,
  fun m ρ _ => Cert.Proj.Gen.frame (F := Bits) m ρ,
  fun m ρ _ => Cert.ProjIdeal.Gen.frame (F := Ideal) m ρ,
  Cert.ProjClaims.frame_ref,
  fun m ρ _ => Cert.Rope.Gen.frame (F := Bits) m ρ,
  fun m ρ _ => Cert.RopeIdeal.Gen.frame (F := Ideal) m ρ,
  Cert.RopeClaims.frame_ref,
  fun m ρ _ => Cert.RopeSample.Gen.frame (F := Bits) m ρ,
  fun m ρ _ => Cert.RopeSampleIdeal.Gen.frame (F := Ideal) m ρ,
  Cert.RopeSampleClaims.frame_ref,
  fun m ρ _ => Cert.FfnSample.Gen.frame (F := Bits) m ρ,
  fun m ρ _ => Cert.FfnSampleIdeal.Gen.frame (F := Ideal) m ρ,
  Cert.FfnSampleClaims.frame_ref,
  fun m ρ _ => Cert.LruSample.Gen.frame (F := Bits) m ρ,
  fun m ρ _ => Cert.LruSampleIdeal.Gen.frame (F := Ideal) m ρ,
  Cert.LruSampleClaims.frame_ref,
  trivial,
  Cert.LruClaims.algebraic,
  trivial,
  Cert.FfnClaims.algebraic,
  trivial,
  Cert.MergeClaims.algebraic,
  trivial,
  Cert.ProjClaims.algebraic,
  trivial,
  Cert.RopeClaims.algebraic,
  trivial,
  Cert.RopeSampleClaims.algebraic,
  trivial,
  Cert.FfnSampleClaims.algebraic,
  trivial,
  Cert.LruSampleClaims.algebraic⟩

end Cert.Proof

end
